-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v34_1)) (v1 : (c : Dev Cert.Kernel4Ideal.nD) → Buf (Elt Ideal) ((c.tc : Thread Cert.Kernel4Ideal.nD Cert.Kernel4Ideal.τ).loc Cert.Kernel4Ideal.main_v34_2)) (v2 : (c : Dev Cert.Kernel4Ideal.nD) → Buf (Elt Ideal) ((c.tc : Thread Cert.Kernel4Ideal.nD Cert.Kernel4Ideal.τ).loc Cert.Kernel4Ideal.main_v34_5)) (v3 : (c : Dev Cert.Kernel4Ideal.nD) → Buf (Elt Ideal) ((c.tc : Thread Cert.Kernel4Ideal.nD Cert.Kernel4Ideal.τ).loc Cert.Kernel4Ideal.main_v34_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v34_1) = v0 c
          ∧ r.2.mem ((c.tc : Thread Cert.Kernel4Ideal.nD Cert.Kernel4Ideal.τ).loc Cert.Kernel4Ideal.main_v34_2) = v1 c
          ∧ r.2.mem ((c.tc : Thread Cert.Kernel4Ideal.nD Cert.Kernel4Ideal.τ).loc Cert.Kernel4Ideal.main_v34_5) = v2 c
          ∧ r.2.mem ((c.tc : Thread Cert.Kernel4Ideal.nD Cert.Kernel4Ideal.τ).loc Cert.Kernel4Ideal.main_v34_8) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_v63) = v1 c
          ∧ r.2.mem ((c.tc : Thread Cert.Reference4Ideal.nD Cert.Reference4Ideal.τ).loc Cert.Reference4Ideal.main_v65) = v2 c
          ∧ r.2.mem ((c.tc : Thread Cert.Reference4Ideal.nD Cert.Reference4Ideal.τ).loc Cert.Reference4Ideal.main_v66) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16384x8x64 : Shape := ⟨3, ![16384, 8, 64]⟩
abbrev S1023x2x64 : Shape := ⟨3, ![1023, 2, 64]⟩
abbrev S16384x2x64 : Shape := ⟨3, ![16384, 2, 64]⟩
abbrev S16384x8x3 : Shape := ⟨3, ![16384, 8, 3]⟩
abbrev S128x128x2x4x64 : Shape := ⟨5, ![128, 128, 2, 4, 64]⟩
abbrev S128x2x64x4x128 : Shape := ⟨5, ![128, 2, 64, 4, 128]⟩
abbrev S128x2x64x512 : Shape := ⟨4, ![128, 2, 64, 512]⟩
abbrev S_ : Shape := ⟨0, ![]⟩
abbrev S16384x8x1 : Shape := ⟨3, ![16384, 8, 1]⟩
abbrev S16384x24 : Shape := ⟨2, ![16384, 24]⟩
abbrev S24x16384 : Shape := ⟨2, ![24, 16384]⟩
abbrev S32x16384 : Shape := ⟨2, ![32, 16384]⟩
abbrev S1023x128 : Shape := ⟨2, ![1023, 128]⟩
abbrev S1024x128 : Shape := ⟨2, ![1024, 128]⟩
abbrev S128x1024 : Shape := ⟨2, ![128, 1024]⟩
abbrev S16384 : Shape := ⟨1, ![16384]⟩
abbrev S16384x1 : Shape := ⟨2, ![16384, 1]⟩
abbrev S64 : Shape := ⟨1, ![64]⟩
abbrev S1x64 : Shape := ⟨2, ![1, 64]⟩
abbrev S16384x64 : Shape := ⟨2, ![16384, 64]⟩
abbrev S2x16384x64 : Shape := ⟨3, ![2, 16384, 64]⟩
abbrev S1x16384x64 : Shape := ⟨3, ![1, 16384, 64]⟩
abbrev S2x16384x128 : Shape := ⟨3, ![2, 16384, 128]⟩
abbrev S32x512x128 : Shape := ⟨3, ![32, 512, 128]⟩
abbrev S32x128x512 : Shape := ⟨3, ![32, 128, 512]⟩
abbrev S16384x128 : Shape := ⟨2, ![16384, 128]⟩
abbrev S16896x128 : Shape := ⟨2, ![16896, 128]⟩
abbrev S128x128x128 : Shape := ⟨3, ![128, 128, 128]⟩
abbrev S132x128x128 : Shape := ⟨3, ![132, 128, 128]⟩
abbrev S1024 : Shape := ⟨1, ![1024]⟩
abbrev S256 : Shape := ⟨1, ![256]⟩
abbrev S1x1024 : Shape := ⟨2, ![1, 1024]⟩
abbrev S256x1 : Shape := ⟨2, ![256, 1]⟩
abbrev S256x1024 : Shape := ⟨2, ![256, 1024]⟩
abbrev S16384x512 : Shape := ⟨2, ![16384, 512]⟩
abbrev S1x2x64x512 : Shape := ⟨4, ![1, 2, 64, 512]⟩
abbrev S32x128 : Shape := ⟨2, ![32, 128]⟩
abbrev S128x512 : Shape := ⟨2, ![128, 512]⟩
abbrev S2x256x128 : Shape := ⟨3, ![2, 256, 128]⟩
abbrev S512x512 : Shape := ⟨2, ![512, 512]⟩
abbrev S1x128 : Shape := ⟨2, ![1, 128]⟩
abbrev S1x512 : Shape := ⟨2, ![1, 512]⟩
abbrev S64x512 : Shape := ⟨2, ![64, 512]⟩
abbrev S1x1x64x512 : Shape := ⟨4, ![1, 1, 64, 512]⟩
abbrev S1024x512 : Shape := ⟨2, ![1024, 512]⟩
abbrev S1024x1 : Shape := ⟨2, ![1024, 1]⟩
abbrev S512 : Shape := ⟨1, ![512]⟩
abbrev S64x1024 : Shape := ⟨2, ![64, 1024]⟩
abbrev S256x128 : Shape := ⟨2, ![256, 128]⟩
abbrev S128 : Shape := ⟨1, ![128]⟩
abbrev S1x256x128 : Shape := ⟨3, ![1, 256, 128]⟩
abbrev S768x128 : Shape := ⟨2, ![768, 128]⟩
abbrev S768x512 : Shape := ⟨2, ![768, 512]⟩
abbrev S768x1 : Shape := ⟨2, ![768, 1]⟩
abbrev S64x768 : Shape := ⟨2, ![64, 768]⟩
abbrev S192x768 : Shape := ⟨2, ![192, 768]⟩
abbrev S192x128 : Shape := ⟨2, ![192, 128]⟩
abbrev S1x192x128 : Shape := ⟨3, ![1, 192, 128]⟩
abbrev S64x128 : Shape := ⟨2, ![64, 128]⟩
abbrev S1x64x128 : Shape := ⟨3, ![1, 64, 128]⟩
abbrev S512x128 : Shape := ⟨2, ![512, 128]⟩
abbrev S512x1 : Shape := ⟨2, ![512, 1]⟩
abbrev S128x128 : Shape := ⟨2, ![128, 128]⟩
abbrev S1x128x128 : Shape := ⟨3, ![1, 128, 128]⟩
abbrev S256x512 : Shape := ⟨2, ![256, 512]⟩
abbrev S64x256 : Shape := ⟨2, ![64, 256]⟩
abbrev S640x1 : Shape := ⟨2, ![640, 1]⟩
abbrev S640x128 : Shape := ⟨2, ![640, 128]⟩
abbrev S640x512 : Shape := ⟨2, ![640, 512]⟩
abbrev S16x128 : Shape := ⟨2, ![16, 128]⟩
abbrev S80x128 : Shape := ⟨2, ![80, 128]⟩
abbrev S80x512 : Shape := ⟨2, ![80, 512]⟩
abbrev S8x512 : Shape := ⟨2, ![8, 512]⟩
abbrev S48x512 : Shape := ⟨2, ![48, 512]⟩
abbrev S16x512 : Shape := ⟨2, ![16, 512]⟩
abbrev S1x8x128 : Shape := ⟨3, ![1, 8, 128]⟩
abbrev S8x128 : Shape := ⟨2, ![8, 128]⟩
abbrev S1x512x128 : Shape := ⟨3, ![1, 512, 128]⟩
abbrev S1x64x512 : Shape := ⟨3, ![1, 64, 512]⟩
abbrev S128x1 : Shape := ⟨2, ![128, 1]⟩

abbrev nBuf : Space → Nat
  | .hbm => 135
  | .vmem => 18
  | .smem => 0
  | _ => 0

abbrev hbmTy0_0 (i : Nat) : BufTy := match i % 128 with
  | 0 => ⟨S16384x8x64, .f32⟩
  | 1 => ⟨S1023x2x64, .f32⟩
  | 2 => ⟨S1023x2x64, .f32⟩
  | 3 => ⟨S16384x2x64, .f32⟩
  | 4 => ⟨S16384x2x64, .f32⟩
  | 5 => ⟨S16384x2x64, .f32⟩
  | 6 => ⟨S16384x2x64, .f32⟩
  | 7 => ⟨S16384x8x3, .f32⟩
  | 8 => ⟨S128x128x2x4x64, .f32⟩
  | 9 => ⟨S128x2x64x4x128, .f32⟩
  | 10 => ⟨S128x2x64x512, .f32⟩
  | 11 => ⟨S_, .f32⟩
  | 12 => ⟨S16384x8x1, .f32⟩
  | 13 => ⟨S16384x8x1, .f32⟩
  | 14 => ⟨S16384x8x1, .f32⟩
  | 15 => ⟨S16384x8x3, .f32⟩
  | 16 => ⟨S16384x24, .f32⟩
  | 17 => ⟨S24x16384, .f32⟩
  | 18 => ⟨S_, .i32⟩
  | 19 => ⟨S_, .f32⟩
  | 20 => ⟨S32x16384, .f32⟩
  | 21 => ⟨S1023x2x64, .bf16⟩
  | 22 => ⟨S1023x128, .bf16⟩
  | 23 => ⟨S_, .i32⟩
  | 24 => ⟨S_, .bf16⟩
  | 25 => ⟨S1024x128, .bf16⟩
  | 26 => ⟨S1023x2x64, .bf16⟩
  | 27 => ⟨S1023x128, .bf16⟩
  | 28 => ⟨S_, .i32⟩
  | 29 => ⟨S_, .bf16⟩
  | 30 => ⟨S1024x128, .bf16⟩
  | 31 => ⟨S128x1024, .bf16⟩
  | 32 => ⟨S16384, .i32⟩
  | 33 => ⟨S_, .i32⟩
  | 34 => ⟨S_, .i32⟩
  | 35 => ⟨S16384, .i32⟩
  | 36 => ⟨S16384, .i32⟩
  | 37 => ⟨S16384, .i32⟩
  | 38 => ⟨S_, .i32⟩
  | 39 => ⟨S16384, .i32⟩
  | 40 => ⟨S16384, .i1⟩
  | 41 => ⟨S16384, .i32⟩
  | 42 => ⟨S16384, .i32⟩
  | 43 => ⟨S_, .i32⟩
  | 44 => ⟨S16384, .i32⟩
  | 45 => ⟨S16384, .i1⟩
  | 46 => ⟨S16384, .i1⟩
  | 47 => ⟨S_, .i32⟩
  | 48 => ⟨S16384, .i32⟩
  | 49 => ⟨S16384, .i32⟩
  | 50 => ⟨S16384, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S16384, .i32⟩
  | 58 => ⟨S16384, .i32⟩
  | 59 => ⟨S_, .i32⟩
  | 60 => ⟨S16384, .i32⟩
  | 61 => ⟨S16384, .i1⟩
  | 62 => ⟨S_, .i32⟩
  | 63 => ⟨S16384, .i32⟩
  | 64 => ⟨S16384, .i1⟩
  | 65 => ⟨S_, .i32⟩
  | 66 => ⟨S_, .i1⟩
  | 67 => ⟨S16384, .i1⟩
  | 68 => ⟨S16384, .i1⟩
  | 69 => ⟨S16384, .i1⟩
  | 70 => ⟨S16384, .i32⟩
  | 71 => ⟨S16384, .i32⟩
  | 72 => ⟨S16384, .i32⟩
  | 73 => ⟨S16384x1, .i32⟩
  | 74 => ⟨S64, .i32⟩
  | 75 => ⟨S1x64, .i32⟩
  | 76 => ⟨S16384x64, .i32⟩
  | 77 => ⟨S16384x64, .i32⟩
  | 78 => ⟨S16384x64, .i1⟩
  | 79 => ⟨S16384x64, .f32⟩
  | 80 => ⟨S16384x64, .bf16⟩
  | 81 => ⟨S16384x2x64, .bf16⟩
  | 82 => ⟨S2x16384x64, .bf16⟩
  | 83 => ⟨S1x16384x64, .bf16⟩
  | 84 => ⟨S2x16384x64, .bf16⟩
  | 85 => ⟨S2x16384x128, .bf16⟩
  | 86 => ⟨S16384x2x64, .bf16⟩
  | 87 => ⟨S32x512x128, .bf16⟩
  | 88 => ⟨S32x128x512, .bf16⟩
  | 89 => ⟨S16384x2x64, .bf16⟩
  | 90 => ⟨S16384x128, .bf16⟩
  | 91 => ⟨S_, .i32⟩
  | 92 => ⟨S_, .bf16⟩
  | 93 => ⟨S16896x128, .bf16⟩
  | 94 => ⟨S16384x2x64, .bf16⟩
  | 95 => ⟨S128x128x128, .bf16⟩
  | 96 => ⟨S128x128x128, .bf16⟩
  | 97 => ⟨S_, .i32⟩
  | 98 => ⟨S_, .bf16⟩
  | 99 => ⟨S132x128x128, .bf16⟩
  | 100 => ⟨S1024, .i32⟩
  | 101 => ⟨S_, .i32⟩
  | 102 => ⟨S1024, .i32⟩
  | 103 => ⟨S1024, .i32⟩
  | 104 => ⟨S256, .i32⟩
  | 105 => ⟨S_, .i32⟩
  | 106 => ⟨S256, .i32⟩
  | 107 => ⟨S256, .i32⟩
  | 108 => ⟨S1x1024, .i32⟩
  | 109 => ⟨S_, .i32⟩
  | 110 => ⟨S1x1024, .i32⟩
  | 111 => ⟨S1x1024, .i32⟩
  | 112 => ⟨S256x1, .i32⟩
  | 113 => ⟨S_, .i32⟩
  | 114 => ⟨S256x1, .i32⟩
  | 115 => ⟨S256x1, .i32⟩
  | 116 => ⟨S256x1024, .i32⟩
  | 117 => ⟨S256x1024, .i32⟩
  | 118 => ⟨S256x1024, .i32⟩
  | 119 => ⟨S1x1024, .i32⟩
  | 120 => ⟨S256x1, .i32⟩
  | 121 => ⟨S256x1024, .i32⟩
  | 122 => ⟨S256x1024, .i32⟩
  | 123 => ⟨S256x1024, .i32⟩
  | 124 => ⟨S256x1024, .i32⟩
  | 125 => ⟨S_, .i32⟩
  | 126 => ⟨S_, .i32⟩
  | 127 => ⟨S256x1024, .i32⟩
  | _ => ⟨S16384x8x64, .f32⟩

abbrev hbmTy0_1 (i : Nat) : BufTy := match i % 128 with
  | 0 => ⟨S256x1024, .i32⟩
  | 1 => ⟨S256x1024, .f32⟩
  | 2 => ⟨S_, .f32⟩
  | 3 => ⟨S256x1024, .f32⟩
  | 4 => ⟨S256x1024, .f32⟩
  | 5 => ⟨S256x1024, .bf16⟩
  | 6 => ⟨S16384x512, .bf16⟩
  | _ => ⟨S16384x8x64, .f32⟩

abbrev hbmTy (i : Nat) : BufTy := match i / 128 with
  | 0 => hbmTy0_0 i
  | 1 => hbmTy0_1 i
  | _ => ⟨S16384x8x64, .f32⟩

abbrev bufTy : (tb : Table) → Fin (tcTables nBuf tb) → BufTy
  | .hbm, ⟨i, _⟩ => hbmTy i
  | .local _ .vmem, ⟨0, _⟩ => ⟨S1x2x64x512, .f32⟩
  | .local _ .vmem, ⟨1, _⟩ => ⟨S1x2x64x512, .f32⟩
  | .local _ .vmem, ⟨2, _⟩ => ⟨S32x128, .f32⟩
  | .local _ .vmem, ⟨3, _⟩ => ⟨S32x128, .f32⟩
  | .local _ .vmem, ⟨4, _⟩ => ⟨S1024x128, .bf16⟩
  | .local _ .vmem, ⟨5, _⟩ => ⟨S128x1024, .bf16⟩
  | .local _ .vmem, ⟨6, _⟩ => ⟨S256x1024, .bf16⟩
  | .local _ .vmem, ⟨7, _⟩ => ⟨S2x16384x128, .bf16⟩
  | .local _ .vmem, ⟨8, _⟩ => ⟨S32x128x512, .bf16⟩
  | .local _ .vmem, ⟨9, _⟩ => ⟨S16896x128, .bf16⟩
  | .local _ .vmem, ⟨10, _⟩ => ⟨S132x128x128, .bf16⟩
  | .local _ .vmem, ⟨11, _⟩ => ⟨S128x512, .bf16⟩
  | .local _ .vmem, ⟨12, _⟩ => ⟨S128x512, .bf16⟩
  | .local _ .vmem, ⟨13, _⟩ => ⟨S2x256x128, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_v6 : Ref sig .tc := ⟨.hbm, 40, rfl⟩
abbrev main_call3_v7 : Ref sig .tc := ⟨.hbm, 41, rfl⟩
abbrev main_call3_v8 : Ref sig .tc := ⟨.hbm, 42, rfl⟩
abbrev main_call3_c : Ref sig .tc := ⟨.hbm, 43, rfl⟩
abbrev main_call3_v9 : Ref sig .tc := ⟨.hbm, 44, rfl⟩
abbrev main_call3_v10 : Ref sig .tc := ⟨.hbm, 45, rfl⟩
abbrev main_call3_v11 : Ref sig .tc := ⟨.hbm, 46, rfl⟩
abbrev main_call3_c_0 : Ref sig .tc := ⟨.hbm, 47, rfl⟩
abbrev main_call3_v12 : Ref sig .tc := ⟨.hbm, 48, rfl⟩
abbrev main_call3_v13 : Ref sig .tc := ⟨.hbm, 49, rfl⟩
abbrev main_v18 : Ref sig .tc := ⟨.hbm, 50, rfl⟩
abbrev main_c_3 : Ref sig .tc := ⟨.hbm, 51, rfl⟩
abbrev main_call4_v0 : Ref sig .tc := ⟨.hbm, 52, rfl⟩
abbrev main_call4_c : Ref sig .tc := ⟨.hbm, 53, rfl⟩
abbrev main_call4_v1 : Ref sig .tc := ⟨.hbm, 54, rfl⟩
abbrev main_call4_c_0 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_c_1 : Ref sig .tc := ⟨.hbm, 59, rfl⟩
abbrev main_call4_v5 : Ref sig .tc := ⟨.hbm, 60, rfl⟩
abbrev main_call4_v6 : Ref sig .tc := ⟨.hbm, 61, rfl⟩
abbrev main_call4_c_2 : Ref sig .tc := ⟨.hbm, 62, rfl⟩
abbrev main_call4_v7 : Ref sig .tc := ⟨.hbm, 63, rfl⟩
abbrev main_call4_v8 : Ref sig .tc := ⟨.hbm, 64, rfl⟩
abbrev main_call4_c_3 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_v12 : Ref sig .tc := ⟨.hbm, 69, rfl⟩
abbrev main_call4_v13 : Ref sig .tc := ⟨.hbm, 70, rfl⟩
abbrev main_call4_v14 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_c_4 : Ref sig .tc := ⟨.hbm, 91, rfl⟩
abbrev main_call5_v0 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_c_5 : Ref sig .tc := ⟨.hbm, 97, rfl⟩
abbrev main_call6_v0 : Ref sig .tc := ⟨.hbm, 98, rfl⟩
abbrev main_v42 : Ref sig .tc := ⟨.hbm, 99, rfl⟩
abbrev main_v43 : Ref sig .tc := ⟨.hbm, 100, rfl⟩
abbrev main_c_6 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_c_7 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_c_8 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_c_9 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_c_10 : Ref sig .tc := ⟨.hbm, 125, rfl⟩
abbrev main_call7_v0 : Ref sig .tc := ⟨.hbm, 126, rfl⟩
abbrev main_call7_v1 : Ref sig .tc := ⟨.hbm, 127, rfl⟩
abbrev main_v64 : Ref sig .tc := ⟨.hbm, 128, rfl⟩
abbrev main_v65 : Ref sig .tc := ⟨.hbm, 129, rfl⟩
abbrev main_cst_11 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def k0_mult1 (i : grid0.Coords) : BitVec 32 :=
  let arg0 : BitVec 32 := BitVec.ofNat 32 (i 0).val
  let c128_i32_20 : BitVec 32 := 128#32
  let v62 : BitVec 32 := Scalar.muli arg0 c128_i32_20
  v62
def k0_off1 (i : grid0.Coords) : Fin 2 → Nat :=
  let arg0 : BitVec 32 := BitVec.ofNat 32 (i 0).val
  let c128_i32_20 : BitVec 32 := 128#32
  let v62 : BitVec 32 := Scalar.muli arg0 c128_i32_20
  let v63 : BitVec 32 := v62
  let v64 : Index := Scalar.indexCast v63
  let c0_21 : Index := 0#32
  ![v64.toNat, 0]
def k0_off2 (i : grid0.Coords) (c0_i32_24 : BitVec 32) : Fin 3 → Nat :=
  let arg0 : BitVec 32 := BitVec.ofNat 32 (i 0).val
  let v75 : BitVec 32 := Scalar.addi arg0 c0_i32_24
  let v76 : Index := Scalar.indexCast v75
  let c0_25 : Index := 0#32
  let c0_26 : Index := 0#32
  ![v76.toNat, 0, 0]
def k0_off3 (i : grid0.Coords) (c0_i32_47 : BitVec 32) : Fin 3 → Nat :=
  let arg0 : BitVec 32 := BitVec.ofNat 32 (i 0).val
  let v130 : BitVec 32 := Scalar.addi arg0 c0_i32_47
  let v131 : Index := Scalar.indexCast v130
  let c64 : Index := 64#32
  let c0_48 : Index := 0#32
  ![v131.toNat, 64, 0]
def k0_mult2 : BitVec 32 :=
  let c0_i32_82 : BitVec 32 := 0#32
  c0_i32_82
def k0_mult3 : BitVec 32 :=
  let c0_i32_83 : BitVec 32 := 0#32
  c0_i32_83
def k0_mult4 : BitVec 32 :=
  let c0_i32_91 : BitVec 32 := 0#32
  c0_i32_91
def k0_mult5 : BitVec 32 :=
  let c0_i32_92 : BitVec 32 := 0#32
  c0_i32_92
@[reducible] def k0_t1_loop (i : grid0.Coords) : Scf.Loop 32 :=
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_109 : BitVec 32 := 1#32
  ⟨c0_i32_107, v254, c1_i32_109⟩
def k0_mult6 (i : grid0.Coords) (k0_t1 : Fin (k0_t1_loop i).trips) : BitVec 32 :=
  let c2_i32_156 : BitVec 32 := 2#32
  let c0_i32_107 : BitVec 32 := 0#32
  let c1_i32_109 : BitVec 32 := 1#32
  let arg16 : BitVec 32 := Scf.iv c0_i32_107 c1_i32_109 k0_t1
  let v379 : BitVec 32 := Scalar.muli c2_i32_156 arg16
  let c1_i32_157 : BitVec 32 := 1#32
  let v380 : BitVec 32 := Scalar.addi v379 c1_i32_157
  let c512_i32_158 : BitVec 32 := 512#32
  let v381 : BitVec 32 := Scalar.muli v380 c512_i32_158
  v381
def k0_mult7 (i : grid0.Coords) (k0_t1 : Fin (k0_t1_loop i).trips) : BitVec 32 :=
  let c2_i32_156 : BitVec 32 := 2#32
  let c0_i32_107 : BitVec 32 := 0#32
  let c1_i32_109 : BitVec 32 := 1#32
  let arg16 : BitVec 32 := Scf.iv c0_i32_107 c1_i32_109 k0_t1
  let v379 : BitVec 32 := Scalar.muli c2_i32_156 arg16
  let c1_i32_157 : BitVec 32 := 1#32
  let v380 : BitVec 32 := Scalar.addi v379 c1_i32_157
  let c8_i32 : BitVec 32 := 8#32
  let v383 : BitVec 32 := Scalar.muli v380 c8_i32
  v383
def k0_off4 (i : grid0.Coords) (k0_t1 : Fin (k0_t1_loop i).trips) : Fin 3 → Nat :=
  let c0_159 : Index := 0#32
  let c2_i32_156 : BitVec 32 := 2#32
  let c0_i32_107 : BitVec 32 := 0#32
  let c1_i32_109 : BitVec 32 := 1#32
  let arg16 : BitVec 32 := Scf.iv c0_i32_107 c1_i32_109 k0_t1
  let v379 : BitVec 32 := Scalar.muli c2_i32_156 arg16
  let c1_i32_157 : BitVec 32 := 1#32
  let v380 : BitVec 32 := Scalar.addi v379 c1_i32_157
  let c8_i32 : BitVec 32 := 8#32
  let v383 : BitVec 32 := Scalar.muli v380 c8_i32
  let v384 : BitVec 32 := v383
  let v385 : Index := Scalar.indexCast v384
  let c0_160 : Index := 0#32
  ![0, v385.toNat, 0]
def k0_off5 (i : grid0.Coords) (k0_t1 : Fin (k0_t1_loop i).trips) : Fin 3 → Nat :=
  let c0_161 : Index := 0#32
  let c2_i32_156 : BitVec 32 := 2#32
  let c0_i32_107 : BitVec 32 := 0#32
  let c1_i32_109 : BitVec 32 := 1#32
  let arg16 : BitVec 32 := Scf.iv c0_i32_107 c1_i32_109 k0_t1
  let v379 : BitVec 32 := Scalar.muli c2_i32_156 arg16
  let c1_i32_157 : BitVec 32 := 1#32
  let v380 : BitVec 32 := Scalar.addi v379 c1_i32_157
  let c512_i32_158 : BitVec 32 := 512#32
  let v381 : BitVec 32 := Scalar.muli v380 c512_i32_158
  let v382 : BitVec 32 := v381
  let v392 : Index := Scalar.indexCast v382
  let c0_162 : Index := 0#32
  ![0, v392.toNat, 0]
def k0_off6 (i : grid0.Coords) (k0_t1 : Fin (k0_t1_loop i).trips) : Fin 3 → Nat :=
  let c2_i32_156 : BitVec 32 := 2#32
  let c0_i32_107 : BitVec 32 := 0#32
  let c1_i32_109 : BitVec 32 := 1#32
  let arg16 : BitVec 32 := Scf.iv c0_i32_107 c1_i32_109 k0_t1
  let v379 : BitVec 32 := Scalar.muli c2_i32_156 arg16
  let v409 : Index := Scalar.indexCast v379
  let c0_169 : Index := 0#32
  let c0_170 : Index := 0#32
  ![v409.toNat, 0, 0]
def k0_mult8 (i : grid0.Coords) (k0_t1 : Fin (k0_t1_loop i).trips) : BitVec 32 :=
  let c2_i32_156 : BitVec 32 := 2#32
  let c0_i32_107 : BitVec 32 := 0#32
  let c1_i32_109 : BitVec 32 := 1#32
  let arg16 : BitVec 32 := Scf.iv c0_i32_107 c1_i32_109 k0_t1
  let v379 : BitVec 32 := Scalar.muli c2_i32_156 arg16
  let c1_i32_172 : BitVec 32 := 1#32
  let v421 : BitVec 32 := Scalar.addi v379 c1_i32_172
  let c512_i32_173 : BitVec 32 := 512#32
  let v422 : BitVec 32 := Scalar.muli v421 c512_i32_173
  v422
def k0_mult9 (i : grid0.Coords) (k0_t1 : Fin (k0_t1_loop i).trips) : BitVec 32 :=
  let c2_i32_156 : BitVec 32 := 2#32
  let c0_i32_107 : BitVec 32 := 0#32
  let c1_i32_109 : BitVec 32 := 1#32
  let arg16 : BitVec 32 := Scf.iv c0_i32_107 c1_i32_109 k0_t1
  let v379 : BitVec 32 := Scalar.muli c2_i32_156 arg16
  let c1_i32_172 : BitVec 32 := 1#32
  let v421 : BitVec 32 := Scalar.addi v379 c1_i32_172
  let c8_i32_174 : BitVec 32 := 8#32
  let v424 : BitVec 32 := Scalar.muli v421 c8_i32_174
  v424
def k0_off7 (i : grid0.Coords) (k0_t1 : Fin (k0_t1_loop i).trips) : Fin 3 → Nat :=
  let c1_175 : Index := 1#32
  let c2_i32_156 : BitVec 32 := 2#32
  let c0_i32_107 : BitVec 32 := 0#32
  let c1_i32_109 : BitVec 32 := 1#32
  let arg16 : BitVec 32 := Scf.iv c0_i32_107 c1_i32_109 k0_t1
  let v379 : BitVec 32 := Scalar.muli c2_i32_156 arg16
  let c1_i32_172 : BitVec 32 := 1#32
  let v421 : BitVec 32 := Scalar.addi v379 c1_i32_172
  let c8_i32_174 : BitVec 32 := 8#32
  let v424 : BitVec 32 := Scalar.muli v421 c8_i32_174
  let v425 : BitVec 32 := v424
  let v426 : Index := Scalar.indexCast v425
  let c0_176 : Index := 0#32
  ![1, v426.toNat, 0]
def k0_off8 (i : grid0.Coords) (k0_t1 : Fin (k0_t1_loop i).trips) : Fin 3 → Nat :=
  let c1_177 : Index := 1#32
  let c2_i32_156 : BitVec 32 := 2#32
  let c0_i32_107 : BitVec 32 := 0#32
  let c1_i32_109 : BitVec 32 := 1#32
  let arg16 : BitVec 32 := Scf.iv c0_i32_107 c1_i32_109 k0_t1
  let v379 : BitVec 32 := Scalar.muli c2_i32_156 arg16
  let c1_i32_172 : BitVec 32 := 1#32
  let v421 : BitVec 32 := Scalar.addi v379 c1_i32_172
  let c512_i32_173 : BitVec 32 := 512#32
  let v422 : BitVec 32 := Scalar.muli v421 c512_i32_173
  let v423 : BitVec 32 := v422
  let v433 : Index := Scalar.indexCast v423
  let c0_178 : Index := 0#32
  ![1, v433.toNat, 0]
def k0_off9 (i : grid0.Coords) (k0_t1 : Fin (k0_t1_loop i).trips) : Fin 3 → Nat :=
  let c2_i32_156 : BitVec 32 := 2#32
  let c0_i32_107 : BitVec 32 := 0#32
  let c1_i32_109 : BitVec 32 := 1#32
  let arg16 : BitVec 32 := Scf.iv c0_i32_107 c1_i32_109 k0_t1
  let v379 : BitVec 32 := Scalar.muli c2_i32_156 arg16
  let v450 : Index := Scalar.indexCast v379
  let c64_185 : Index := 64#32
  let c0_186 : Index := 0#32
  ![v450.toNat, 64, 0]
def k0_mult10 (i : grid0.Coords) (k0_t1 : Fin (k0_t1_loop i).trips) : BitVec 32 :=
  let c2_i32_154 : BitVec 32 := 2#32
  let c0_i32_107 : BitVec 32 := 0#32
  let c1_i32_109 : BitVec 32 := 1#32
  let arg16 : BitVec 32 := Scf.iv c0_i32_107 c1_i32_109 k0_t1
  let v377 : BitVec 32 := Scalar.muli c2_i32_154 arg16
  let c1_i32_155 : BitVec 32 := 1#32
  let v378 : BitVec 32 := Scalar.addi v377 c1_i32_155
  let c1_i32_188 : BitVec 32 := 1#32
  let v462 : BitVec 32 := Scalar.addi v378 c1_i32_188
  let c512_i32_189 : BitVec 32 := 512#32
  let v463 : BitVec 32 := Scalar.muli v462 c512_i32_189
  v463
def k0_mult11 (i : grid0.Coords) (k0_t1 : Fin (k0_t1_loop i).trips) : BitVec 32 :=
  let c2_i32_154 : BitVec 32 := 2#32
  let c0_i32_107 : BitVec 32 := 0#32
  let c1_i32_109 : BitVec 32 := 1#32
  let arg16 : BitVec 32 := Scf.iv c0_i32_107 c1_i32_109 k0_t1
  let v377 : BitVec 32 := Scalar.muli c2_i32_154 arg16
  let c1_i32_155 : BitVec 32 := 1#32
  let v378 : BitVec 32 := Scalar.addi v377 c1_i32_155
  let c1_i32_188 : BitVec 32 := 1#32
  let v462 : BitVec 32 := Scalar.addi v378 c1_i32_188
  let c8_i32_190 : BitVec 32 := 8#32
  let v465 : BitVec 32 := Scalar.muli v462 c8_i32_190
  v465
def k0_off10 (i : grid0.Coords) (k0_t1 : Fin (k0_t1_loop i).trips) : Fin 3 → Nat :=
  let c0_191 : Index := 0#32
  let c2_i32_154 : BitVec 32 := 2#32
  let c0_i32_107 : BitVec 32 := 0#32
  let c1_i32_109 : BitVec 32 := 1#32
  let arg16 : BitVec 32 := Scf.iv c0_i32_107 c1_i32_109 k0_t1
  let v377 : BitVec 32 := Scalar.muli c2_i32_154 arg16
  let c1_i32_155 : BitVec 32 := 1#32
  let v378 : BitVec 32 := Scalar.addi v377 c1_i32_155
  let c1_i32_188 : BitVec 32 := 1#32
  let v462 : BitVec 32 := Scalar.addi v378 c1_i32_188
  let c8_i32_190 : BitVec 32 := 8#32
  let v465 : BitVec 32 := Scalar.muli v462 c8_i32_190
  let v466 : BitVec 32 := v465
  let v467 : Index := Scalar.indexCast v466
  let c0_192 : Index := 0#32
  ![0, v467.toNat, 0]
def k0_off11 (i : grid0.Coords) (k0_t1 : Fin (k0_t1_loop i).trips) : Fin 3 → Nat :=
  let c0_193 : Index := 0#32
  let c2_i32_154 : BitVec 32 := 2#32
  let c0_i32_107 : BitVec 32 := 0#32
  let c1_i32_109 : BitVec 32 := 1#32
  let arg16 : BitVec 32 := Scf.iv c0_i32_107 c1_i32_109 k0_t1
  let v377 : BitVec 32 := Scalar.muli c2_i32_154 arg16
  let c1_i32_155 : BitVec 32 := 1#32
  let v378 : BitVec 32 := Scalar.addi v377 c1_i32_155
  let c1_i32_188 : BitVec 32 := 1#32
  let v462 : BitVec 32 := Scalar.addi v378 c1_i32_188
  let c512_i32_189 : BitVec 32 := 512#32
  let v463 : BitVec 32 := Scalar.muli v462 c512_i32_189
  let v464 : BitVec 32 := v463
  let v474 : Index := Scalar.indexCast v464
  let c0_194 : Index := 0#32
  ![0, v474.toNat, 0]
def k0_off12 (i : grid0.Coords) (k0_t1 : Fin (k0_t1_loop i).trips) : Fin 3 → Nat :=
  let c2_i32_154 : BitVec 32 := 2#32
  let c0_i32_107 : BitVec 32 := 0#32
  let c1_i32_109 : BitVec 32 := 1#32
  let arg16 : BitVec 32 := Scf.iv c0_i32_107 c1_i32_109 k0_t1
  let v377 : BitVec 32 := Scalar.muli c2_i32_154 arg16
  let c1_i32_155 : BitVec 32 := 1#32
  let v378 : BitVec 32 := Scalar.addi v377 c1_i32_155
  let v491 : Index := Scalar.indexCast v378
  let c0_201 : Index := 0#32
  let c0_202 : Index := 0#32
  ![v491.toNat, 0, 0]
def k0_mult12 (i : grid0.Coords) (k0_t1 : Fin (k0_t1_loop i).trips) : BitVec 32 :=
  let c2_i32_154 : BitVec 32 := 2#32
  let c0_i32_107 : BitVec 32 := 0#32
  let c1_i32_109 : BitVec 32 := 1#32
  let arg16 : BitVec 32 := Scf.iv c0_i32_107 c1_i32_109 k0_t1
  let v377 : BitVec 32 := Scalar.muli c2_i32_154 arg16
  let c1_i32_155 : BitVec 32 := 1#32
  let v378 : BitVec 32 := Scalar.addi v377 c1_i32_155
  let c1_i32_204 : BitVec 32 := 1#32
  let v503 : BitVec 32 := Scalar.addi v378 c1_i32_204
  let c512_i32_205 : BitVec 32 := 512#32
  let v504 : BitVec 32 := Scalar.muli v503 c512_i32_205
  v504
def k0_mult13 (i : grid0.Coords) (k0_t1 : Fin (k0_t1_loop i).trips) : BitVec 32 :=
  let c2_i32_154 : BitVec 32 := 2#32
  let c0_i32_107 : BitVec 32 := 0#32
  let c1_i32_109 : BitVec 32 := 1#32
  let arg16 : BitVec 32 := Scf.iv c0_i32_107 c1_i32_109 k0_t1
  let v377 : BitVec 32 := Scalar.muli c2_i32_154 arg16
  let c1_i32_155 : BitVec 32 := 1#32
  let v378 : BitVec 32 := Scalar.addi v377 c1_i32_155
  let c1_i32_204 : BitVec 32 := 1#32
  let v503 : BitVec 32 := Scalar.addi v378 c1_i32_204
  let c8_i32_206 : BitVec 32 := 8#32
  let v506 : BitVec 32 := Scalar.muli v503 c8_i32_206
  v506
def k0_off13 (i : grid0.Coords) (k0_t1 : Fin (k0_t1_loop i).trips) : Fin 3 → Nat :=
  let c1_207 : Index := 1#32
  let c2_i32_154 : BitVec 32 := 2#32
  let c0_i32_107 : BitVec 32 := 0#32
  let c1_i32_109 : BitVec 32 := 1#32
  let arg16 : BitVec 32 := Scf.iv c0_i32_107 c1_i32_109 k0_t1
  let v377 : BitVec 32 := Scalar.muli c2_i32_154 arg16
  let c1_i32_155 : BitVec 32 := 1#32
  let v378 : BitVec 32 := Scalar.addi v377 c1_i32_155
  let c1_i32_204 : BitVec 32 := 1#32
  let v503 : BitVec 32 := Scalar.addi v378 c1_i32_204
  let c8_i32_206 : BitVec 32 := 8#32
  let v506 : BitVec 32 := Scalar.muli v503 c8_i32_206
  let v507 : BitVec 32 := v506
  let v508 : Index := Scalar.indexCast v507
  let c0_208 : Index := 0#32
  ![1, v508.toNat, 0]
def k0_off14 (i : grid0.Coords) (k0_t1 : Fin (k0_t1_loop i).trips) : Fin 3 → Nat :=
  let c1_209 : Index := 1#32
  let c2_i32_154 : BitVec 32 := 2#32
  let c0_i32_107 : BitVec 32 := 0#32
  let c1_i32_109 : BitVec 32 := 1#32
  let arg16 : BitVec 32 := Scf.iv c0_i32_107 c1_i32_109 k0_t1
  let v377 : BitVec 32 := Scalar.muli c2_i32_154 arg16
  let c1_i32_155 : BitVec 32 := 1#32
  let v378 : BitVec 32 := Scalar.addi v377 c1_i32_155
  let c1_i32_204 : BitVec 32 := 1#32
  let v503 : BitVec 32 := Scalar.addi v378 c1_i32_204
  let c512_i32_205 : BitVec 32 := 512#32
  let v504 : BitVec 32 := Scalar.muli v503 c512_i32_205
  let v505 : BitVec 32 := v504
  let v515 : Index := Scalar.indexCast v505
  let c0_210 : Index := 0#32
  ![1, v515.toNat, 0]
def k0_off15 (i : grid0.Coords) (k0_t1 : Fin (k0_t1_loop i).trips) : Fin 3 → Nat :=
  let c2_i32_154 : BitVec 32 := 2#32
  let c0_i32_107 : BitVec 32 := 0#32
  let c1_i32_109 : BitVec 32 := 1#32
  let arg16 : BitVec 32 := Scf.iv c0_i32_107 c1_i32_109 k0_t1
  let v377 : BitVec 32 := Scalar.muli c2_i32_154 arg16
  let c1_i32_155 : BitVec 32 := 1#32
  let v378 : BitVec 32 := Scalar.addi v377 c1_i32_155
  let v532 : Index := Scalar.indexCast v378
  let c64_217 : Index := 64#32
  let c0_218 : Index := 0#32
  ![v532.toNat, 64, 0]
@[reducible] def k0_t2_loop (i : grid0.Coords) : Scf.Loop 32 :=
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let v251 : BitVec 32 := Scalar.addi c0_i32_107 v250
  let c1_i32_110 : BitVec 32 := 1#32
  ⟨v254, v251, c1_i32_110⟩
def k0_mult14 (i : grid0.Coords) (k0_t2 : Fin (k0_t2_loop i).trips) : BitVec 32 :=
  let c2_i32_156 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v379 : BitVec 32 := Scalar.muli c2_i32_156 arg16
  let c1_i32_157 : BitVec 32 := 1#32
  let v380 : BitVec 32 := Scalar.addi v379 c1_i32_157
  let c512_i32_158 : BitVec 32 := 512#32
  let v381 : BitVec 32 := Scalar.muli v380 c512_i32_158
  v381
def k0_mult15 (i : grid0.Coords) (k0_t2 : Fin (k0_t2_loop i).trips) : BitVec 32 :=
  let c2_i32_156 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v379 : BitVec 32 := Scalar.muli c2_i32_156 arg16
  let c1_i32_157 : BitVec 32 := 1#32
  let v380 : BitVec 32 := Scalar.addi v379 c1_i32_157
  let c8_i32 : BitVec 32 := 8#32
  let v383 : BitVec 32 := Scalar.muli v380 c8_i32
  v383
def k0_off16 (i : grid0.Coords) (k0_t2 : Fin (k0_t2_loop i).trips) : Fin 3 → Nat :=
  let c0_159 : Index := 0#32
  let c2_i32_156 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v379 : BitVec 32 := Scalar.muli c2_i32_156 arg16
  let c1_i32_157 : BitVec 32 := 1#32
  let v380 : BitVec 32 := Scalar.addi v379 c1_i32_157
  let c8_i32 : BitVec 32 := 8#32
  let v383 : BitVec 32 := Scalar.muli v380 c8_i32
  let v384 : BitVec 32 := v383
  let v385 : Index := Scalar.indexCast v384
  let c0_160 : Index := 0#32
  ![0, v385.toNat, 0]
def k0_off17 (i : grid0.Coords) (k0_t2 : Fin (k0_t2_loop i).trips) : Fin 3 → Nat :=
  let c0_161 : Index := 0#32
  let c2_i32_156 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v379 : BitVec 32 := Scalar.muli c2_i32_156 arg16
  let c1_i32_157 : BitVec 32 := 1#32
  let v380 : BitVec 32 := Scalar.addi v379 c1_i32_157
  let c512_i32_158 : BitVec 32 := 512#32
  let v381 : BitVec 32 := Scalar.muli v380 c512_i32_158
  let v382 : BitVec 32 := v381
  let v392 : Index := Scalar.indexCast v382
  let c0_162 : Index := 0#32
  ![0, v392.toNat, 0]
def k0_off18 (i : grid0.Coords) (k0_t2 : Fin (k0_t2_loop i).trips) : Fin 3 → Nat :=
  let c2_i32_156 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v379 : BitVec 32 := Scalar.muli c2_i32_156 arg16
  let v409 : Index := Scalar.indexCast v379
  let c0_169 : Index := 0#32
  let c0_170 : Index := 0#32
  ![v409.toNat, 0, 0]
def k0_mult16 (i : grid0.Coords) (k0_t2 : Fin (k0_t2_loop i).trips) : BitVec 32 :=
  let c2_i32_156 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v379 : BitVec 32 := Scalar.muli c2_i32_156 arg16
  let c1_i32_172 : BitVec 32 := 1#32
  let v421 : BitVec 32 := Scalar.addi v379 c1_i32_172
  let c512_i32_173 : BitVec 32 := 512#32
  let v422 : BitVec 32 := Scalar.muli v421 c512_i32_173
  v422
def k0_mult17 (i : grid0.Coords) (k0_t2 : Fin (k0_t2_loop i).trips) : BitVec 32 :=
  let c2_i32_156 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v379 : BitVec 32 := Scalar.muli c2_i32_156 arg16
  let c1_i32_172 : BitVec 32 := 1#32
  let v421 : BitVec 32 := Scalar.addi v379 c1_i32_172
  let c8_i32_174 : BitVec 32 := 8#32
  let v424 : BitVec 32 := Scalar.muli v421 c8_i32_174
  v424
def k0_off19 (i : grid0.Coords) (k0_t2 : Fin (k0_t2_loop i).trips) : Fin 3 → Nat :=
  let c1_175 : Index := 1#32
  let c2_i32_156 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v379 : BitVec 32 := Scalar.muli c2_i32_156 arg16
  let c1_i32_172 : BitVec 32 := 1#32
  let v421 : BitVec 32 := Scalar.addi v379 c1_i32_172
  let c8_i32_174 : BitVec 32 := 8#32
  let v424 : BitVec 32 := Scalar.muli v421 c8_i32_174
  let v425 : BitVec 32 := v424
  let v426 : Index := Scalar.indexCast v425
  let c0_176 : Index := 0#32
  ![1, v426.toNat, 0]
def k0_off20 (i : grid0.Coords) (k0_t2 : Fin (k0_t2_loop i).trips) : Fin 3 → Nat :=
  let c1_177 : Index := 1#32
  let c2_i32_156 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v379 : BitVec 32 := Scalar.muli c2_i32_156 arg16
  let c1_i32_172 : BitVec 32 := 1#32
  let v421 : BitVec 32 := Scalar.addi v379 c1_i32_172
  let c512_i32_173 : BitVec 32 := 512#32
  let v422 : BitVec 32 := Scalar.muli v421 c512_i32_173
  let v423 : BitVec 32 := v422
  let v433 : Index := Scalar.indexCast v423
  let c0_178 : Index := 0#32
  ![1, v433.toNat, 0]
def k0_off21 (i : grid0.Coords) (k0_t2 : Fin (k0_t2_loop i).trips) : Fin 3 → Nat :=
  let c2_i32_156 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v379 : BitVec 32 := Scalar.muli c2_i32_156 arg16
  let v450 : Index := Scalar.indexCast v379
  let c64_185 : Index := 64#32
  let c0_186 : Index := 0#32
  ![v450.toNat, 64, 0]
def k0_mult18 (i : grid0.Coords) (k0_t2 : Fin (k0_t2_loop i).trips) : BitVec 32 :=
  let c2_i32_154 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v377 : BitVec 32 := Scalar.muli c2_i32_154 arg16
  let c1_i32_155 : BitVec 32 := 1#32
  let v378 : BitVec 32 := Scalar.addi v377 c1_i32_155
  let c1_i32_188 : BitVec 32 := 1#32
  let v462 : BitVec 32 := Scalar.addi v378 c1_i32_188
  let c512_i32_189 : BitVec 32 := 512#32
  let v463 : BitVec 32 := Scalar.muli v462 c512_i32_189
  v463
def k0_mult19 (i : grid0.Coords) (k0_t2 : Fin (k0_t2_loop i).trips) : BitVec 32 :=
  let c2_i32_154 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v377 : BitVec 32 := Scalar.muli c2_i32_154 arg16
  let c1_i32_155 : BitVec 32 := 1#32
  let v378 : BitVec 32 := Scalar.addi v377 c1_i32_155
  let c1_i32_188 : BitVec 32 := 1#32
  let v462 : BitVec 32 := Scalar.addi v378 c1_i32_188
  let c8_i32_190 : BitVec 32 := 8#32
  let v465 : BitVec 32 := Scalar.muli v462 c8_i32_190
  v465
def k0_off22 (i : grid0.Coords) (k0_t2 : Fin (k0_t2_loop i).trips) : Fin 3 → Nat :=
  let c0_191 : Index := 0#32
  let c2_i32_154 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v377 : BitVec 32 := Scalar.muli c2_i32_154 arg16
  let c1_i32_155 : BitVec 32 := 1#32
  let v378 : BitVec 32 := Scalar.addi v377 c1_i32_155
  let c1_i32_188 : BitVec 32 := 1#32
  let v462 : BitVec 32 := Scalar.addi v378 c1_i32_188
  let c8_i32_190 : BitVec 32 := 8#32
  let v465 : BitVec 32 := Scalar.muli v462 c8_i32_190
  let v466 : BitVec 32 := v465
  let v467 : Index := Scalar.indexCast v466
  let c0_192 : Index := 0#32
  ![0, v467.toNat, 0]
def k0_off23 (i : grid0.Coords) (k0_t2 : Fin (k0_t2_loop i).trips) : Fin 3 → Nat :=
  let c0_193 : Index := 0#32
  let c2_i32_154 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v377 : BitVec 32 := Scalar.muli c2_i32_154 arg16
  let c1_i32_155 : BitVec 32 := 1#32
  let v378 : BitVec 32 := Scalar.addi v377 c1_i32_155
  let c1_i32_188 : BitVec 32 := 1#32
  let v462 : BitVec 32 := Scalar.addi v378 c1_i32_188
  let c512_i32_189 : BitVec 32 := 512#32
  let v463 : BitVec 32 := Scalar.muli v462 c512_i32_189
  let v464 : BitVec 32 := v463
  let v474 : Index := Scalar.indexCast v464
  let c0_194 : Index := 0#32
  ![0, v474.toNat, 0]
def k0_off24 (i : grid0.Coords) (k0_t2 : Fin (k0_t2_loop i).trips) : Fin 3 → Nat :=
  let c2_i32_154 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v377 : BitVec 32 := Scalar.muli c2_i32_154 arg16
  let c1_i32_155 : BitVec 32 := 1#32
  let v378 : BitVec 32 := Scalar.addi v377 c1_i32_155
  let v491 : Index := Scalar.indexCast v378
  let c0_201 : Index := 0#32
  let c0_202 : Index := 0#32
  ![v491.toNat, 0, 0]
def k0_mult20 (i : grid0.Coords) (k0_t2 : Fin (k0_t2_loop i).trips) : BitVec 32 :=
  let c2_i32_154 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v377 : BitVec 32 := Scalar.muli c2_i32_154 arg16
  let c1_i32_155 : BitVec 32 := 1#32
  let v378 : BitVec 32 := Scalar.addi v377 c1_i32_155
  let c1_i32_204 : BitVec 32 := 1#32
  let v503 : BitVec 32 := Scalar.addi v378 c1_i32_204
  let c512_i32_205 : BitVec 32 := 512#32
  let v504 : BitVec 32 := Scalar.muli v503 c512_i32_205
  v504
def k0_mult21 (i : grid0.Coords) (k0_t2 : Fin (k0_t2_loop i).trips) : BitVec 32 :=
  let c2_i32_154 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v377 : BitVec 32 := Scalar.muli c2_i32_154 arg16
  let c1_i32_155 : BitVec 32 := 1#32
  let v378 : BitVec 32 := Scalar.addi v377 c1_i32_155
  let c1_i32_204 : BitVec 32 := 1#32
  let v503 : BitVec 32 := Scalar.addi v378 c1_i32_204
  let c8_i32_206 : BitVec 32 := 8#32
  let v506 : BitVec 32 := Scalar.muli v503 c8_i32_206
  v506
def k0_off25 (i : grid0.Coords) (k0_t2 : Fin (k0_t2_loop i).trips) : Fin 3 → Nat :=
  let c1_207 : Index := 1#32
  let c2_i32_154 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v377 : BitVec 32 := Scalar.muli c2_i32_154 arg16
  let c1_i32_155 : BitVec 32 := 1#32
  let v378 : BitVec 32 := Scalar.addi v377 c1_i32_155
  let c1_i32_204 : BitVec 32 := 1#32
  let v503 : BitVec 32 := Scalar.addi v378 c1_i32_204
  let c8_i32_206 : BitVec 32 := 8#32
  let v506 : BitVec 32 := Scalar.muli v503 c8_i32_206
  let v507 : BitVec 32 := v506
  let v508 : Index := Scalar.indexCast v507
  let c0_208 : Index := 0#32
  ![1, v508.toNat, 0]
def k0_off26 (i : grid0.Coords) (k0_t2 : Fin (k0_t2_loop i).trips) : Fin 3 → Nat :=
  let c1_209 : Index := 1#32
  let c2_i32_154 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v377 : BitVec 32 := Scalar.muli c2_i32_154 arg16
  let c1_i32_155 : BitVec 32 := 1#32
  let v378 : BitVec 32 := Scalar.addi v377 c1_i32_155
  let c1_i32_204 : BitVec 32 := 1#32
  let v503 : BitVec 32 := Scalar.addi v378 c1_i32_204
  let c512_i32_205 : BitVec 32 := 512#32
  let v504 : BitVec 32 := Scalar.muli v503 c512_i32_205
  let v505 : BitVec 32 := v504
  let v515 : Index := Scalar.indexCast v505
  let c0_210 : Index := 0#32
  ![1, v515.toNat, 0]
def k0_off27 (i : grid0.Coords) (k0_t2 : Fin (k0_t2_loop i).trips) : Fin 3 → Nat :=
  let c2_i32_154 : BitVec 32 := 2#32
  let c0_i32_107 : BitVec 32 := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c0_i32_101 : BitVec 32 := 0#32
  let v234 : BitVec 1 := Scalar.cmpi .sgt v197 c0_i32_101
  let v235 : BitVec 32 := Scalar.extui v234
  let c0_i32_102 : BitVec 32 := 0#32
  let v236 : BitVec 1 := Scalar.cmpi .slt v197 c0_i32_102
  let v237 : BitVec 32 := Scalar.extui v236
  let v238 : BitVec 32 := Scalar.subi v235 v237
  let c2_i32_100 : BitVec 32 := 2#32
  let c0_i32_103 : BitVec 32 := 0#32
  let v239 : BitVec 1 := Scalar.cmpi .sgt c2_i32_100 c0_i32_103
  let v240 : BitVec 32 := Scalar.extui v239
  let c0_i32_104 : BitVec 32 := 0#32
  let v241 : BitVec 1 := Scalar.cmpi .slt c2_i32_100 c0_i32_104
  let v242 : BitVec 32 := Scalar.extui v241
  let v243 : BitVec 32 := Scalar.subi v240 v242
  let v244 : BitVec 1 := Scalar.cmpi .ne v238 v243
  let v245 : BitVec 32 := Scalar.remsi v197 c2_i32_100
  let c0_i32_105 : BitVec 32 := 0#32
  let v246 : BitVec 1 := Scalar.cmpi .ne v245 c0_i32_105
  let v247 : BitVec 1 := Scalar.andi v244 v246
  let v233 : BitVec 32 := Scalar.divsi v197 c2_i32_100
  let c1_i32_106 : BitVec 32 := 1#32
  let v248 : BitVec 32 := Scalar.subi v233 c1_i32_106
  let v249 : BitVec 32 := Scalar.select v247 v248 v233
  let v250 : BitVec 32 := Scalar.subi v249 c0_i32_107
  let c1_i32_108 : BitVec 32 := 1#32
  let v252 : BitVec 32 := Scalar.divsi v250 c1_i32_108
  let v253 : BitVec 32 := Scalar.muli v252 c1_i32_108
  let v254 : BitVec 32 := Scalar.addi c0_i32_107 v253
  let c1_i32_110 : BitVec 32 := 1#32
  let arg16 : BitVec 32 := Scf.iv v254 c1_i32_110 k0_t2
  let v377 : BitVec 32 := Scalar.muli c2_i32_154 arg16
  let c1_i32_155 : BitVec 32 := 1#32
  let v378 : BitVec 32 := Scalar.addi v377 c1_i32_155
  let v532 : Index := Scalar.indexCast v378
  let c64_217 : Index := 64#32
  let c0_218 : Index := 0#32
  ![v532.toNat, 64, 0]
def k0_cond4 (i : grid0.Coords) : BitVec 1 :=
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c2_i32_111 : BitVec 32 := 2#32
  let c0_i32_112 : BitVec 32 := 0#32
  let v257 : BitVec 1 := Scalar.cmpi .eq c2_i32_111 c0_i32_112
  let c1_i32_113 : BitVec 32 := 1#32
  let v258 : BitVec 32 := Scalar.select v257 c1_i32_113 c2_i32_111
  let v259 : BitVec 32 := Scalar.remsi v197 v258
  let c0_i32_115 : BitVec 32 := 0#32
  let v261 : BitVec 1 := Scalar.cmpi .slt v259 c0_i32_115
  let c0_i32_116 : BitVec 32 := 0#32
  let v262 : BitVec 1 := Scalar.cmpi .slt v258 c0_i32_116
  let v263 : BitVec 1 := Scalar.xori v261 v262
  let c0_i32_114 : BitVec 32 := 0#32
  let v260 : BitVec 1 := Scalar.cmpi .ne v259 c0_i32_114
  let v264 : BitVec 1 := Scalar.andi v263 v260
  let v265 : BitVec 32 := Scalar.addi v259 v258
  let v266 : BitVec 32 := Scalar.select v264 v265 v259
  let c1_i32_117 : BitVec 32 := 1#32
  let v267 : BitVec 1 := Scalar.cmpi .eq v266 c1_i32_117
  let v268 : BitVec 32 := Scalar.extui v267
  let c0_i32_118 : BitVec 32 := 0#32
  let v269 : BitVec 1 := Scalar.cmpi .ne v268 c0_i32_118
  v269

def k0_mult22 (i : grid0.Coords) : BitVec 32 :=
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c1_i32_154 : BitVec 32 := 1#32
  let v377 : BitVec 32 := Scalar.subi v197 c1_i32_154
  let c1_i32_155 : BitVec 32 := 1#32
  let v378 : BitVec 32 := Scalar.addi v377 c1_i32_155
  let c512_i32_156 : BitVec 32 := 512#32
  let v379 : BitVec 32 := Scalar.muli v378 c512_i32_156
  v379
def k0_mult23 (i : grid0.Coords) : BitVec 32 :=
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c1_i32_154 : BitVec 32 := 1#32
  let v377 : BitVec 32 := Scalar.subi v197 c1_i32_154
  let c1_i32_155 : BitVec 32 := 1#32
  let v378 : BitVec 32 := Scalar.addi v377 c1_i32_155
  let c8_i32 : BitVec 32 := 8#32
  let v381 : BitVec 32 := Scalar.muli v378 c8_i32
  v381
def k0_off28 (i : grid0.Coords) : Fin 3 → Nat :=
  let c0_157 : Index := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c1_i32_154 : BitVec 32 := 1#32
  let v377 : BitVec 32 := Scalar.subi v197 c1_i32_154
  let c1_i32_155 : BitVec 32 := 1#32
  let v378 : BitVec 32 := Scalar.addi v377 c1_i32_155
  let c8_i32 : BitVec 32 := 8#32
  let v381 : BitVec 32 := Scalar.muli v378 c8_i32
  let v382 : BitVec 32 := v381
  let v383 : Index := Scalar.indexCast v382
  let c0_158 : Index := 0#32
  ![0, v383.toNat, 0]
def k0_off29 (i : grid0.Coords) : Fin 3 → Nat :=
  let c0_159 : Index := 0#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c1_i32_154 : BitVec 32 := 1#32
  let v377 : BitVec 32 := Scalar.subi v197 c1_i32_154
  let c1_i32_155 : BitVec 32 := 1#32
  let v378 : BitVec 32 := Scalar.addi v377 c1_i32_155
  let c512_i32_156 : BitVec 32 := 512#32
  let v379 : BitVec 32 := Scalar.muli v378 c512_i32_156
  let v380 : BitVec 32 := v379
  let v390 : Index := Scalar.indexCast v380
  let c0_160 : Index := 0#32
  ![0, v390.toNat, 0]
def k0_off30 (i : grid0.Coords) : Fin 3 → Nat :=
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c1_i32_154 : BitVec 32 := 1#32
  let v377 : BitVec 32 := Scalar.subi v197 c1_i32_154
  let v407 : Index := Scalar.indexCast v377
  let c0_167 : Index := 0#32
  let c0_168 : Index := 0#32
  ![v407.toNat, 0, 0]
def k0_mult24 (i : grid0.Coords) : BitVec 32 :=
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c1_i32_154 : BitVec 32 := 1#32
  let v377 : BitVec 32 := Scalar.subi v197 c1_i32_154
  let c1_i32_170 : BitVec 32 := 1#32
  let v419 : BitVec 32 := Scalar.addi v377 c1_i32_170
  let c512_i32_171 : BitVec 32 := 512#32
  let v420 : BitVec 32 := Scalar.muli v419 c512_i32_171
  v420
def k0_mult25 (i : grid0.Coords) : BitVec 32 :=
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c1_i32_154 : BitVec 32 := 1#32
  let v377 : BitVec 32 := Scalar.subi v197 c1_i32_154
  let c1_i32_170 : BitVec 32 := 1#32
  let v419 : BitVec 32 := Scalar.addi v377 c1_i32_170
  let c8_i32_172 : BitVec 32 := 8#32
  let v422 : BitVec 32 := Scalar.muli v419 c8_i32_172
  v422
def k0_off31 (i : grid0.Coords) : Fin 3 → Nat :=
  let c1_173 : Index := 1#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c1_i32_154 : BitVec 32 := 1#32
  let v377 : BitVec 32 := Scalar.subi v197 c1_i32_154
  let c1_i32_170 : BitVec 32 := 1#32
  let v419 : BitVec 32 := Scalar.addi v377 c1_i32_170
  let c8_i32_172 : BitVec 32 := 8#32
  let v422 : BitVec 32 := Scalar.muli v419 c8_i32_172
  let v423 : BitVec 32 := v422
  let v424 : Index := Scalar.indexCast v423
  let c0_174 : Index := 0#32
  ![1, v424.toNat, 0]
def k0_off32 (i : grid0.Coords) : Fin 3 → Nat :=
  let c1_175 : Index := 1#32
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c1_i32_154 : BitVec 32 := 1#32
  let v377 : BitVec 32 := Scalar.subi v197 c1_i32_154
  let c1_i32_170 : BitVec 32 := 1#32
  let v419 : BitVec 32 := Scalar.addi v377 c1_i32_170
  let c512_i32_171 : BitVec 32 := 512#32
  let v420 : BitVec 32 := Scalar.muli v419 c512_i32_171
  let v421 : BitVec 32 := v420
  let v431 : Index := Scalar.indexCast v421
  let c0_176 : Index := 0#32
  ![1, v431.toNat, 0]
def k0_off33 (i : grid0.Coords) : Fin 3 → Nat :=
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let c1_i32_154 : BitVec 32 := 1#32
  let v377 : BitVec 32 := Scalar.subi v197 c1_i32_154
  let v448 : Index := Scalar.indexCast v377
  let c64_183 : Index := 64#32
  let c0_184 : Index := 0#32
  ![v448.toNat, 64, 0]
def k0_mult26 (i : grid0.Coords) : BitVec 32 :=
  let arg0 : BitVec 32 := BitVec.ofNat 32 (i 0).val
  let c128_i32_186 : BitVec 32 := 128#32
  let v460 : BitVec 32 := Scalar.muli arg0 c128_i32_186
  let c512_i32_187 : BitVec 32 := 512#32
  let c0_i32_188 : BitVec 32 := 0#32
  let v461 : BitVec 1 := Scalar.cmpi .eq c512_i32_187 c0_i32_188
  let c1_i32_189 : BitVec 32 := 1#32
  let v462 : BitVec 32 := Scalar.select v461 c1_i32_189 c512_i32_187
  let v463 : BitVec 32 := Scalar.remsi v460 v462
  let c0_i32_191 : BitVec 32 := 0#32
  let v465 : BitVec 1 := Scalar.cmpi .slt v463 c0_i32_191
  let c0_i32_192 : BitVec 32 := 0#32
  let v466 : BitVec 1 := Scalar.cmpi .slt v462 c0_i32_192
  let v467 : BitVec 1 := Scalar.xori v465 v466
  let c0_i32_190 : BitVec 32 := 0#32
  let v464 : BitVec 1 := Scalar.cmpi .ne v463 c0_i32_190
  let v468 : BitVec 1 := Scalar.andi v467 v464
  let v469 : BitVec 32 := Scalar.addi v463 v462
  let v470 : BitVec 32 := Scalar.select v468 v469 v463
  v470
def k0_off34 (i : grid0.Coords) : Fin 2 → Nat :=
  let arg0 : BitVec 32 := BitVec.ofNat 32 (i 0).val
  let c128_i32_186 : BitVec 32 := 128#32
  let v460 : BitVec 32 := Scalar.muli arg0 c128_i32_186
  let c512_i32_187 : BitVec 32 := 512#32
  let c0_i32_188 : BitVec 32 := 0#32
  let v461 : BitVec 1 := Scalar.cmpi .eq c512_i32_187 c0_i32_188
  let c1_i32_189 : BitVec 32 := 1#32
  let v462 : BitVec 32 := Scalar.select v461 c1_i32_189 c512_i32_187
  let v463 : BitVec 32 := Scalar.remsi v460 v462
  let c0_i32_191 : BitVec 32 := 0#32
  let v465 : BitVec 1 := Scalar.cmpi .slt v463 c0_i32_191
  let c0_i32_192 : BitVec 32 := 0#32
  let v466 : BitVec 1 := Scalar.cmpi .slt v462 c0_i32_192
  let v467 : BitVec 1 := Scalar.xori v465 v466
  let c0_i32_190 : BitVec 32 := 0#32
  let v464 : BitVec 1 := Scalar.cmpi .ne v463 c0_i32_190
  let v468 : BitVec 1 := Scalar.andi v467 v464
  let v469 : BitVec 32 := Scalar.addi v463 v462
  let v470 : BitVec 32 := Scalar.select v468 v469 v463
  let v471 : BitVec 32 := v470
  let v481 : Index := Scalar.indexCast v471
  let c0_195 : Index := 0#32
  ![v481.toNat, 0]
def k0_off35 (i : grid0.Coords) : Fin 3 → Nat :=
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let v498 : Index := Scalar.indexCast v197
  let c0_200 : Index := 0#32
  let c0_201 : Index := 0#32
  ![v498.toNat, 0, 0]
def k0_mult27 (i : grid0.Coords) : BitVec 32 :=
  let arg0 : BitVec 32 := BitVec.ofNat 32 (i 0).val
  let c128_i32_203 : BitVec 32 := 128#32
  let v510 : BitVec 32 := Scalar.muli arg0 c128_i32_203
  let c512_i32_204 : BitVec 32 := 512#32
  let c0_i32_205 : BitVec 32 := 0#32
  let v511 : BitVec 1 := Scalar.cmpi .eq c512_i32_204 c0_i32_205
  let c1_i32_206 : BitVec 32 := 1#32
  let v512 : BitVec 32 := Scalar.select v511 c1_i32_206 c512_i32_204
  let v513 : BitVec 32 := Scalar.remsi v510 v512
  let c0_i32_208 : BitVec 32 := 0#32
  let v515 : BitVec 1 := Scalar.cmpi .slt v513 c0_i32_208
  let c0_i32_209 : BitVec 32 := 0#32
  let v516 : BitVec 1 := Scalar.cmpi .slt v512 c0_i32_209
  let v517 : BitVec 1 := Scalar.xori v515 v516
  let c0_i32_207 : BitVec 32 := 0#32
  let v514 : BitVec 1 := Scalar.cmpi .ne v513 c0_i32_207
  let v518 : BitVec 1 := Scalar.andi v517 v514
  let v519 : BitVec 32 := Scalar.addi v513 v512
  let v520 : BitVec 32 := Scalar.select v518 v519 v513
  v520
def k0_off36 (i : grid0.Coords) : Fin 3 → Nat :=
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let v548 : Index := Scalar.indexCast v197
  let c64_217 : Index := 64#32
  let c0_218 : Index := 0#32
  ![v548.toNat, 64, 0]
def k0_mult28 (i : grid0.Coords) : BitVec 32 :=
  let arg0 : BitVec 32 := BitVec.ofNat 32 (i 0).val
  let c128_i32_154 : BitVec 32 := 128#32
  let v377 : BitVec 32 := Scalar.muli arg0 c128_i32_154
  let c512_i32_155 : BitVec 32 := 512#32
  let c0_i32_156 : BitVec 32 := 0#32
  let v378 : BitVec 1 := Scalar.cmpi .eq c512_i32_155 c0_i32_156
  let c1_i32_157 : BitVec 32 := 1#32
  let v379 : BitVec 32 := Scalar.select v378 c1_i32_157 c512_i32_155
  let v380 : BitVec 32 := Scalar.remsi v377 v379
  let c0_i32_159 : BitVec 32 := 0#32
  let v382 : BitVec 1 := Scalar.cmpi .slt v380 c0_i32_159
  let c0_i32_160 : BitVec 32 := 0#32
  let v383 : BitVec 1 := Scalar.cmpi .slt v379 c0_i32_160
  let v384 : BitVec 1 := Scalar.xori v382 v383
  let c0_i32_158 : BitVec 32 := 0#32
  let v381 : BitVec 1 := Scalar.cmpi .ne v380 c0_i32_158
  let v385 : BitVec 1 := Scalar.andi v384 v381
  let v386 : BitVec 32 := Scalar.addi v380 v379
  let v387 : BitVec 32 := Scalar.select v385 v386 v380
  v387
def k0_off37 (i : grid0.Coords) : Fin 2 → Nat :=
  let arg0 : BitVec 32 := BitVec.ofNat 32 (i 0).val
  let c128_i32_154 : BitVec 32 := 128#32
  let v377 : BitVec 32 := Scalar.muli arg0 c128_i32_154
  let c512_i32_155 : BitVec 32 := 512#32
  let c0_i32_156 : BitVec 32 := 0#32
  let v378 : BitVec 1 := Scalar.cmpi .eq c512_i32_155 c0_i32_156
  let c1_i32_157 : BitVec 32 := 1#32
  let v379 : BitVec 32 := Scalar.select v378 c1_i32_157 c512_i32_155
  let v380 : BitVec 32 := Scalar.remsi v377 v379
  let c0_i32_159 : BitVec 32 := 0#32
  let v382 : BitVec 1 := Scalar.cmpi .slt v380 c0_i32_159
  let c0_i32_160 : BitVec 32 := 0#32
  let v383 : BitVec 1 := Scalar.cmpi .slt v379 c0_i32_160
  let v384 : BitVec 1 := Scalar.xori v382 v383
  let c0_i32_158 : BitVec 32 := 0#32
  let v381 : BitVec 1 := Scalar.cmpi .ne v380 c0_i32_158
  let v385 : BitVec 1 := Scalar.andi v384 v381
  let v386 : BitVec 32 := Scalar.addi v380 v379
  let v387 : BitVec 32 := Scalar.select v385 v386 v380
  let v388 : BitVec 32 := v387
  let v398 : Index := Scalar.indexCast v388
  let c0_163 : Index := 0#32
  ![v398.toNat, 0]
def k0_off38 (i : grid0.Coords) : Fin 3 → Nat :=
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let v415 : Index := Scalar.indexCast v197
  let c0_168 : Index := 0#32
  let c0_169 : Index := 0#32
  ![v415.toNat, 0, 0]
def k0_mult29 (i : grid0.Coords) : BitVec 32 :=
  let arg0 : BitVec 32 := BitVec.ofNat 32 (i 0).val
  let c128_i32_171 : BitVec 32 := 128#32
  let v427 : BitVec 32 := Scalar.muli arg0 c128_i32_171
  let c512_i32_172 : BitVec 32 := 512#32
  let c0_i32_173 : BitVec 32 := 0#32
  let v428 : BitVec 1 := Scalar.cmpi .eq c512_i32_172 c0_i32_173
  let c1_i32_174 : BitVec 32 := 1#32
  let v429 : BitVec 32 := Scalar.select v428 c1_i32_174 c512_i32_172
  let v430 : BitVec 32 := Scalar.remsi v427 v429
  let c0_i32_176 : BitVec 32 := 0#32
  let v432 : BitVec 1 := Scalar.cmpi .slt v430 c0_i32_176
  let c0_i32_177 : BitVec 32 := 0#32
  let v433 : BitVec 1 := Scalar.cmpi .slt v429 c0_i32_177
  let v434 : BitVec 1 := Scalar.xori v432 v433
  let c0_i32_175 : BitVec 32 := 0#32
  let v431 : BitVec 1 := Scalar.cmpi .ne v430 c0_i32_175
  let v435 : BitVec 1 := Scalar.andi v434 v431
  let v436 : BitVec 32 := Scalar.addi v430 v429
  let v437 : BitVec 32 := Scalar.select v435 v436 v430
  v437
def k0_off39 (i : grid0.Coords) : Fin 3 → Nat :=
  let arg0 : BitVec 32 := BitVec.ofNat 32 (i 0).val
  let c128_i32_71 : BitVec 32 := 128#32
  let v180 : BitVec 32 := Scalar.muli arg0 c128_i32_71
  let c0_i32_73 : BitVec 32 := 0#32
  let v182 : BitVec 1 := Scalar.cmpi .sgt v180 c0_i32_73
  let v183 : BitVec 32 := Scalar.extui v182
  let c0_i32_74 : BitVec 32 := 0#32
  let v184 : BitVec 1 := Scalar.cmpi .slt v180 c0_i32_74
  let v185 : BitVec 32 := Scalar.extui v184
  let v186 : BitVec 32 := Scalar.subi v183 v185
  let c512_i32_72 : BitVec 32 := 512#32
  let c0_i32_75 : BitVec 32 := 0#32
  let v187 : BitVec 1 := Scalar.cmpi .sgt c512_i32_72 c0_i32_75
  let v188 : BitVec 32 := Scalar.extui v187
  let c0_i32_76 : BitVec 32 := 0#32
  let v189 : BitVec 1 := Scalar.cmpi .slt c512_i32_72 c0_i32_76
  let v190 : BitVec 32 := Scalar.extui v189
  let v191 : BitVec 32 := Scalar.subi v188 v190
  let v192 : BitVec 1 := Scalar.cmpi .ne v186 v191
  let v193 : BitVec 32 := Scalar.remsi v180 c512_i32_72
  let c0_i32_77 : BitVec 32 := 0#32
  let v194 : BitVec 1 := Scalar.cmpi .ne v193 c0_i32_77
  let v195 : BitVec 1 := Scalar.andi v192 v194
  let v181 : BitVec 32 := Scalar.divsi v180 c512_i32_72
  let c1_i32_78 : BitVec 32 := 1#32
  let v196 : BitVec 32 := Scalar.subi v181 c1_i32_78
  let v197 : BitVec 32 := Scalar.select v195 v196 v181
  let v465 : Index := Scalar.indexCast v197
  let c64_185 : Index := 64#32
  let c0_186 : Index := 0#32
  ![v465.toNat, 64, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x16384x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16896x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S132x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16384x8x64 : Shape := ⟨3, ![16384, 8, 64]⟩
abbrev S1023x2x64 : Shape := ⟨3, ![1023, 2, 64]⟩
abbrev S16384x2x64 : Shape := ⟨3, ![16384, 2, 64]⟩
abbrev S16384x8x3 : Shape := ⟨3, ![16384, 8, 3]⟩
abbrev S16384 : Shape := ⟨1, ![16384]⟩
abbrev S16384x2x4x64 : Shape := ⟨4, ![16384, 2, 4, 64]⟩
abbrev S1023 : Shape := ⟨1, ![1023]⟩
abbrev S_ : Shape := ⟨0, ![]⟩
abbrev S2x1023x16384x4 : Shape := ⟨4, ![2, 1023, 16384, 4]⟩
abbrev S2x4x16384x1023 : Shape := ⟨4, ![2, 4, 16384, 1023]⟩
abbrev S1x1023 : Shape := ⟨2, ![1, 1023]⟩
abbrev S16384x1 : Shape := ⟨2, ![16384, 1]⟩
abbrev S16384x1023 : Shape := ⟨2, ![16384, 1023]⟩
abbrev S1x1x16384x1023 : Shape := ⟨4, ![1, 1, 16384, 1023]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩
abbrev S1x16384 : Shape := ⟨2, ![1, 16384]⟩
abbrev S16384x16384 : Shape := ⟨2, ![16384, 16384]⟩
abbrev S2x16384x16384x4 : Shape := ⟨4, ![2, 16384, 16384, 4]⟩
abbrev S2x4x16384x16384 : Shape := ⟨4, ![2, 4, 16384, 16384]⟩
abbrev S1x1x16384x16384 : Shape := ⟨4, ![1, 1, 16384, 16384]⟩
abbrev S16384x2x4x3 : Shape := ⟨4, ![16384, 2, 4, 3]⟩
abbrev S16384x2x4x1 : Shape := ⟨4, ![16384, 2, 4, 1]⟩
abbrev S16384x512 : Shape := ⟨2, ![16384, 512]⟩

abbrev nBuf : Space → Nat
  | .hbm => 102
  | .vmem => 0
  | .smem => 0
  | _ => 0

abbrev bufTy : (tb : Table) → Fin (tcTables nBuf tb) → BufTy
  | .hbm, ⟨0, _⟩ => ⟨S16384x8x64, .f32⟩
  | .hbm, ⟨1, _⟩ => ⟨S1023x2x64, .f32⟩
  | .hbm, ⟨2, _⟩ => ⟨S1023x2x64, .f32⟩
  | .hbm, ⟨3, _⟩ => ⟨S16384x2x64, .f32⟩
  | .hbm, ⟨4, _⟩ => ⟨S16384x2x64, .f32⟩
  | .hbm, ⟨5, _⟩ => ⟨S16384x2x64, .f32⟩
  | .hbm, ⟨6, _⟩ => ⟨S16384x2x64, .f32⟩
  | .hbm, ⟨7, _⟩ => ⟨S16384x8x3, .f32⟩
  | .hbm, ⟨8, _⟩ => ⟨S16384, .i32⟩
  | .hbm, ⟨9, _⟩ => ⟨S16384x2x4x64, .f32⟩
  | .hbm, ⟨10, _⟩ => ⟨S1023, .i32⟩
  | .hbm, ⟨11, _⟩ => ⟨S_, .i32⟩
  | .hbm, ⟨12, _⟩ => ⟨S1023, .i32⟩
  | .hbm, ⟨13, _⟩ => ⟨S1023, .i32⟩
  | .hbm, ⟨14, _⟩ => ⟨S_, .i32⟩
  | .hbm, ⟨15, _⟩ => ⟨S1023, .i32⟩
  | .hbm, ⟨16, _⟩ => ⟨S1023, .i32⟩
  | .hbm, ⟨17, _⟩ => ⟨S2x1023x16384x4, .f32⟩
  | .hbm, ⟨18, _⟩ => ⟨S2x4x16384x1023, .f32⟩
  | .hbm, ⟨19, _⟩ => ⟨S1x1023, .i32⟩
  | .hbm, ⟨20, _⟩ => ⟨S16384x1, .i32⟩
  | .hbm, ⟨21, _⟩ => ⟨S16384x1023, .i32⟩
  | .hbm, ⟨22, _⟩ => ⟨S16384x1023, .i32⟩
  | .hbm, ⟨23, _⟩ => ⟨S16384x1023, .i1⟩
  | .hbm, ⟨24, _⟩ => ⟨S1x1x16384x1023, .i1⟩
  | .hbm, ⟨25, _⟩ => ⟨S_, .f32⟩
  | .hbm, ⟨26, _⟩ => ⟨S_, .f32⟩
  | .hbm, ⟨27, _⟩ => ⟨S2x4x16384x1023, .i1⟩
  | .hbm, ⟨28, _⟩ => ⟨S2x4x16384x1023, .f32⟩
  | .hbm, ⟨29, _⟩ => ⟨S2x4x16384x1023, .f32⟩
  | .hbm, ⟨30, _⟩ => ⟨S_, .f32⟩
  | .hbm, ⟨31, _⟩ => ⟨S2x4x16384, .f32⟩
  | .hbm, ⟨32, _⟩ => ⟨S2x4x16384x1, .f32⟩
  | .hbm, ⟨33, _⟩ => ⟨S2x4x16384x1023, .f32⟩
  | .hbm, ⟨34, _⟩ => ⟨S2x4x16384x1023, .f32⟩
  | .hbm, ⟨35, _⟩ => ⟨S2x4x16384x1023, .f32⟩
  | .hbm, ⟨36, _⟩ => ⟨S_, .f32⟩
  | .hbm, ⟨37, _⟩ => ⟨S_, .f32⟩
  | .hbm, ⟨38, _⟩ => ⟨S2x4x16384x1023, .i1⟩
  | .hbm, ⟨39, _⟩ => ⟨S2x4x16384x1023, .f32⟩
  | .hbm, ⟨40, _⟩ => ⟨S2x4x16384x1023, .f32⟩
  | .hbm, ⟨41, _⟩ => ⟨S_, .f32⟩
  | .hbm, ⟨42, _⟩ => ⟨S2x4x16384, .f32⟩
  | .hbm, ⟨43, _⟩ => ⟨S2x4x16384x1, .f32⟩
  | .hbm, ⟨44, _⟩ => ⟨S_, .f32⟩
  | .hbm, ⟨45, _⟩ => ⟨S2x4x16384x1, .f32⟩
  | .hbm, ⟨46, _⟩ => ⟨S2x4x16384x1, .f32⟩
  | .hbm, ⟨47, _⟩ => ⟨S2x4x16384x1023, .f32⟩
  | .hbm, ⟨48, _⟩ => ⟨S2x4x16384x1023, .f32⟩
  | .hbm, ⟨49, _⟩ => ⟨S2x64x4x16384, .f32⟩
  | .hbm, ⟨50, _⟩ => ⟨S16384x2x4x64, .f32⟩
  | .hbm, ⟨51, _⟩ => ⟨S16384x1, .i32⟩
  | .hbm, ⟨52, _⟩ => ⟨S1x16384, .i32⟩
  | .hbm, ⟨53, _⟩ => ⟨S16384x16384, .i32⟩
  | .hbm, ⟨54, _⟩ => ⟨S16384x16384, .i32⟩
  | .hbm, ⟨55, _⟩ => ⟨S16384x16384, .i32⟩
  | .hbm, ⟨56, _⟩ => ⟨S2x16384x16384x4, .f32⟩
  | .hbm, ⟨57, _⟩ => ⟨S2x4x16384x16384, .f32⟩
  | .hbm, ⟨58, _⟩ => ⟨S_, .i32⟩
  | .hbm, ⟨59, _⟩ => ⟨S16384x16384, .i32⟩
  | .hbm, ⟨60, _⟩ => ⟨S16384x16384, .i1⟩
  | .hbm, ⟨61, _⟩ => ⟨S_, .i32⟩
  | .hbm, ⟨62, _⟩ => ⟨S16384x16384, .i32⟩
  | .hbm, ⟨63, _⟩ => ⟨S16384x16384, .i1⟩
  | .hbm, ⟨64, _⟩ => ⟨S16384x16384, .i1⟩
  | .hbm, ⟨65, _⟩ => ⟨S1x1x16384x16384, .i1⟩
  | .hbm, ⟨66, _⟩ => ⟨S_, .f32⟩
  | .hbm, ⟨67, _⟩ => ⟨S_, .f32⟩
  | .hbm, ⟨68, _⟩ => ⟨S2x4x16384x16384, .i1⟩
  | .hbm, ⟨69, _⟩ => ⟨S2x4x16384x16384, .f32⟩
  | .hbm, ⟨70, _⟩ => ⟨S2x4x16384x16384, .f32⟩
  | .hbm, ⟨71, _⟩ => ⟨S_, .f32⟩
  | .hbm, ⟨72, _⟩ => ⟨S2x4x16384, .f32⟩
  | .hbm, ⟨73, _⟩ => ⟨S2x4x16384x1, .f32⟩
  | .hbm, ⟨74, _⟩ => ⟨S2x4x16384x16384, .f32⟩
  | .hbm, ⟨75, _⟩ => ⟨S2x4x16384x16384, .f32⟩
  | .hbm, ⟨76, _⟩ => ⟨S2x4x16384x16384, .f32⟩
  | .hbm, ⟨77, _⟩ => ⟨S_, .f32⟩
  | .hbm, ⟨78, _⟩ => ⟨S_, .f32⟩
  | .hbm, ⟨79, _⟩ => ⟨S2x4x16384x16384, .i1⟩
  | .hbm, ⟨80, _⟩ => ⟨S2x4x16384x16384, .f32⟩
  | .hbm, ⟨81, _⟩ => ⟨S2x4x16384x16384, .f32⟩
  | .hbm, ⟨82, _⟩ => ⟨S_, .f32⟩
  | .hbm, ⟨83, _⟩ => ⟨S2x4x16384, .f32⟩
  | .hbm, ⟨84, _⟩ => ⟨S2x4x16384x1, .f32⟩
  | .hbm, ⟨85, _⟩ => ⟨S_, .f32⟩
  | .hbm, ⟨86, _⟩ => ⟨S2x4x16384x1, .f32⟩
  | .hbm, ⟨87, _⟩ => ⟨S2x4x16384x1, .f32⟩
  | .hbm, ⟨88, _⟩ => ⟨S2x4x16384x16384, .f32⟩
  | .hbm, ⟨89, _⟩ => ⟨S2x4x16384x16384, .f32⟩
  | .hbm, ⟨90, _⟩ => ⟨S2x64x4x16384, .f32⟩
  | .hbm, ⟨91, _⟩ => ⟨S16384x2x4x64, .f32⟩
  | .hbm, ⟨92, _⟩ => ⟨S16384x2x4x3, .f32⟩
  | .hbm, ⟨93, _⟩ => ⟨S16384x2x4x1, .f32⟩
  | .hbm, ⟨94, _⟩ => ⟨S16384x2x4x64, .f32⟩
  | .hbm, ⟨95, _⟩ => ⟨S16384x2x4x64, .f32⟩
  | .hbm, ⟨96, _⟩ => ⟨S16384x2x4x1, .f32⟩
  | .hbm, ⟨97, _⟩ => ⟨S16384x2x4x64, .f32⟩
  | .hbm, ⟨98, _⟩ => ⟨S16384x2x4x64, .f32⟩
  | .hbm, ⟨99, _⟩ => ⟨S16384x2x4x64, .f32⟩
  | .hbm, ⟨100, _⟩ => ⟨S16384x512, .f32⟩
  | .hbm, ⟨101, _⟩ => ⟨S16384x512, .bf16⟩
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_cst_11 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== Kernel2.lean ====
abbrev S1x16384x1024 : Shape := ⟨3, ![1, 16384, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S8x5632 : Shape := ⟨2, ![8, 5632]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S8x256 : Shape := ⟨2, ![8, 256]⟩
abbrev S1x256 : Shape := ⟨2, ![1, 256]⟩
abbrev S3x256 : Shape := ⟨2, ![3, 256]⟩

abbrev nBuf : Space → Nat
  | .hbm => 19
  | .vmem => 11
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S16384x1024, .f32⟩
  | .hbm, ⟨8, _⟩ => ⟨S1024, .f32⟩
  | .hbm, ⟨9, _⟩ => ⟨S1x1024, .f32⟩
  | .hbm, ⟨10, _⟩ => ⟨S1024x5632, .f32⟩
  | .hbm, ⟨11, _⟩ => ⟨S1024x5632, .bf16⟩
  | .hbm, ⟨12, _⟩ => ⟨S3x5632, .f32⟩
  | .hbm, ⟨13, _⟩ => ⟨S5632, .f32⟩
  | .hbm, ⟨14, _⟩ => ⟨S1x5632, .f32⟩
  | .hbm, ⟨15, _⟩ => ⟨S2816x1024, .f32⟩
  | .hbm, ⟨16, _⟩ => ⟨S2816x1024, .bf16⟩
  | .hbm, ⟨17, _⟩ => ⟨S1x1024, .f32⟩
  | .hbm, ⟨18, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x5632, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S1x16384x1024 : Shape := ⟨3, ![1, 16384, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x5632 : Shape := ⟨2, ![1024, 5632]⟩
abbrev S1x16384x5632 : Shape := ⟨3, ![1, 16384, 5632]⟩
abbrev S3x5632 : Shape := ⟨2, ![3, 5632]⟩
abbrev S5632 : Shape := ⟨1, ![5632]⟩
abbrev S1x16386x5632 : Shape := ⟨3, ![1, 16386, 5632]⟩
abbrev S1x1x5632 : Shape := ⟨3, ![1, 1, 5632]⟩
abbrev S1x16384x2816 : Shape := ⟨3, ![1, 16384, 2816]⟩
abbrev S2816x1024 : Shape := ⟨2, ![2816, 1024]⟩
abbrev S16384x1024 : Shape := ⟨2, ![16384, 1024]⟩

abbrev nBuf : Space → Nat
  | .hbm => 86
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S1x16384x1024, .f32⟩
  | .hbm, ⟨9, _⟩ => ⟨S_, .f32⟩
  | .hbm, ⟨10, _⟩ => ⟨S1x16384, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S1x16384x1, .f32⟩
  | .hbm, ⟨19, _⟩ => ⟨S1x16384x1024, .f32⟩
  | .hbm, ⟨20, _⟩ => ⟨S1x16384x1024, .f32⟩
  | .hbm, ⟨21, _⟩ => ⟨S1x1x1024, .f32⟩
  | .hbm, ⟨22, _⟩ => ⟨S1x16384x1024, .f32⟩
  | .hbm, ⟨23, _⟩ => ⟨S1x16384x1024, .f32⟩
  | .hbm, ⟨24, _⟩ => ⟨S1024x5632, .f32⟩
  | .hbm, ⟨25, _⟩ => ⟨S1x16384x5632, .f32⟩
  | .hbm, ⟨26, _⟩ => ⟨S3x5632, .f32⟩
  | .hbm, ⟨27, _⟩ => ⟨S5632, .f32⟩
  | .hbm, ⟨28, _⟩ => ⟨S_, .i32⟩
  | .hbm, ⟨29, _⟩ => ⟨S_, .f32⟩
  | .hbm, ⟨30, _⟩ => ⟨S1x16386x5632, .f32⟩
  | .hbm, ⟨31, _⟩ => ⟨S1x5632, .f32⟩
  | .hbm, ⟨32, _⟩ => ⟨S5632, .f32⟩
  | .hbm, ⟨33, _⟩ => ⟨S1x16384x5632, .f32⟩
  | .hbm, ⟨34, _⟩ => ⟨S1x1x5632, .f32⟩
  | .hbm, ⟨35, _⟩ => ⟨S1x16384x5632, .f32⟩
  | .hbm, ⟨36, _⟩ => ⟨S1x16384x5632, .f32⟩
  | .hbm, ⟨37, _⟩ => ⟨S1x1x5632, .f32⟩
  | .hbm, ⟨38, _⟩ => ⟨S1x16384x5632, .f32⟩
  | .hbm, ⟨39, _⟩ => ⟨S1x16384x5632, .f32⟩
  | .hbm, ⟨40, _⟩ => ⟨S1x5632, .f32⟩
  | .hbm, ⟨41, _⟩ => ⟨S5632, .f32⟩
  | .hbm, ⟨42, _⟩ => ⟨S1x16384x5632, .f32⟩
  | .hbm, ⟨43, _⟩ => ⟨S1x1x5632, .f32⟩
  | .hbm, ⟨44, _⟩ => ⟨S1x16384x5632, .f32⟩
  | .hbm, ⟨45, _⟩ => ⟨S1x16384x5632, .f32⟩
  | .hbm, ⟨46, _⟩ => ⟨S1x16384x5632, .f32⟩
  | .hbm, ⟨47, _⟩ => ⟨S1x5632, .f32⟩
  | .hbm, ⟨48, _⟩ => ⟨S5632, .f32⟩
  | .hbm, ⟨49, _⟩ => ⟨S1x16384x5632, .f32⟩
  | .hbm, ⟨50, _⟩ => ⟨S1x1x5632, .f32⟩
  | .hbm, ⟨51, _⟩ => ⟨S1x16384x5632, .f32⟩
  | .hbm, ⟨52, _⟩ => ⟨S1x16384x5632, .f32⟩
  | .hbm, ⟨53, _⟩ => ⟨S1x16384x5632, .f32⟩
  | .hbm, ⟨54, _⟩ => ⟨S1x16384x2816, .f32⟩
  | .hbm, ⟨55, _⟩ => ⟨S1x16384x2816, .f32⟩
  | .hbm, ⟨56, _⟩ => ⟨S1x16384x2816, .f32⟩
  | .hbm, ⟨57, _⟩ => ⟨S1x16384x2816, .f32⟩
  | .hbm, ⟨58, _⟩ => ⟨S_, .f32⟩
  | .hbm, ⟨59, _⟩ => ⟨S1x16384x2816, .f32⟩
  | .hbm, ⟨60, _⟩ => ⟨S1x16384x2816, .f32⟩
  | .hbm, ⟨61, _⟩ => ⟨S_, .f32⟩
  | .hbm, ⟨62, _⟩ => ⟨S1x16384x2816, .f32⟩
  | .hbm, ⟨63, _⟩ => ⟨S1x16384x2816, .f32⟩
  | .hbm, ⟨64, _⟩ => ⟨S1x16384x2816, .f32⟩
  | .hbm, ⟨65, _⟩ => ⟨S1x16384x2816, .f32⟩
  | .hbm, ⟨66, _⟩ => ⟨S2816x1024, .f32⟩
  | .hbm, ⟨67, _⟩ => ⟨S1x16384x1024, .f32⟩
  | .hbm, ⟨68, _⟩ => ⟨S1x16384x1024, .f32⟩
  | .hbm, ⟨69, _⟩ => ⟨S1x16384x1024, .f32⟩
  | .hbm, ⟨70, _⟩ => ⟨S_, .f32⟩
  | .hbm, ⟨71, _⟩ => ⟨S1x16384, .f32⟩
  | .hbm, ⟨72, _⟩ => ⟨S1x16384x1, .f32⟩
  | .hbm, ⟨73, _⟩ => ⟨S_, .f32⟩
  | .hbm, ⟨74, _⟩ => ⟨S1x16384x1, .f32⟩
  | .hbm, ⟨75, _⟩ => ⟨S1x16384x1, .f32⟩
  | .hbm, ⟨76, _⟩ => ⟨S_, .f32⟩
  | .hbm, ⟨77, _⟩ => ⟨S1x16384x1, .f32⟩
  | .hbm, ⟨78, _⟩ => ⟨S1x16384x1, .f32⟩
  | .hbm, ⟨79, _⟩ => ⟨S1x16384x1, .f32⟩
  | .hbm, ⟨80, _⟩ => ⟨S1x16384x1024, .f32⟩
  | .hbm, ⟨81, _⟩ => ⟨S1x16384x1024, .f32⟩
  | .hbm, ⟨82, _⟩ => ⟨S1x1x1024, .f32⟩
  | .hbm, ⟨83, _⟩ => ⟨S1x16384x1024, .f32⟩
  | .hbm, ⟨84, _⟩ => ⟨S1x16384x1024, .f32⟩
  | .hbm, ⟨85, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_2 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_cst_4 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Kernel3.lean ====
abbrev S1x16384x1024 : Shape := ⟨3, ![1, 16384, 1024]⟩
abbrev S1x16384x512 : Shape := ⟨3, ![1, 16384, 512]⟩
abbrev S1x1024 : Shape := ⟨2, ![1, 1024]⟩
abbrev S1x1024x3864 : Shape := ⟨3, ![1, 1024, 3864]⟩
abbrev S1x512 : Shape := ⟨2, ![1, 512]⟩
abbrev S1x512x512 : Shape := ⟨3, ![1, 512, 512]⟩
abbrev S1x512x1024 : Shape := ⟨3, ![1, 512, 1024]⟩
abbrev S1x1024x1024 : Shape := ⟨3, ![1, 1024, 1024]⟩
abbrev S1024x3864 : Shape := ⟨2, ![1024, 3864]⟩
abbrev S1024x2048 : Shape := ⟨2, ![1024, 2048]⟩
abbrev S16384x1024 : Shape := ⟨2, ![16384, 1024]⟩
abbrev S16384x512 : Shape := ⟨2, ![16384, 512]⟩
abbrev S1024 : Shape := ⟨1, ![1024]⟩
abbrev S512 : Shape := ⟨1, ![512]⟩
abbrev S512x512 : Shape := ⟨2, ![512, 512]⟩
abbrev S512x1024 : Shape := ⟨2, ![512, 1024]⟩
abbrev S1024x1024 : Shape := ⟨2, ![1024, 1024]⟩
abbrev S512x1 : Shape := ⟨2, ![512, 1]⟩
abbrev S512x2048 : Shape := ⟨2, ![512, 2048]⟩

abbrev nBuf : Space → Nat
  | .hbm => 32
  | .vmem => 17
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S1x1024, .f32⟩
  | .hbm, ⟨5, _⟩ => ⟨S1x1024x3864, .f32⟩
  | .hbm, ⟨6, _⟩ => ⟨S1x512, .f32⟩
  | .hbm, ⟨7, _⟩ => ⟨S1x512x512, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1024x3864, .f32⟩
  | .hbm, ⟨12, _⟩ => ⟨S1024x2048, .f32⟩
  | .hbm, ⟨13, _⟩ => ⟨S1024x2048, .bf16⟩
  | .hbm, ⟨14, _⟩ => ⟨S16384x1024, .f32⟩
  | .hbm, ⟨15, _⟩ => ⟨S16384x512, .f32⟩
  | .hbm, ⟨16, _⟩ => ⟨S16384x512, .bf16⟩
  | .hbm, ⟨17, _⟩ => ⟨S16384x512, .f32⟩
  | .hbm, ⟨18, _⟩ => ⟨S16384x512, .f32⟩
  | .hbm, ⟨19, _⟩ => ⟨S1024, .f32⟩
  | .hbm, ⟨20, _⟩ => ⟨S1x1024, .f32⟩
  | .hbm, ⟨21, _⟩ => ⟨S512, .f32⟩
  | .hbm, ⟨22, _⟩ => ⟨S1x512, .f32⟩
  | .hbm, ⟨23, _⟩ => ⟨S512x512, .f32⟩
  | .hbm, ⟨24, _⟩ => ⟨S512x512, .bf16⟩
  | .hbm, ⟨25, _⟩ => ⟨S512x1024, .f32⟩
  | .hbm, ⟨26, _⟩ => ⟨S512x1024, .bf16⟩
  | .hbm, ⟨27, _⟩ => ⟨S512x1024, .f32⟩
  | .hbm, ⟨28, _⟩ => ⟨S512x1024, .bf16⟩
  | .hbm, ⟨29, _⟩ => ⟨S1024x1024, .f32⟩
  | .hbm, ⟨30, _⟩ => ⟨S1024x1024, .bf16⟩
  | .hbm, ⟨31, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x1024, .f32⟩
  | .local _ .vmem, ⟨9, _⟩ => ⟨S1024x2048, .bf16⟩
  | .local _ .vmem, ⟨10, _⟩ => ⟨S1x512, .f32⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S1x16384x1024 : Shape := ⟨3, ![1, 16384, 1024]⟩
abbrev S1x16384x512 : Shape := ⟨3, ![1, 16384, 512]⟩
abbrev S1x1024 : Shape := ⟨2, ![1, 1024]⟩
abbrev S1x1024x3864 : Shape := ⟨3, ![1, 1024, 3864]⟩
abbrev S1x512 : Shape := ⟨2, ![1, 512]⟩
abbrev S1x512x512 : Shape := ⟨3, ![1, 512, 512]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x3864 : Shape := ⟨2, ![1024, 3864]⟩
abbrev S1x16384x3864 : Shape := ⟨3, ![1, 16384, 3864]⟩
abbrev S1x16384x128 : Shape := ⟨3, ![1, 16384, 128]⟩
abbrev S1x16384x24 : Shape := ⟨3, ![1, 16384, 24]⟩
abbrev S512 : Shape := ⟨1, ![512]⟩
abbrev S1x1x512 : Shape := ⟨3, ![1, 1, 512]⟩
abbrev S512x512 : Shape := ⟨2, ![512, 512]⟩
abbrev S512x1024 : Shape := ⟨2, ![512, 1024]⟩
abbrev S1024x1024 : Shape := ⟨2, ![1024, 1024]⟩
abbrev S16384x1024 : Shape := ⟨2, ![16384, 1024]⟩

abbrev nBuf : Space → Nat
  | .hbm => 101
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S1x1024, .f32⟩
  | .hbm, ⟨5, _⟩ => ⟨S1x1024x3864, .f32⟩
  | .hbm, ⟨6, _⟩ => ⟨S1x512, .f32⟩
  | .hbm, ⟨7, _⟩ => ⟨S1x512x512, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1024, .f32⟩
  | .hbm, ⟨12, _⟩ => ⟨S1x16384x1024, .f32⟩
  | .hbm, ⟨13, _⟩ => ⟨S_, .f32⟩
  | .hbm, ⟨14, _⟩ => ⟨S1x16384, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S_, .f32⟩
  | .hbm, ⟨20, _⟩ => ⟨S1x16384x1, .f32⟩
  | .hbm, ⟨21, _⟩ => ⟨S1x16384x1, .f32⟩
  | .hbm, ⟨22, _⟩ => ⟨S1x16384x1, .f32⟩
  | .hbm, ⟨23, _⟩ => ⟨S1x16384x1024, .f32⟩
  | .hbm, ⟨24, _⟩ => ⟨S1x16384x1024, .f32⟩
  | .hbm, ⟨25, _⟩ => ⟨S1x1x1024, .f32⟩
  | .hbm, ⟨26, _⟩ => ⟨S1x16384x1024, .f32⟩
  | .hbm, ⟨27, _⟩ => ⟨S1x16384x1024, .f32⟩
  | .hbm, ⟨28, _⟩ => ⟨S1024x3864, .f32⟩
  | .hbm, ⟨29, _⟩ => ⟨S1x16384x3864, .f32⟩
  | .hbm, ⟨30, _⟩ => ⟨S1x16384x512, .f32⟩
  | .hbm, ⟨31, _⟩ => ⟨S1x16384x128, .f32⟩
  | .hbm, ⟨32, _⟩ => ⟨S1x16384x128, .f32⟩
  | .hbm, ⟨33, _⟩ => ⟨S1x16384x128, .f32⟩
  | .hbm, ⟨34, _⟩ => ⟨S1x16384x128, .f32⟩
  | .hbm, ⟨35, _⟩ => ⟨S1x16384x128, .f32⟩
  | .hbm, ⟨36, _⟩ => ⟨S1x16384x128, .f32⟩
  | .hbm, ⟨37, _⟩ => ⟨S1x16384x24, .f32⟩
  | .hbm, ⟨38, _⟩ => ⟨S1x16384x512, .f32⟩
  | .hbm, ⟨39, _⟩ => ⟨S1x16384x1024, .f32⟩
  | .hbm, ⟨40, _⟩ => ⟨S1x16384x1024, .f32⟩
  | .hbm, ⟨41, _⟩ => ⟨S512, .f32⟩
  | .hbm, ⟨42, _⟩ => ⟨S1x1x512, .f32⟩
  | .hbm, ⟨43, _⟩ => ⟨S1x16384x512, .f32⟩
  | .hbm, ⟨44, _⟩ => ⟨S1x16384x512, .f32⟩
  | .hbm, ⟨45, _⟩ => ⟨S1x16384x512, .f32⟩
  | .hbm, ⟨46, _⟩ => ⟨S1x16384x512, .f32⟩
  | .hbm, ⟨47, _⟩ => ⟨S1x16384x512, .f32⟩
  | .hbm, ⟨48, _⟩ => ⟨S_, .f32⟩
  | .hbm, ⟨49, _⟩ => ⟨S1x16384x512, .f32⟩
  | .hbm, ⟨50, _⟩ => ⟨S1x16384x512, .f32⟩
  | .hbm, ⟨51, _⟩ => ⟨S1x16384x512, .f32⟩
  | .hbm, ⟨52, _⟩ => ⟨S_, .f32⟩
  | .hbm, ⟨53, _⟩ => ⟨S1x16384x512, .f32⟩
  | .hbm, ⟨54, _⟩ => ⟨S1x16384x512, .f32⟩
  | .hbm, ⟨55, _⟩ => ⟨S1x16384x512, .f32⟩
  | .hbm, ⟨56, _⟩ => ⟨S_, .f32⟩
  | .hbm, ⟨57, _⟩ => ⟨S1x16384x512, .f32⟩
  | .hbm, ⟨58, _⟩ => ⟨S1x16384x512, .f32⟩
  | .hbm, ⟨59, _⟩ => ⟨S_, .f32⟩
  | .hbm, ⟨60, _⟩ => ⟨S1x16384x512, .f32⟩
  | .hbm, ⟨61, _⟩ => ⟨S1x16384x512, .f32⟩
  | .hbm, ⟨62, _⟩ => ⟨S1x16384x512, .f32⟩
  | .hbm, ⟨63, _⟩ => ⟨S512x512, .f32⟩
  | .hbm, ⟨64, _⟩ => ⟨S1x16384x512, .f32⟩
  | .hbm, ⟨65, _⟩ => ⟨S1x16384x512, .f32⟩
  | .hbm, ⟨66, _⟩ => ⟨S1x16384x512, .f32⟩
  | .hbm, ⟨67, _⟩ => ⟨S_, .f32⟩
  | .hbm, ⟨68, _⟩ => ⟨S1x16384x512, .f32⟩
  | .hbm, ⟨69, _⟩ => ⟨S1x16384x512, .f32⟩
  | .hbm, ⟨70, _⟩ => ⟨S_, .f32⟩
  | .hbm, ⟨71, _⟩ => ⟨S1x16384x512, .f32⟩
  | .hbm, ⟨72, _⟩ => ⟨S1x16384x512, .f32⟩
  | .hbm, ⟨73, _⟩ => ⟨S1x16384x512, .f32⟩
  | .hbm, ⟨74, _⟩ => ⟨S1x16384x1024, .f32⟩
  | .hbm, ⟨75, _⟩ => ⟨S1x16384x1024, .f32⟩
  | .hbm, ⟨76, _⟩ => ⟨S_, .f32⟩
  | .hbm, ⟨77, _⟩ => ⟨S1x16384x1024, .f32⟩
  | .hbm, ⟨78, _⟩ => ⟨S1x16384x1024, .f32⟩
  | .hbm, ⟨79, _⟩ => ⟨S_, .f32⟩
  | .hbm, ⟨80, _⟩ => ⟨S1x16384x1024, .f32⟩
  | .hbm, ⟨81, _⟩ => ⟨S1x16384x1024, .f32⟩
  | .hbm, ⟨82, _⟩ => ⟨S512x1024, .f32⟩
  | .hbm, ⟨83, _⟩ => ⟨S1x16384x1024, .f32⟩
  | .hbm, ⟨84, _⟩ => ⟨S1x16384x1024, .f32⟩
  | .hbm, ⟨85, _⟩ => ⟨S1x16384x1024, .f32⟩
  | .hbm, ⟨86, _⟩ => ⟨S1x16384x1024, .f32⟩
  | .hbm, ⟨87, _⟩ => ⟨S_, .f32⟩
  | .hbm, ⟨88, _⟩ => ⟨S1x16384x1024, .f32⟩
  | .hbm, ⟨89, _⟩ => ⟨S1x16384x1024, .f32⟩
  | .hbm, ⟨90, _⟩ => ⟨S_, .f32⟩
  | .hbm, ⟨91, _⟩ => ⟨S1x16384x1024, .f32⟩
  | .hbm, ⟨92, _⟩ => ⟨S1x16384x1024, .f32⟩
  | .hbm, ⟨93, _⟩ => ⟨S512x1024, .f32⟩
  | .hbm, ⟨94, _⟩ => ⟨S1x16384x1024, .f32⟩
  | .hbm, ⟨95, _⟩ => ⟨S1x16384x1024, .f32⟩
  | .hbm, ⟨96, _⟩ => ⟨S1x16384x1024, .f32⟩
  | .hbm, ⟨97, _⟩ => ⟨S1024x1024, .f32⟩
  | .hbm, ⟨98, _⟩ => ⟨S1x16384x1024, .f32⟩
  | .hbm, ⟨99, _⟩ => ⟨S1x16384x1024, .f32⟩
  | .hbm, ⟨100, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== Kernel4.lean ====
abbrev S1x16384x1024 : Shape := ⟨3, ![1, 16384, 1024]⟩
abbrev S1x16384 : Shape := ⟨2, ![1, 16384]⟩
abbrev S1x1024 : Shape := ⟨2, ![1, 1024]⟩
abbrev S1x1024x3864 : Shape := ⟨3, ![1, 1024, 3864]⟩
abbrev S16384x1024 : Shape := ⟨2, ![16384, 1024]⟩
abbrev S16384 : Shape := ⟨1, ![16384]⟩
abbrev S16384x1 : Shape := ⟨2, ![16384, 1]⟩
abbrev S1024 : Shape := ⟨1, ![1024]⟩
abbrev S1024x3864 : Shape := ⟨2, ![1024, 3864]⟩
abbrev S1024x24 : Shape := ⟨2, ![1024, 24]⟩
abbrev S_ : Shape := ⟨0, ![]⟩
abbrev S1024x128 : Shape := ⟨2, ![1024, 128]⟩
abbrev S1024x512 : Shape := ⟨2, ![1024, 512]⟩
abbrev S1024x1920 : Shape := ⟨2, ![1024, 1920]⟩
abbrev S8 : Shape := ⟨1, ![8]⟩
abbrev S48 : Shape := ⟨1, ![48]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S128x2x64x512 : Shape := ⟨4, ![128, 2, 64, 512]⟩
abbrev S16384x128 : Shape := ⟨2, ![16384, 128]⟩
abbrev S2x16384x128 : Shape := ⟨3, ![2, 16384, 128]⟩
abbrev S32x128x512 : Shape := ⟨3, ![32, 128, 512]⟩
abbrev S128x128x128 : Shape := ⟨3, ![128, 128, 128]⟩
abbrev S32x16384 : Shape := ⟨2, ![32, 16384]⟩
abbrev S16384x512 : Shape := ⟨2, ![16384, 512]⟩
abbrev S512x1024 : Shape := ⟨2, ![512, 1024]⟩
abbrev S512x1 : Shape := ⟨2, ![512, 1]⟩
abbrev S4x2x64x512 : Shape := ⟨4, ![4, 2, 64, 512]⟩
abbrev S512x128 : Shape := ⟨2, ![512, 128]⟩
abbrev S2x512x128 : Shape := ⟨3, ![2, 512, 128]⟩
abbrev S1x128x512 : Shape := ⟨3, ![1, 128, 512]⟩
abbrev S4x128x128 : Shape := ⟨3, ![4, 128, 128]⟩
abbrev S32x512 : Shape := ⟨2, ![32, 512]⟩
abbrev S512x512 : Shape := ⟨2, ![512, 512]⟩
abbrev S512 : Shape := ⟨1, ![512]⟩
abbrev S512x1920 : Shape := ⟨2, ![512, 1920]⟩
abbrev S1x512x128 : Shape := ⟨3, ![1, 512, 128]⟩
abbrev S128x512 : Shape := ⟨2, ![128, 512]⟩
abbrev S128x128 : Shape := ⟨2, ![128, 128]⟩
abbrev S1x128x128 : Shape := ⟨3, ![1, 128, 128]⟩
abbrev S32x128 : Shape := ⟨2, ![32, 128]⟩
abbrev S64x128 : Shape := ⟨2, ![64, 128]⟩
abbrev S1x1x64x128 : Shape := ⟨4, ![1, 1, 64, 128]⟩

abbrev nBuf : Space → Nat
  | .hbm => 54
  | .vmem => 25
  | .smem => 0
  | _ => 0

abbrev bufTy : (tb : Table) → Fin (tcTables nBuf tb) → BufTy
  | .hbm, ⟨0, _⟩ => ⟨S1x16384x1024, .f32⟩
  | .hbm, ⟨1, _⟩ => ⟨S1x16384, .i32⟩
  | .hbm, ⟨2, _⟩ => ⟨S1x1024, .f32⟩
  | .hbm, ⟨3, _⟩ => ⟨S1x1024x3864, .f32⟩
  | .hbm, ⟨4, _⟩ => ⟨S16384x1024, .f32⟩
  | .hbm, ⟨5, _⟩ => ⟨S16384, .i32⟩
  | .hbm, ⟨6, _⟩ => ⟨S16384x1, .i32⟩
  | .hbm, ⟨7, _⟩ => ⟨S1024, .f32⟩
  | .hbm, ⟨8, _⟩ => ⟨S1x1024, .f32⟩
  | .hbm, ⟨9, _⟩ => ⟨S1024x3864, .f32⟩
  | .hbm, ⟨10, _⟩ => ⟨S1024x24, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x512, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S1024x512, .f32⟩
  | .hbm, ⟨22, _⟩ => ⟨S1024x1920, .f32⟩
  | .hbm, ⟨23, _⟩ => ⟨S1024x1920, .bf16⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S48, .f32⟩
  | .hbm, ⟨40, _⟩ => ⟨S64, .f32⟩
  | .hbm, ⟨41, _⟩ => ⟨S1x64, .f32⟩
  | .hbm, ⟨42, _⟩ => ⟨S2x64, .f32⟩
  | .hbm, ⟨43, _⟩ => ⟨S128, .f32⟩
  | .hbm, ⟨44, _⟩ => ⟨S1x128, .f32⟩
  | .hbm, ⟨45, _⟩ => ⟨S128x2x64x512, .bf16⟩
  | .hbm, ⟨46, _⟩ => ⟨S16384x128, .f32⟩
  | .hbm, ⟨47, _⟩ => ⟨S16384x128, .f32⟩
  | .hbm, ⟨48, _⟩ => ⟨S2x16384x128, .bf16⟩
  | .hbm, ⟨49, _⟩ => ⟨S32x128x512, .bf16⟩
  | .hbm, ⟨50, _⟩ => ⟨S16384x128, .bf16⟩
  | .hbm, ⟨51, _⟩ => ⟨S128x128x128, .bf16⟩
  | .hbm, ⟨52, _⟩ => ⟨S32x16384, .f32⟩
  | .hbm, ⟨53, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024, .f32⟩
  | .local _ .vmem, ⟨5, _⟩ => ⟨S1024x1920, .bf16⟩
  | .local _ .vmem, ⟨6, _⟩ => ⟨S1x128, .f32⟩
  | .local _ .vmem, ⟨7, _⟩ => ⟨S4x2x64x512, .bf16⟩
  | .local _ .vmem, ⟨8, _⟩ => ⟨S4x2x64x512, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S2x512x128, .bf16⟩
  | .local _ .vmem, ⟨14, _⟩ => ⟨S2x512x128, .bf16⟩
  | .local _ .vmem, ⟨15, _⟩ => ⟨S1x128x512, .bf16⟩
  | .local _ .vmem, ⟨16, _⟩ => ⟨S1x128x512, .bf16⟩
  | .local _ .vmem, ⟨17, _⟩ => ⟨S512x128, .bf16⟩
  | .local _ .vmem, ⟨18, _⟩ => ⟨S512x128, .bf16⟩
  | .local _ .vmem, ⟨19, _⟩ => ⟨S4x128x128, .bf16⟩
  | .local _ .vmem, ⟨20, _⟩ => ⟨S4x128x128, .bf16⟩
  | .local _ .vmem, ⟨21, _⟩ => ⟨S32x512, .f32⟩
  | .local _ .vmem, ⟨22, _⟩ => ⟨S32x512, .f32⟩
  | .local _ .vmem, ⟨23, _⟩ => ⟨S512x512, .f32⟩
  | .local _ .vmem, ⟨24, _⟩ => ⟨S512x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34_0 : Ref sig .tc := ⟨.hbm, 45, rfl⟩
abbrev main_v34_1 : Ref sig .tc := ⟨.hbm, 46, rfl⟩
abbrev main_v34_2 : Ref sig .tc := ⟨.hbm, 47, rfl⟩
abbrev main_v34_3 : Ref sig .tc := ⟨.hbm, 48, rfl⟩
abbrev main_v34_4 : Ref sig .tc := ⟨.hbm, 49, rfl⟩
abbrev main_v34_5 : Ref sig .tc := ⟨.hbm, 50, rfl⟩
abbrev main_v34_6 : Ref sig .tc := ⟨.hbm, 51, rfl⟩
abbrev main_v34_7 : Ref sig .tc := ⟨.hbm, 52, rfl⟩
abbrev main_v34_8 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x2x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S1x16384x1024 : Shape := ⟨3, ![1, 16384, 1024]⟩
abbrev S1x16384 : Shape := ⟨2, ![1, 16384]⟩
abbrev S1x1024 : Shape := ⟨2, ![1, 1024]⟩
abbrev S1x1024x3864 : Shape := ⟨3, ![1, 1024, 3864]⟩
abbrev S1024 : Shape := ⟨1, ![1024]⟩
abbrev S_ : Shape := ⟨0, ![]⟩
abbrev S1x16384x1 : Shape := ⟨3, ![1, 16384, 1]⟩
abbrev S1x1x1024 : Shape := ⟨3, ![1, 1, 1024]⟩
abbrev S1024x3864 : Shape := ⟨2, ![1024, 3864]⟩
abbrev S1x16384x3864 : Shape := ⟨3, ![1, 16384, 3864]⟩
abbrev S1x16384x512 : Shape := ⟨3, ![1, 16384, 512]⟩
abbrev S1x16384x128 : Shape := ⟨3, ![1, 16384, 128]⟩
abbrev S1x16384x24 : Shape := ⟨3, ![1, 16384, 24]⟩
abbrev S1x16384x2x64 : Shape := ⟨4, ![1, 16384, 2, 64]⟩
abbrev S8 : Shape := ⟨1, ![8]⟩
abbrev S1x1x8 : Shape := ⟨3, ![1, 1, 8]⟩
abbrev S1x16384x8 : Shape := ⟨3, ![1, 16384, 8]⟩
abbrev S1x16384x1x8 : Shape := ⟨4, ![1, 16384, 1, 8]⟩
abbrev S1x16384x2x8 : Shape := ⟨4, ![1, 16384, 2, 8]⟩
abbrev S1x16384x2x48 : Shape := ⟨4, ![1, 16384, 2, 48]⟩
abbrev S16384x128 : Shape := ⟨2, ![16384, 128]⟩
abbrev S16384x512 : Shape := ⟨2, ![16384, 512]⟩

abbrev nBuf : Space → Nat
  | .hbm => 78
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384, .i32⟩
  | .hbm, ⟨2, _⟩ => ⟨S1x1024, .f32⟩
  | .hbm, ⟨3, _⟩ => ⟨S1x1024x3864, .f32⟩
  | .hbm, ⟨4, _⟩ => ⟨S1024, .f32⟩
  | .hbm, ⟨5, _⟩ => ⟨S1x16384x1024, .f32⟩
  | .hbm, ⟨6, _⟩ => ⟨S_, .f32⟩
  | .hbm, ⟨7, _⟩ => ⟨S1x16384, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S1x16384x1, .f32⟩
  | .hbm, ⟨16, _⟩ => ⟨S1x16384x1024, .f32⟩
  | .hbm, ⟨17, _⟩ => ⟨S1x16384x1024, .f32⟩
  | .hbm, ⟨18, _⟩ => ⟨S1x1x1024, .f32⟩
  | .hbm, ⟨19, _⟩ => ⟨S1x16384x1024, .f32⟩
  | .hbm, ⟨20, _⟩ => ⟨S1x16384x1024, .f32⟩
  | .hbm, ⟨21, _⟩ => ⟨S1024x3864, .f32⟩
  | .hbm, ⟨22, _⟩ => ⟨S1x16384x3864, .f32⟩
  | .hbm, ⟨23, _⟩ => ⟨S1x16384x512, .f32⟩
  | .hbm, ⟨24, _⟩ => ⟨S1x16384x128, .f32⟩
  | .hbm, ⟨25, _⟩ => ⟨S1x16384x128, .f32⟩
  | .hbm, ⟨26, _⟩ => ⟨S1x16384x128, .f32⟩
  | .hbm, ⟨27, _⟩ => ⟨S1x16384x128, .f32⟩
  | .hbm, ⟨28, _⟩ => ⟨S1x16384x128, .f32⟩
  | .hbm, ⟨29, _⟩ => ⟨S1x16384x128, .f32⟩
  | .hbm, ⟨30, _⟩ => ⟨S1x16384x24, .f32⟩
  | .hbm, ⟨31, _⟩ => ⟨S1x16384x512, .f32⟩
  | .hbm, ⟨32, _⟩ => ⟨S1x16384x1024, .f32⟩
  | .hbm, ⟨33, _⟩ => ⟨S1x16384x1024, .f32⟩
  | .hbm, ⟨34, _⟩ => ⟨S1x16384x2x64, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S1x16384, .f32⟩
  | .hbm, ⟨50, _⟩ => ⟨S1x16384x1, .f32⟩
  | .hbm, ⟨51, _⟩ => ⟨S1x1x8, .f32⟩
  | .hbm, ⟨52, _⟩ => ⟨S1x16384x8, .f32⟩
  | .hbm, ⟨53, _⟩ => ⟨S1x16384x8, .f32⟩
  | .hbm, ⟨54, _⟩ => ⟨S1x16384x8, .f32⟩
  | .hbm, ⟨55, _⟩ => ⟨S1x16384x8, .f32⟩
  | .hbm, ⟨56, _⟩ => ⟨S1x16384x1x8, .f32⟩
  | .hbm, ⟨57, _⟩ => ⟨S1x16384x8, .f32⟩
  | .hbm, ⟨58, _⟩ => ⟨S1x16384x1x8, .f32⟩
  | .hbm, ⟨59, _⟩ => ⟨S1x16384x2x8, .f32⟩
  | .hbm, ⟨60, _⟩ => ⟨S1x16384x2x8, .f32⟩
  | .hbm, ⟨61, _⟩ => ⟨S1x16384x2x48, .f32⟩
  | .hbm, ⟨62, _⟩ => ⟨S1x16384x2x8, .f32⟩
  | .hbm, ⟨63, _⟩ => ⟨S1x16384x2x8, .f32⟩
  | .hbm, ⟨64, _⟩ => ⟨S1x16384x2x8, .f32⟩
  | .hbm, ⟨65, _⟩ => ⟨S1x16384x2x8, .f32⟩
  | .hbm, ⟨66, _⟩ => ⟨S1x16384x2x8, .f32⟩
  | .hbm, ⟨67, _⟩ => ⟨S1x16384x2x8, .f32⟩
  | .hbm, ⟨68, _⟩ => ⟨S1x16384x2x8, .f32⟩
  | .hbm, ⟨69, _⟩ => ⟨S1x16384x2x8, .f32⟩
  | .hbm, ⟨70, _⟩ => ⟨S1x16384x2x8, .f32⟩
  | .hbm, ⟨71, _⟩ => ⟨S1x16384x2x8, .f32⟩
  | .hbm, ⟨72, _⟩ => ⟨S1x16384x2x64, .f32⟩
  | .hbm, ⟨73, _⟩ => ⟨S16384x128, .f32⟩
  | .hbm, ⟨74, _⟩ => ⟨S16384x128, .f32⟩
  | .hbm, ⟨75, _⟩ => ⟨S16384x128, .f32⟩
  | .hbm, ⟨76, _⟩ => ⟨S16384x128, .bf16⟩
  | .hbm, ⟨77, _⟩ => ⟨S16384x512, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩

abbrev nD : Nat := 1
abbrev τ : Topo := Topo.v7x

variable {F : FTy → Type} [FloatOps F]
-- ==== Proof.KBody.lean ====
/-
  The memory-safety run of the attention kernel's body, at any value instance: one lemma for the first printed
  part, which holds the four-way `lax.switch` on how much of the compressed sequence a query tile may see, and one
  for the rest of the body, which holds the sweep over the selected key chunks (two counted loops) and the
  `lax.cond` on the parity of the last chunk. Nothing is said of what the output and the five scratch buffers
  hold; the nine operands are handed back as they were.
-/
module

public import proofs.«01_k».proof.Proof.Gen.Kernel.Frame
public import proofs.«01_k».proof.Proof.Gen.Kernel.Loops
public import proofs.«01_k».proof.Proof.Gen.Kernel.Skeleton
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of memref `M`'s buffer on core `c`, and the part of that buffer `M` views, held at `f`. -/
abbrev Bf (c : Dev nD) {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) c M) : sProp 𝕄 :=
  M.view.loc (c : Thread nD τ) ↦[M.view.set]{fullShare} f

/-- What the body owns: the nine operands at their contents, the output and the five scratch buffers at any. -/
def Res (c : Dev nD) (arg1 : Memref sig .tc .vmem S1x2x64x512 .f32) (arg2 : Memref sig .tc .vmem S32x128 .f32) (arg3 : Memref sig .tc .vmem S1024x128 .bf16) (arg4 : Memref sig .tc .vmem S128x1024 .bf16) (arg5 : Memref sig .tc .vmem S256x1024 .bf16) (arg6 : Memref sig .tc .vmem S2x16384x128 .bf16) (arg7 : Memref sig .tc .vmem S32x128x512 .bf16) (arg8 : Memref sig .tc .vmem S16896x128 .bf16) (arg9 : Memref sig .tc .vmem S132x128x128 .bf16) (arg10 : Memref sig .tc .vmem S128x512 .bf16) (arg11 : Memref sig .tc .vmem S2x256x128 .f32) (arg12 : Memref sig .tc .vmem S512x512 .f32) (arg13 : Memref sig .tc .vmem S512x512 .f32) (arg14 : Memref sig .tc .vmem S512x512 .f32) (arg15 : Memref sig .tc .vmem S512x512 .f32) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) : sProp 𝕄 :=
  iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ (∃ f, pt c arg10 f) ∗ (∃ f, pt c arg11 f) ∗ (∃ f, pt c arg12 f) ∗ (∃ f, pt c arg13 f) ∗ (∃ f, pt c arg14 f) ∗ (∃ f, pt c arg15 f))

/-- A conditional that ends its block, whose condition nothing decides, by its two cases. -/
theorem wp_dite_last {c : Dev nD} {α : Type} {P : sProp 𝕄} {Q : α → sProp 𝕄} {C : Prop} {dec : Decidable C}
    {p : C → Prog (TpuEff nD τ sig (Elt F) Λ₀ .tc) α} {q : ¬C → Prog (TpuEff nD τ sig (Elt F) Λ₀ .tc) α}
    (hp : ∀ hc : C, Entails' P (wp frame (wpE (defs₀ (F := F)) Variants.none (c : Thread nD τ) none) Set.univ (p hc) Q))
    (hq : ∀ hc : ¬C, Entails' P (wp frame (wpE (defs₀ (F := F)) Variants.none (c : Thread nD τ) none) Set.univ (q hc) Q)) :
    Entails' P (wp frame (wpE (defs₀ (F := F)) Variants.none (c : Thread nD τ) none) Set.univ (@dite _ C dec p q) Q) := by
  by_cases hc : C
  · rw [dif_pos hc]; exact hp hc
  · rw [dif_neg hc]; exact hq hc

/-- Where the diagonal sub-block of the last key chunk starts: the query tile's own place in its chunk. -/
theorem off34_eq : ∀ i : grid0.Coords, k0_off34 i = ![(i 0).val * 128 % 512, 0] := by decide +kernel
theorem off37_eq : ∀ i : grid0.Coords, k0_off37 i = ![(i 0).val * 128 % 512, 0] := by decide +kernel
instance (i : grid0.Coords) : ClosedOff (k0_off34 i) := ⟨_, off34_eq i⟩
instance (i : grid0.Coords) : ClosedOff (k0_off37 i) := ⟨_, off37_eq i⟩

set_option maxHeartbeats 4000000 in
/-- The first part: the queries read and scaled, and the switch's index. -/
theorem run78 (c : Dev nD) (i : grid0.Coords) (arg1 : Memref sig .tc .vmem S1x2x64x512 .f32) (harg1 : arg1.IsWhole) (arg2 : Memref sig .tc .vmem S32x128 .f32) (harg2 : arg2.IsWhole) (arg3 : Memref sig .tc .vmem S1024x128 .bf16) (harg3 : arg3.IsWhole) (arg4 : Memref sig .tc .vmem S128x1024 .bf16) (harg4 : arg4.IsWhole) (arg5 : Memref sig .tc .vmem S256x1024 .bf16) (harg5 : arg5.IsWhole) (arg6 : Memref sig .tc .vmem S2x16384x128 .bf16) (harg6 : arg6.IsWhole) (arg7 : Memref sig .tc .vmem S32x128x512 .bf16) (harg7 : arg7.IsWhole) (arg8 : Memref sig .tc .vmem S16896x128 .bf16) (harg8 : arg8.IsWhole) (arg9 : Memref sig .tc .vmem S132x128x128 .bf16) (harg9 : arg9.IsWhole) (arg10 : Memref sig .tc .vmem S128x512 .bf16) (harg10 : arg10.IsWhole) (arg11 : Memref sig .tc .vmem S2x256x128 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9)
    (K : _ → sProp 𝕄) :
    iprop(Res c arg1 arg2 arg3 arg4 arg5 arg6 arg7 arg8 arg9 arg10 arg11 arg12 arg13 arg14 arg15 f1 f2 f3 f4 f5 f6 f7 f8 f9 ∗ (∀ r, Res c arg1 arg2 arg3 arg4 arg5 arg6 arg7 arg8 arg9 arg10 arg11 arg12 arg13 arg14 arg15 f1 f2 f3 f4 f5 f6 f7 f8 f9 -∗ K r))
      ⊢ wp frame (wpE (defs₀ (F := F)) Variants.none (c : Thread nD τ) none) Set.univ (k0_part78 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold Res
  iintro ⟨⟨H1, H2, H3, H4, H5, H6, H7, H8, H9, ⟨%f10, H10⟩, ⟨%f11, H11⟩, ⟨%f12, H12⟩, ⟨%f13, H13⟩, ⟨%f14, H14⟩, ⟨%f15, H15⟩⟩, HK⟩
  rw [k0_part78_eq_skeleton]; unfold k0_part78_skel
  sl_exec; sl_step; iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

set_option maxHeartbeats 4000000 in
/-- The second part, which holds the `lax.switch`: each branch runs, leaving the operands as they were. -/
theorem run79 (c : Dev nD) (i : grid0.Coords) (arg1 : Memref sig .tc .vmem S1x2x64x512 .f32) (harg1 : arg1.IsWhole) (arg2 : Memref sig .tc .vmem S32x128 .f32) (harg2 : arg2.IsWhole) (arg3 : Memref sig .tc .vmem S1024x128 .bf16) (harg3 : arg3.IsWhole) (arg4 : Memref sig .tc .vmem S128x1024 .bf16) (harg4 : arg4.IsWhole) (arg5 : Memref sig .tc .vmem S256x1024 .bf16) (harg5 : arg5.IsWhole) (arg6 : Memref sig .tc .vmem S2x16384x128 .bf16) (harg6 : arg6.IsWhole) (arg7 : Memref sig .tc .vmem S32x128x512 .bf16) (harg7 : arg7.IsWhole) (arg8 : Memref sig .tc .vmem S16896x128 .bf16) (harg8 : arg8.IsWhole) (arg9 : Memref sig .tc .vmem S132x128x128 .bf16) (harg9 : arg9.IsWhole) (arg10 : Memref sig .tc .vmem S128x512 .bf16) (harg10 : arg10.IsWhole) (arg11 : Memref sig .tc .vmem S2x256x128 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9)
    (arg0 : BitVec 32) (v3 : IVec S1x128 32) (v4 : IVec S1x512 32) (v16 : FVec F S128x512 .bf16) (v17 : FVec F S128x512 .bf16) (c3_i32 : BitVec 32) (v36 : BitVec 32) (K : _ → sProp 𝕄) :
    iprop(Res c arg1 arg2 arg3 arg4 arg5 arg6 arg7 arg8 arg9 arg10 arg11 arg12 arg13 arg14 arg15 f1 f2 f3 f4 f5 f6 f7 f8 f9 ∗ (∀ r, Res c arg1 arg2 arg3 arg4 arg5 arg6 arg7 arg8 arg9 arg10 arg11 arg12 arg13 arg14 arg15 f1 f2 f3 f4 f5 f6 f7 f8 f9 -∗ K r))
      ⊢ wp frame (wpE (defs₀ (F := F)) Variants.none (c : Thread nD τ) none) Set.univ (k0_part79 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v3 v4 v16 v17 c3_i32 v36) K := by
  unfold Res
  iintro ⟨⟨H1, H2, H3, H4, H5, H6, H7, H8, H9, ⟨%f10, H10⟩, ⟨%f11, H11⟩, ⟨%f12, H12⟩, ⟨%f13, H13⟩, ⟨%f14, H14⟩, ⟨%f15, H15⟩⟩, HK⟩
  rw [k0_part79_eq_skeleton]; unfold k0_part79_skel
  sl_exec
  refine wp_dite_last (fun h1 => ?_) fun h1 => ?_
  · sl_exec
    refine wp_dite_last (fun h2 => ?_) fun h2 => ?_
    · sl_exec
      refine wp_dite_last (fun h3 => ?_) fun h3 => ?_
      · sl_exec; sl_step; iapply HK
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        iexists _; iexact H15
      · sl_exec; sl_step; iapply HK
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        iexists _; iexact H15
    · sl_exec; sl_step; iapply HK
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      iexists _; iexact H15
  · sl_exec; sl_step; iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

set_option maxHeartbeats 4000000 in
/-- The whole body, from the operands, the output and the scratch buffers owned: it runs to its return and hands
    them back, the operands as they were. -/
theorem run_body (c : Dev nD) (i : grid0.Coords) (arg1 : Memref sig .tc .vmem S1x2x64x512 .f32) (harg1 : arg1.IsWhole) (arg2 : Memref sig .tc .vmem S32x128 .f32) (harg2 : arg2.IsWhole) (arg3 : Memref sig .tc .vmem S1024x128 .bf16) (harg3 : arg3.IsWhole) (arg4 : Memref sig .tc .vmem S128x1024 .bf16) (harg4 : arg4.IsWhole) (arg5 : Memref sig .tc .vmem S256x1024 .bf16) (harg5 : arg5.IsWhole) (arg6 : Memref sig .tc .vmem S2x16384x128 .bf16) (harg6 : arg6.IsWhole) (arg7 : Memref sig .tc .vmem S32x128x512 .bf16) (harg7 : arg7.IsWhole) (arg8 : Memref sig .tc .vmem S16896x128 .bf16) (harg8 : arg8.IsWhole) (arg9 : Memref sig .tc .vmem S132x128x128 .bf16) (harg9 : arg9.IsWhole) (arg10 : Memref sig .tc .vmem S128x512 .bf16) (harg10 : arg10.IsWhole) (arg11 : Memref sig .tc .vmem S2x256x128 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9)
    (K : PUnit → sProp 𝕄) :
    iprop(Res c arg1 arg2 arg3 arg4 arg5 arg6 arg7 arg8 arg9 arg10 arg11 arg12 arg13 arg14 arg15 f1 f2 f3 f4 f5 f6 f7 f8 f9 ∗ (∀ r, Res c arg1 arg2 arg3 arg4 arg5 arg6 arg7 arg8 arg9 arg10 arg11 arg12 arg13 arg14 arg15 f1 f2 f3 f4 f5 f6 f7 f8 f9 -∗ K r))
      ⊢ wp frame (wpE (defs₀ (F := F)) Variants.none (c : Thread nD τ) none) Set.univ (cc0_attention (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  rw [cc0_attention_eq_skeleton]; unfold cc0_attention_skel
  refine (sep_mono .rfl ?_).trans ((run78 c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 _).trans (Entails.of_eq (wp_bind ..).symm))
  iintro HK
  iintro %r
  obtain ⟨arg0, v3, v4, v10, v15, v16, v17, c3_i32, v36⟩ := r
  iintro HR
  iapply (Entails.of_eq (wp_bind ..).symm)
  iapply (run79 c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 arg0 v3 v4 v16 v17 c3_i32 v36 _)
  isplitl [HR]; · iexact HR
  iintro %r
  obtain ⟨v39_0, v39_1, v60, v61, v66, v74, v81⟩ := r
  unfold Res
  iintro ⟨H1, H2, H3, H4, H5, H6, H7, H8, H9, ⟨%f10, H10⟩, ⟨%f11, H11⟩, ⟨%f12, H12⟩, ⟨%f13, H13⟩, ⟨%f14, H14⟩, ⟨%f15, H15⟩⟩
  sl_exec
  refine wp_dite_last (fun h4 => ?_) fun h4 => ?_
  · sl_exec; sl_step; iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15
  · sl_exec; sl_step; iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.Kernel.Hand

end
-- ==== Proof.KRun.lean ====
/-
  The attention call's frame: the body's run (Body.lean) at every grid point, the output window forgotten, and
  the launch. Every operand's array ends at what it held, every semaphore counter at zero.
-/
module

public import proofs.«01_k».proof.Proof.KBody
public import Idealize.ShloMosaic.Lib.Pipeline.FrameBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The buffers the body is handed at a point -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev sc0 := Memref.whole cc0_scratch0
abbrev sc1 := Memref.whole cc0_scratch1
abbrev sc2 := Memref.whole cc0_scratch2
abbrev sc3 := Memref.whole cc0_scratch3
abbrev sc4 := Memref.whole cc0_scratch4

/-- Nothing is said of what the body leaves in the output window. -/
def forgets : Fin 10 → Bool := fun w => w = 9

/-- The proof data: every operand's window keeps its block. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => Pipeline.Dat.unnamed (cfg := cfg0) 9 t
  Φ _ := Pipeline.ΦA spec0 c
  q _ := fullShare
  owed _ := 0

def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare d))
def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ (∃ d, owns (c : Thread nD τ) (ms9 t) fullShare d))

/-- The scratch buffers and the generator register, conjunct by conjunct. -/
theorem PhiA_eq (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ ∃ r, prngReg c r) := by
  unfold Pipeline.ΦA; rw [scopedRest0_eq]; simp only [owns_whole]; try rfl

set_option maxHeartbeats 4000000 in
/-- The body at the point: the windows and the scratch opened, the run, the windows closed at what they held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0_of m (dats m 0 c) rfl (fun _ => rfl) t]
  simp only [before0_1_of m (dats m 0 c) rfl (fun _ => rfl) t]
  simp only [before0_2_of m (dats m 0 c) rfl (fun _ => rfl) t]
  simp only [before0_3_of m (dats m 0 c) rfl (fun _ => rfl) t]
  simp only [before0_4_of m (dats m 0 c) rfl (fun _ => rfl) t]
  simp only [before0_5_of m (dats m 0 c) rfl (fun _ => rfl) t]
  simp only [before0_6_of m (dats m 0 c) rfl (fun _ => rfl) t]
  simp only [before0_7_of m (dats m 0 c) rfl (fun _ => rfl) t]
  simp only [before0_8_of m (dats m 0 c) rfl (fun _ => rfl) t]
  rw [show (dats m 0 c).after 0 t = iblk m c 0 t from rfl]
  rw [show (dats m 0 c).after 1 t = iblk m c 1 t from rfl]
  rw [show (dats m 0 c).after 2 t = iblk m c 2 t from rfl]
  rw [show (dats m 0 c).after 3 t = iblk m c 3 t from rfl]
  rw [show (dats m 0 c).after 4 t = iblk m c 4 t from rfl]
  rw [show (dats m 0 c).after 5 t = iblk m c 5 t from rfl]
  rw [show (dats m 0 c).after 6 t = iblk m c 6 t from rfl]
  rw [show (dats m 0 c).after 7 t = iblk m c 7 t from rfl]
  rw [show (dats m 0 c).after 8 t = iblk m c 8 t from rfl]
  unfold owns
  iintro ⟨⟨⟨⟨%e0, %s0, -, S0⟩, ⟨%e1, %s1, -, S1⟩, ⟨%e2, %s2, -, S2⟩, ⟨%e3, %s3, -, S3⟩, ⟨%e4, %s4, -, S4⟩⟩, Hg⟩, HO, ⟨%d0, %f0, %h0, W0⟩, ⟨%d1, %f1, %h1, W1⟩, ⟨%d2, %f2, %h2, W2⟩, ⟨%d3, %f3, %h3, W3⟩, ⟨%d4, %f4, %h4, W4⟩, ⟨%d5, %f5, %h5, W5⟩, ⟨%d6, %f6, %h6, W6⟩, ⟨%d7, %f7, %h7, W7⟩, ⟨%d8, %f8, %h8, W8⟩, ⟨%d9, %f9, -, W9⟩⟩
  iapply (run_body c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) f0 f1 f2 f3 f4 f5 f6 f7 f8 _)
  unfold Res
  isplitl [W0 W1 W2 W3 W4 W5 W6 W7 W8 W9 S0 S1 S2 S3 S4]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexists _; iexact W9
    isplitl [S0]; · iexists _; iexact S0
    isplitl [S1]; · iexists _; iexact S1
    isplitl [S2]; · iexists _; iexact S2
    isplitl [S3]; · iexists _; iexact S3
    iexists _; iexact S4
  iintro %r ⟨W0, W1, W2, W3, W4, W5, W6, W7, W8, ⟨%g9, W9⟩, ⟨%g10, S0⟩, ⟨%g11, S1⟩, ⟨%g12, S2⟩, ⟨%g13, S3⟩, ⟨%g14, S4⟩⟩
  isplitl [S0 S1 S2 S3 S4 Hg]
  · isplitl [S0 S1 S2 S3 S4]
    · isplitl [S0]
      · iexists _, _; isplitr; swap; · iexact S0
        ipureintro; rfl
      isplitl [S1]
      · iexists _, _; isplitr; swap; · iexact S1
        ipureintro; rfl
      isplitl [S2]
      · iexists _, _; isplitr; swap; · iexact S2
        ipureintro; rfl
      isplitl [S3]
      · iexists _, _; isplitr; swap; · iexact S3
        ipureintro; rfl
      iexists _, _; isplitr; swap; · iexact S4
      ipureintro; rfl
    iexact Hg
  isplitl [HO]; · iexact HO
  isplitl [W0]
  · iexists _; isplitr; swap; · iexact W0
    ipureintro; exact h0
  isplitl [W1]
  · iexists _; isplitr; swap; · iexact W1
    ipureintro; exact h1
  isplitl [W2]
  · iexists _; isplitr; swap; · iexact W2
    ipureintro; exact h2
  isplitl [W3]
  · iexists _; isplitr; swap; · iexact W3
    ipureintro; exact h3
  isplitl [W4]
  · iexists _; isplitr; swap; · iexact W4
    ipureintro; exact h4
  isplitl [W5]
  · iexists _; isplitr; swap; · iexact W5
    ipureintro; exact h5
  isplitl [W6]
  · iexists _; isplitr; swap; · iexact W6
    ipureintro; exact h6
  isplitl [W7]
  · iexists _; isplitr; swap; · iexact W7
    ipureintro; exact h7
  isplitl [W8]
  · iexists _; isplitr; swap; · iexact W8
    ipureintro; exact h8
  iexists _, _; isplitr; swap; · iexact W9
  ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The whole run: every operand's array at what it held, every counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- Every argument holds after the run what it held before it: no window stages it and no host operation writes it. -/
theorem final_args {r : PUnit × MemSt nD τ sig (Elt F)}
    (h : Pipeline.RDat.FramePost (cfgs 0) (fun c => (dats (F := F) m 0 c).toRForget forgets) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c)⟩

/-- The frame: every argument unchanged, every counter at zero. -/
theorem frame :
    θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) ∧ r.2.sem = fun _ => 0) :=
  (θ_run defs _ _).mono (fun _ h => ⟨fun c => final_args m h.1 c, h.2⟩) (run_main m ρ)

end Cert.Kernel.Hand

end
-- ==== Proof.Tile.lean ====
/-
  The attention kernel's vector code on one query tile, as functions of what the body reads: the compressed branch
  (one function for each prefix that the `lax.switch` may choose), the sliding window's branch, and how the three
  branches' outputs of a head group are gated, added and laid out as two blocks of columns of the result.
-/
module

public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-- The compressed branch over the first 1024 blocks: the visible blocks' scores, their normalised weights, and the
    weighted sum of the values. -/
def cmpTile1024 (t : IVec S1x512 32) (q : FVec F S128x512 .bf16) (k : Vec F S1024x128 .bf16) (v : Vec F S64x1024 .bf16) : FVec F S64x512 .f32 :=
  let s := matmul dot_S1024x128_S128x512_S1024x512_1_0_0_1_n_n none (shapeCast S1024x128 k shapeCasts_S1024x128_S1024x128) q (constant S1024x512 .f32 0x00000000#32)
  let last := addi (muli (iota .tc S1024x1 32 [0] iota_S1024x1_d0_w32) (broadcast S1024x1 16#32)) (broadcast S1024x1 31#32)
  let seen := cmpi .sle (broadcastTo S1024x512 last broadcasts_S1024x1_S1024x512) (broadcastTo S1024x512 t broadcasts_S1x512_S1024x512)
  let x := select seen s (broadcast S1024x512 (Named.named κ "mask" 0xF149F2CA#32))
  let top := shapeCast S1x512 (multiReduction .maximumf [0] S512 x 0xFF800000#32 reduces_S1024x512_S512 (.inl rfl) rfl) shapeCasts_S512_S1x512
  let e := select seen (exp2 (subf x (broadcastTo S1024x512 top broadcasts_S1x512_S1024x512))) (broadcast S1024x512 (Scalar.ofBits .f32 0x00000000#32))
  let z := shapeCast S1x512 (multiReduction .add [0] S512 e 0x00000000#32 reduces_S1024x512_S512 (.inl rfl) rfl) shapeCasts_S512_S1x512
  let inv := divf (broadcast S1x512 (Scalar.ofBits .f32 0x3F800000#32)) (maximumf z (broadcast S1x512 (Scalar.ofBits .f32 0x0DA24260#32)))
  matmul dot_S64x1024_S1024x512_S64x512_1_0_0_1_n_n none (shapeCast S64x1024 v shapeCasts_S64x1024_S64x1024)
    (truncf .bf16 (mulf e (broadcastTo S1024x512 inv broadcasts_S1x512_S1024x512)) bitsLt_bf16_f32) (constant S64x512 .f32 0x00000000#32)

/-- The compressed branch over the first 768 blocks: the visible blocks' scores, their normalised weights, and the
    weighted sum of the values. -/
def cmpTile768 (t : IVec S1x512 32) (q : FVec F S128x512 .bf16) (k : Vec F S768x128 .bf16) (v : Vec F S64x768 .bf16) : FVec F S64x512 .f32 :=
  let s := matmul dot_S768x128_S128x512_S768x512_1_0_0_1_n_n none (shapeCast S768x128 k shapeCasts_S768x128_S768x128) q (constant S768x512 .f32 0x00000000#32)
  let last := addi (muli (iota .tc S768x1 32 [0] iota_S768x1_d0_w32) (broadcast S768x1 16#32)) (broadcast S768x1 31#32)
  let seen := cmpi .sle (broadcastTo S768x512 last broadcasts_S768x1_S768x512) (broadcastTo S768x512 t broadcasts_S1x512_S768x512)
  let x := select seen s (broadcast S768x512 (Named.named κ "mask" 0xF149F2CA#32))
  let top := shapeCast S1x512 (multiReduction .maximumf [0] S512 x 0xFF800000#32 reduces_S768x512_S512 (.inl rfl) rfl) shapeCasts_S512_S1x512
  let e := select seen (exp2 (subf x (broadcastTo S768x512 top broadcasts_S1x512_S768x512))) (broadcast S768x512 (Scalar.ofBits .f32 0x00000000#32))
  let z := shapeCast S1x512 (multiReduction .add [0] S512 e 0x00000000#32 reduces_S768x512_S512 (.inl rfl) rfl) shapeCasts_S512_S1x512
  let inv := divf (broadcast S1x512 (Scalar.ofBits .f32 0x3F800000#32)) (maximumf z (broadcast S1x512 (Scalar.ofBits .f32 0x0DA24260#32)))
  matmul dot_S64x768_S768x512_S64x512_1_0_0_1_n_n none (shapeCast S64x768 v shapeCasts_S64x768_S64x768)
    (truncf .bf16 (mulf e (broadcastTo S768x512 inv broadcasts_S1x512_S768x512)) bitsLt_bf16_f32) (constant S64x512 .f32 0x00000000#32)

/-- The compressed branch over the first 512 blocks: the visible blocks' scores, their normalised weights, and the
    weighted sum of the values. -/
def cmpTile512 (t : IVec S1x512 32) (q : FVec F S128x512 .bf16) (k : Vec F S512x128 .bf16) (v : Vec F S64x512 .bf16) : FVec F S64x512 .f32 :=
  let s := matmul dot_S512x128_S128x512_S512x512_1_0_0_1_n_n none (shapeCast S512x128 k shapeCasts_S512x128_S512x128) q (constant S512x512 .f32 0x00000000#32)
  let last := addi (muli (iota .tc S512x1 32 [0] iota_S512x1_d0_w32) (broadcast S512x1 16#32)) (broadcast S512x1 31#32)
  let seen := cmpi .sle (broadcastTo S512x512 last broadcasts_S512x1_S512x512) (broadcastTo S512x512 t broadcasts_S1x512_S512x512)
  let x := select seen s (broadcast S512x512 (Named.named κ "mask" 0xF149F2CA#32))
  let top := shapeCast S1x512 (multiReduction .maximumf [0] S512 x 0xFF800000#32 reduces_S512x512_S512 (.inl rfl) rfl) shapeCasts_S512_S1x512
  let e := select seen (exp2 (subf x (broadcastTo S512x512 top broadcasts_S1x512_S512x512))) (broadcast S512x512 (Scalar.ofBits .f32 0x00000000#32))
  let z := shapeCast S1x512 (multiReduction .add [0] S512 e 0x00000000#32 reduces_S512x512_S512 (.inl rfl) rfl) shapeCasts_S512_S1x512
  let inv := divf (broadcast S1x512 (Scalar.ofBits .f32 0x3F800000#32)) (maximumf z (broadcast S1x512 (Scalar.ofBits .f32 0x0DA24260#32)))
  matmul dot_S64x512_S512x512_S64x512_1_0_0_1_n_n none (shapeCast S64x512 v shapeCasts_S64x512_S64x512)
    (truncf .bf16 (mulf e (broadcastTo S512x512 inv broadcasts_S1x512_S512x512)) bitsLt_bf16_f32) (constant S64x512 .f32 0x00000000#32)

/-- The compressed branch over the first 256 blocks: the visible blocks' scores, their normalised weights, and the
    weighted sum of the values. -/
def cmpTile256 (t : IVec S1x512 32) (q : FVec F S128x512 .bf16) (k : Vec F S256x128 .bf16) (v : Vec F S64x256 .bf16) : FVec F S64x512 .f32 :=
  let s := matmul dot_S256x128_S128x512_S256x512_1_0_0_1_n_n none (shapeCast S256x128 k shapeCasts_S256x128_S256x128) q (constant S256x512 .f32 0x00000000#32)
  let last := addi (muli (iota .tc S256x1 32 [0] iota_S256x1_d0_w32) (broadcast S256x1 16#32)) (broadcast S256x1 31#32)
  let seen := cmpi .sle (broadcastTo S256x512 last broadcasts_S256x1_S256x512) (broadcastTo S256x512 t broadcasts_S1x512_S256x512)
  let x := select seen s (broadcast S256x512 (Named.named κ "mask" 0xF149F2CA#32))
  let top := shapeCast S1x512 (multiReduction .maximumf [0] S512 x 0xFF800000#32 reduces_S256x512_S512 (.inl rfl) rfl) shapeCasts_S512_S1x512
  let e := select seen (exp2 (subf x (broadcastTo S256x512 top broadcasts_S1x512_S256x512))) (broadcast S256x512 (Scalar.ofBits .f32 0x00000000#32))
  let z := shapeCast S1x512 (multiReduction .add [0] S512 e 0x00000000#32 reduces_S256x512_S512 (.inl rfl) rfl) shapeCasts_S512_S1x512
  let inv := divf (broadcast S1x512 (Scalar.ofBits .f32 0x3F800000#32)) (maximumf z (broadcast S1x512 (Scalar.ofBits .f32 0x0DA24260#32)))
  matmul dot_S64x256_S256x512_S64x512_1_0_0_1_n_n none (shapeCast S64x256 v shapeCasts_S64x256_S64x256)
    (truncf .bf16 (mulf e (broadcastTo S256x512 inv broadcasts_S1x512_S256x512)) bitsLt_bf16_f32) (constant S64x512 .f32 0x00000000#32)

/-- Which of the window's 640 rows the tile's tokens may see, as the addend `0` or `mask`. -/
def winBand (w : BitVec 32) : FVec F S640x512 .f32 := k0_pay603 w

/-- The window's values of 128 rows, with sixteen rows of ones below. -/
def winVals (v : Vec F S1x64x128 .bf16) : FVec F S80x128 .bf16 :=
  concatenate S80x128 0 [⟨S64x128, shapeCast S64x128 v shapeCasts_S1x64x128_S64x128⟩, ⟨S16x128, k0_pay604⟩] concatenates_S64x128_S16x128_S80x128_d0

/-- The window's weights, not normalised. -/
def winExp (B : FVec F S640x512 .f32) (q : FVec F S128x512 .bf16) (k : Vec F S640x128 .bf16) : FVec F S640x512 .bf16 :=
  let x := addf (matmul dot_S640x128_S128x512_S640x512_1_0_0_1_n_n none (k0_pay605 k) q (constant S640x512 .f32 0x00000000#32)) B
  let top := shapeCast S1x512 (multiReduction .maximumf [0] S512 x 0xFF800000#32 reduces_S640x512_S512 (.inl rfl) rfl) shapeCasts_S512_S1x512
  exp2 (truncf .bf16 (subf x (broadcastTo S640x512 top broadcasts_S1x512_S640x512)) bitsLt_bf16_f32)

/-- The weighted sums of the values, and below them the weights' sums. -/
def winSum (B : FVec F S640x512 .f32) (q : FVec F S128x512 .bf16) (k : Vec F S640x128 .bf16) (v0 v1 v2 v3 v4 : Vec F S1x64x128 .bf16) : FVec F S80x512 .f32 :=
  let e := winExp B q k
  let z := constant (F := F) S80x512 .f32 0x00000000#32
  addf (addf (addf (addf
    (matmul dot_S80x128_S128x512_S80x512_1_0_0_1_n_n none (winVals v0) (extractStridedSlice S128x512 ![0, 0] e slices_S640x512_o0_0_S128x512) z)
    (matmul dot_S80x128_S128x512_S80x512_1_0_0_1_n_n none (winVals v1) (extractStridedSlice S128x512 ![128, 0] e slices_S640x512_o128_0_S128x512) z))
    (matmul dot_S80x128_S128x512_S80x512_1_0_0_1_n_n none (winVals v2) (extractStridedSlice S128x512 ![256, 0] e slices_S640x512_o256_0_S128x512) z))
    (matmul dot_S80x128_S128x512_S80x512_1_0_0_1_n_n none (winVals v3) (extractStridedSlice S128x512 ![384, 0] e slices_S640x512_o384_0_S128x512) z))
    (matmul dot_S80x128_S128x512_S80x512_1_0_0_1_n_n none (winVals v4) (extractStridedSlice S128x512 ![512, 0] e slices_S640x512_o512_0_S128x512) z)

/-- The window's branch: the weighted sums over the weights' sum. -/
def winTile (B : FVec F S640x512 .f32) (q : FVec F S128x512 .bf16) (k : Vec F S640x128 .bf16) (v0 v1 v2 v3 v4 : Vec F S1x64x128 .bf16) : FVec F S64x512 .f32 :=
  let s := winSum B q k v0 v1 v2 v3 v4
  mulf (extractStridedSlice S64x512 ![0, 0] s slices_S80x512_o0_0_S64x512)
    (broadcastTo S64x512 (divf (broadcast S1x512 (Scalar.ofBits .f32 0x3F800000#32))
      (maximumf (extractStridedSlice S1x512 ![64, 0] s slices_S80x512_o64_0_S1x512) (broadcast S1x512 (Scalar.ofBits .f32 0x0DA24260#32)))) broadcasts_S1x512_S64x512)

/-- Four heads' gates of one branch, side by side. -/
def gate4 (a b c d : Vec F S1x128 .f32) : FVec F S64x512 .f32 :=
  broadcastTo S64x512 (concatenate S1x512 1 [⟨S1x128, shapeCast S1x128 a shapeCasts_S1x128_S1x128⟩, ⟨S1x128, shapeCast S1x128 b shapeCasts_S1x128_S1x128⟩,
    ⟨S1x128, shapeCast S1x128 c shapeCasts_S1x128_S1x128⟩, ⟨S1x128, shapeCast S1x128 d shapeCasts_S1x128_S1x128⟩] concatenates_S1x128_S1x128_S1x128_S1x128_S1x512_d1) broadcasts_S1x512_S64x512

/-- The gated sum of a head group's three branches. -/
def mix (g0 g1 g2 oc os ow : FVec F S64x512 .f32) : FVec F S64x512 .f32 := addf (addf (mulf g0 oc) (mulf g1 os)) (mulf g2 ow)

/-- A head group's first two heads, as columns of the result. -/
def colsL (o : FVec F S64x512 .f32) : FVec F S128x128 .bf16 :=
  truncf .bf16 (transpose S128x128 [1, 0] (concatenate S128x128 0 [⟨S64x128, extractStridedSlice S64x128 ![0, 0] o slices_S64x512_o0_0_S64x128⟩,
    ⟨S64x128, extractStridedSlice S64x128 ![0, 128] o slices_S64x512_o0_128_S64x128⟩] concatenates_S64x128_S64x128_S128x128_d0) transposes_S128x128_p1_0_S128x128) bitsLt_bf16_f32
/-- A head group's last two heads, as columns of the result. -/
def colsR (o : FVec F S64x512 .f32) : FVec F S128x128 .bf16 :=
  truncf .bf16 (transpose S128x128 [1, 0] (concatenate S128x128 0 [⟨S64x128, extractStridedSlice S64x128 ![0, 256] o slices_S64x512_o0_256_S64x128⟩,
    ⟨S64x128, extractStridedSlice S64x128 ![0, 384] o slices_S64x512_o0_384_S64x128⟩] concatenates_S64x128_S64x128_S128x128_d0) transposes_S128x128_p1_0_S128x128) bitsLt_bf16_f32

end Cert.KernelIdeal.Hand

end
-- ==== Proof.Body.lean ====
/-
  The run of the attention kernel's body, at any value instance: one lemma for each of the first two
  printed parts, the second of which holds the four-way `lax.switch` on how much of the compressed sequence a query
  tile may see, and one for the rest of the body, which holds the sweep over the selected key chunks (two counted loops) and the `lax.cond` on the parity of the
  last chunk. The operands are handed back as they were; the output buffer holds the gated sum of the compressed
  branch, of what the sweep leaves, and of the window's branch. Nothing is said of what the sweep leaves.
-/
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.Tile
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The contents of memref `M`'s buffer on core `c`, and the part of that buffer `M` views, held at `f`. -/
abbrev Bf (c : Dev nD) {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) c M) : sProp 𝕄 :=
  M.view.loc (c : Thread nD τ) ↦[M.view.set]{fullShare} f

/-- What the body owns: the nine operands at their contents, the output and the five scratch buffers at any. -/
def Res (c : Dev nD) (arg1 : Memref sig .tc .vmem S1x2x64x512 .f32) (arg2 : Memref sig .tc .vmem S32x128 .f32) (arg3 : Memref sig .tc .vmem S1024x128 .bf16) (arg4 : Memref sig .tc .vmem S128x1024 .bf16) (arg5 : Memref sig .tc .vmem S256x1024 .bf16) (arg6 : Memref sig .tc .vmem S2x16384x128 .bf16) (arg7 : Memref sig .tc .vmem S32x128x512 .bf16) (arg8 : Memref sig .tc .vmem S16896x128 .bf16) (arg9 : Memref sig .tc .vmem S132x128x128 .bf16) (arg10 : Memref sig .tc .vmem S128x512 .bf16) (arg11 : Memref sig .tc .vmem S2x256x128 .f32) (arg12 : Memref sig .tc .vmem S512x512 .f32) (arg13 : Memref sig .tc .vmem S512x512 .f32) (arg14 : Memref sig .tc .vmem S512x512 .f32) (arg15 : Memref sig .tc .vmem S512x512 .f32) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) : sProp 𝕄 :=
  iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ (∃ f, pt c arg10 f) ∗ (∃ f, pt c arg11 f) ∗ (∃ f, pt c arg12 f) ∗ (∃ f, pt c arg13 f) ∗ (∃ f, pt c arg14 f) ∗ (∃ f, pt c arg15 f))

/-- What the body owns: the nine operands at their contents, the output at `fo`, the five scratch buffers at any. -/
def ResO (c : Dev nD) (arg1 : Memref sig .tc .vmem S1x2x64x512 .f32) (arg2 : Memref sig .tc .vmem S32x128 .f32) (arg3 : Memref sig .tc .vmem S1024x128 .bf16) (arg4 : Memref sig .tc .vmem S128x1024 .bf16) (arg5 : Memref sig .tc .vmem S256x1024 .bf16) (arg6 : Memref sig .tc .vmem S2x16384x128 .bf16) (arg7 : Memref sig .tc .vmem S32x128x512 .bf16) (arg8 : Memref sig .tc .vmem S16896x128 .bf16) (arg9 : Memref sig .tc .vmem S132x128x128 .bf16) (arg10 : Memref sig .tc .vmem S128x512 .bf16) (arg11 : Memref sig .tc .vmem S2x256x128 .f32) (arg12 : Memref sig .tc .vmem S512x512 .f32) (arg13 : Memref sig .tc .vmem S512x512 .f32) (arg14 : Memref sig .tc .vmem S512x512 .f32) (arg15 : Memref sig .tc .vmem S512x512 .f32) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (fo : Bf (F := F) c arg10) : sProp 𝕄 :=
  iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 fo ∗ (∃ f, pt c arg11 f) ∗ (∃ f, pt c arg12 f) ∗ (∃ f, pt c arg13 f) ∗ (∃ f, pt c arg14 f) ∗ (∃ f, pt c arg15 f))

/-! ## What the body reads -/

/-- The tile's queries of a head group. -/
def ldQ0 (M : Memref sig .tc .vmem S1x2x64x512 .f32) (f : BufTy.Contents (Elt F) M.view.ty) : Vec F S1x1x64x512 .f32 :=
  View.readAt (Elt F) M.view (Rect.unit (s := S1x2x64x512) ![0, 0, 0, 0] S1x1x64x512.size inb_S1x2x64x512_S1x1x64x512_0_0_0_0).toLoadRect f
def ldQ1 (M : Memref sig .tc .vmem S1x2x64x512 .f32) (f : BufTy.Contents (Elt F) M.view.ty) : Vec F S1x1x64x512 .f32 :=
  View.readAt (Elt F) M.view (Rect.unit (s := S1x2x64x512) ![0, 1, 0, 0] S1x1x64x512.size inb_S1x2x64x512_S1x1x64x512_0_1_0_0).toLoadRect f
/-- The first 1024 blocks' keys, and their values for a head group. -/
def ldK1024 (M : Memref sig .tc .vmem S1024x128 .bf16) (f : BufTy.Contents (Elt F) M.view.ty) : Vec F S1024x128 .bf16 :=
  View.readAt (Elt F) M.view (Rect.unit (s := S1024x128) ![0, 0] S1024x128.size inb_S1024x128_S1024x128_0_0).toLoadRect f
def ldV1024a (M : Memref sig .tc .vmem S128x1024 .bf16) (f : BufTy.Contents (Elt F) M.view.ty) : Vec F S64x1024 .bf16 :=
  View.readAt (Elt F) M.view (Rect.unit (s := S128x1024) ![0, 0] S64x1024.size inb_S128x1024_S64x1024_0_0).toLoadRect f
def ldV1024b (M : Memref sig .tc .vmem S128x1024 .bf16) (f : BufTy.Contents (Elt F) M.view.ty) : Vec F S64x1024 .bf16 :=
  View.readAt (Elt F) M.view (Rect.unit (s := S128x1024) ![64, 0] S64x1024.size inb_S128x1024_S64x1024_64_0).toLoadRect f
/-- The first 768 blocks' keys, and their values for a head group. -/
def ldK768 (M : Memref sig .tc .vmem S1024x128 .bf16) (f : BufTy.Contents (Elt F) M.view.ty) : Vec F S768x128 .bf16 :=
  View.readAt (Elt F) M.view (Rect.unit (s := S1024x128) ![0, 0] S768x128.size inb_S1024x128_S768x128_0_0).toLoadRect f
def ldV768a (M : Memref sig .tc .vmem S128x1024 .bf16) (f : BufTy.Contents (Elt F) M.view.ty) : Vec F S64x768 .bf16 :=
  View.readAt (Elt F) M.view (Rect.unit (s := S128x1024) ![0, 0] S64x768.size inb_S128x1024_S64x768_0_0).toLoadRect f
def ldV768b (M : Memref sig .tc .vmem S128x1024 .bf16) (f : BufTy.Contents (Elt F) M.view.ty) : Vec F S64x768 .bf16 :=
  View.readAt (Elt F) M.view (Rect.unit (s := S128x1024) ![64, 0] S64x768.size inb_S128x1024_S64x768_64_0).toLoadRect f
/-- The first 512 blocks' keys, and their values for a head group. -/
def ldK512 (M : Memref sig .tc .vmem S1024x128 .bf16) (f : BufTy.Contents (Elt F) M.view.ty) : Vec F S512x128 .bf16 :=
  View.readAt (Elt F) M.view (Rect.unit (s := S1024x128) ![0, 0] S512x128.size inb_S1024x128_S512x128_0_0).toLoadRect f
def ldV512a (M : Memref sig .tc .vmem S128x1024 .bf16) (f : BufTy.Contents (Elt F) M.view.ty) : Vec F S64x512 .bf16 :=
  View.readAt (Elt F) M.view (Rect.unit (s := S128x1024) ![0, 0] S64x512.size inb_S128x1024_S64x512_0_0).toLoadRect f
def ldV512b (M : Memref sig .tc .vmem S128x1024 .bf16) (f : BufTy.Contents (Elt F) M.view.ty) : Vec F S64x512 .bf16 :=
  View.readAt (Elt F) M.view (Rect.unit (s := S128x1024) ![64, 0] S64x512.size inb_S128x1024_S64x512_64_0).toLoadRect f
/-- The first 256 blocks' keys, and their values for a head group. -/
def ldK256 (M : Memref sig .tc .vmem S1024x128 .bf16) (f : BufTy.Contents (Elt F) M.view.ty) : Vec F S256x128 .bf16 :=
  View.readAt (Elt F) M.view (Rect.unit (s := S1024x128) ![0, 0] S256x128.size inb_S1024x128_S256x128_0_0).toLoadRect f
def ldV256a (M : Memref sig .tc .vmem S128x1024 .bf16) (f : BufTy.Contents (Elt F) M.view.ty) : Vec F S64x256 .bf16 :=
  View.readAt (Elt F) M.view (Rect.unit (s := S128x1024) ![0, 0] S64x256.size inb_S128x1024_S64x256_0_0).toLoadRect f
def ldV256b (M : Memref sig .tc .vmem S128x1024 .bf16) (f : BufTy.Contents (Elt F) M.view.ty) : Vec F S64x256 .bf16 :=
  View.readAt (Elt F) M.view (Rect.unit (s := S128x1024) ![64, 0] S64x256.size inb_S128x1024_S64x256_64_0).toLoadRect f
/-- The window's 640 rows of keys. -/
def ldW (i : grid0.Coords) (M : Memref sig .tc .vmem S16896x128 .bf16) (f : BufTy.Contents (Elt F) M.view.ty) : Vec F S640x128 .bf16 :=
  View.readAt (Elt F) M.view (Rect.unit (s := S16896x128) (k0_off1 i) S640x128.size (k0_off1_inb i)).toLoadRect f
/-- The values of the window's `r`-th 128 rows, for a head group. -/
def ldWa (i : grid0.Coords) (r : Fin 5) (M : Memref sig .tc .vmem S132x128x128 .bf16) (f : BufTy.Contents (Elt F) M.view.ty) : Vec F S1x64x128 .bf16 :=
  View.readAt (Elt F) M.view (Rect.unit (s := S132x128x128) (k0_off2 i (BitVec.ofNat 32 r.val)) S1x64x128.size (k0_off2_inb i r)).toLoadRect f
def ldWb (i : grid0.Coords) (r : Fin 5) (M : Memref sig .tc .vmem S132x128x128 .bf16) (f : BufTy.Contents (Elt F) M.view.ty) : Vec F S1x64x128 .bf16 :=
  View.readAt (Elt F) M.view (Rect.unit (s := S132x128x128) (k0_off3 i (BitVec.ofNat 32 r.val)) S1x64x128.size (k0_off3_inb i r)).toLoadRect f

/-- A row of the gates is inside the gates' block. -/
theorem inb_gate (r : Fin 32) : ∀ a, (![r.val, 0] : Fin 2 → Nat) a + S1x128.size a ≤ S32x128.size a := fun a =>
  match a with
  | ⟨0, _⟩ => r.isLt
  | ⟨1, _⟩ => le_refl 128

/-- A row of the gates. -/
def ldG (r : Fin 32) (M : Memref sig .tc .vmem S32x128 .f32) (f : BufTy.Contents (Elt F) M.view.ty) : Vec F S1x128 .f32 :=
  View.readAt (Elt F) M.view (Rect.unit (s := S32x128) ![r.val, 0] S1x128.size (inb_gate r)).toLoadRect f

/-- What the switch leaves: the compressed branch of the two head groups, over the prefix that the tile may see. -/
def CmpSpec (c : Dev nD) (i : grid0.Coords) (arg1 : Memref sig .tc .vmem S1x2x64x512 .f32) (arg3 : Memref sig .tc .vmem S1024x128 .bf16) (arg4 : Memref sig .tc .vmem S128x1024 .bf16)
    (f1 : Bf (F := F) c arg1) (f3 : Bf (F := F) c arg3) (f4 : Bf (F := F) c arg4) (oc0 oc1 : FVec F S64x512 .f32) : Prop :=
  ((i 0).val / 32 = 0 → oc0 = cmpTile256 (k0_pay593 i) (k0_pay597 (ldQ0 arg1 f1)) (ldK256 arg3 f3) (ldV256a arg4 f4)
    ∧ oc1 = cmpTile256 (k0_pay593 i) (k0_pay598 (ldQ1 arg1 f1)) (ldK256 arg3 f3) (ldV256b arg4 f4)) ∧
  ((i 0).val / 32 = 1 → oc0 = cmpTile512 (k0_pay593 i) (k0_pay597 (ldQ0 arg1 f1)) (ldK512 arg3 f3) (ldV512a arg4 f4)
    ∧ oc1 = cmpTile512 (k0_pay593 i) (k0_pay598 (ldQ1 arg1 f1)) (ldK512 arg3 f3) (ldV512b arg4 f4)) ∧
  ((i 0).val / 32 = 2 → oc0 = cmpTile768 (k0_pay593 i) (k0_pay597 (ldQ0 arg1 f1)) (ldK768 arg3 f3) (ldV768a arg4 f4)
    ∧ oc1 = cmpTile768 (k0_pay593 i) (k0_pay598 (ldQ1 arg1 f1)) (ldK768 arg3 f3) (ldV768b arg4 f4)) ∧
  ((i 0).val / 32 = 3 → oc0 = cmpTile1024 (k0_pay593 i) (k0_pay597 (ldQ0 arg1 f1)) (ldK1024 arg3 f3) (ldV1024a arg4 f4)
    ∧ oc1 = cmpTile1024 (k0_pay593 i) (k0_pay598 (ldQ1 arg1 f1)) (ldK1024 arg3 f3) (ldV1024b arg4 f4))

/-- A head group's result: its three branches gated and added. -/
def o0 (c : Dev nD) (i : grid0.Coords) (arg2 : Memref sig .tc .vmem S32x128 .f32) (arg8 : Memref sig .tc .vmem S16896x128 .bf16) (arg9 : Memref sig .tc .vmem S132x128x128 .bf16)
    (f2 : Bf (F := F) c arg2) (f8 : Bf (F := F) c arg8) (f9 : Bf (F := F) c arg9) (B : FVec F S640x512 .f32) (q : FVec F S128x512 .bf16) (oc os : FVec F S64x512 .f32) : FVec F S64x512 .f32 :=
  mix (gate4 (ldG 0 arg2 f2) (ldG 3 arg2 f2) (ldG 6 arg2 f2) (ldG 9 arg2 f2)) (gate4 (ldG 1 arg2 f2) (ldG 4 arg2 f2) (ldG 7 arg2 f2) (ldG 10 arg2 f2))
    (gate4 (ldG 2 arg2 f2) (ldG 5 arg2 f2) (ldG 8 arg2 f2) (ldG 11 arg2 f2)) oc os
    (winTile B q (ldW i arg8 f8) (ldWa i 0 arg9 f9) (ldWa i 1 arg9 f9) (ldWa i 2 arg9 f9) (ldWa i 3 arg9 f9) (ldWa i 4 arg9 f9))
def o1 (c : Dev nD) (i : grid0.Coords) (arg2 : Memref sig .tc .vmem S32x128 .f32) (arg8 : Memref sig .tc .vmem S16896x128 .bf16) (arg9 : Memref sig .tc .vmem S132x128x128 .bf16)
    (f2 : Bf (F := F) c arg2) (f8 : Bf (F := F) c arg8) (f9 : Bf (F := F) c arg9) (B : FVec F S640x512 .f32) (q : FVec F S128x512 .bf16) (oc os : FVec F S64x512 .f32) : FVec F S64x512 .f32 :=
  mix (gate4 (ldG 12 arg2 f2) (ldG 15 arg2 f2) (ldG 18 arg2 f2) (ldG 21 arg2 f2)) (gate4 (ldG 13 arg2 f2) (ldG 16 arg2 f2) (ldG 19 arg2 f2) (ldG 22 arg2 f2))
    (gate4 (ldG 14 arg2 f2) (ldG 17 arg2 f2) (ldG 20 arg2 f2) (ldG 23 arg2 f2)) oc os
    (winTile B q (ldW i arg8 f8) (ldWb i 0 arg9 f9) (ldWb i 1 arg9 f9) (ldWb i 2 arg9 f9) (ldWb i 3 arg9 f9) (ldWb i 4 arg9 f9))

/-- What the output's buffer holds at the end, for the window's band `B`, the two head groups' queries `q0`, `q1`, and the
    outputs of the compressed branch and of the sweep. -/
def OutAt (c : Dev nD) (i : grid0.Coords) (arg2 : Memref sig .tc .vmem S32x128 .f32) (arg8 : Memref sig .tc .vmem S16896x128 .bf16) (arg9 : Memref sig .tc .vmem S132x128x128 .bf16)
    (arg10 : Memref sig .tc .vmem S128x512 .bf16) (f2 : Bf (F := F) c arg2) (f8 : Bf (F := F) c arg8) (f9 : Bf (F := F) c arg9) (B : FVec F S640x512 .f32) (q0 q1 : FVec F S128x512 .bf16)
    (oc0 oc1 os0 os1 : FVec F S64x512 .f32) (f10 fo : Bf (F := F) c arg10) : Prop :=
  fo = arg10.view.writes (Elt F) f10
      [⟨Rect.unit (s := S128x512) ![0, 384] S128x128.size inb_S128x512_S128x128_0_384, colsR (o1 c i arg2 arg8 arg9 f2 f8 f9 B q1 oc1 os1)⟩,
       ⟨Rect.unit (s := S128x512) ![0, 256] S128x128.size inb_S128x512_S128x128_0_256, colsL (o1 c i arg2 arg8 arg9 f2 f8 f9 B q1 oc1 os1)⟩,
       ⟨Rect.unit (s := S128x512) ![0, 128] S128x128.size inb_S128x512_S128x128_0_128, colsR (o0 c i arg2 arg8 arg9 f2 f8 f9 B q0 oc0 os0)⟩,
       ⟨Rect.unit (s := S128x512) ![0, 0] S128x128.size inb_S128x512_S128x128_0_0, colsL (o0 c i arg2 arg8 arg9 f2 f8 f9 B q0 oc0 os0)⟩]

/-- The four blocks of columns stored, one by one. -/
theorem OutAt.of {c : Dev nD} {i : grid0.Coords} {arg2 : Memref sig .tc .vmem S32x128 .f32} {arg8 : Memref sig .tc .vmem S16896x128 .bf16} {arg9 : Memref sig .tc .vmem S132x128x128 .bf16}
    {arg10 : Memref sig .tc .vmem S128x512 .bf16} {f2 : Bf (F := F) c arg2} {f8 : Bf (F := F) c arg8} {f9 : Bf (F := F) c arg9} {B : FVec F S640x512 .f32} {q0 q1 : FVec F S128x512 .bf16}
    {oc0 oc1 os0 os1 : FVec F S64x512 .f32} {f10 : Bf (F := F) c arg10} {p0 p1 p2 p3 : FVec F S128x128 .bf16}
    (h0 : p0 = colsL (o0 c i arg2 arg8 arg9 f2 f8 f9 B q0 oc0 os0)) (h1 : p1 = colsR (o0 c i arg2 arg8 arg9 f2 f8 f9 B q0 oc0 os0))
    (h2 : p2 = colsL (o1 c i arg2 arg8 arg9 f2 f8 f9 B q1 oc1 os1)) (h3 : p3 = colsR (o1 c i arg2 arg8 arg9 f2 f8 f9 B q1 oc1 os1)) :
    OutAt c i arg2 arg8 arg9 arg10 f2 f8 f9 B q0 q1 oc0 oc1 os0 os1 f10 (arg10.view.writes (Elt F) f10
      [⟨Rect.unit (s := S128x512) ![0, 384] S128x128.size inb_S128x512_S128x128_0_384, p3⟩,
       ⟨Rect.unit (s := S128x512) ![0, 256] S128x128.size inb_S128x512_S128x128_0_256, p2⟩,
       ⟨Rect.unit (s := S128x512) ![0, 128] S128x128.size inb_S128x512_S128x128_0_128, p1⟩,
       ⟨Rect.unit (s := S128x512) ![0, 0] S128x128.size inb_S128x512_S128x128_0_0, p0⟩]) := by
  subst h0 h1 h2 h3; rfl

/-- What the body leaves in the output's buffer, for some outputs of the compressed branch that are as the switch leaves
    them and some outputs `os0`, `os1` of the sweep. -/
def OutSpec (c : Dev nD) (i : grid0.Coords) (arg1 : Memref sig .tc .vmem S1x2x64x512 .f32) (arg2 : Memref sig .tc .vmem S32x128 .f32) (arg3 : Memref sig .tc .vmem S1024x128 .bf16) (arg4 : Memref sig .tc .vmem S128x1024 .bf16) (arg8 : Memref sig .tc .vmem S16896x128 .bf16) (arg9 : Memref sig .tc .vmem S132x128x128 .bf16) (arg10 : Memref sig .tc .vmem S128x512 .bf16) (f1 : Bf (F := F) c arg1) (f2 : Bf (F := F) c arg2) (f3 : Bf (F := F) c arg3) (f4 : Bf (F := F) c arg4) (f8 : Bf (F := F) c arg8) (f9 : Bf (F := F) c arg9) (fo : Bf (F := F) c arg10) : Prop :=
  ∃ (oc0 oc1 os0 os1 : FVec F S64x512 .f32) (f10 : Bf (F := F) c arg10), CmpSpec c i arg1 arg3 arg4 f1 f3 f4 oc0 oc1 ∧
    OutAt c i arg2 arg8 arg9 arg10 f2 f8 f9 (winBand (BitVec.ofNat 32 (i 0).val)) (k0_pay597 (ldQ0 arg1 f1)) (k0_pay598 (ldQ1 arg1 f1)) oc0 oc1 os0 os1 f10 fo

theorem OutSpec.of {c : Dev nD} {i : grid0.Coords} {arg1 : Memref sig .tc .vmem S1x2x64x512 .f32} {arg2 : Memref sig .tc .vmem S32x128 .f32} {arg3 : Memref sig .tc .vmem S1024x128 .bf16} {arg4 : Memref sig .tc .vmem S128x1024 .bf16} {arg8 : Memref sig .tc .vmem S16896x128 .bf16} {arg9 : Memref sig .tc .vmem S132x128x128 .bf16} {arg10 : Memref sig .tc .vmem S128x512 .bf16} {f1 : Bf (F := F) c arg1} {f2 : Bf (F := F) c arg2} {f3 : Bf (F := F) c arg3} {f4 : Bf (F := F) c arg4} {f8 : Bf (F := F) c arg8} {f9 : Bf (F := F) c arg9} {fo : Bf (F := F) c arg10}
    {oc0 oc1 os0 os1 : FVec F S64x512 .f32} {f10 : Bf (F := F) c arg10} (h : CmpSpec c i arg1 arg3 arg4 f1 f3 f4 oc0 oc1)
    (ho : OutAt c i arg2 arg8 arg9 arg10 f2 f8 f9 (winBand (BitVec.ofNat 32 (i 0).val)) (k0_pay597 (ldQ0 arg1 f1)) (k0_pay598 (ldQ1 arg1 f1)) oc0 oc1 os0 os1 f10 fo) :
    OutSpec c i arg1 arg2 arg3 arg4 arg8 arg9 arg10 f1 f2 f3 f4 f8 f9 fo := ⟨oc0, oc1, os0, os1, f10, h, ho⟩

/-! ## The switch's index -/

/-- The tile's first token over 4096, not below 0, as the kernel computes it. -/
def swIdx0 (i : grid0.Coords) : BitVec 32 :=
  let x : BitVec 32 := Scalar.muli (BitVec.ofNat 32 (i 0).val) 4#32
  let d : BitVec 32 := Scalar.divsi x 128#32
  let sg : BitVec 32 := Scalar.subi (Scalar.extui (Scalar.cmpi .sgt x 0#32)) (Scalar.extui (Scalar.cmpi .slt x 0#32))
  let neg := Scalar.andi (Scalar.cmpi .ne sg 1#32) (Scalar.cmpi .ne (Scalar.remsi x 128#32) 0#32)
  Scalar.maxsi (Scalar.select neg (Scalar.subi d 1#32) d) 0#32

/-- The branch chosen: between 0 and 3. -/
def swIdx (i : grid0.Coords) : BitVec 32 := Scalar.minsi (swIdx0 i) 3#32

theorem sw1 : ∀ i : grid0.Coords, Scalar.cmpi .ne (swIdx i) 0#32 = 1#1 ↔ 32 ≤ (i 0).val := by decide +kernel
theorem sw2 : ∀ i : grid0.Coords, Scalar.cmpi .ne (Scalar.subi (swIdx i) 1#32) 0#32 = 1#1 ↔ (i 0).val / 32 ≠ 1 := by decide +kernel
theorem sw3 : ∀ i : grid0.Coords, Scalar.cmpi .ne (Scalar.subi (Scalar.subi (swIdx i) 1#32) 1#32) 0#32 = 1#1 ↔ (i 0).val / 32 ≠ 2 := by decide +kernel
theorem lt128 : ∀ i : grid0.Coords, (i 0).val < 128 := by decide +kernel

/-- What the first part hands to the second: the queries, the positions, and the switch's index. -/
def First0 (c : Dev nD) (i : grid0.Coords) (arg1 : Memref sig .tc .vmem S1x2x64x512 .f32) (f1 : Bf (F := F) c arg1) (w : BitVec 32) (t : IVec S1x512 32) (q0 q1 : FVec F S128x512 .bf16) (c3 v : BitVec 32) : Prop :=
  w = BitVec.ofNat 32 (i 0).val ∧ t = k0_pay593 i ∧ q0 = k0_pay597 (ldQ0 arg1 f1) ∧ q1 = k0_pay598 (ldQ1 arg1 f1) ∧ c3 = 3#32 ∧ v = swIdx0 i

/-- What the second part hands to the rest: the compressed branch's outputs, and the beginning of the window's branch. -/
def First (c : Dev nD) (i : grid0.Coords) (arg1 : Memref sig .tc .vmem S1x2x64x512 .f32) (arg3 : Memref sig .tc .vmem S1024x128 .bf16) (arg4 : Memref sig .tc .vmem S128x1024 .bf16) (arg8 : Memref sig .tc .vmem S16896x128 .bf16) (arg9 : Memref sig .tc .vmem S132x128x128 .bf16) (f1 : Bf (F := F) c arg1) (f3 : Bf (F := F) c arg3) (f4 : Bf (F := F) c arg4) (f8 : Bf (F := F) c arg8) (f9 : Bf (F := F) c arg9) (w : BitVec 32) (q0 q1 : FVec F S128x512 .bf16) (oc0 oc1 : FVec F S64x512 .f32)
    (B : FVec F S640x512 .f32) (u : FVec F S16x128 .bf16) (k : FVec F S640x128 .bf16) (e : FVec F S640x512 .bf16) (d : FVec F S80x512 .f32) : Prop :=
  w = BitVec.ofNat 32 (i 0).val ∧ q0 = k0_pay597 (ldQ0 arg1 f1) ∧ q1 = k0_pay598 (ldQ1 arg1 f1) ∧ B = k0_pay603 w ∧ u = k0_pay604 ∧ k = k0_pay605 (ldW i arg8 f8) ∧
    e = k0_pay606 w q0 (ldW i arg8 f8) ∧ d = k0_pay607 w q0 (ldW i arg8 f8) (ldWa i 0 arg9 f9) ∧ CmpSpec c i arg1 arg3 arg4 f1 f3 f4 oc0 oc1

/-- A conditional that ends its block, whose condition nothing decides, by its two cases. -/
theorem wp_dite_last {c : Dev nD} {α : Type} {P : sProp 𝕄} {Q : α → sProp 𝕄} {C : Prop} {dec : Decidable C}
    {p : C → Prog (TpuEff nD τ sig (Elt F) Λ₀ .tc) α} {q : ¬C → Prog (TpuEff nD τ sig (Elt F) Λ₀ .tc) α}
    (hp : ∀ hc : C, Entails' P (wp frame (wpE (defs₀ (F := F)) Variants.none (c : Thread nD τ) none) Set.univ (p hc) Q))
    (hq : ∀ hc : ¬C, Entails' P (wp frame (wpE (defs₀ (F := F)) Variants.none (c : Thread nD τ) none) Set.univ (q hc) Q)) :
    Entails' P (wp frame (wpE (defs₀ (F := F)) Variants.none (c : Thread nD τ) none) Set.univ (@dite _ C dec p q) Q) := by
  by_cases hc : C
  · rw [dif_pos hc]; exact hp hc
  · rw [dif_neg hc]; exact hq hc

/-- Where the diagonal sub-block of the last key chunk starts: the query tile's own place in its chunk. -/
theorem off34_eq : ∀ i : grid0.Coords, k0_off34 i = ![(i 0).val * 128 % 512, 0] := by decide +kernel
theorem off37_eq : ∀ i : grid0.Coords, k0_off37 i = ![(i 0).val * 128 % 512, 0] := by decide +kernel
instance (i : grid0.Coords) : ClosedOff (k0_off34 i) := ⟨_, off34_eq i⟩
instance (i : grid0.Coords) : ClosedOff (k0_off37 i) := ⟨_, off37_eq i⟩

set_option maxHeartbeats 4000000 in
/-- The first part: the queries read and scaled, and the switch's index. -/
theorem run78 (c : Dev nD) (i : grid0.Coords) (arg1 : Memref sig .tc .vmem S1x2x64x512 .f32) (harg1 : arg1.IsWhole) (arg2 : Memref sig .tc .vmem S32x128 .f32) (harg2 : arg2.IsWhole) (arg3 : Memref sig .tc .vmem S1024x128 .bf16) (harg3 : arg3.IsWhole) (arg4 : Memref sig .tc .vmem S128x1024 .bf16) (harg4 : arg4.IsWhole) (arg5 : Memref sig .tc .vmem S256x1024 .bf16) (harg5 : arg5.IsWhole) (arg6 : Memref sig .tc .vmem S2x16384x128 .bf16) (harg6 : arg6.IsWhole) (arg7 : Memref sig .tc .vmem S32x128x512 .bf16) (harg7 : arg7.IsWhole) (arg8 : Memref sig .tc .vmem S16896x128 .bf16) (harg8 : arg8.IsWhole) (arg9 : Memref sig .tc .vmem S132x128x128 .bf16) (harg9 : arg9.IsWhole) (arg10 : Memref sig .tc .vmem S128x512 .bf16) (harg10 : arg10.IsWhole) (arg11 : Memref sig .tc .vmem S2x256x128 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9)
    (K : _ → sProp 𝕄) :
    iprop(Res c arg1 arg2 arg3 arg4 arg5 arg6 arg7 arg8 arg9 arg10 arg11 arg12 arg13 arg14 arg15 f1 f2 f3 f4 f5 f6 f7 f8 f9 ∗ (∀ arg0 v3 v4 v10 v15 v16 v17 c3_i32 v36, iprop(Res c arg1 arg2 arg3 arg4 arg5 arg6 arg7 arg8 arg9 arg10 arg11 arg12 arg13 arg14 arg15 f1 f2 f3 f4 f5 f6 f7 f8 f9 ∗ ⌜First0 c i arg1 f1 arg0 v4 v16 v17 c3_i32 v36⌝) -∗ K ⟨arg0, v3, v4, v10, v15, v16, v17, c3_i32, v36⟩))
      ⊢ wp frame (wpE (defs₀ (F := F)) Variants.none (c : Thread nD τ) none) Set.univ (k0_part78 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold Res
  iintro ⟨⟨H1, H2, H3, H4, H5, H6, H7, H8, H9, ⟨%f10, H10⟩, ⟨%f11, H11⟩, ⟨%f12, H12⟩, ⟨%f13, H13⟩, ⟨%f14, H14⟩, ⟨%f15, H15⟩⟩, HK⟩
  rw [k0_part78_eq_skeleton]; unfold k0_part78_skel
  sl_exec; sl_step; iapply HK
  isplitl [H1 H2 H3 H4 H5 H6 H7 H8 H9 H10 H11 H12 H13 H14 H15]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15
  ipureintro
  exact ⟨rfl, rfl, rfl, rfl, rfl, rfl⟩

set_option maxHeartbeats 4000000 in
/-- The second part, which holds the `lax.switch`: each branch runs, leaving the operands as they were. -/
theorem run79 (c : Dev nD) (i : grid0.Coords) (arg1 : Memref sig .tc .vmem S1x2x64x512 .f32) (harg1 : arg1.IsWhole) (arg2 : Memref sig .tc .vmem S32x128 .f32) (harg2 : arg2.IsWhole) (arg3 : Memref sig .tc .vmem S1024x128 .bf16) (harg3 : arg3.IsWhole) (arg4 : Memref sig .tc .vmem S128x1024 .bf16) (harg4 : arg4.IsWhole) (arg5 : Memref sig .tc .vmem S256x1024 .bf16) (harg5 : arg5.IsWhole) (arg6 : Memref sig .tc .vmem S2x16384x128 .bf16) (harg6 : arg6.IsWhole) (arg7 : Memref sig .tc .vmem S32x128x512 .bf16) (harg7 : arg7.IsWhole) (arg8 : Memref sig .tc .vmem S16896x128 .bf16) (harg8 : arg8.IsWhole) (arg9 : Memref sig .tc .vmem S132x128x128 .bf16) (harg9 : arg9.IsWhole) (arg10 : Memref sig .tc .vmem S128x512 .bf16) (harg10 : arg10.IsWhole) (arg11 : Memref sig .tc .vmem S2x256x128 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9)
    (arg0 : BitVec 32) (v3 : IVec S1x128 32) (v4 : IVec S1x512 32) (v16 : FVec F S128x512 .bf16) (v17 : FVec F S128x512 .bf16) (c3_i32 : BitVec 32) (v36 : BitVec 32) (h0 : First0 c i arg1 f1 arg0 v4 v16 v17 c3_i32 v36) (K : _ → sProp 𝕄) :
    iprop(Res c arg1 arg2 arg3 arg4 arg5 arg6 arg7 arg8 arg9 arg10 arg11 arg12 arg13 arg14 arg15 f1 f2 f3 f4 f5 f6 f7 f8 f9 ∗ (∀ oc0 oc1 v60 v61 v66 v74 v81, iprop(Res c arg1 arg2 arg3 arg4 arg5 arg6 arg7 arg8 arg9 arg10 arg11 arg12 arg13 arg14 arg15 f1 f2 f3 f4 f5 f6 f7 f8 f9 ∗ ⌜First c i arg1 arg3 arg4 arg8 arg9 f1 f3 f4 f8 f9 arg0 v16 v17 oc0 oc1 v60 v61 v66 v74 v81⌝) -∗ K ⟨oc0, oc1, v60, v61, v66, v74, v81⟩))
      ⊢ wp frame (wpE (defs₀ (F := F)) Variants.none (c : Thread nD τ) none) Set.univ (k0_part79 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v3 v4 v16 v17 c3_i32 v36) K := by
  obtain ⟨rfl, rfl, rfl, rfl, rfl, rfl⟩ := h0
  unfold Res
  iintro ⟨⟨H1, H2, H3, H4, H5, H6, H7, H8, H9, ⟨%f10, H10⟩, ⟨%f11, H11⟩, ⟨%f12, H12⟩, ⟨%f13, H13⟩, ⟨%f14, H14⟩, ⟨%f15, H15⟩⟩, HK⟩
  rw [k0_part79_eq_skeleton]; unfold k0_part79_skel
  sl_exec
  refine wp_dite_last (fun h1 => ?_) fun h1 => ?_
  · sl_exec
    refine wp_dite_last (fun h2 => ?_) fun h2 => ?_
    · sl_exec
      refine wp_dite_last (fun h3 => ?_) fun h3 => ?_
      · sl_exec; sl_step; iapply HK
        isplitl [H1 H2 H3 H4 H5 H6 H7 H8 H9 H10 H11 H12 H13 H14 H15]
        · isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          iexists _; iexact H15
        ipureintro
        have hi := lt128 i; have e1 := (sw1 i).1 h1; have e2 := (sw2 i).1 h2; have e3 := (sw3 i).1 h3
        exact ⟨rfl, rfl, rfl, rfl, rfl, rfl, rfl, rfl, fun h => absurd h (by omega), fun h => absurd h (by omega), fun h => absurd h (by omega), fun _ => ⟨rfl, rfl⟩⟩
      · sl_exec; sl_step; iapply HK
        isplitl [H1 H2 H3 H4 H5 H6 H7 H8 H9 H10 H11 H12 H13 H14 H15]
        · isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          iexists _; iexact H15
        ipureintro
        have hi := lt128 i; have e1 := (sw1 i).1 h1; have e2 := (sw2 i).1 h2; have e3 := (not_congr (sw3 i)).1 h3
        exact ⟨rfl, rfl, rfl, rfl, rfl, rfl, rfl, rfl, fun h => absurd h (by omega), fun h => absurd h (by omega), fun _ => ⟨rfl, rfl⟩, fun h => absurd h (by omega)⟩
    · sl_exec; sl_step; iapply HK
      isplitl [H1 H2 H3 H4 H5 H6 H7 H8 H9 H10 H11 H12 H13 H14 H15]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        iexists _; iexact H15
      ipureintro
      have hi := lt128 i; have e1 := (sw1 i).1 h1; have e2 := (not_congr (sw2 i)).1 h2
      exact ⟨rfl, rfl, rfl, rfl, rfl, rfl, rfl, rfl, fun h => absurd h (by omega), fun _ => ⟨rfl, rfl⟩, fun h => absurd h (by omega), fun h => absurd h (by omega)⟩
  · sl_exec; sl_step; iapply HK
    isplitl [H1 H2 H3 H4 H5 H6 H7 H8 H9 H10 H11 H12 H13 H14 H15]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      iexists _; iexact H15
    ipureintro
    have hi := lt128 i; have e1 := (not_congr (sw1 i)).1 h1
    exact ⟨rfl, rfl, rfl, rfl, rfl, rfl, rfl, rfl, fun _ => ⟨rfl, rfl⟩, fun h => absurd h (by omega), fun h => absurd h (by omega), fun h => absurd h (by omega)⟩

set_option maxHeartbeats 4000000 in
/-- The whole body, from the operands, the output and the scratch buffers owned: it runs to its return and hands
    them back, the operands as they were. -/
theorem run_body (c : Dev nD) (i : grid0.Coords) (arg1 : Memref sig .tc .vmem S1x2x64x512 .f32) (harg1 : arg1.IsWhole) (arg2 : Memref sig .tc .vmem S32x128 .f32) (harg2 : arg2.IsWhole) (arg3 : Memref sig .tc .vmem S1024x128 .bf16) (harg3 : arg3.IsWhole) (arg4 : Memref sig .tc .vmem S128x1024 .bf16) (harg4 : arg4.IsWhole) (arg5 : Memref sig .tc .vmem S256x1024 .bf16) (harg5 : arg5.IsWhole) (arg6 : Memref sig .tc .vmem S2x16384x128 .bf16) (harg6 : arg6.IsWhole) (arg7 : Memref sig .tc .vmem S32x128x512 .bf16) (harg7 : arg7.IsWhole) (arg8 : Memref sig .tc .vmem S16896x128 .bf16) (harg8 : arg8.IsWhole) (arg9 : Memref sig .tc .vmem S132x128x128 .bf16) (harg9 : arg9.IsWhole) (arg10 : Memref sig .tc .vmem S128x512 .bf16) (harg10 : arg10.IsWhole) (arg11 : Memref sig .tc .vmem S2x256x128 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9)
    (K : PUnit → sProp 𝕄) :
    iprop(Res c arg1 arg2 arg3 arg4 arg5 arg6 arg7 arg8 arg9 arg10 arg11 arg12 arg13 arg14 arg15 f1 f2 f3 f4 f5 f6 f7 f8 f9 ∗ (∀ fo, iprop(ResO c arg1 arg2 arg3 arg4 arg5 arg6 arg7 arg8 arg9 arg10 arg11 arg12 arg13 arg14 arg15 f1 f2 f3 f4 f5 f6 f7 f8 f9 fo ∗ ⌜OutSpec c i arg1 arg2 arg3 arg4 arg8 arg9 arg10 f1 f2 f3 f4 f8 f9 fo⌝) -∗ K PUnit.unit))
      ⊢ wp frame (wpE (defs₀ (F := F)) Variants.none (c : Thread nD τ) none) Set.univ (cc0_attention (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  rw [cc0_attention_eq_skeleton]; unfold cc0_attention_skel
  refine (sep_mono .rfl ?_).trans ((run78 c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 _).trans (Entails.of_eq (wp_bind ..).symm))
  iintro HK
  iintro %arg0 %v3 %v4 %v10 %v15 %v16 %v17 %c3_i32 %v36
  iintro ⟨HR, %h0⟩
  iapply (Entails.of_eq (wp_bind ..).symm)
  iapply (run79 c i arg1 harg1 arg2 harg2 arg3 harg3 arg4 harg4 arg5 harg5 arg6 harg6 arg7 harg7 arg8 harg8 arg9 harg9 arg10 harg10 arg11 harg11 arg12 harg12 arg13 harg13 arg14 harg14 arg15 harg15 f1 f2 f3 f4 f5 f6 f7 f8 f9 arg0 v3 v4 v16 v17 c3_i32 v36 h0 _)
  isplitl [HR]; · iexact HR
  iintro %oc0 %oc1 %v60 %v61 %v66 %v74 %v81
  unfold Res ResO
  iintro ⟨⟨H1, H2, H3, H4, H5, H6, H7, H8, H9, ⟨%f10, H10⟩, ⟨%f11, H11⟩, ⟨%f12, H12⟩, ⟨%f13, H13⟩, ⟨%f14, H14⟩, ⟨%f15, H15⟩⟩, %hfirst⟩
  sl_exec
  refine wp_dite_last (fun h4 => ?_) fun h4 => ?_
  · sl_exec; sl_step; iapply HK
    isplitl [H1 H2 H3 H4 H5 H6 H7 H8 H9 H10 H11 H12 H13 H14 H15]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      iexists _; iexact H15
    ipureintro
    obtain ⟨rfl, rfl, rfl, rfl, rfl, rfl, rfl, rfl, hc⟩ := hfirst
    apply OutSpec.of hc
    apply OutAt.of
    · exact rfl
    · exact rfl
    · exact rfl
    · exact rfl
  · sl_exec; sl_step; iapply HK
    isplitl [H1 H2 H3 H4 H5 H6 H7 H8 H9 H10 H11 H12 H13 H14 H15]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      iexists _; iexact H15
    ipureintro
    obtain ⟨rfl, rfl, rfl, rfl, rfl, rfl, rfl, rfl, hc⟩ := hfirst
    apply OutSpec.of hc
    apply OutAt.of
    · exact rfl
    · exact rfl
    · exact rfl
    · exact rfl

end Cert.KernelIdeal.Hand

end
-- ==== Proof.AttMath.lean ====
/-
  The mathematics of one softmax attention over a finite set of visible keys, in the extended reals: the weighted sum
  of the values under normalised exponential weights; that it depends only on the set of visible keys; and that the
  masked forms, in base e or in base 2 with scores scaled by 1/log 2, normalised before or after the weighted sum, are it.
-/
module

public import Idealize.ShloMosaic.PureOps.Ideal
public import Mathlib.Data.EReal.Inv

@[expose] public section

noncomputable section

namespace Cert.Att

open Idealize.ShloMosaic

/-- The least denominator. -/
def eps : EReal := Ideal.ofBits .f32 0x0DA24260#32

/-- `1 / log 2`, the scale that turns a base-e exponent into a base-2 one. -/
def lg : EReal := (((Real.log 2)⁻¹ : ℝ) : EReal)

/-- The attention's output over the visible keys `T`, of scores `s` and values `v`. -/
def att {ι : Type} (T : Finset ι) (s v : ι → EReal) : EReal :=
  ∑ j ∈ T, v j * Ideal.div (Ideal.exp (s j - T.sup s)) (max (∑ l ∈ T, Ideal.exp (s l - T.sup s)) eps)

theorem eps_pos : 0 < eps := by
  unfold eps
  simp [Ideal.ofBits, Ideal.ieee, -EReal.coe_mul]

theorem lg_pos : (0 : ℝ) < (Real.log 2)⁻¹ := inv_pos.mpr (Real.log_pos (by norm_num))

/-- Only the visible keys count: an injective renaming of them changes nothing. -/
theorem att_image {ι κ : Type} [DecidableEq κ] (T : Finset ι) (i : ι → κ) (hi : Set.InjOn i T) (s v : ι → EReal) (s' v' : κ → EReal)
    (hs : ∀ j ∈ T, s j = s' (i j)) (hv : ∀ j ∈ T, v j = v' (i j)) : att T s v = att (T.image i) s' v' := by
  have hm : T.sup s = (T.image i).sup s' := by
    rw [Finset.sup_image]; exact Finset.sup_congr rfl hs
  unfold att
  rw [Finset.sum_image hi, Finset.sum_image hi, ← hm]
  have hd : ∑ l ∈ T, Ideal.exp (s l - T.sup s) = ∑ l ∈ T, Ideal.exp (s' (i l) - T.sup s) :=
    Finset.sum_congr rfl fun l hl => by rw [hs l hl]
  rw [hd]
  exact Finset.sum_congr rfl fun j hj => by rw [hs j hj, hv j hj]

theorem fold_max {ι : Type} [Fintype ι] (f : ι → EReal) : Finset.univ.fold max ⊥ f = Finset.univ.sup f := rfl

theorem sup_masked {ι : Type} [Fintype ι] (P : ι → Prop) [DecidablePred P] (s : ι → EReal) :
    (Finset.univ.sup fun j => if P j then s j else ⊥) = (Finset.univ.filter P).sup s := by
  rw [Finset.sup_ite]
  simp

theorem sum_masked {ι : Type} [Fintype ι] (P : ι → Prop) [DecidablePred P] (f : ι → EReal) :
    (∑ j, if P j then f j else 0) = ∑ j ∈ Finset.univ.filter P, f j := (Finset.sum_filter ..).symm

theorem den_ne (x : EReal) : max x eps ≠ 0 := ne_of_gt (lt_of_lt_of_le eps_pos (le_max_right _ _))

theorem div_den (e x : EReal) : Ideal.div e (max x eps) = e * (max x eps)⁻¹ := by
  unfold Ideal.div; rw [if_neg (den_ne x)]

/-- The masked softmax as the layer writes it. -/
theorem att_ref {ι : Type} [Fintype ι] (P : ι → Prop) [DecidablePred P] (s v : ι → EReal) (m : EReal)
    (hm : m = Finset.univ.fold max ⊥ fun j => if P j then s j else ⊥) :
    ∑ j, v j * Ideal.div (if P j then Ideal.exp ((if P j then s j else ⊥) - m) else 0)
      (max (∑ l, if P l then Ideal.exp ((if P l then s l else ⊥) - m) else 0) eps) = att (Finset.univ.filter P) s v := by
  rw [fold_max, sup_masked] at hm
  subst hm
  have h1 : ∀ j, (if P j then Ideal.exp ((if P j then s j else ⊥) - (Finset.univ.filter P).sup s) else 0)
      = if P j then Ideal.exp (s j - (Finset.univ.filter P).sup s) else 0 := fun j => by
    by_cases h : P j <;> simp [h]
  simp only [h1]
  rw [sum_masked]
  unfold att
  refine Eq.trans (Finset.sum_congr rfl fun j _ => ?_) (Finset.sum_filter P _).symm
  by_cases h : P j
  · rw [if_pos h, if_pos h]
  · rw [if_neg h, if_neg h, div_den, zero_mul, mul_zero]

theorem lg_mul_sub (a b : EReal) : lg * a - lg * b = lg * (a - b) := by
  rw [sub_eq_add_neg, sub_eq_add_neg, ← mul_neg]
  exact (EReal.left_distrib_of_nonneg_of_ne_top (EReal.coe_nonneg.mpr lg_pos.le) (EReal.coe_ne_top _) _ _).symm

theorem exp2_lg (a : EReal) : Ideal.exp2 (lg * a) = Ideal.exp a := by
  unfold lg
  induction a with
  | bot => rw [EReal.coe_mul_bot_of_pos lg_pos]; rfl
  | top => rw [EReal.coe_mul_top_of_pos lg_pos]; rfl
  | coe a =>
    rw [← EReal.coe_mul, Ideal.exp2_coe, Ideal.exp_coe]
    congr 1
    have h2 : Real.log 2 ≠ 0 := (Real.log_pos (by norm_num)).ne'
    show (2 : ℝ) ^ ((Real.log 2)⁻¹ * a) = _
    rw [Real.rpow_def_of_pos (by norm_num), ← mul_assoc, mul_inv_cancel₀ h2, one_mul]

theorem lg_sup {ι : Type} (T : Finset ι) (s : ι → EReal) : (T.sup fun j => lg * s j) = lg * T.sup s := by
  refine (Finset.comp_sup_eq_sup_comp_of_is_total (fun x : EReal => lg * x) ?_ ?_).symm
  · intro a b h
    exact mul_le_mul_of_nonneg_left h (EReal.coe_nonneg.mpr lg_pos.le)
  · exact EReal.coe_mul_bot_of_pos lg_pos

theorem inv_div (x : EReal) : Ideal.div 1 (max x eps) = (max x eps)⁻¹ := by rw [div_den, one_mul]

/-- The compressed branch as the kernel computes it: base 2, scaled scores, normalised weights. -/
theorem att_cmp {ι : Type} [Fintype ι] (P : ι → Prop) [DecidablePred P] (s v : ι → EReal) (m : EReal)
    (hm : m = Finset.univ.fold max ⊥ fun j => if P j then lg * s j else ⊥) :
    ∑ j, v j * ((if P j then Ideal.exp2 ((if P j then lg * s j else ⊥) - m) else 0) *
      Ideal.div 1 (max (∑ l, if P l then Ideal.exp2 ((if P l then lg * s l else ⊥) - m) else 0) eps)) = att (Finset.univ.filter P) s v := by
  rw [fold_max, sup_masked, lg_sup] at hm
  subst hm
  have h1 : ∀ j, (if P j then Ideal.exp2 ((if P j then lg * s j else ⊥) - lg * (Finset.univ.filter P).sup s) else 0)
      = if P j then Ideal.exp (s j - (Finset.univ.filter P).sup s) else 0 := fun j => by
    by_cases h : P j
    · simp only [if_pos h]; rw [lg_mul_sub, exp2_lg]
    · simp only [if_neg h]
  simp only [h1]
  rw [sum_masked]
  unfold att
  refine Eq.trans (Finset.sum_congr rfl fun j _ => ?_) (Finset.sum_filter P _).symm
  by_cases h : P j
  · rw [if_pos h, if_pos h, inv_div, div_den]
  · rw [if_neg h, if_neg h, zero_mul, mul_zero]

/-- The same, the mask outside the product. -/
theorem att_cmp_out {ι : Type} [Fintype ι] (P : ι → Prop) [DecidablePred P] (s v : ι → EReal) (m : EReal)
    (hm : m = Finset.univ.fold max ⊥ fun j => if P j then lg * s j else ⊥) :
    (∑ j, if P j then v j * (Ideal.exp2 ((if P j then lg * s j else ⊥) - m) *
      Ideal.div 1 (max (∑ l, if P l then Ideal.exp2 ((if P l then lg * s l else ⊥) - m) else 0) eps)) else 0) = att (Finset.univ.filter P) s v := by
  rw [← att_cmp P s v m hm]
  refine Finset.sum_congr rfl fun j _ => ?_
  by_cases h : P j
  · simp only [if_pos h]
  · simp only [if_neg h, zero_mul, mul_zero]

theorem inv_nonneg_ne (x : EReal) : 0 ≤ (max x eps)⁻¹ ∧ (max x eps)⁻¹ ≠ ⊤ := by
  refine ⟨EReal.inv_nonneg_of_nonneg (le_trans eps_pos.le (le_max_right _ _)), ?_⟩
  generalize max x eps = y
  induction y with
  | bot => simp
  | top => simp
  | coe y => rw [← EReal.coe_inv]; exact EReal.coe_ne_top _

theorem sum_mul_right {ι : Type} (T : Finset ι) (f : ι → EReal) (c : EReal) (h0 : 0 ≤ c) (h1 : c ≠ ⊤) : (∑ j ∈ T, f j) * c = ∑ j ∈ T, f j * c := by
  classical
  induction T using Finset.induction_on with
  | empty => simp
  | insert a T ha ih => rw [Finset.sum_insert ha, Finset.sum_insert ha, EReal.right_distrib_of_nonneg_of_ne_top h0 h1, ih]

/-- The window's branch as the kernel computes it: base 2, scaled scores, the mask added, normalised at the end. -/
theorem att_win {ι : Type} [Fintype ι] (P : ι → Prop) [DecidablePred P] (s v : ι → EReal) (m : EReal)
    (hm : m = Finset.univ.fold max ⊥ fun j => lg * s j + if P j then 0 else ⊥) :
    (∑ j, v j * Ideal.exp2 ((lg * s j + if P j then 0 else ⊥) - m)) *
      Ideal.div 1 (max (∑ l, Ideal.exp2 ((lg * s l + if P l then 0 else ⊥) - m)) eps) = att (Finset.univ.filter P) s v := by
  have hx : ∀ j, (lg * s j + if P j then 0 else ⊥) = if P j then lg * s j else ⊥ := fun j => by
    by_cases h : P j
    · rw [if_pos h, if_pos h, add_zero]
    · rw [if_neg h, if_neg h, EReal.add_bot]
  simp only [hx] at hm ⊢
  have he : ∀ j, Ideal.exp2 ((if P j then lg * s j else ⊥) - m) = if P j then Ideal.exp2 ((if P j then lg * s j else ⊥) - m) else 0 := fun j => by
    by_cases h : P j
    · simp only [if_pos h]
    · simp only [if_neg h]; rw [sub_eq_add_neg, EReal.bot_add]; rfl
  rw [← att_cmp P s v m hm, inv_div, sum_mul_right _ _ _ (inv_nonneg_ne _).1 (inv_nonneg_ne _).2]
  have hd : (∑ l, Ideal.exp2 ((if P l then lg * s l else ⊥) - m)) = ∑ l, if P l then Ideal.exp2 ((if P l then lg * s l else ⊥) - m) else 0 :=
    Finset.sum_congr rfl fun l _ => he l
  rw [hd, ← inv_div]
  exact Finset.sum_congr rfl fun j _ => by rw [mul_assoc, ← he j]

/-- A score of a scaled query is the scaled score. -/
theorem score_scaled {ι : Type} [Fintype ι] (k q : ι → EReal) : ∑ a, k a * (q a * lg) = lg * ∑ a, k a * q a := by
  refine Eq.trans ?_ ((mul_comm lg _).trans (sum_mul_right _ _ lg (EReal.coe_nonneg.mpr lg_pos.le) (EReal.coe_ne_top _))).symm
  exact Finset.sum_congr rfl fun a _ => (mul_assoc _ _ _).symm

/-- A query padded with zeros above or below, against a key of twice its width. -/
theorem sum_lo (k : Fin 128 → EReal) (q : Fin 64 → EReal) :
    (∑ a : Fin 128, k a * if h : a.val < 64 then q ⟨a.val, h⟩ else 0) = ∑ a : Fin 64, k ⟨a.val, by omega⟩ * q a := by
  rw [show (∑ a : Fin 128, k a * if h : a.val < 64 then q ⟨a.val, h⟩ else 0) = ∑ a : Fin (64 + 64), k a * if h : a.val < 64 then q ⟨a.val, h⟩ else 0 from rfl, Fin.sum_univ_add]
  have h2 : ∑ a : Fin 64, k (Fin.natAdd 64 a) * (if h : (Fin.natAdd 64 a).val < 64 then q ⟨(Fin.natAdd 64 a).val, h⟩ else 0) = 0 :=
    Finset.sum_eq_zero fun a _ => by rw [dif_neg (by simp), mul_zero]
  rw [h2, add_zero]
  refine Finset.sum_congr rfl fun a _ => ?_
  rw [dif_pos (by simp)]
  rfl

theorem sum_hi (k : Fin 128 → EReal) (q : Fin 64 → EReal) :
    (∑ a : Fin 128, k a * if h : a.val < 64 then 0 else q ⟨a.val - 64, by omega⟩) = ∑ a : Fin 64, k ⟨64 + a.val, by omega⟩ * q a := by
  rw [show (∑ a : Fin 128, k a * if h : a.val < 64 then 0 else q ⟨a.val - 64, by omega⟩) = ∑ a : Fin (64 + 64), k a * if h : a.val < 64 then 0 else q ⟨a.val - 64, by omega⟩ from rfl, Fin.sum_univ_add]
  have h2 : ∑ a : Fin 64, k (Fin.castAdd 64 a) * (if h : (Fin.castAdd 64 a).val < 64 then 0 else q ⟨(Fin.castAdd 64 a).val - 64, by omega⟩) = 0 :=
    Finset.sum_eq_zero fun a _ => by rw [dif_pos (by simp), mul_zero]
  rw [h2, zero_add]
  refine Finset.sum_congr rfl fun a _ => ?_
  rw [dif_neg (by simp)]
  congr 2
  exact Fin.ext (by simp)

end Cert.Att

end
-- ==== Proof.AttSpec.lean ====
/-
  What the attention call computes, entry by entry, from the queries, the compressed and the window's keys and values, and
  the gates.
-/
module

public import proofs.«01_k».proof.Proof.AttMath

@[expose] public section

noncomputable section

namespace Cert.Att

/-- The key/value head that a query head reads: four query heads share one. -/
def kvOf (h : Fin 8) : Fin 2 := ⟨h.val / 4, by omega⟩

/-- Head `h` of token `t`, at feature `d`: the compressed branch over the blocks whose last token is at or before `t`, and
    the window's branch over the last 512 tokens up to `t`, each under its gate. -/
def spec (q : Fin 16384 → Fin 8 → Fin 64 → EReal) (kc vc : Fin 1023 → Fin 2 → Fin 64 → EReal)
    (kw vw : Fin 16384 → Fin 2 → Fin 64 → EReal) (g : Fin 16384 → Fin 8 → Fin 3 → EReal) (t : Fin 16384) (h : Fin 8) (d : Fin 64) : EReal :=
  g t h 0 * att (Finset.univ.filter fun n : Fin 1023 => 16 * n.val + 31 ≤ t.val) (fun n => ∑ a, kc n (kvOf h) a * q t h a) (fun n => vc n (kvOf h) d)
  + g t h 2 * att (Finset.univ.filter fun j : Fin 16384 => j.val ≤ t.val ∧ t.val < j.val + 512) (fun j => ∑ a, kw j (kvOf h) a * q t h a)
      (fun j => vw j (kvOf h) d)

end Cert.Att

end
-- ==== Proof.KVals.lean ====
/-
  The attention call's operands: the arrays that the host code prepares, as the arguments' entries, and the blocks of them
  that a grid point reads.
-/
module

public import proofs.«01_k».proof.Proof.Gen.KernelIdeal.Frame
public import Idealize.ShloMosaic.Lib.Pipeline.ValueKit
public import Idealize.ShloMosaic.Lib.Pointwise
public import proofs.«01_k».proof.Proof.AttSpec

@[expose] public section

set_option maxRecDepth 16384
noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The arguments by their coordinates -/

/-- The queries. -/
abbrev aQ (t : Fin 16384) (h : Fin 8) (d : Fin 64) : EReal := (m ((c : Thread nD τ).loc main_arg0) : Vec Ideal S16384x8x64 .f32) (ix3 t h d)
/-- The compressed keys. -/
abbrev aKc (n : Fin 1023) (b : Fin 2) (d : Fin 64) : EReal := (m ((c : Thread nD τ).loc main_arg1) : Vec Ideal S1023x2x64 .f32) (ix3 n b d)
/-- The compressed values. -/
abbrev aVc (n : Fin 1023) (b : Fin 2) (d : Fin 64) : EReal := (m ((c : Thread nD τ).loc main_arg2) : Vec Ideal S1023x2x64 .f32) (ix3 n b d)
/-- The window's keys. -/
abbrev aKw (j : Fin 16384) (b : Fin 2) (d : Fin 64) : EReal := (m ((c : Thread nD τ).loc main_arg5) : Vec Ideal S16384x2x64 .f32) (ix3 j b d)
/-- The window's values. -/
abbrev aVw (j : Fin 16384) (b : Fin 2) (d : Fin 64) : EReal := (m ((c : Thread nD τ).loc main_arg6) : Vec Ideal S16384x2x64 .f32) (ix3 j b d)
/-- The gates. -/
abbrev aG (t : Fin 16384) (h : Fin 8) (r : Fin 3) : EReal := (m ((c : Thread nD τ).loc main_arg7) : Vec Ideal S16384x8x3 .f32) (ix3 t h r)

/-- The zero that the host code pads with. -/
abbrev padz (φ : FTy) : FVec Ideal S_ φ := sitofp φ (constantI S_ 32 0#32)

/-! ## The prepared arrays -/

/-- The queries, a tile's four heads of a group side by side along the lanes. -/
def hQ (x : FVec Ideal S16384x8x64 .f32) : FVec Ideal S128x2x64x512 .f32 :=
  shapeCast S128x2x64x512 (transpose S128x2x64x4x128 [0, 2, 4, 3, 1] (shapeCast S128x128x2x4x64 x shapeCasts_S16384x8x64_S128x128x2x4x64)
    transposes_S128x128x2x4x64_S128x2x64x4x128_0_2_4_3_1) shapeCasts_S128x2x64x4x128_S128x2x64x512
/-- The gates with the selected branch's at zero, a row for each head and branch. -/
def hG0 (x : FVec Ideal S16384x8x3 .f32) : FVec Ideal S24x16384 .f32 :=
  transpose S24x16384 [1, 0] (shapeCast S16384x24 (concatenate S16384x8x3 2
    [⟨S16384x8x1, extractStridedSlice S16384x8x1 ![0, 0, 0] x slices_S16384x8x3_S16384x8x1_0_0_0⟩,
     ⟨S16384x8x1, broadcastInDim S16384x8x1 ![] bcast_S_S16384x8x1 (constant S_ .f32 0x00000000#32 : FVec Ideal S_ .f32)⟩,
     ⟨S16384x8x1, extractStridedSlice S16384x8x1 ![0, 0, 2] x slices_S16384x8x3_S16384x8x1_0_0_2⟩]
    concatenates_S16384x8x1_S16384x8x1_S16384x8x1_S16384x8x3_d2) shapeCasts_S16384x8x3_S16384x24) transposes_S16384x24_S24x16384_1_0
def hG (x : FVec Ideal S16384x8x3 .f32) : FVec Ideal S32x16384 .f32 :=
  pad S32x16384 ![0, 0] ![8, 0] ![0, 0] (hG0 x) (padz .f32) pads_S24x16384_S32x16384_080_000 h_S_
/-- The compressed keys, one row of padding. -/
def hC (x : FVec Ideal S1023x2x64 .f32) : FVec Ideal S1024x128 .bf16 :=
  pad S1024x128 ![0, 0] ![1, 0] ![0, 0] (shapeCast S1023x128 (truncf .bf16 x bitsLt_bf16_f32) shapeCasts_S1023x2x64_S1023x128) (padz .bf16)
    pads_S1023x128_S1024x128_010_000 h_S_
/-- The compressed values, transposed. -/
def hCt (x : FVec Ideal S1023x2x64 .f32) : FVec Ideal S128x1024 .bf16 := transpose S128x1024 [1, 0] (hC x) transposes_S1024x128_S128x1024_1_0
/-- The window's keys, 512 rows of padding before them. -/
def hW (x : FVec Ideal S16384x2x64 .f32) : FVec Ideal S16896x128 .bf16 :=
  pad S16896x128 ![512, 0] ![0, 0] ![0, 0] (shapeCast S16384x128 (truncf .bf16 x bitsLt_bf16_f32) shapeCasts_S16384x2x64_S16384x128) (padz .bf16)
    pads_S16384x128_S16896x128_51200_000 h_S_
/-- The window's values, transposed in blocks of 128 tokens, four blocks of padding before them. -/
def hWt (x : FVec Ideal S16384x2x64 .f32) : FVec Ideal S132x128x128 .bf16 :=
  pad S132x128x128 ![4, 0, 0] ![0, 0, 0] ![0, 0, 0] (transpose S128x128x128 [0, 2, 1] (shapeCast S128x128x128 (truncf .bf16 x bitsLt_bf16_f32)
    shapeCasts_S16384x2x64_S128x128x128) transposes_S128x128x128_S128x128x128_0_2_1) (padz .bf16) pads_S128x128x128_S132x128x128_400_000_000 h_S_

theorem V_hQ : (V m c main_v2 : Vec Ideal S128x2x64x512 .f32) = hQ (m ((c : Thread nD τ).loc main_arg0)) := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]; after_results; rfl
theorem V_hG : (V m c main_v9 : Vec Ideal S32x16384 .f32) = hG (m ((c : Thread nD τ).loc main_arg7)) := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]; after_results; rfl
theorem V_hC : (V m c main_v12 : Vec Ideal S1024x128 .bf16) = hC (m ((c : Thread nD τ).loc main_arg1)) := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]; after_results; rfl
theorem V_hCt : (V m c main_v16 : Vec Ideal S128x1024 .bf16) = hCt (m ((c : Thread nD τ).loc main_arg2)) := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]; after_results; rfl
theorem V_hW : (V m c main_v38 : Vec Ideal S16896x128 .bf16) = hW (m ((c : Thread nD τ).loc main_arg5)) := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]; after_results; rfl
theorem V_hWt : (V m c main_v42 : Vec Ideal S132x128x128 .bf16) = hWt (m ((c : Thread nD τ).loc main_arg6)) := by
  unfold V; simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]; after_results; rfl

/-! ## Their entries -/

theorem hQ_apply (x : FVec Ideal S16384x8x64 .f32) (i : Fin 128) (b : Fin 2) (a : Fin 64) (l : Fin 512) :
    hQ x (ix4 i b a l) = x (ix3 ⟨128 * i.val + l.val % 128, by omega⟩ ⟨4 * b.val + l.val / 128, by omega⟩ a) := by
  pointwise [hQ]
  congr 2 <;> (apply Fin.ext; dsimp only; omega)

theorem hG_apply0 (x : FVec Ideal S16384x8x3 .f32) (t : Fin 16384) (h : Fin 8) : hG x (ix2 ⟨3 * h.val, by omega⟩ t) = x (ix3 t h 0) := by
  pointwise [hG, hG0]
  have e : 3 * h.val % 3 = 0 := by omega
  rw [dif_pos (by omega), dif_pos (by omega)]
  congr 2; apply Fin.ext; exact e
theorem hG_apply1 (x : FVec Ideal S16384x8x3 .f32) (t : Fin 16384) (h : Fin 8) : hG x (ix2 ⟨3 * h.val + 1, by omega⟩ t) = 0 := by
  pointwise [hG, hG0]
  have e : (3 * h.val + 1) % 3 = 1 := by omega
  rw [dif_pos (by omega), dif_neg (by omega), dif_pos (by omega)]
theorem hG_apply2 (x : FVec Ideal S16384x8x3 .f32) (t : Fin 16384) (h : Fin 8) : hG x (ix2 ⟨3 * h.val + 2, by omega⟩ t) = x (ix3 t h 2) := by
  pointwise [hG, hG0]
  have e : (3 * h.val + 2) % 3 = 2 := by omega
  rw [dif_pos (by omega), dif_neg (by omega), dif_neg (by omega)]
  congr 2; apply Fin.ext; show 2 + ((3 * h.val + 2) % 3 - 1 - 1) = 2; omega

theorem hC_apply (x : FVec Ideal S1023x2x64 .f32) (n : Fin 1023) (a : Fin 128) :
    hC x (ix2 ⟨n.val, by omega⟩ a) = x (ix3 n ⟨a.val / 64, by omega⟩ ⟨a.val % 64, by omega⟩) := by
  pointwise [hC]
theorem hCt_apply (x : FVec Ideal S1023x2x64 .f32) (n : Fin 1023) (a : Fin 128) :
    hCt x (ix2 a ⟨n.val, by omega⟩) = x (ix3 n ⟨a.val / 64, by omega⟩ ⟨a.val % 64, by omega⟩) := by
  pointwise [hCt, hC]
theorem hW_apply (x : FVec Ideal S16384x2x64 .f32) (j : Fin 16384) (a : Fin 128) :
    hW x (ix2 ⟨512 + j.val, by omega⟩ a) = x (ix3 j ⟨a.val / 64, by omega⟩ ⟨a.val % 64, by omega⟩) := by
  pointwise [hW]
theorem hWt_apply (x : FVec Ideal S16384x2x64 .f32) (b : Fin 128) (d : Fin 128) (r : Fin 128) :
    hWt x (ix3 ⟨4 + b.val, by omega⟩ d r) = x (ix3 ⟨128 * b.val + r.val, by omega⟩ ⟨d.val / 64, by omega⟩ ⟨d.val % 64, by omega⟩) := by
  pointwise [hWt]
  congr 2 <;> (apply Fin.ext; dsimp only; omega)

/-! ## The blocks -/

theorem lt128' (t : Fin cfg0.N) : t.val < 128 := lt_of_lt_of_eq t.isLt (show cfg0.N = 128 from N_0)

theorem index0 : ∀ t : Fin cfg0.N, win0_0.index t 0 = t.val ∧ win0_0.index t 1 = 0 ∧ win0_0.index t 2 = 0 ∧ win0_0.index t 3 = 0 := by decide +kernel
theorem index1 : ∀ t : Fin cfg0.N, win0_1.index t 0 = 0 ∧ win0_1.index t 1 = t.val := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 ∧ win0_8.index t 2 = 0 := by decide +kernel
theorem index9 : ∀ t : Fin cfg0.N, win0_9.index t 0 = t.val ∧ win0_9.index t 1 = 0 := by decide +kernel
theorem coords_val : ∀ t : Fin cfg0.N, ((grid0.coords t) 0).val = t.val := by decide +kernel

/-- A tile's queries. -/
theorem blk0 (t : Fin cfg0.N) (b : Fin 2) (a : Fin 64) (l : Fin 512) : (iblk m c 0 t : Vec Ideal S1x2x64x512 .f32) (ix4 0 b a l)
    = aQ m c ⟨128 * t.val + l.val % 128, by have := lt128' t; omega⟩ ⟨4 * b.val + l.val / 128, by omega⟩ a := by
  unfold iblk; rw [View.read_apply]
  have e : ((cfg0.win 0).blk t).view.emb (ix4 0 b a l) = (ix4 (⟨t.val, lt128' t⟩ : Fin 128) b a l : S128x2x64x512.Idx) := by
    funext x; apply Fin.ext
    match x with
    | ⟨0, _⟩ => show win0_0.index t 0 * 1 + 1 * 0 = _; rw [(index0 t).1]; show _ = t.val; omega
    | ⟨1, _⟩ => show win0_0.index t 1 * 2 + 1 * b.val = _; rw [(index0 t).2.1]; show _ = b.val; omega
    | ⟨2, _⟩ => show win0_0.index t 2 * 64 + 1 * a.val = _; rw [(index0 t).2.2.1]; show _ = a.val; omega
    | ⟨3, _⟩ => show win0_0.index t 3 * 512 + 1 * l.val = _; rw [(index0 t).2.2.2]; show _ = l.val; omega
  refine (congrFun (V_hQ m c) _).trans ?_
  rw [e]; exact hQ_apply _ _ _ _ _

/-- A tile's gates. -/
theorem blk1 (t : Fin cfg0.N) (r : Fin 32) (x : Fin 128) : (iblk m c 1 t : Vec Ideal S32x128 .f32) (ix2 r x)
    = hG (m ((c : Thread nD τ).loc main_arg7)) (ix2 r ⟨128 * t.val + x.val, by have := lt128' t; omega⟩) := by
  unfold iblk; rw [View.read_apply]
  have e : ((cfg0.win 1).blk t).view.emb (ix2 r x) = (ix2 r (⟨128 * t.val + x.val, by have := lt128' t; omega⟩ : Fin 16384) : S32x16384.Idx) := by
    funext y; apply Fin.ext
    match y with
    | ⟨0, _⟩ => show win0_1.index t 0 * 32 + 1 * r.val = _; rw [(index1 t).1]; show _ = r.val; omega
    | ⟨1, _⟩ => show win0_1.index t 1 * 128 + 1 * x.val = _; rw [(index1 t).2]; show _ = 128 * t.val + x.val; omega
  refine (congrFun (V_hG m c) _).trans ?_
  rw [e]

/-- The compressed keys, whole. -/
theorem blk2 (t : Fin cfg0.N) (a : Fin 1024) (b : Fin 128) : (iblk m c 2 t : Vec Ideal S1024x128 .bf16) (ix2 a b) = hC (m ((c : Thread nD τ).loc main_arg1)) (ix2 a b) := by
  unfold iblk; rw [View.read_apply]
  have e : ((cfg0.win 2).blk t).view.emb (ix2 a b) = (ix2 a b : S1024x128.Idx) := by
    funext y; apply Fin.ext
    match y with
    | ⟨0, _⟩ => show win0_2.index t 0 * 1024 + 1 * a.val = _; rw [(index2 t).1]; show _ = a.val; omega
    | ⟨1, _⟩ => show win0_2.index t 1 * 128 + 1 * b.val = _; rw [(index2 t).2]; show _ = b.val; omega
  refine (congrFun (V_hC m c) _).trans ?_
  rw [e]

/-- The compressed values, whole. -/
theorem blk3 (t : Fin cfg0.N) (a : Fin 128) (b : Fin 1024) : (iblk m c 3 t : Vec Ideal S128x1024 .bf16) (ix2 a b) = hCt (m ((c : Thread nD τ).loc main_arg2)) (ix2 a b) := by
  unfold iblk; rw [View.read_apply]
  have e : ((cfg0.win 3).blk t).view.emb (ix2 a b) = (ix2 a b : S128x1024.Idx) := by
    funext y; apply Fin.ext
    match y with
    | ⟨0, _⟩ => show win0_3.index t 0 * 128 + 1 * a.val = _; rw [(index3 t).1]; show _ = a.val; omega
    | ⟨1, _⟩ => show win0_3.index t 1 * 1024 + 1 * b.val = _; rw [(index3 t).2]; show _ = b.val; omega
  refine (congrFun (V_hCt m c) _).trans ?_
  rw [e]

/-- The window's keys, whole. -/
theorem blk7 (t : Fin cfg0.N) (a : Fin 16896) (b : Fin 128) : (iblk m c 7 t : Vec Ideal S16896x128 .bf16) (ix2 a b) = hW (m ((c : Thread nD τ).loc main_arg5)) (ix2 a b) := by
  unfold iblk; rw [View.read_apply]
  have e : ((cfg0.win 7).blk t).view.emb (ix2 a b) = (ix2 a b : S16896x128.Idx) := by
    funext y; apply Fin.ext
    match y with
    | ⟨0, _⟩ => show win0_7.index t 0 * 16896 + 1 * a.val = _; rw [(index7 t).1]; show _ = a.val; omega
    | ⟨1, _⟩ => show win0_7.index t 1 * 128 + 1 * b.val = _; rw [(index7 t).2]; show _ = b.val; omega
  refine (congrFun (V_hW m c) _).trans ?_
  rw [e]

/-- The window's values, whole. -/
theorem blk8 (t : Fin cfg0.N) (a : Fin 132) (b : Fin 128) (d : Fin 128) : (iblk m c 8 t : Vec Ideal S132x128x128 .bf16) (ix3 a b d) = hWt (m ((c : Thread nD τ).loc main_arg6)) (ix3 a b d) := by
  unfold iblk; rw [View.read_apply]
  have e : ((cfg0.win 8).blk t).view.emb (ix3 a b d) = (ix3 a b d : S132x128x128.Idx) := by
    funext y; apply Fin.ext
    match y with
    | ⟨0, _⟩ => show win0_8.index t 0 * 132 + 1 * a.val = _; rw [(index8 t).1]; show _ = a.val; omega
    | ⟨1, _⟩ => show win0_8.index t 1 * 128 + 1 * b.val = _; rw [(index8 t).2.1]; show _ = b.val; omega
    | ⟨2, _⟩ => show win0_8.index t 2 * 128 + 1 * d.val = _; rw [(index8 t).2.2]; show _ = d.val; omega
  refine (congrFun (V_hWt m c) _).trans ?_
  rw [e]

end Cert.KernelIdeal.Hand

end
-- ==== Proof.TileAtt.lean ====
/-
  The attention kernel's tile functions at the ideal instance, entry by entry: the compressed branch over a prefix and the
  window's branch are attentions over the rows that their masks leave; the gated sum and the columns' layout.
-/
module

public import Idealize.ShloMosaic.Lib.Pointwise
public import proofs.«01_k».proof.Proof.Tile
public import proofs.«01_k».proof.Proof.AttMath

@[expose] public section

set_option maxRecDepth 16384
noncomputable section

namespace Cert.KernelIdeal.Hand

open Cert.KernelIdeal Cert.KernelIdeal.Gen Idealize.ShloMosaic Idealize.ShloMosaic.TcCoe
open Cert.Att (att lg eps)

/-- The stand-in of the mask is the bottom element. -/
theorem mask_val : Named.named (F := Ideal) κ "mask" (φ := .f32) 0xF149F2CA#32 = (⊥ : EReal) :=
  IdealRules.named_const.ideal_named_scalar _ _ _ _ rfl

/-- The stand-in of the base's logarithm is `1 / log 2`. -/
theorem log2e_val : Named.named (F := Ideal) κ "log2e" (φ := .f32) 0x3FB8AA3B#32 = lg :=
  IdealRules.named_const.ideal_named_scalar _ _ _ _ rfl

theorem bits_bot : Ideal.ofBits FTy.f32 0xFF800000#32 = ⊥ := by simp [Ideal.ofBits, Ideal.ieee]

theorem seen_apply (c : BitVec 1) (a b : EReal) : Scalar.select c a b = if c = 1#1 then a else b := by
  unfold Scalar.select
  by_cases h : c = 1#1
  · simp [h]
  · simp [h]

/-! ## The masks' comparisons, of small numbers -/

theorem toInt_small (a : ℕ) (h : a < 2 ^ 30) : (BitVec.ofNat 32 a).toInt = a := by
  rw [BitVec.toInt_eq_toNat_cond, BitVec.toNat_ofNat]; omega

theorem ofBool_one (b : Bool) : BitVec.ofBool b = 1#1 ↔ b = true := by cases b <;> decide

theorem sle_int (a b : BitVec 32) : IntOp.cmpi CmpIPredicate.sle a b = 1#1 ↔ a.toInt ≤ b.toInt := by
  simp [IntOp.cmpi, ofBool_one, BitVec.sle]

theorem sgt_int (a b : BitVec 32) : IntOp.cmpi CmpIPredicate.sgt a b = 1#1 ↔ b.toInt < a.toInt := by
  simp [IntOp.cmpi, ofBool_one, BitVec.slt]

theorem sge_int (a b : BitVec 32) : IntOp.cmpi CmpIPredicate.sge a b = 1#1 ↔ b.toInt ≤ a.toInt := by
  simp [IntOp.cmpi, ofBool_one, BitVec.sle]

theorem and_one (a b : BitVec 1) : IntOp.andi a b = 1#1 ↔ a = 1#1 ∧ b = 1#1 := by
  revert a b; decide

theorem last_eq (n : ℕ) : IntOp.addi (IntOp.muli (BitVec.ofNat 32 n) 16#32) 31#32 = BitVec.ofNat 32 (16 * n + 31) := by
  apply BitVec.eq_of_toNat_eq
  simp [IntOp.addi, IntOp.muli, BitVec.toNat_add, BitVec.toNat_mul]
  omega

theorem pos_eq (i x : ℕ) : IntOp.addi (Scalar.muli (BitVec.ofNat 32 i) 128#32) (BitVec.ofNat 32 x) = BitVec.ofNat 32 (128 * i + x) := by
  apply BitVec.eq_of_toNat_eq
  simp [IntOp.addi, Scalar.muli, IntOp.muli, BitVec.toNat_add, BitVec.toNat_mul]
  omega

theorem plus_eq (x : ℕ) : IntOp.addi (BitVec.ofNat 32 x) 512#32 = BitVec.ofNat 32 (x + 512) := by
  apply BitVec.eq_of_toNat_eq
  simp [IntOp.addi, BitVec.toNat_add]

theorem first_int (i : ℕ) (h : i < 128) : (Scalar.subi 512#32 (Scalar.muli (BitVec.ofNat 32 i) 128#32)).toInt = 512 - 128 * (i : Int) := by
  have : ∀ i : Fin 128, (Scalar.subi 512#32 (Scalar.muli (BitVec.ofNat 32 i.val) 128#32)).toInt = 512 - 128 * (i.val : Int) := by decide +kernel
  exact this ⟨i, h⟩

theorem seen_iff (n t : ℕ) (hn : n < 1024) (ht : t < 16384) :
    IntOp.cmpi CmpIPredicate.sle (IntOp.addi (IntOp.muli (BitVec.ofNat 32 n) 16#32) 31#32) (BitVec.ofNat 32 t) = 1#1 ↔ 16 * n + 31 ≤ t := by
  rw [last_eq, sle_int, toInt_small _ (by omega), toInt_small _ (by omega)]
  omega

theorem band_iff (r q i : ℕ) (hr : r < 640) (hq : q < 128) (hi : i < 128) :
    IntOp.andi (IntOp.andi (IntOp.cmpi CmpIPredicate.sgt (BitVec.ofNat 32 r) (BitVec.ofNat 32 q))
      (IntOp.cmpi CmpIPredicate.sle (BitVec.ofNat 32 r) (IntOp.addi (BitVec.ofNat 32 q) 512#32)))
      (IntOp.cmpi CmpIPredicate.sge (BitVec.ofNat 32 r) (Scalar.subi 512#32 (Scalar.muli (BitVec.ofNat 32 i) 128#32))) = 1#1
      ↔ q < r ∧ r ≤ q + 512 ∧ 512 ≤ r + 128 * i := by
  rw [and_one, and_one, sgt_int, sle_int, sge_int, plus_eq, first_int i hi, toInt_small _ (by omega), toInt_small _ (by omega), toInt_small _ (by omega)]
  omega

/-- The compressed branch over the first 256 blocks. -/
theorem cmp256_apply (t : IVec S1x512 32) (q : FVec Ideal S128x512 .bf16) (k : Vec Ideal S256x128 .bf16) (v : Vec Ideal S64x256 .bf16)
    (l : Fin 512) (d : Fin 64) (T : ℕ) (hT : T < 16384) (ht : t (ix2 0 l) = BitVec.ofNat 32 T) (s : Fin 256 → EReal) (hs : ∀ n, ∑ a, k (ix2 n a) * q (ix2 a l) = lg * s n) :
    cmpTile256 t q k v (ix2 d l) = att (Finset.univ.filter fun n : Fin 256 => 16 * n.val + 31 ≤ T) s (fun n => v (ix2 d n)) := by
  pointwise [cmpTile256]
  have hm : ∀ (n : Fin 256) (a b : EReal), Scalar.select (IntOp.cmpi CmpIPredicate.sle (IntOp.addi (IntOp.muli (BitVec.ofNat 32 n.val) 16#32) 31#32) (BitVec.ofNat 32 T)) a b
      = if 16 * n.val + 31 ≤ T then a else b := fun n a b => by
    rw [seen_apply]; simp only [seen_iff n.val T (by omega) hT]
  simp only [hs, mask_val, bits_bot, ht, hm]
  exact Cert.Att.att_cmp_out (fun n : Fin 256 => 16 * n.val + 31 ≤ T) s (fun n => v (ix2 d n)) _ rfl

/-- The compressed branch over the first 512 blocks. -/
theorem cmp512_apply (t : IVec S1x512 32) (q : FVec Ideal S128x512 .bf16) (k : Vec Ideal S512x128 .bf16) (v : Vec Ideal S64x512 .bf16)
    (l : Fin 512) (d : Fin 64) (T : ℕ) (hT : T < 16384) (ht : t (ix2 0 l) = BitVec.ofNat 32 T) (s : Fin 512 → EReal) (hs : ∀ n, ∑ a, k (ix2 n a) * q (ix2 a l) = lg * s n) :
    cmpTile512 t q k v (ix2 d l) = att (Finset.univ.filter fun n : Fin 512 => 16 * n.val + 31 ≤ T) s (fun n => v (ix2 d n)) := by
  pointwise [cmpTile512]
  have hm : ∀ (n : Fin 512) (a b : EReal), Scalar.select (IntOp.cmpi CmpIPredicate.sle (IntOp.addi (IntOp.muli (BitVec.ofNat 32 n.val) 16#32) 31#32) (BitVec.ofNat 32 T)) a b
      = if 16 * n.val + 31 ≤ T then a else b := fun n a b => by
    rw [seen_apply]; simp only [seen_iff n.val T (by omega) hT]
  simp only [hs, mask_val, bits_bot, ht, hm]
  exact Cert.Att.att_cmp_out (fun n : Fin 512 => 16 * n.val + 31 ≤ T) s (fun n => v (ix2 d n)) _ rfl

/-- The compressed branch over the first 768 blocks. -/
theorem cmp768_apply (t : IVec S1x512 32) (q : FVec Ideal S128x512 .bf16) (k : Vec Ideal S768x128 .bf16) (v : Vec Ideal S64x768 .bf16)
    (l : Fin 512) (d : Fin 64) (T : ℕ) (hT : T < 16384) (ht : t (ix2 0 l) = BitVec.ofNat 32 T) (s : Fin 768 → EReal) (hs : ∀ n, ∑ a, k (ix2 n a) * q (ix2 a l) = lg * s n) :
    cmpTile768 t q k v (ix2 d l) = att (Finset.univ.filter fun n : Fin 768 => 16 * n.val + 31 ≤ T) s (fun n => v (ix2 d n)) := by
  pointwise [cmpTile768]
  have hm : ∀ (n : Fin 768) (a b : EReal), Scalar.select (IntOp.cmpi CmpIPredicate.sle (IntOp.addi (IntOp.muli (BitVec.ofNat 32 n.val) 16#32) 31#32) (BitVec.ofNat 32 T)) a b
      = if 16 * n.val + 31 ≤ T then a else b := fun n a b => by
    rw [seen_apply]; simp only [seen_iff n.val T (by omega) hT]
  simp only [hs, mask_val, bits_bot, ht, hm]
  exact Cert.Att.att_cmp_out (fun n : Fin 768 => 16 * n.val + 31 ≤ T) s (fun n => v (ix2 d n)) _ rfl

/-- The compressed branch over the first 1024 blocks. -/
theorem cmp1024_apply (t : IVec S1x512 32) (q : FVec Ideal S128x512 .bf16) (k : Vec Ideal S1024x128 .bf16) (v : Vec Ideal S64x1024 .bf16)
    (l : Fin 512) (d : Fin 64) (T : ℕ) (hT : T < 16384) (ht : t (ix2 0 l) = BitVec.ofNat 32 T) (s : Fin 1024 → EReal) (hs : ∀ n, ∑ a, k (ix2 n a) * q (ix2 a l) = lg * s n) :
    cmpTile1024 t q k v (ix2 d l) = att (Finset.univ.filter fun n : Fin 1024 => 16 * n.val + 31 ≤ T) s (fun n => v (ix2 d n)) := by
  pointwise [cmpTile1024]
  have hm : ∀ (n : Fin 1024) (a b : EReal), Scalar.select (IntOp.cmpi CmpIPredicate.sle (IntOp.addi (IntOp.muli (BitVec.ofNat 32 n.val) 16#32) 31#32) (BitVec.ofNat 32 T)) a b
      = if 16 * n.val + 31 ≤ T then a else b := fun n a b => by
    rw [seen_apply]; simp only [seen_iff n.val T (by omega) hT]
  simp only [hs, mask_val, bits_bot, ht, hm]
  exact Cert.Att.att_cmp_out (fun n : Fin 1024 => 16 * n.val + 31 ≤ T) s (fun n => v (ix2 d n)) _ rfl

/-- The gates of a head group: its four heads' rows side by side. -/
theorem gate4_apply (a b c d : Vec Ideal S1x128 .f32) (l : Fin 512) (e : Fin 64) (G : ℕ → EReal) (ha : ∀ r, a (ix2 0 r) = G r.val)
    (hb : ∀ r, b (ix2 0 r) = G (128 + r.val)) (hc : ∀ r, c (ix2 0 r) = G (256 + r.val)) (hd : ∀ r, d (ix2 0 r) = G (384 + r.val)) :
    gate4 a b c d (ix2 e l) = G l.val := by
  pointwise [gate4]
  by_cases h1 : l.val < 128
  · rw [dif_pos h1]; exact ha _
  rw [dif_neg h1]
  by_cases h2 : l.val - 128 < 128
  · rw [dif_pos h2]; exact (hb _).trans (congrArg G (by dsimp only; omega))
  rw [dif_neg h2]
  by_cases h3 : l.val - 128 - 128 < 128
  · rw [dif_pos h3]; exact (hc _).trans (congrArg G (by dsimp only; omega))
  · rw [dif_neg h3]; exact (hd _).trans (congrArg G (by dsimp only; omega))

theorem mix_apply (g0 g1 g2 oc os ow : FVec Ideal S64x512 .f32) (e : Fin 64) (l : Fin 512) :
    mix g0 g1 g2 oc os ow (ix2 e l) = g0 (ix2 e l) * oc (ix2 e l) + g1 (ix2 e l) * os (ix2 e l) + g2 (ix2 e l) * ow (ix2 e l) := by
  pointwise [mix]

theorem colsL_apply (o : FVec Ideal S64x512 .f32) (r : Fin 128) (j : Fin 128) :
    colsL o (ix2 r j) = o (ix2 ⟨j.val % 64, by omega⟩ ⟨128 * (j.val / 64) + r.val, by omega⟩) := by
  pointwise [colsL]
  by_cases h1 : j.val < 64
  · rw [dif_pos h1]; congr 2 <;> (apply Fin.ext; dsimp only; omega)
  · rw [dif_neg h1]; congr 2 <;> (apply Fin.ext; dsimp only; omega)

theorem colsR_apply (o : FVec Ideal S64x512 .f32) (r : Fin 128) (j : Fin 128) :
    colsR o (ix2 r j) = o (ix2 ⟨j.val % 64, by omega⟩ ⟨256 + 128 * (j.val / 64) + r.val, by omega⟩) := by
  pointwise [colsR]
  by_cases h1 : j.val < 64
  · rw [dif_pos h1]; congr 2 <;> (apply Fin.ext; dsimp only; omega)
  · rw [dif_neg h1]; congr 2 <;> (apply Fin.ext; dsimp only; omega)

/-- The window's mask. -/
theorem winBand_apply (i : ℕ) (hi : i < 128) (r : Fin 640) (l : Fin 512) : winBand (F := Ideal) (BitVec.ofNat 32 i) (ix2 r l)
    = if l.val % 128 < r.val ∧ r.val ≤ l.val % 128 + 512 ∧ 512 ≤ r.val + 128 * i then 0 else ⊥ := by
  pointwise [winBand, k0_pay603]
  have hm : ∀ (x : ℕ) (a b : EReal), x < 128 → x = l.val % 128 → Scalar.select (IntOp.andi (IntOp.andi (IntOp.cmpi CmpIPredicate.sgt (BitVec.ofNat 32 r.val) (BitVec.ofNat 32 x))
      (IntOp.cmpi CmpIPredicate.sle (BitVec.ofNat 32 r.val) (IntOp.addi (BitVec.ofNat 32 x) 512#32)))
      (IntOp.cmpi CmpIPredicate.sge (BitVec.ofNat 32 r.val) (Scalar.subi 512#32 (Scalar.muli (BitVec.ofNat 32 i) 128#32)))) a b
      = if l.val % 128 < r.val ∧ r.val ≤ l.val % 128 + 512 ∧ 512 ≤ r.val + 128 * i then a else b := fun x a b hx e => by
    rw [seen_apply, if_congr (band_iff r.val x i r.isLt hx hi) rfl rfl, e]
  have hl := l.isLt
  rw [mask_val]
  by_cases h1 : l.val < 128
  · rw [dif_pos h1]; exact hm _ _ _ (by omega) (by omega)
  rw [dif_neg h1]
  by_cases h2 : l.val - 128 < 128
  · rw [dif_pos h2]; exact hm _ _ _ (by omega) (by omega)
  rw [dif_neg h2]
  by_cases h3 : l.val - 128 - 128 < 128
  · rw [dif_pos h3]; exact hm _ _ _ (by omega) (by omega)
  · rw [dif_neg h3]; exact hm _ _ _ (by omega) (by omega)

/-- The queries of the first head group, scaled, zeros below. -/
theorem q0_apply (x : Vec Ideal S1x1x64x512 .f32) (a : Fin 128) (l : Fin 512) :
   k0_pay597 x (ix2 a l) = if h : a.val < 64 then x (ix4 0 0 ⟨a.val, h⟩ l) * lg else 0 := by
  pointwise [k0_pay597, k0_pay595, k0_pay594]
  rw [log2e_val]

/-- The queries of the second head group, scaled, zeros above. -/
theorem q1_apply (x : Vec Ideal S1x1x64x512 .f32) (a : Fin 128) (l : Fin 512) :
   k0_pay598 x (ix2 a l) = if h : a.val < 64 then 0 else x (ix4 0 0 ⟨a.val - 64, by omega⟩ l) * lg := by
  pointwise [k0_pay598, k0_pay596, k0_pay594]
  rw [log2e_val]

/-- A lane's token. -/
theorem t_apply (i : grid0.Coords) (l : Fin 512) : k0_pay593 i (ix2 0 l) = BitVec.ofNat 32 (128 * (i 0).val + l.val % 128) := by
  pointwise [k0_pay593, k0_pay592]
  have hl := l.isLt
  simp only [pos_eq]
  split_ifs with h1 h2 h3
  · congr 2; omega
  · congr 2; omega
  · congr 2; omega
  · congr 2; omega

theorem five (f : Fin 640 → EReal) : (∑ x : Fin 128, f ⟨x.val, by omega⟩ + ∑ x : Fin 128, f ⟨128 + x.val, by omega⟩ + ∑ x : Fin 128, f ⟨256 + x.val, by omega⟩
    + ∑ x : Fin 128, f ⟨384 + x.val, by omega⟩ + ∑ x : Fin 128, f ⟨512 + x.val, by omega⟩) = ∑ r, f r := by
  rw [Fin.sum_univ_tiles 5 128 rfl f, Fin.sum_univ_five]
  have e : ∀ (n : ℕ) (h : n + 128 ≤ 640) (j : ℕ) (hj : j * 128 = n), ∑ x : Fin 128, f ⟨n + x.val, by omega⟩ = ∑ x : Fin 128, f ⟨j * 128 + x.val, by omega⟩ :=
    fun n h j hj => Finset.sum_congr rfl fun x _ => congrArg f (Fin.ext (by dsimp only; omega))
  rw [e 128 (by omega) 1 (by omega), e 256 (by omega) 2 (by omega), e 384 (by omega) 3 (by omega), e 512 (by omega) 4 (by omega),
    show ∑ x : Fin 128, f ⟨x.val, by omega⟩ = ∑ x : Fin 128, f ⟨0 * 128 + x.val, by omega⟩ from
      Finset.sum_congr rfl fun x _ => congrArg f (Fin.ext (by dsimp only; omega))]
  rfl

/-- The window's branch. -/
theorem winTile_apply (B : FVec Ideal S640x512 .f32) (q : FVec Ideal S128x512 .bf16) (k : Vec Ideal S640x128 .bf16) (v0 v1 v2 v3 v4 : Vec Ideal S1x64x128 .bf16)
    (l : Fin 512) (d : Fin 64) (P : Fin 640 → Prop) [DecidablePred P] (hB : ∀ r, B (ix2 r l) = if P r then 0 else ⊥)
    (s v : Fin 640 → EReal) (hs : ∀ r, ∑ a, k (ix2 r a) * q (ix2 a l) = lg * s r)
    (h0 : ∀ x : Fin 128, v0 (ix3 0 d x) = v ⟨x.val, by omega⟩) (h1 : ∀ x : Fin 128, v1 (ix3 0 d x) = v ⟨128 + x.val, by omega⟩)
    (h2 : ∀ x : Fin 128, v2 (ix3 0 d x) = v ⟨256 + x.val, by omega⟩) (h3 : ∀ x : Fin 128, v3 (ix3 0 d x) = v ⟨384 + x.val, by omega⟩)
    (h4 : ∀ x : Fin 128, v4 (ix3 0 d x) = v ⟨512 + x.val, by omega⟩) :
    winTile B q k v0 v1 v2 v3 v4 (ix2 d l) = att (Finset.univ.filter P) s v := by
  pointwise [winTile, winSum, winVals, winExp, k0_pay604, k0_pay605]
  simp only [hs, hB, h0, h1, h2, h3, h4, bits_bot]
  refine Eq.trans ?_ (Cert.Att.att_win P s v _ rfl)
  rw [← five, ← five]
  rfl

end Cert.KernelIdeal.Hand

end
-- ==== Proof.KTile.lean ====
/-
  What a tile's stores hold, entry by entry: the compressed branch over the prefix that the switch picked is the branch over
  every block that the token sees, and the window's 640 rows are the last 512 tokens.
-/
module

public import proofs.«01_k».proof.Proof.Body
public import proofs.«01_k».proof.Proof.KVals
public import proofs.«01_k».proof.Proof.TileAtt
public import Idealize.ShloMosaic.Lib.WritesUnit

@[expose] public section

set_option maxRecDepth 16384
noncomputable section

namespace Cert.KernelIdeal.Hand

open Cert.KernelIdeal Cert.KernelIdeal.Gen Idealize.ShloMosaic Idealize.ShloMosaic.TcCoe Idealize.SL.Sem
open Cert.Att

/-! ## A load's entries are the buffer's -/

theorem read_unit {S : Shape} {e : EltTy} (M : Memref sig .tc .vmem S e) (f : BufTy.Contents (Elt Ideal) M.view.ty) {off size : Fin S.rank → ℕ}
    (inb : ∀ a, off a + size a ≤ S.size a) (x : (Rect.unit (s := S) off size inb).shape.Idx) (y : S.Idx) (h : ∀ a, (y a).val = off a + (x a).val) :
    View.readAt (Elt Ideal) M.view (Rect.unit (s := S) off size inb).toLoadRect f x = M.view.read (Elt Ideal) f y :=
  congrArg (M.view.read (Elt Ideal) f) (funext fun a => Fin.ext (by show off a + 1 * (x a).val = (y a).val; rw [h a, Nat.one_mul]))

theorem ldQ0_apply (M : Memref sig .tc .vmem S1x2x64x512 .f32) (f : BufTy.Contents (Elt Ideal) M.view.ty) (a : Fin 64) (l : Fin 512) :
    ldQ0 M f (ix4 0 0 a l) = M.view.read (Elt Ideal) f (ix4 0 0 a l) := read_unit M f _ _ _ fun y =>
  match y with
  | ⟨0, _⟩ => rfl
  | ⟨1, _⟩ => rfl
  | ⟨2, _⟩ => (Nat.zero_add _).symm
  | ⟨3, _⟩ => (Nat.zero_add _).symm
theorem ldQ1_apply (M : Memref sig .tc .vmem S1x2x64x512 .f32) (f : BufTy.Contents (Elt Ideal) M.view.ty) (a : Fin 64) (l : Fin 512) :
    ldQ1 M f (ix4 0 0 a l) = M.view.read (Elt Ideal) f (ix4 0 1 a l) := read_unit M f _ _ _ fun y =>
  match y with
  | ⟨0, _⟩ => rfl
  | ⟨1, _⟩ => rfl
  | ⟨2, _⟩ => (Nat.zero_add _).symm
  | ⟨3, _⟩ => (Nat.zero_add _).symm
theorem ldK256_apply (M : Memref sig .tc .vmem S1024x128 .bf16) (f : BufTy.Contents (Elt Ideal) M.view.ty) (n : Fin 256) (a : Fin 128) :
    ldK256 M f (ix2 n a) = M.view.read (Elt Ideal) f (ix2 ⟨n.val, by omega⟩ a) := read_unit M f _ _ _ fun y =>
  match y with
  | ⟨0, _⟩ => (Nat.zero_add _).symm
  | ⟨1, _⟩ => (Nat.zero_add _).symm
theorem ldV256a_apply (M : Memref sig .tc .vmem S128x1024 .bf16) (f : BufTy.Contents (Elt Ideal) M.view.ty) (d : Fin 64) (n : Fin 256) :
    ldV256a M f (ix2 d n) = M.view.read (Elt Ideal) f (ix2 ⟨d.val, by omega⟩ ⟨n.val, by omega⟩) := read_unit M f _ _ _ fun y =>
  match y with
  | ⟨0, _⟩ => (Nat.zero_add _).symm
  | ⟨1, _⟩ => (Nat.zero_add _).symm
theorem ldV256b_apply (M : Memref sig .tc .vmem S128x1024 .bf16) (f : BufTy.Contents (Elt Ideal) M.view.ty) (d : Fin 64) (n : Fin 256) :
    ldV256b M f (ix2 d n) = M.view.read (Elt Ideal) f (ix2 ⟨64 + d.val, by omega⟩ ⟨n.val, by omega⟩) := read_unit M f _ _ _ fun y =>
  match y with
  | ⟨0, _⟩ => rfl
  | ⟨1, _⟩ => (Nat.zero_add _).symm
theorem ldK512_apply (M : Memref sig .tc .vmem S1024x128 .bf16) (f : BufTy.Contents (Elt Ideal) M.view.ty) (n : Fin 512) (a : Fin 128) :
    ldK512 M f (ix2 n a) = M.view.read (Elt Ideal) f (ix2 ⟨n.val, by omega⟩ a) := read_unit M f _ _ _ fun y =>
  match y with
  | ⟨0, _⟩ => (Nat.zero_add _).symm
  | ⟨1, _⟩ => (Nat.zero_add _).symm
theorem ldV512a_apply (M : Memref sig .tc .vmem S128x1024 .bf16) (f : BufTy.Contents (Elt Ideal) M.view.ty) (d : Fin 64) (n : Fin 512) :
    ldV512a M f (ix2 d n) = M.view.read (Elt Ideal) f (ix2 ⟨d.val, by omega⟩ ⟨n.val, by omega⟩) := read_unit M f _ _ _ fun y =>
  match y with
  | ⟨0, _⟩ => (Nat.zero_add _).symm
  | ⟨1, _⟩ => (Nat.zero_add _).symm
theorem ldV512b_apply (M : Memref sig .tc .vmem S128x1024 .bf16) (f : BufTy.Contents (Elt Ideal) M.view.ty) (d : Fin 64) (n : Fin 512) :
    ldV512b M f (ix2 d n) = M.view.read (Elt Ideal) f (ix2 ⟨64 + d.val, by omega⟩ ⟨n.val, by omega⟩) := read_unit M f _ _ _ fun y =>
  match y with
  | ⟨0, _⟩ => rfl
  | ⟨1, _⟩ => (Nat.zero_add _).symm
theorem ldK768_apply (M : Memref sig .tc .vmem S1024x128 .bf16) (f : BufTy.Contents (Elt Ideal) M.view.ty) (n : Fin 768) (a : Fin 128) :
    ldK768 M f (ix2 n a) = M.view.read (Elt Ideal) f (ix2 ⟨n.val, by omega⟩ a) := read_unit M f _ _ _ fun y =>
  match y with
  | ⟨0, _⟩ => (Nat.zero_add _).symm
  | ⟨1, _⟩ => (Nat.zero_add _).symm
theorem ldV768a_apply (M : Memref sig .tc .vmem S128x1024 .bf16) (f : BufTy.Contents (Elt Ideal) M.view.ty) (d : Fin 64) (n : Fin 768) :
    ldV768a M f (ix2 d n) = M.view.read (Elt Ideal) f (ix2 ⟨d.val, by omega⟩ ⟨n.val, by omega⟩) := read_unit M f _ _ _ fun y =>
  match y with
  | ⟨0, _⟩ => (Nat.zero_add _).symm
  | ⟨1, _⟩ => (Nat.zero_add _).symm
theorem ldV768b_apply (M : Memref sig .tc .vmem S128x1024 .bf16) (f : BufTy.Contents (Elt Ideal) M.view.ty) (d : Fin 64) (n : Fin 768) :
    ldV768b M f (ix2 d n) = M.view.read (Elt Ideal) f (ix2 ⟨64 + d.val, by omega⟩ ⟨n.val, by omega⟩) := read_unit M f _ _ _ fun y =>
  match y with
  | ⟨0, _⟩ => rfl
  | ⟨1, _⟩ => (Nat.zero_add _).symm
theorem ldK1024_apply (M : Memref sig .tc .vmem S1024x128 .bf16) (f : BufTy.Contents (Elt Ideal) M.view.ty) (n : Fin 1024) (a : Fin 128) :
    ldK1024 M f (ix2 n a) = M.view.read (Elt Ideal) f (ix2 ⟨n.val, by omega⟩ a) := read_unit M f _ _ _ fun y =>
  match y with
  | ⟨0, _⟩ => (Nat.zero_add _).symm
  | ⟨1, _⟩ => (Nat.zero_add _).symm
theorem ldV1024a_apply (M : Memref sig .tc .vmem S128x1024 .bf16) (f : BufTy.Contents (Elt Ideal) M.view.ty) (d : Fin 64) (n : Fin 1024) :
    ldV1024a M f (ix2 d n) = M.view.read (Elt Ideal) f (ix2 ⟨d.val, by omega⟩ ⟨n.val, by omega⟩) := read_unit M f _ _ _ fun y =>
  match y with
  | ⟨0, _⟩ => (Nat.zero_add _).symm
  | ⟨1, _⟩ => (Nat.zero_add _).symm
theorem ldV1024b_apply (M : Memref sig .tc .vmem S128x1024 .bf16) (f : BufTy.Contents (Elt Ideal) M.view.ty) (d : Fin 64) (n : Fin 1024) :
    ldV1024b M f (ix2 d n) = M.view.read (Elt Ideal) f (ix2 ⟨64 + d.val, by omega⟩ ⟨n.val, by omega⟩) := read_unit M f _ _ _ fun y =>
  match y with
  | ⟨0, _⟩ => rfl
  | ⟨1, _⟩ => (Nat.zero_add _).symm
theorem off1_0 (i : grid0.Coords) : k0_off1 i 0 = 128 * (i 0).val := by
  have h : ∀ t : Fin 128, (Scalar.muli (BitVec.ofNat 32 t.val) 128#32).toNat = 128 * t.val := by decide +kernel
  exact h (i 0)
theorem off2_0 (i : grid0.Coords) (r : Fin 5) : k0_off2 i (BitVec.ofNat 32 r.val) 0 = (i 0).val + r.val := by
  have h : ∀ (t : Fin 128) (r : Fin 5), (Scalar.addi (BitVec.ofNat 32 t.val) (BitVec.ofNat 32 r.val)).toNat = t.val + r.val := by decide +kernel
  exact h (i 0) r
theorem i_lt (i : grid0.Coords) : (i 0).val < 128 := (i 0).isLt

theorem ldW_apply (i : grid0.Coords) (M : Memref sig .tc .vmem S16896x128 .bf16) (f : BufTy.Contents (Elt Ideal) M.view.ty) (r : Fin 640) (a : Fin 128) :
    ldW i M f (ix2 r a) = M.view.read (Elt Ideal) f (ix2 ⟨128 * (i 0).val + r.val, by have := i_lt i; omega⟩ a) := read_unit M f _ _ _ fun y =>
  match y with
  | ⟨0, _⟩ => congrArg (· + r.val) (off1_0 i).symm
  | ⟨1, _⟩ => (Nat.zero_add _).symm
theorem ldWa_apply (i : grid0.Coords) (r : Fin 5) (M : Memref sig .tc .vmem S132x128x128 .bf16) (f : BufTy.Contents (Elt Ideal) M.view.ty) (d : Fin 64) (x : Fin 128) :
    ldWa i r M f (ix3 0 d x) = M.view.read (Elt Ideal) f (ix3 ⟨(i 0).val + r.val, by have := i_lt i; omega⟩ ⟨d.val, by omega⟩ x) := read_unit M f _ _ _ fun y =>
  match y with
  | ⟨0, _⟩ => (off2_0 i r).symm
  | ⟨1, _⟩ => (Nat.zero_add _).symm
  | ⟨2, _⟩ => (Nat.zero_add _).symm
theorem ldWb_apply (i : grid0.Coords) (r : Fin 5) (M : Memref sig .tc .vmem S132x128x128 .bf16) (f : BufTy.Contents (Elt Ideal) M.view.ty) (d : Fin 64) (x : Fin 128) :
    ldWb i r M f (ix3 0 d x) = M.view.read (Elt Ideal) f (ix3 ⟨(i 0).val + r.val, by have := i_lt i; omega⟩ ⟨64 + d.val, by omega⟩ x) := read_unit M f _ _ _ fun y =>
  match y with
  | ⟨0, _⟩ => (off2_0 i r).symm
  | ⟨1, _⟩ => rfl
  | ⟨2, _⟩ => (Nat.zero_add _).symm
theorem ldG_apply (r : Fin 32) (M : Memref sig .tc .vmem S32x128 .f32) (f : BufTy.Contents (Elt Ideal) M.view.ty) (x : Fin 128) :
    ldG r M f (ix2 0 x) = M.view.read (Elt Ideal) f (ix2 r x) := read_unit M f _ _ _ fun y =>
  match y with
  | ⟨0, _⟩ => rfl
  | ⟨1, _⟩ => (Nat.zero_add _).symm

/-! ## Attention over a prefix and over a window -/

/-- A prefix that holds every block a token sees gives the branch over all of them. -/
theorem att_prefix {N : ℕ} (hN : N ≤ 1024) (T : ℕ) (hT : T < 16384) (hc : T < 16 * N + 31) (S W : Fin 1024 → EReal) (S' W' : Fin 1023 → EReal)
    (hS : ∀ n : Fin 1023, S ⟨n.val, by omega⟩ = S' n) (hW : ∀ n : Fin 1023, W ⟨n.val, by omega⟩ = W' n) :
    att (Finset.univ.filter fun n : Fin N => 16 * n.val + 31 ≤ T) (fun n => S ⟨n.val, by omega⟩) (fun n => W ⟨n.val, by omega⟩)
      = att (Finset.univ.filter fun n : Fin 1023 => 16 * n.val + 31 ≤ T) S' W' := by
  have key : ∀ n ∈ (Finset.univ.filter fun n : Fin N => 16 * n.val + 31 ≤ T), min n.val 1022 = n.val := fun n hn => by
    have := (Finset.mem_filter.mp hn).2; omega
  have e : (Finset.univ.filter fun n : Fin 1023 => 16 * n.val + 31 ≤ T)
      = (Finset.univ.filter fun n : Fin N => 16 * n.val + 31 ≤ T).image fun n => (⟨min n.val 1022, by omega⟩ : Fin 1023) := by
    ext n
    simp only [Finset.mem_filter, Finset.mem_univ, true_and, Finset.mem_image]
    constructor
    · intro h; exact ⟨⟨n.val, by omega⟩, h, Fin.ext (by show min n.val 1022 = n.val; omega)⟩
    · rintro ⟨x, hx, rfl⟩; show 16 * min x.val 1022 + 31 ≤ T; omega
  rw [e]
  refine att_image _ _ ?_ _ _ _ _ ?_ ?_
  · intro a ha b hb hab
    have h1 := key a ha; have h2 := key b hb
    have h3 : min a.val 1022 = min b.val 1022 := congrArg Fin.val hab
    apply Fin.ext; omega
  · intro n hn
    have h1 := key n hn
    rw [← hS]; congr 1; apply Fin.ext; exact h1.symm
  · intro n hn
    have h1 := key n hn
    rw [← hW]; congr 1; apply Fin.ext; exact h1.symm

/-- The window's rows under the band are the last 512 tokens up to the tile's `x`-th. -/
theorem att_window (i x : ℕ) (hi : i < 128) (hx : x < 128) (S W : Fin 640 → EReal) (S' W' : Fin 16384 → EReal)
    (hS : ∀ (r : Fin 640) (j : Fin 16384), r.val + 128 * i = j.val + 512 → S r = S' j)
    (hW : ∀ (r : Fin 640) (j : Fin 16384), r.val + 128 * i = j.val + 512 → W r = W' j) :
    att (Finset.univ.filter fun r : Fin 640 => x < r.val ∧ r.val ≤ x + 512 ∧ 512 ≤ r.val + 128 * i) S W
      = att (Finset.univ.filter fun j : Fin 16384 => j.val ≤ 128 * i + x ∧ 128 * i + x < j.val + 512) S' W' := by
  have key : ∀ r ∈ (Finset.univ.filter fun r : Fin 640 => x < r.val ∧ r.val ≤ x + 512 ∧ 512 ≤ r.val + 128 * i),
      r.val + 128 * i = min (r.val + 128 * i - 512) 16383 + 512 := fun r hr => by
    have := (Finset.mem_filter.mp hr).2; omega
  have e : (Finset.univ.filter fun j : Fin 16384 => j.val ≤ 128 * i + x ∧ 128 * i + x < j.val + 512)
      = (Finset.univ.filter fun r : Fin 640 => x < r.val ∧ r.val ≤ x + 512 ∧ 512 ≤ r.val + 128 * i).image
          fun r => (⟨min (r.val + 128 * i - 512) 16383, by omega⟩ : Fin 16384) := by
    ext j
    simp only [Finset.mem_filter, Finset.mem_univ, true_and, Finset.mem_image]
    constructor
    · intro h
      exact ⟨⟨j.val + 512 - 128 * i, by omega⟩, by dsimp only; omega, Fin.ext (by show min (j.val + 512 - 128 * i + 128 * i - 512) 16383 = j.val; omega)⟩
    · rintro ⟨r, hr, rfl⟩
      have h1 := key r (Finset.mem_filter.mpr ⟨Finset.mem_univ _, hr⟩)
      dsimp only; omega
  rw [e]
  refine att_image _ _ ?_ _ _ _ _ ?_ ?_
  · intro a ha b hb hab
    have h1 := key a ha; have h2 := key b hb
    have h3 : min (a.val + 128 * i - 512) 16383 = min (b.val + 128 * i - 512) 16383 := congrArg Fin.val hab
    apply Fin.ext; omega
  · intro r hr; exact hS r _ (key r hr)
  · intro r hr; exact hW r _ (key r hr)

/-! ## The tile -/

section
variable (xq : FVec Ideal S16384x8x64 .f32) (xkc xvc : FVec Ideal S1023x2x64 .f32) (xkw xvw : FVec Ideal S16384x2x64 .f32) (xg : FVec Ideal S16384x8x3 .f32)

/-- A padded key against head group 0's scaled queries. -/
theorem score0 (i : grid0.Coords) (M1 : Memref sig .tc .vmem S1x2x64x512 .f32) (f1 : BufTy.Contents (Elt Ideal) M1.view.ty)
    (h1 : ∀ (b : Fin 2) (a : Fin 64) (l : Fin 512), M1.view.read (Elt Ideal) f1 (ix4 0 b a l)
      = xq (ix3 ⟨128 * (i 0).val + l.val % 128, by have := i_lt i; omega⟩ ⟨4 * b.val + l.val / 128, by omega⟩ a))
    (l : Fin 512) (k : Fin 128 → EReal) :
    ∑ a, k a * (k0_pay597 (ldQ0 M1 f1)) (ix2 a l) = lg * ∑ a : Fin 64, k ⟨a.val, by omega⟩ * xq (ix3 ⟨128 * (i 0).val + l.val % 128, by have := i_lt i; omega⟩ ⟨0 + l.val / 128, by omega⟩ a) := by
  have e : ∀ a : Fin 64, ldQ0 M1 f1 (ix4 0 0 a l) = xq (ix3 ⟨128 * (i 0).val + l.val % 128, by have := i_lt i; omega⟩ ⟨0 + l.val / 128, by omega⟩ a) :=
    fun a => (ldQ0_apply M1 f1 a l).trans (h1 0 a l)
  simp only [q0_apply, e]
  exact (sum_lo k fun a => xq (ix3 ⟨128 * (i 0).val + l.val % 128, by have := i_lt i; omega⟩ ⟨0 + l.val / 128, by omega⟩ a) * lg).trans (score_scaled _ _)

/-- A padded key against head group 1's scaled queries. -/
theorem score1 (i : grid0.Coords) (M1 : Memref sig .tc .vmem S1x2x64x512 .f32) (f1 : BufTy.Contents (Elt Ideal) M1.view.ty)
    (h1 : ∀ (b : Fin 2) (a : Fin 64) (l : Fin 512), M1.view.read (Elt Ideal) f1 (ix4 0 b a l)
      = xq (ix3 ⟨128 * (i 0).val + l.val % 128, by have := i_lt i; omega⟩ ⟨4 * b.val + l.val / 128, by omega⟩ a))
    (l : Fin 512) (k : Fin 128 → EReal) :
    ∑ a, k a * (k0_pay598 (ldQ1 M1 f1)) (ix2 a l) = lg * ∑ a : Fin 64, k ⟨64 + a.val, by omega⟩ * xq (ix3 ⟨128 * (i 0).val + l.val % 128, by have := i_lt i; omega⟩ ⟨4 + l.val / 128, by omega⟩ a) := by
  have e : ∀ a : Fin 64, ldQ1 M1 f1 (ix4 0 0 a l) = xq (ix3 ⟨128 * (i 0).val + l.val % 128, by have := i_lt i; omega⟩ ⟨4 + l.val / 128, by omega⟩ a) :=
    fun a => (ldQ1_apply M1 f1 a l).trans (h1 1 a l)
  simp only [q1_apply, e]
  exact (sum_hi k fun a => xq (ix3 ⟨128 * (i 0).val + l.val % 128, by have := i_lt i; omega⟩ ⟨4 + l.val / 128, by omega⟩ a) * lg).trans (score_scaled _ _)

/-- What the switch left, entry by entry. -/
theorem cmp_spec (c : Dev nD) (i : grid0.Coords) (M1 : Memref sig .tc .vmem S1x2x64x512 .f32) (M3 : Memref sig .tc .vmem S1024x128 .bf16) (M4 : Memref sig .tc .vmem S128x1024 .bf16)
    (f1 : Bf (F := Ideal) c M1) (f3 : Bf (F := Ideal) c M3) (f4 : Bf (F := Ideal) c M4) (oc0 oc1 : FVec Ideal S64x512 .f32)
    (h1 : ∀ (b : Fin 2) (a : Fin 64) (l : Fin 512), M1.view.read (Elt Ideal) f1 (ix4 0 b a l)
      = xq (ix3 ⟨128 * (i 0).val + l.val % 128, by have := i_lt i; omega⟩ ⟨4 * b.val + l.val / 128, by omega⟩ a))
    (h3 : ∀ n a, M3.view.read (Elt Ideal) f3 (ix2 n a) = hC xkc (ix2 n a)) (h4 : ∀ d n, M4.view.read (Elt Ideal) f4 (ix2 d n) = hCt xvc (ix2 d n))
    (h : CmpSpec c i M1 M3 M4 f1 f3 f4 oc0 oc1) (d : Fin 64) (l : Fin 512) :
    oc0 (ix2 d l) = att (Finset.univ.filter fun n : Fin 1023 => 16 * n.val + 31 ≤ 128 * (i 0).val + l.val % 128)
      (fun n => ∑ a : Fin 64, xkc (ix3 n 0 a) * xq (ix3 ⟨128 * (i 0).val + l.val % 128, by have := i_lt i; omega⟩ ⟨0 + l.val / 128, by omega⟩ a)) (fun n => xvc (ix3 n 0 d))
    ∧ oc1 (ix2 d l) = att (Finset.univ.filter fun n : Fin 1023 => 16 * n.val + 31 ≤ 128 * (i 0).val + l.val % 128)
      (fun n => ∑ a : Fin 64, xkc (ix3 n 1 a) * xq (ix3 ⟨128 * (i 0).val + l.val % 128, by have := i_lt i; omega⟩ ⟨4 + l.val / 128, by omega⟩ a)) (fun n => xvc (ix3 n 1 d)) := by
  have hi := i_lt i
  have kc : ∀ (b : Fin 2) (n : Fin 1023) (a : Fin 64), hC xkc (ix2 ⟨n.val, by omega⟩ ⟨64 * b.val + a.val, by omega⟩) = xkc (ix3 n b a) := fun b n a => by
    rw [hC_apply]; congr 2 <;> (apply Fin.ext; dsimp only; omega)
  have vc : ∀ (b : Fin 2) (n : Fin 1023), hCt xvc (ix2 ⟨64 * b.val + d.val, by omega⟩ ⟨n.val, by omega⟩) = xvc (ix3 n b d) := fun b n => by
    rw [hCt_apply]; congr 2 <;> (apply Fin.ext; dsimp only; omega)
  obtain ⟨c0, c1, c2, c3⟩ := h
  by_cases e0 : (i 0).val / 32 = 0
  · obtain ⟨r0, r1⟩ := c0 e0
    subst r0 r1
    constructor
    · refine (cmp256_apply _ _ _ _ l d (128 * (i 0).val + l.val % 128) (by omega) (t_apply i l)
        (fun n => ∑ a : Fin 64, hC xkc (ix2 (⟨n.val, by omega⟩ : Fin 1024) ⟨a.val, by omega⟩) * xq (ix3 ⟨128 * (i 0).val + l.val % 128, by omega⟩ ⟨0 + l.val / 128, by omega⟩ a))
        (fun n => (score0 xq i M1 f1 h1 l fun a => ldK256 M3 f3 (ix2 n a)).trans
          (congrArg (lg * ·) (Finset.sum_congr rfl fun a _ => congrArg (· * _) ((ldK256_apply M3 f3 n _).trans (h3 _ _)))))).trans ?_
      refine (congrArg (att _ _) (funext fun n => (ldV256a_apply M4 f4 d n).trans (h4 _ _))).trans ?_
      exact att_prefix (N := 256) (by omega) (128 * (i 0).val + l.val % 128) (by omega) (by omega)
        (fun n => ∑ a : Fin 64, hC xkc (ix2 n ⟨a.val, by omega⟩) * xq (ix3 ⟨128 * (i 0).val + l.val % 128, by omega⟩ ⟨0 + l.val / 128, by omega⟩ a)) (fun n => hCt xvc (ix2 ⟨d.val, by omega⟩ n)) _ _
        (fun n => Finset.sum_congr rfl fun a _ => congrArg (· * _) ((congrArg (hC xkc) (by congr 1; apply Fin.ext; dsimp only; simp)).trans (kc 0 n a)))
        (fun n => (congrArg (hCt xvc) (by congr 1; apply Fin.ext; dsimp only; simp)).trans (vc 0 n))
    · refine (cmp256_apply _ _ _ _ l d (128 * (i 0).val + l.val % 128) (by omega) (t_apply i l)
        (fun n => ∑ a : Fin 64, hC xkc (ix2 (⟨n.val, by omega⟩ : Fin 1024) ⟨64 + a.val, by omega⟩) * xq (ix3 ⟨128 * (i 0).val + l.val % 128, by omega⟩ ⟨4 + l.val / 128, by omega⟩ a))
        (fun n => (score1 xq i M1 f1 h1 l fun a => ldK256 M3 f3 (ix2 n a)).trans
          (congrArg (lg * ·) (Finset.sum_congr rfl fun a _ => congrArg (· * _) ((ldK256_apply M3 f3 n _).trans (h3 _ _)))))).trans ?_
      refine (congrArg (att _ _) (funext fun n => (ldV256b_apply M4 f4 d n).trans (h4 _ _))).trans ?_
      exact att_prefix (N := 256) (by omega) (128 * (i 0).val + l.val % 128) (by omega) (by omega)
        (fun n => ∑ a : Fin 64, hC xkc (ix2 n ⟨64 + a.val, by omega⟩) * xq (ix3 ⟨128 * (i 0).val + l.val % 128, by omega⟩ ⟨4 + l.val / 128, by omega⟩ a)) (fun n => hCt xvc (ix2 ⟨64 + d.val, by omega⟩ n)) _ _
        (fun n => Finset.sum_congr rfl fun a _ => congrArg (· * _) ((kc 1 n a)))
        (fun n => (vc 1 n))
  by_cases e1 : (i 0).val / 32 = 1
  · obtain ⟨r0, r1⟩ := c1 e1
    subst r0 r1
    constructor
    · refine (cmp512_apply _ _ _ _ l d (128 * (i 0).val + l.val % 128) (by omega) (t_apply i l)
        (fun n => ∑ a : Fin 64, hC xkc (ix2 (⟨n.val, by omega⟩ : Fin 1024) ⟨a.val, by omega⟩) * xq (ix3 ⟨128 * (i 0).val + l.val % 128, by omega⟩ ⟨0 + l.val / 128, by omega⟩ a))
        (fun n => (score0 xq i M1 f1 h1 l fun a => ldK512 M3 f3 (ix2 n a)).trans
          (congrArg (lg * ·) (Finset.sum_congr rfl fun a _ => congrArg (· * _) ((ldK512_apply M3 f3 n _).trans (h3 _ _)))))).trans ?_
      refine (congrArg (att _ _) (funext fun n => (ldV512a_apply M4 f4 d n).trans (h4 _ _))).trans ?_
      exact att_prefix (N := 512) (by omega) (128 * (i 0).val + l.val % 128) (by omega) (by omega)
        (fun n => ∑ a : Fin 64, hC xkc (ix2 n ⟨a.val, by omega⟩) * xq (ix3 ⟨128 * (i 0).val + l.val % 128, by omega⟩ ⟨0 + l.val / 128, by omega⟩ a)) (fun n => hCt xvc (ix2 ⟨d.val, by omega⟩ n)) _ _
        (fun n => Finset.sum_congr rfl fun a _ => congrArg (· * _) ((congrArg (hC xkc) (by congr 1; apply Fin.ext; dsimp only; simp)).trans (kc 0 n a)))
        (fun n => (congrArg (hCt xvc) (by congr 1; apply Fin.ext; dsimp only; simp)).trans (vc 0 n))
    · refine (cmp512_apply _ _ _ _ l d (128 * (i 0).val + l.val % 128) (by omega) (t_apply i l)
        (fun n => ∑ a : Fin 64, hC xkc (ix2 (⟨n.val, by omega⟩ : Fin 1024) ⟨64 + a.val, by omega⟩) * xq (ix3 ⟨128 * (i 0).val + l.val % 128, by omega⟩ ⟨4 + l.val / 128, by omega⟩ a))
        (fun n => (score1 xq i M1 f1 h1 l fun a => ldK512 M3 f3 (ix2 n a)).trans
          (congrArg (lg * ·) (Finset.sum_congr rfl fun a _ => congrArg (· * _) ((ldK512_apply M3 f3 n _).trans (h3 _ _)))))).trans ?_
      refine (congrArg (att _ _) (funext fun n => (ldV512b_apply M4 f4 d n).trans (h4 _ _))).trans ?_
      exact att_prefix (N := 512) (by omega) (128 * (i 0).val + l.val % 128) (by omega) (by omega)
        (fun n => ∑ a : Fin 64, hC xkc (ix2 n ⟨64 + a.val, by omega⟩) * xq (ix3 ⟨128 * (i 0).val + l.val % 128, by omega⟩ ⟨4 + l.val / 128, by omega⟩ a)) (fun n => hCt xvc (ix2 ⟨64 + d.val, by omega⟩ n)) _ _
        (fun n => Finset.sum_congr rfl fun a _ => congrArg (· * _) ((kc 1 n a)))
        (fun n => (vc 1 n))
  by_cases e2 : (i 0).val / 32 = 2
  · obtain ⟨r0, r1⟩ := c2 e2
    subst r0 r1
    constructor
    · refine (cmp768_apply _ _ _ _ l d (128 * (i 0).val + l.val % 128) (by omega) (t_apply i l)
        (fun n => ∑ a : Fin 64, hC xkc (ix2 (⟨n.val, by omega⟩ : Fin 1024) ⟨a.val, by omega⟩) * xq (ix3 ⟨128 * (i 0).val + l.val % 128, by omega⟩ ⟨0 + l.val / 128, by omega⟩ a))
        (fun n => (score0 xq i M1 f1 h1 l fun a => ldK768 M3 f3 (ix2 n a)).trans
          (congrArg (lg * ·) (Finset.sum_congr rfl fun a _ => congrArg (· * _) ((ldK768_apply M3 f3 n _).trans (h3 _ _)))))).trans ?_
      refine (congrArg (att _ _) (funext fun n => (ldV768a_apply M4 f4 d n).trans (h4 _ _))).trans ?_
      exact att_prefix (N := 768) (by omega) (128 * (i 0).val + l.val % 128) (by omega) (by omega)
        (fun n => ∑ a : Fin 64, hC xkc (ix2 n ⟨a.val, by omega⟩) * xq (ix3 ⟨128 * (i 0).val + l.val % 128, by omega⟩ ⟨0 + l.val / 128, by omega⟩ a)) (fun n => hCt xvc (ix2 ⟨d.val, by omega⟩ n)) _ _
        (fun n => Finset.sum_congr rfl fun a _ => congrArg (· * _) ((congrArg (hC xkc) (by congr 1; apply Fin.ext; dsimp only; simp)).trans (kc 0 n a)))
        (fun n => (congrArg (hCt xvc) (by congr 1; apply Fin.ext; dsimp only; simp)).trans (vc 0 n))
    · refine (cmp768_apply _ _ _ _ l d (128 * (i 0).val + l.val % 128) (by omega) (t_apply i l)
        (fun n => ∑ a : Fin 64, hC xkc (ix2 (⟨n.val, by omega⟩ : Fin 1024) ⟨64 + a.val, by omega⟩) * xq (ix3 ⟨128 * (i 0).val + l.val % 128, by omega⟩ ⟨4 + l.val / 128, by omega⟩ a))
        (fun n => (score1 xq i M1 f1 h1 l fun a => ldK768 M3 f3 (ix2 n a)).trans
          (congrArg (lg * ·) (Finset.sum_congr rfl fun a _ => congrArg (· * _) ((ldK768_apply M3 f3 n _).trans (h3 _ _)))))).trans ?_
      refine (congrArg (att _ _) (funext fun n => (ldV768b_apply M4 f4 d n).trans (h4 _ _))).trans ?_
      exact att_prefix (N := 768) (by omega) (128 * (i 0).val + l.val % 128) (by omega) (by omega)
        (fun n => ∑ a : Fin 64, hC xkc (ix2 n ⟨64 + a.val, by omega⟩) * xq (ix3 ⟨128 * (i 0).val + l.val % 128, by omega⟩ ⟨4 + l.val / 128, by omega⟩ a)) (fun n => hCt xvc (ix2 ⟨64 + d.val, by omega⟩ n)) _ _
        (fun n => Finset.sum_congr rfl fun a _ => congrArg (· * _) ((kc 1 n a)))
        (fun n => (vc 1 n))
  have e3 : (i 0).val / 32 = 3 := by omega
  · obtain ⟨r0, r1⟩ := c3 e3
    subst r0 r1
    constructor
    · refine (cmp1024_apply _ _ _ _ l d (128 * (i 0).val + l.val % 128) (by omega) (t_apply i l)
        (fun n => ∑ a : Fin 64, hC xkc (ix2 (⟨n.val, by omega⟩ : Fin 1024) ⟨a.val, by omega⟩) * xq (ix3 ⟨128 * (i 0).val + l.val % 128, by omega⟩ ⟨0 + l.val / 128, by omega⟩ a))
        (fun n => (score0 xq i M1 f1 h1 l fun a => ldK1024 M3 f3 (ix2 n a)).trans
          (congrArg (lg * ·) (Finset.sum_congr rfl fun a _ => congrArg (· * _) ((ldK1024_apply M3 f3 n _).trans (h3 _ _)))))).trans ?_
      refine (congrArg (att _ _) (funext fun n => (ldV1024a_apply M4 f4 d n).trans (h4 _ _))).trans ?_
      exact att_prefix (N := 1024) (by omega) (128 * (i 0).val + l.val % 128) (by omega) (by omega)
        (fun n => ∑ a : Fin 64, hC xkc (ix2 n ⟨a.val, by omega⟩) * xq (ix3 ⟨128 * (i 0).val + l.val % 128, by omega⟩ ⟨0 + l.val / 128, by omega⟩ a)) (fun n => hCt xvc (ix2 ⟨d.val, by omega⟩ n)) _ _
        (fun n => Finset.sum_congr rfl fun a _ => congrArg (· * _) ((congrArg (hC xkc) (by congr 1; apply Fin.ext; dsimp only; simp)).trans (kc 0 n a)))
        (fun n => (congrArg (hCt xvc) (by congr 1; apply Fin.ext; dsimp only; simp)).trans (vc 0 n))
    · refine (cmp1024_apply _ _ _ _ l d (128 * (i 0).val + l.val % 128) (by omega) (t_apply i l)
        (fun n => ∑ a : Fin 64, hC xkc (ix2 (⟨n.val, by omega⟩ : Fin 1024) ⟨64 + a.val, by omega⟩) * xq (ix3 ⟨128 * (i 0).val + l.val % 128, by omega⟩ ⟨4 + l.val / 128, by omega⟩ a))
        (fun n => (score1 xq i M1 f1 h1 l fun a => ldK1024 M3 f3 (ix2 n a)).trans
          (congrArg (lg * ·) (Finset.sum_congr rfl fun a _ => congrArg (· * _) ((ldK1024_apply M3 f3 n _).trans (h3 _ _)))))).trans ?_
      refine (congrArg (att _ _) (funext fun n => (ldV1024b_apply M4 f4 d n).trans (h4 _ _))).trans ?_
      exact att_prefix (N := 1024) (by omega) (128 * (i 0).val + l.val % 128) (by omega) (by omega)
        (fun n => ∑ a : Fin 64, hC xkc (ix2 n ⟨64 + a.val, by omega⟩) * xq (ix3 ⟨128 * (i 0).val + l.val % 128, by omega⟩ ⟨4 + l.val / 128, by omega⟩ a)) (fun n => hCt xvc (ix2 ⟨64 + d.val, by omega⟩ n)) _ _
        (fun n => Finset.sum_congr rfl fun a _ => congrArg (· * _) ((kc 1 n a)))
        (fun n => (vc 1 n))

end

end Cert.KernelIdeal.Hand

end
-- ==== Proof.KOut.lean ====
/-
  What a tile leaves in the result: the window's 640 rows are the last 512 tokens, the closed gate drops the sweep's output,
  and the four blocks of columns are the eight heads.
-/
module

public import proofs.«01_k».proof.Proof.KTile

@[expose] public section

set_option maxRecDepth 16384
noncomputable section

namespace Cert.KernelIdeal.Hand

open Cert.KernelIdeal Cert.KernelIdeal.Gen Idealize.ShloMosaic Idealize.ShloMosaic.TcCoe Idealize.SL.Sem
open Cert.Att

section
variable (xq : FVec Ideal S16384x8x64 .f32) (xkc xvc : FVec Ideal S1023x2x64 .f32) (xkw xvw : FVec Ideal S16384x2x64 .f32) (xg : FVec Ideal S16384x8x3 .f32)

/-- Head group 0's window branch. -/
theorem win_spec0 (c : Dev nD) (i : grid0.Coords) (M1 : Memref sig .tc .vmem S1x2x64x512 .f32) (M8 : Memref sig .tc .vmem S16896x128 .bf16) (M9 : Memref sig .tc .vmem S132x128x128 .bf16)
    (f1 : Bf (F := Ideal) c M1) (f8 : Bf (F := Ideal) c M8) (f9 : Bf (F := Ideal) c M9)
    (h1 : ∀ (b : Fin 2) (a : Fin 64) (l : Fin 512), M1.view.read (Elt Ideal) f1 (ix4 0 b a l)
      = xq (ix3 ⟨128 * (i 0).val + l.val % 128, by have := i_lt i; omega⟩ ⟨4 * b.val + l.val / 128, by omega⟩ a))
    (h8 : ∀ n a, M8.view.read (Elt Ideal) f8 (ix2 n a) = hW xkw (ix2 n a)) (h9 : ∀ n d x, M9.view.read (Elt Ideal) f9 (ix3 n d x) = hWt xvw (ix3 n d x))
    (d : Fin 64) (l : Fin 512) :
    winTile (winBand (BitVec.ofNat 32 (i 0).val)) (k0_pay597 (ldQ0 M1 f1)) (ldW i M8 f8) (ldWa i 0 M9 f9) (ldWa i 1 M9 f9) (ldWa i 2 M9 f9) (ldWa i 3 M9 f9) (ldWa i 4 M9 f9) (ix2 d l)
      = att (Finset.univ.filter fun j : Fin 16384 => j.val ≤ 128 * (i 0).val + l.val % 128 ∧ 128 * (i 0).val + l.val % 128 < j.val + 512)
        (fun j => ∑ a : Fin 64, xkw (ix3 j 0 a) * xq (ix3 ⟨128 * (i 0).val + l.val % 128, by have := i_lt i; omega⟩ ⟨0 + l.val / 128, by omega⟩ a)) (fun j => xvw (ix3 j 0 d)) := by
  have hi := i_lt i
  refine (winTile_apply _ _ _ _ _ _ _ _ l d (fun r : Fin 640 => l.val % 128 < r.val ∧ r.val ≤ l.val % 128 + 512 ∧ 512 ≤ r.val + 128 * (i 0).val)
    (fun r => winBand_apply _ hi r l)
    (fun r => ∑ a : Fin 64, hW xkw (ix2 ⟨128 * (i 0).val + r.val, by omega⟩ ⟨a.val, by omega⟩) * xq (ix3 ⟨128 * (i 0).val + l.val % 128, by have := i_lt i; omega⟩ ⟨0 + l.val / 128, by omega⟩ a))
    (fun r => hWt xvw (ix3 ⟨(i 0).val + r.val / 128, by omega⟩ ⟨d.val, by omega⟩ ⟨r.val % 128, by omega⟩))
    (fun r => (score0 xq i M1 f1 h1 l fun a => ldW i M8 f8 (ix2 r a)).trans
      (congrArg (lg * ·) (Finset.sum_congr rfl fun a _ => congrArg (· * _) ((ldW_apply i M8 f8 r _).trans (h8 _ _)))))
    (fun x => ((ldWa_apply i 0 M9 f9 d x).trans (h9 _ _ _)).trans (congrArg (hWt xvw) (by congr 1 <;> (apply Fin.ext; simp <;> omega))))
    (fun x => ((ldWa_apply i 1 M9 f9 d x).trans (h9 _ _ _)).trans (congrArg (hWt xvw) (by congr 1 <;> (apply Fin.ext; simp <;> omega))))
    (fun x => ((ldWa_apply i 2 M9 f9 d x).trans (h9 _ _ _)).trans (congrArg (hWt xvw) (by congr 1 <;> (apply Fin.ext; simp <;> omega))))
    (fun x => ((ldWa_apply i 3 M9 f9 d x).trans (h9 _ _ _)).trans (congrArg (hWt xvw) (by congr 1 <;> (apply Fin.ext; simp <;> omega))))
    (fun x => ((ldWa_apply i 4 M9 f9 d x).trans (h9 _ _ _)).trans (congrArg (hWt xvw) (by congr 1 <;> (apply Fin.ext; simp <;> omega))))).trans ?_
  refine att_window (i 0).val (l.val % 128) hi (by omega) _ _ _ _ (fun r j e => ?_) (fun r j e => ?_)
  · refine Finset.sum_congr rfl fun a _ => congrArg (· * _) ?_
    refine (congrArg (hW xkw) (show _ = ix2 (⟨512 + j.val, by omega⟩ : Fin 16896) (⟨a.val, by omega⟩ : Fin 128) from by congr 1; apply Fin.ext; dsimp only; omega)).trans ?_
    rw [hW_apply]; congr 2 <;> (apply Fin.ext; simp <;> omega)
  · refine (congrArg (hWt xvw) (show _ = ix3 (⟨4 + j.val / 128, by omega⟩ : Fin 132) (⟨d.val, by omega⟩ : Fin 128) (⟨j.val % 128, by omega⟩ : Fin 128) from by congr 1 <;> (apply Fin.ext; dsimp only; omega))).trans ?_
    refine (hWt_apply xvw (⟨j.val / 128, by omega⟩ : Fin 128) (⟨d.val, by omega⟩ : Fin 128) (⟨j.val % 128, by omega⟩ : Fin 128)).trans ?_
    congr 2 <;> (apply Fin.ext; simp <;> omega)

/-- Head group 0's result. -/
theorem o_spec0 (c : Dev nD) (i : grid0.Coords) (M1 : Memref sig .tc .vmem S1x2x64x512 .f32) (M2 : Memref sig .tc .vmem S32x128 .f32) (M8 : Memref sig .tc .vmem S16896x128 .bf16) (M9 : Memref sig .tc .vmem S132x128x128 .bf16)
    (f1 : Bf (F := Ideal) c M1) (f2 : Bf (F := Ideal) c M2) (f8 : Bf (F := Ideal) c M8) (f9 : Bf (F := Ideal) c M9) (oc os : FVec Ideal S64x512 .f32)
    (h1 : ∀ (b : Fin 2) (a : Fin 64) (l : Fin 512), M1.view.read (Elt Ideal) f1 (ix4 0 b a l)
      = xq (ix3 ⟨128 * (i 0).val + l.val % 128, by have := i_lt i; omega⟩ ⟨4 * b.val + l.val / 128, by omega⟩ a))
    (h2 : ∀ (r : Fin 32) (x : Fin 128), M2.view.read (Elt Ideal) f2 (ix2 r x) = hG xg (ix2 r ⟨128 * (i 0).val + x.val, by have := i_lt i; omega⟩))
    (h8 : ∀ n a, M8.view.read (Elt Ideal) f8 (ix2 n a) = hW xkw (ix2 n a)) (h9 : ∀ n d x, M9.view.read (Elt Ideal) f9 (ix3 n d x) = hWt xvw (ix3 n d x))
    (d : Fin 64) (l : Fin 512) (hoc : oc (ix2 d l) = att (Finset.univ.filter fun n : Fin 1023 => 16 * n.val + 31 ≤ 128 * (i 0).val + l.val % 128)
      (fun n => ∑ a : Fin 64, xkc (ix3 n 0 a) * xq (ix3 ⟨128 * (i 0).val + l.val % 128, by have := i_lt i; omega⟩ ⟨0 + l.val / 128, by omega⟩ a)) (fun n => xvc (ix3 n 0 d))) :
    o0 c i M2 M8 M9 f2 f8 f9 (winBand (BitVec.ofNat 32 (i 0).val)) (k0_pay597 (ldQ0 M1 f1)) oc os (ix2 d l)
      = spec (fun t h d => xq (ix3 t h d)) (fun n b d => xkc (ix3 n b d)) (fun n b d => xvc (ix3 n b d)) (fun n b d => xkw (ix3 n b d)) (fun n b d => xvw (ix3 n b d)) (fun t h r => xg (ix3 t h r)) ⟨128 * (i 0).val + l.val % 128, by have := i_lt i; omega⟩ ⟨0 + l.val / 128, by omega⟩ d := by
  have hi := i_lt i
  have z : ∀ (h : Fin 8) (r : Fin 32) (hr : r.val = 3 * h.val + 1) (x : Fin 128), ldG r M2 f2 (ix2 0 x) = 0 := fun h r hr x => by
    rw [show r = ⟨3 * h.val + 1, by omega⟩ from Fin.ext hr]
    exact ((ldG_apply _ M2 f2 x).trans (h2 _ _)).trans (hG_apply1 xg _ h)
  have g0 : ∀ (h : Fin 8) (r : Fin 32) (hr : r.val = 3 * h.val) (x : Fin 128), ldG r M2 f2 (ix2 0 x) = xg (ix3 ⟨128 * (i 0).val + x.val, by omega⟩ h 0) := fun h r hr x => by
    rw [show r = ⟨3 * h.val, by omega⟩ from Fin.ext hr]
    exact ((ldG_apply _ M2 f2 x).trans (h2 _ _)).trans (hG_apply0 xg _ h)
  have g2 : ∀ (h : Fin 8) (r : Fin 32) (hr : r.val = 3 * h.val + 2) (x : Fin 128), ldG r M2 f2 (ix2 0 x) = xg (ix3 ⟨128 * (i 0).val + x.val, by omega⟩ h 2) := fun h r hr x => by
    rw [show r = ⟨3 * h.val + 2, by omega⟩ from Fin.ext hr]
    exact ((ldG_apply _ M2 f2 x).trans (h2 _ _)).trans (hG_apply2 xg _ h)
  have ek : kvOf ⟨0 + l.val / 128, by omega⟩ = 0 := by apply Fin.ext; show (0 + l.val / 128) / 4 = 0; omega
  unfold o0
  rw [mix_apply, win_spec0 xq xkw xvw c i M1 M8 M9 f1 f8 f9 h1 h8 h9 d l, hoc,
    gate4_apply _ _ _ _ l d (fun y => xg (ix3 ⟨(128 * (i 0).val + y % 128) % 16384, by omega⟩ ⟨(0 + y / 128) % 8, by omega⟩ 0))
      (fun r => (g0 ⟨0, by omega⟩ 0 rfl r).trans (congrArg xg (by congr 1 <;> (apply Fin.ext; dsimp only; omega))))
      (fun r => (g0 ⟨1, by omega⟩ 3 rfl r).trans (congrArg xg (by congr 1 <;> (apply Fin.ext; dsimp only; omega))))
      (fun r => (g0 ⟨2, by omega⟩ 6 rfl r).trans (congrArg xg (by congr 1 <;> (apply Fin.ext; dsimp only; omega))))
      (fun r => (g0 ⟨3, by omega⟩ 9 rfl r).trans (congrArg xg (by congr 1 <;> (apply Fin.ext; dsimp only; omega)))),
    gate4_apply _ _ _ _ l d (fun _ => 0) (fun r => z ⟨0, by omega⟩ 1 rfl r) (fun r => z ⟨1, by omega⟩ 4 rfl r)
      (fun r => z ⟨2, by omega⟩ 7 rfl r) (fun r => z ⟨3, by omega⟩ 10 rfl r),
    gate4_apply _ _ _ _ l d (fun y => xg (ix3 ⟨(128 * (i 0).val + y % 128) % 16384, by omega⟩ ⟨(0 + y / 128) % 8, by omega⟩ 2))
      (fun r => (g2 ⟨0, by omega⟩ 2 rfl r).trans (congrArg xg (by congr 1 <;> (apply Fin.ext; dsimp only; omega))))
      (fun r => (g2 ⟨1, by omega⟩ 5 rfl r).trans (congrArg xg (by congr 1 <;> (apply Fin.ext; dsimp only; omega))))
      (fun r => (g2 ⟨2, by omega⟩ 8 rfl r).trans (congrArg xg (by congr 1 <;> (apply Fin.ext; dsimp only; omega))))
      (fun r => (g2 ⟨3, by omega⟩ 11 rfl r).trans (congrArg xg (by congr 1 <;> (apply Fin.ext; dsimp only; omega)))),
    zero_mul, add_zero]
  unfold spec
  rw [ek]
  have et : (⟨(128 * (i 0).val + l.val % 128) % 16384, by omega⟩ : Fin 16384) = ⟨128 * (i 0).val + l.val % 128, by omega⟩ := by apply Fin.ext; dsimp only; omega
  have eh : (⟨(0 + l.val / 128) % 8, by omega⟩ : Fin 8) = ⟨0 + l.val / 128, by omega⟩ := by apply Fin.ext; dsimp only; omega
  rw [et, eh]

/-- Head group 1's window branch. -/
theorem win_spec1 (c : Dev nD) (i : grid0.Coords) (M1 : Memref sig .tc .vmem S1x2x64x512 .f32) (M8 : Memref sig .tc .vmem S16896x128 .bf16) (M9 : Memref sig .tc .vmem S132x128x128 .bf16)
    (f1 : Bf (F := Ideal) c M1) (f8 : Bf (F := Ideal) c M8) (f9 : Bf (F := Ideal) c M9)
    (h1 : ∀ (b : Fin 2) (a : Fin 64) (l : Fin 512), M1.view.read (Elt Ideal) f1 (ix4 0 b a l)
      = xq (ix3 ⟨128 * (i 0).val + l.val % 128, by have := i_lt i; omega⟩ ⟨4 * b.val + l.val / 128, by omega⟩ a))
    (h8 : ∀ n a, M8.view.read (Elt Ideal) f8 (ix2 n a) = hW xkw (ix2 n a)) (h9 : ∀ n d x, M9.view.read (Elt Ideal) f9 (ix3 n d x) = hWt xvw (ix3 n d x))
    (d : Fin 64) (l : Fin 512) :
    winTile (winBand (BitVec.ofNat 32 (i 0).val)) (k0_pay598 (ldQ1 M1 f1)) (ldW i M8 f8) (ldWb i 0 M9 f9) (ldWb i 1 M9 f9) (ldWb i 2 M9 f9) (ldWb i 3 M9 f9) (ldWb i 4 M9 f9) (ix2 d l)
      = att (Finset.univ.filter fun j : Fin 16384 => j.val ≤ 128 * (i 0).val + l.val % 128 ∧ 128 * (i 0).val + l.val % 128 < j.val + 512)
        (fun j => ∑ a : Fin 64, xkw (ix3 j 1 a) * xq (ix3 ⟨128 * (i 0).val + l.val % 128, by have := i_lt i; omega⟩ ⟨4 + l.val / 128, by omega⟩ a)) (fun j => xvw (ix3 j 1 d)) := by
  have hi := i_lt i
  refine (winTile_apply _ _ _ _ _ _ _ _ l d (fun r : Fin 640 => l.val % 128 < r.val ∧ r.val ≤ l.val % 128 + 512 ∧ 512 ≤ r.val + 128 * (i 0).val)
    (fun r => winBand_apply _ hi r l)
    (fun r => ∑ a : Fin 64, hW xkw (ix2 ⟨128 * (i 0).val + r.val, by omega⟩ ⟨64 + a.val, by omega⟩) * xq (ix3 ⟨128 * (i 0).val + l.val % 128, by have := i_lt i; omega⟩ ⟨4 + l.val / 128, by omega⟩ a))
    (fun r => hWt xvw (ix3 ⟨(i 0).val + r.val / 128, by omega⟩ ⟨64 + d.val, by omega⟩ ⟨r.val % 128, by omega⟩))
    (fun r => (score1 xq i M1 f1 h1 l fun a => ldW i M8 f8 (ix2 r a)).trans
      (congrArg (lg * ·) (Finset.sum_congr rfl fun a _ => congrArg (· * _) ((ldW_apply i M8 f8 r _).trans (h8 _ _)))))
    (fun x => ((ldWb_apply i 0 M9 f9 d x).trans (h9 _ _ _)).trans (congrArg (hWt xvw) (by congr 1 <;> (apply Fin.ext; simp <;> omega))))
    (fun x => ((ldWb_apply i 1 M9 f9 d x).trans (h9 _ _ _)).trans (congrArg (hWt xvw) (by congr 1 <;> (apply Fin.ext; simp <;> omega))))
    (fun x => ((ldWb_apply i 2 M9 f9 d x).trans (h9 _ _ _)).trans (congrArg (hWt xvw) (by congr 1 <;> (apply Fin.ext; simp <;> omega))))
    (fun x => ((ldWb_apply i 3 M9 f9 d x).trans (h9 _ _ _)).trans (congrArg (hWt xvw) (by congr 1 <;> (apply Fin.ext; simp <;> omega))))
    (fun x => ((ldWb_apply i 4 M9 f9 d x).trans (h9 _ _ _)).trans (congrArg (hWt xvw) (by congr 1 <;> (apply Fin.ext; simp <;> omega))))).trans ?_
  refine att_window (i 0).val (l.val % 128) hi (by omega) _ _ _ _ (fun r j e => ?_) (fun r j e => ?_)
  · refine Finset.sum_congr rfl fun a _ => congrArg (· * _) ?_
    refine (congrArg (hW xkw) (show _ = ix2 (⟨512 + j.val, by omega⟩ : Fin 16896) (⟨64 + a.val, by omega⟩ : Fin 128) from by congr 1; apply Fin.ext; dsimp only; omega)).trans ?_
    rw [hW_apply]; congr 2 <;> (apply Fin.ext; simp <;> omega)
  · refine (congrArg (hWt xvw) (show _ = ix3 (⟨4 + j.val / 128, by omega⟩ : Fin 132) (⟨64 + d.val, by omega⟩ : Fin 128) (⟨j.val % 128, by omega⟩ : Fin 128) from by congr 1 <;> (apply Fin.ext; dsimp only; omega))).trans ?_
    refine (hWt_apply xvw (⟨j.val / 128, by omega⟩ : Fin 128) (⟨64 + d.val, by omega⟩ : Fin 128) (⟨j.val % 128, by omega⟩ : Fin 128)).trans ?_
    congr 2 <;> (apply Fin.ext; simp <;> omega)

/-- Head group 1's result. -/
theorem o_spec1 (c : Dev nD) (i : grid0.Coords) (M1 : Memref sig .tc .vmem S1x2x64x512 .f32) (M2 : Memref sig .tc .vmem S32x128 .f32) (M8 : Memref sig .tc .vmem S16896x128 .bf16) (M9 : Memref sig .tc .vmem S132x128x128 .bf16)
    (f1 : Bf (F := Ideal) c M1) (f2 : Bf (F := Ideal) c M2) (f8 : Bf (F := Ideal) c M8) (f9 : Bf (F := Ideal) c M9) (oc os : FVec Ideal S64x512 .f32)
    (h1 : ∀ (b : Fin 2) (a : Fin 64) (l : Fin 512), M1.view.read (Elt Ideal) f1 (ix4 0 b a l)
      = xq (ix3 ⟨128 * (i 0).val + l.val % 128, by have := i_lt i; omega⟩ ⟨4 * b.val + l.val / 128, by omega⟩ a))
    (h2 : ∀ (r : Fin 32) (x : Fin 128), M2.view.read (Elt Ideal) f2 (ix2 r x) = hG xg (ix2 r ⟨128 * (i 0).val + x.val, by have := i_lt i; omega⟩))
    (h8 : ∀ n a, M8.view.read (Elt Ideal) f8 (ix2 n a) = hW xkw (ix2 n a)) (h9 : ∀ n d x, M9.view.read (Elt Ideal) f9 (ix3 n d x) = hWt xvw (ix3 n d x))
    (d : Fin 64) (l : Fin 512) (hoc : oc (ix2 d l) = att (Finset.univ.filter fun n : Fin 1023 => 16 * n.val + 31 ≤ 128 * (i 0).val + l.val % 128)
      (fun n => ∑ a : Fin 64, xkc (ix3 n 1 a) * xq (ix3 ⟨128 * (i 0).val + l.val % 128, by have := i_lt i; omega⟩ ⟨4 + l.val / 128, by omega⟩ a)) (fun n => xvc (ix3 n 1 d))) :
    o1 c i M2 M8 M9 f2 f8 f9 (winBand (BitVec.ofNat 32 (i 0).val)) (k0_pay598 (ldQ1 M1 f1)) oc os (ix2 d l)
      = spec (fun t h d => xq (ix3 t h d)) (fun n b d => xkc (ix3 n b d)) (fun n b d => xvc (ix3 n b d)) (fun n b d => xkw (ix3 n b d)) (fun n b d => xvw (ix3 n b d)) (fun t h r => xg (ix3 t h r)) ⟨128 * (i 0).val + l.val % 128, by have := i_lt i; omega⟩ ⟨4 + l.val / 128, by omega⟩ d := by
  have hi := i_lt i
  have z : ∀ (h : Fin 8) (r : Fin 32) (hr : r.val = 3 * h.val + 1) (x : Fin 128), ldG r M2 f2 (ix2 0 x) = 0 := fun h r hr x => by
    rw [show r = ⟨3 * h.val + 1, by omega⟩ from Fin.ext hr]
    exact ((ldG_apply _ M2 f2 x).trans (h2 _ _)).trans (hG_apply1 xg _ h)
  have g0 : ∀ (h : Fin 8) (r : Fin 32) (hr : r.val = 3 * h.val) (x : Fin 128), ldG r M2 f2 (ix2 0 x) = xg (ix3 ⟨128 * (i 0).val + x.val, by omega⟩ h 0) := fun h r hr x => by
    rw [show r = ⟨3 * h.val, by omega⟩ from Fin.ext hr]
    exact ((ldG_apply _ M2 f2 x).trans (h2 _ _)).trans (hG_apply0 xg _ h)
  have g2 : ∀ (h : Fin 8) (r : Fin 32) (hr : r.val = 3 * h.val + 2) (x : Fin 128), ldG r M2 f2 (ix2 0 x) = xg (ix3 ⟨128 * (i 0).val + x.val, by omega⟩ h 2) := fun h r hr x => by
    rw [show r = ⟨3 * h.val + 2, by omega⟩ from Fin.ext hr]
    exact ((ldG_apply _ M2 f2 x).trans (h2 _ _)).trans (hG_apply2 xg _ h)
  have ek : kvOf ⟨4 + l.val / 128, by omega⟩ = 1 := by apply Fin.ext; show (4 + l.val / 128) / 4 = 1; omega
  unfold o1
  rw [mix_apply, win_spec1 xq xkw xvw c i M1 M8 M9 f1 f8 f9 h1 h8 h9 d l, hoc,
    gate4_apply _ _ _ _ l d (fun y => xg (ix3 ⟨(128 * (i 0).val + y % 128) % 16384, by omega⟩ ⟨(4 + y / 128) % 8, by omega⟩ 0))
      (fun r => (g0 ⟨4, by omega⟩ 12 rfl r).trans (congrArg xg (by congr 1 <;> (apply Fin.ext; dsimp only; omega))))
      (fun r => (g0 ⟨5, by omega⟩ 15 rfl r).trans (congrArg xg (by congr 1 <;> (apply Fin.ext; dsimp only; omega))))
      (fun r => (g0 ⟨6, by omega⟩ 18 rfl r).trans (congrArg xg (by congr 1 <;> (apply Fin.ext; dsimp only; omega))))
      (fun r => (g0 ⟨7, by omega⟩ 21 rfl r).trans (congrArg xg (by congr 1 <;> (apply Fin.ext; dsimp only; omega)))),
    gate4_apply _ _ _ _ l d (fun _ => 0) (fun r => z ⟨4, by omega⟩ 13 rfl r) (fun r => z ⟨5, by omega⟩ 16 rfl r)
      (fun r => z ⟨6, by omega⟩ 19 rfl r) (fun r => z ⟨7, by omega⟩ 22 rfl r),
    gate4_apply _ _ _ _ l d (fun y => xg (ix3 ⟨(128 * (i 0).val + y % 128) % 16384, by omega⟩ ⟨(4 + y / 128) % 8, by omega⟩ 2))
      (fun r => (g2 ⟨4, by omega⟩ 14 rfl r).trans (congrArg xg (by congr 1 <;> (apply Fin.ext; dsimp only; omega))))
      (fun r => (g2 ⟨5, by omega⟩ 17 rfl r).trans (congrArg xg (by congr 1 <;> (apply Fin.ext; dsimp only; omega))))
      (fun r => (g2 ⟨6, by omega⟩ 20 rfl r).trans (congrArg xg (by congr 1 <;> (apply Fin.ext; dsimp only; omega))))
      (fun r => (g2 ⟨7, by omega⟩ 23 rfl r).trans (congrArg xg (by congr 1 <;> (apply Fin.ext; dsimp only; omega)))),
    zero_mul, add_zero]
  unfold spec
  rw [ek]
  have et : (⟨(128 * (i 0).val + l.val % 128) % 16384, by omega⟩ : Fin 16384) = ⟨128 * (i 0).val + l.val % 128, by omega⟩ := by apply Fin.ext; dsimp only; omega
  have eh : (⟨(4 + l.val / 128) % 8, by omega⟩ : Fin 8) = ⟨4 + l.val / 128, by omega⟩ := by apply Fin.ext; dsimp only; omega
  rw [et, eh]

/-- The tile's rows of the result, read back from the stores of their four blocks of columns. -/
theorem tile_spec (c : Dev nD) (i : grid0.Coords) (M1 : Memref sig .tc .vmem S1x2x64x512 .f32) (M2 : Memref sig .tc .vmem S32x128 .f32) (M3 : Memref sig .tc .vmem S1024x128 .bf16) (M4 : Memref sig .tc .vmem S128x1024 .bf16) (M8 : Memref sig .tc .vmem S16896x128 .bf16) (M9 : Memref sig .tc .vmem S132x128x128 .bf16) (M10 : Memref sig .tc .vmem S128x512 .bf16)
    (f1 : Bf (F := Ideal) c M1) (f2 : Bf (F := Ideal) c M2) (f3 : Bf (F := Ideal) c M3) (f4 : Bf (F := Ideal) c M4) (f8 : Bf (F := Ideal) c M8) (f9 : Bf (F := Ideal) c M9) (fo : Bf (F := Ideal) c M10)
    (h1 : ∀ (b : Fin 2) (a : Fin 64) (l : Fin 512), M1.view.read (Elt Ideal) f1 (ix4 0 b a l)
      = xq (ix3 ⟨128 * (i 0).val + l.val % 128, by have := i_lt i; omega⟩ ⟨4 * b.val + l.val / 128, by omega⟩ a))
    (h2 : ∀ (r : Fin 32) (x : Fin 128), M2.view.read (Elt Ideal) f2 (ix2 r x) = hG xg (ix2 r ⟨128 * (i 0).val + x.val, by have := i_lt i; omega⟩))
    (h3 : ∀ n a, M3.view.read (Elt Ideal) f3 (ix2 n a) = hC xkc (ix2 n a)) (h4 : ∀ d n, M4.view.read (Elt Ideal) f4 (ix2 d n) = hCt xvc (ix2 d n))
    (h8 : ∀ n a, M8.view.read (Elt Ideal) f8 (ix2 n a) = hW xkw (ix2 n a)) (h9 : ∀ n d x, M9.view.read (Elt Ideal) f9 (ix3 n d x) = hWt xvw (ix3 n d x))
    (h : OutSpec c i M1 M2 M3 M4 M8 M9 M10 f1 f2 f3 f4 f8 f9 fo) (r : Fin 128) (j : Fin 512) :
    M10.view.read (Elt Ideal) fo (ix2 r j) = spec (fun t h d => xq (ix3 t h d)) (fun n b d => xkc (ix3 n b d)) (fun n b d => xvc (ix3 n b d)) (fun n b d => xkw (ix3 n b d)) (fun n b d => xvw (ix3 n b d)) (fun t h r => xg (ix3 t h r))
      ⟨128 * (i 0).val + r.val, by have := i_lt i; omega⟩ ⟨j.val / 64, by omega⟩ ⟨j.val % 64, by omega⟩ := by
  have hi := i_lt i
  obtain ⟨oc0, oc1, os0, os1, f10, hc, ho⟩ := h
  have hcs := cmp_spec xq xkc xvc c i M1 M3 M4 f1 f3 f4 oc0 oc1 h1 h3 h4 hc
  have e0 := fun d l => o_spec0 xq xkc xvc xkw xvw xg c i M1 M2 M8 M9 f1 f2 f8 f9 oc0 os0 h1 h2 h8 h9 d l (hcs d l).1
  have e1 := fun d l => o_spec1 xq xkc xvc xkw xvw xg c i M1 M2 M8 M9 f1 f2 f8 f9 oc1 os1 h1 h2 h8 h9 d l (hcs d l).2
  unfold OutAt at ho
  subst ho
  by_cases j3 : 384 ≤ j.val
  · refine (View.read_writes_cons_unit_of_mem _ _ (off' := ![0, 384]) _ _ _ (ix2 r j) (ix2 r (⟨j.val - 384, by omega⟩ : Fin 128)) rfl (fun a => ?_)).trans ?_
    · match a with
      | ⟨0, _⟩ => exact (Nat.zero_add _).symm
      | ⟨1, _⟩ => show j.val = 384 + (j.val - 384); omega
    · refine (colsR_apply _ _ _).trans ((e1 _ _).trans ?_)
      congr 1 <;> (apply Fin.ext; dsimp only; omega)
  rw [View.read_writes_cons_unit_of_not_mem _ _ _ _ _ _ rfl 1 (Or.inl (show j.val < 384 by omega))]
  by_cases j2 : 256 ≤ j.val
  · refine (View.read_writes_cons_unit_of_mem _ _ (off' := ![0, 256]) _ _ _ (ix2 r j) (ix2 r (⟨j.val - 256, by omega⟩ : Fin 128)) rfl (fun a => ?_)).trans ?_
    · match a with
      | ⟨0, _⟩ => exact (Nat.zero_add _).symm
      | ⟨1, _⟩ => show j.val = 256 + (j.val - 256); omega
    · refine (colsL_apply _ _ _).trans ((e1 _ _).trans ?_)
      congr 1 <;> (apply Fin.ext; dsimp only; omega)
  rw [View.read_writes_cons_unit_of_not_mem _ _ _ _ _ _ rfl 1 (Or.inl (show j.val < 256 by omega))]
  by_cases j1 : 128 ≤ j.val
  · refine (View.read_writes_cons_unit_of_mem _ _ (off' := ![0, 128]) _ _ _ (ix2 r j) (ix2 r (⟨j.val - 128, by omega⟩ : Fin 128)) rfl (fun a => ?_)).trans ?_
    · match a with
      | ⟨0, _⟩ => exact (Nat.zero_add _).symm
      | ⟨1, _⟩ => show j.val = 128 + (j.val - 128); omega
    · refine (colsR_apply _ _ _).trans ((e0 _ _).trans ?_)
      congr 1 <;> (apply Fin.ext; dsimp only; omega)
  rw [View.read_writes_cons_unit_of_not_mem _ _ _ _ _ _ rfl 1 (Or.inl (show j.val < 128 by omega))]
  refine (View.read_writes_cons_unit_of_mem _ _ (off' := ![0, 0]) _ _ _ (ix2 r j) (ix2 r (⟨j.val, by omega⟩ : Fin 128)) rfl (fun a => ?_)).trans ?_
  · match a with
    | ⟨0, _⟩ => exact (Nat.zero_add _).symm
    | ⟨1, _⟩ => exact (Nat.zero_add _).symm
  · refine (colsL_apply _ _ _).trans ((e0 _ _).trans ?_)
    congr 1 <;> (apply Fin.ext; dsimp only; omega)

end

end Cert.KernelIdeal.Hand

end
-- ==== Proof.Run.lean ====
/-
  The attention call's run over the extended reals: the body's run (Body.lean) at every grid point, the output window at the
  tile's rows of the layer (KOut.lean), and the launch. The result is the two branches' mathematics at the arguments, every
  argument ends at what it held and every semaphore counter at zero.
-/
module

public import proofs.«01_k».proof.Proof.KOut
public import Idealize.ShloMosaic.Lib.Pipeline.FrameBody
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

open Cert.Att

local notation "𝕄" => MT nD τ sig Unit (Elt Ideal) ℕ (UR sig nD τ) ℕ

variable (m : (ℓ : Loc nD τ sig) → Buf (Elt Ideal) ℓ) (ρ : Dev nD → PrngReg)

/-! ## The buffers the body is handed at a point -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev sc0 := Memref.whole cc0_scratch0
abbrev sc1 := Memref.whole cc0_scratch1
abbrev sc2 := Memref.whole cc0_scratch2
abbrev sc3 := Memref.whole cc0_scratch3
abbrev sc4 := Memref.whole cc0_scratch4

/-- The array that the call leaves: the two branches at a token, a head and a channel. -/
def G (c : Dev nD) : Vec Ideal S16384x512 .bf16 := fun i =>
  spec (aQ m c) (aKc m c) (aVc m c) (aKw m c) (aVw m c) (aG m c) ⟨(i 0).val, (i 0).isLt⟩
    ⟨(i 1).val / 64, by have h : (i 1).val < 512 := (i 1).isLt; omega⟩ ⟨(i 1).val % 64, by omega⟩

/-- A tile's rows of it. -/
def tileG (c : Dev nD) (t : Fin cfg0.N) : Vec Ideal S128x512 .bf16 := fun y =>
  G m c (ix2 (⟨128 * t.val + (y 0).val, by have := lt128' t; have h : (y 0).val < 128 := (y 0).isLt; omega⟩ : Fin 16384) (⟨(y 1).val, (y 1).isLt⟩ : Fin 512))

/-- What the stores leave, from operands at their blocks, is the tile's rows. -/
theorem tile_at (c : Dev nD) (t : Fin cfg0.N) (f0 : Bf (F := Ideal) c (ms0 t)) (f1 : Bf (F := Ideal) c (ms1 t)) (f2 : Bf (F := Ideal) c (ms2 t)) (f3 : Bf (F := Ideal) c (ms3 t))
    (f7 : Bf (F := Ideal) c (ms7 t)) (f8 : Bf (F := Ideal) c (ms8 t)) (fo : Bf (F := Ideal) c (ms9 t))
    (h0 : (ms0 t).view.read (Elt Ideal) f0 = iblk m c 0 t) (h1 : (ms1 t).view.read (Elt Ideal) f1 = iblk m c 1 t)
    (h2 : (ms2 t).view.read (Elt Ideal) f2 = iblk m c 2 t) (h3 : (ms3 t).view.read (Elt Ideal) f3 = iblk m c 3 t)
    (h7 : (ms7 t).view.read (Elt Ideal) f7 = iblk m c 7 t) (h8 : (ms8 t).view.read (Elt Ideal) f8 = iblk m c 8 t)
    (h : OutSpec c (grid0.coords t) (ms0 t) (ms1 t) (ms2 t) (ms3 t) (ms7 t) (ms8 t) (ms9 t) f0 f1 f2 f3 f7 f8 fo) :
    (ms9 t).view.read (Elt Ideal) fo = tileG m c t := by
  funext y
  have ey : y = (ix2 (⟨(y 0).val, (y 0).isLt⟩ : Fin 128) (⟨(y 1).val, (y 1).isLt⟩ : Fin 512) : S128x512.Idx) := by
    funext a; match a with | ⟨0, _⟩ => rfl | ⟨1, _⟩ => rfl
  refine (congrArg _ ey).trans ((tile_spec (m ((c : Thread nD τ).loc main_arg0)) (m ((c : Thread nD τ).loc main_arg1)) (m ((c : Thread nD τ).loc main_arg2))
    (m ((c : Thread nD τ).loc main_arg5)) (m ((c : Thread nD τ).loc main_arg6)) (m ((c : Thread nD τ).loc main_arg7))
    c (grid0.coords t) (ms0 t) (ms1 t) (ms2 t) (ms3 t) (ms7 t) (ms8 t) (ms9 t) f0 f1 f2 f3 f7 f8 fo ?_ ?_ ?_ ?_ ?_ ?_ h _ _).trans ?_)
  · intro b a l
    refine ((congrFun h0 _).trans (blk0 m c t b a l)).trans (congrArg (m ((c : Thread nD τ).loc main_arg0)) ?_)
    congr 1; apply Fin.ext; show 128 * t.val + _ = 128 * _ + _; rw [coords_val]
  · intro r x
    refine ((congrFun h1 _).trans (blk1 m c t r x)).trans (congrArg (hG (m ((c : Thread nD τ).loc main_arg7))) ?_)
    congr 1; apply Fin.ext; show 128 * t.val + _ = 128 * _ + _; rw [coords_val]
  · intro n a; exact (congrFun h2 _).trans (blk2 m c t n a)
  · intro n a; exact (congrFun h3 _).trans (blk3 m c t n a)
  · intro n a; exact (congrFun h7 _).trans (blk7 m c t n a)
  · intro n a x; exact (congrFun h8 _).trans (blk8 m c t n a x)
  · unfold tileG G
    show spec (aQ m c) (aKc m c) (aVc m c) (aKw m c) (aVw m c) (aG m c) _ _ _ = _
    congr 1; apply Fin.ext; show 128 * _ + _ = 128 * t.val + _; rw [coords_val]

/-- The proof data: every operand's window keeps its block, the output's holds the tile's rows. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => tileG m c t
  Φ _ := Pipeline.ΦA spec0 c
  q _ := fullShare
  owed _ := 0

def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)))
def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t))

/-- The scratch buffers and the generator register, conjunct by conjunct. -/
theorem PhiA_eq (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ ∃ r, prngReg c r) := by
  unfold Pipeline.ΦA; rw [scopedRest0_eq]; simp only [owns_whole]; try rfl

set_option maxHeartbeats 4000000 in
/-- The body at the point: the windows and the scratch opened, the run, the windows closed at what they held. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0_of m (dats m 0 c) rfl (fun _ => rfl) t]
  simp only [before0_1_of m (dats m 0 c) rfl (fun _ => rfl) t]
  simp only [before0_2_of m (dats m 0 c) rfl (fun _ => rfl) t]
  simp only [before0_3_of m (dats m 0 c) rfl (fun _ => rfl) t]
  simp only [before0_4_of m (dats m 0 c) rfl (fun _ => rfl) t]
  simp only [before0_5_of m (dats m 0 c) rfl (fun _ => rfl) t]
  simp only [before0_6_of m (dats m 0 c) rfl (fun _ => rfl) t]
  simp only [before0_7_of m (dats m 0 c) rfl (fun _ => rfl) t]
  simp only [before0_8_of m (dats m 0 c) rfl (fun _ => rfl) t]
  rw [show (dats m 0 c).after 0 t = iblk m c 0 t from rfl]
  rw [show (dats m 0 c).after 1 t = iblk m c 1 t from rfl]
  rw [show (dats m 0 c).after 2 t = iblk m c 2 t from rfl]
  rw [show (dats m 0 c).after 3 t = iblk m c 3 t from rfl]
  rw [show (dats m 0 c).after 4 t = iblk m c 4 t from rfl]
  rw [show (dats m 0 c).after 5 t = iblk m c 5 t from rfl]
  rw [show (dats m 0 c).after 6 t = iblk m c 6 t from rfl]
  rw [show (dats m 0 c).after 7 t = iblk m c 7 t from rfl]
  rw [show (dats m 0 c).after 8 t = iblk m c 8 t from rfl]
  rw [show (dats m 0 c).after 9 t = tileG m c t from rfl]
  unfold owns
  iintro ⟨⟨⟨⟨%e0, %s0, -, S0⟩, ⟨%e1, %s1, -, S1⟩, ⟨%e2, %s2, -, S2⟩, ⟨%e3, %s3, -, S3⟩, ⟨%e4, %s4, -, S4⟩⟩, Hg⟩, HO, ⟨%d0, %f0, %h0, W0⟩, ⟨%d1, %f1, %h1, W1⟩, ⟨%d2, %f2, %h2, W2⟩, ⟨%d3, %f3, %h3, W3⟩, ⟨%d4, %f4, %h4, W4⟩, ⟨%d5, %f5, %h5, W5⟩, ⟨%d6, %f6, %h6, W6⟩, ⟨%d7, %f7, %h7, W7⟩, ⟨%d8, %f8, %h8, W8⟩, ⟨%d9, %f9, -, W9⟩⟩
  iapply (run_body c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) f0 f1 f2 f3 f4 f5 f6 f7 f8 _)
  unfold Res ResO
  isplitl [W0 W1 W2 W3 W4 W5 W6 W7 W8 W9 S0 S1 S2 S3 S4]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexists _; iexact W9
    isplitl [S0]; · iexists _; iexact S0
    isplitl [S1]; · iexists _; iexact S1
    isplitl [S2]; · iexists _; iexact S2
    isplitl [S3]; · iexists _; iexact S3
    iexists _; iexact S4
  iintro %g9 ⟨⟨W0, W1, W2, W3, W4, W5, W6, W7, W8, W9, ⟨%g10, S0⟩, ⟨%g11, S1⟩, ⟨%g12, S2⟩, ⟨%g13, S3⟩, ⟨%g14, S4⟩⟩, %hout⟩
  isplitl [S0 S1 S2 S3 S4 Hg]
  · isplitl [S0 S1 S2 S3 S4]
    · isplitl [S0]
      · iexists _, _; isplitr; swap; · iexact S0
        ipureintro; rfl
      isplitl [S1]
      · iexists _, _; isplitr; swap; · iexact S1
        ipureintro; rfl
      isplitl [S2]
      · iexists _, _; isplitr; swap; · iexact S2
        ipureintro; rfl
      isplitl [S3]
      · iexists _, _; isplitr; swap; · iexact S3
        ipureintro; rfl
      iexists _, _; isplitr; swap; · iexact S4
      ipureintro; rfl
    iexact Hg
  isplitl [HO]; · iexact HO
  isplitl [W0]
  · iexists _; isplitr; swap; · iexact W0
    ipureintro; exact h0
  isplitl [W1]
  · iexists _; isplitr; swap; · iexact W1
    ipureintro; exact h1
  isplitl [W2]
  · iexists _; isplitr; swap; · iexact W2
    ipureintro; exact h2
  isplitl [W3]
  · iexists _; isplitr; swap; · iexact W3
    ipureintro; exact h3
  isplitl [W4]
  · iexists _; isplitr; swap; · iexact W4
    ipureintro; exact h4
  isplitl [W5]
  · iexists _; isplitr; swap; · iexact W5
    ipureintro; exact h5
  isplitl [W6]
  · iexists _; isplitr; swap; · iexact W6
    ipureintro; exact h6
  isplitl [W7]
  · iexists _; isplitr; swap; · iexact W7
    ipureintro; exact h7
  isplitl [W8]
  · iexists _; isplitr; swap; · iexact W8
    ipureintro; exact h8
  iexists g9; isplitr; swap; · iexact W9
  ipureintro; exact tile_at m c t f0 f1 f2 f3 f7 f8 g9 h0 h1 h2 h3 h7 h8 hout

theorem defs₀_row (t : Fin cfg0.N) : defs₀ (F := Ideal) .tc cfg0.body (cfg0.bodyArgs t (cfg0.slots t)) = bodyAt0 t := by
  unfold defs₀; rw [Defs.onTc_tc]

theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The whole run: every array at what the proof data says, every counter at zero. -/
theorem run_main :
    θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl)
    (hin := fun _ => Entails.refl _) (hout := fun _ => Entails.refl _)

/-! ## The result's array -/

/-- What a point writes back is its block of the array. -/
theorem flushed9 (c : Dev nD) (t : Fin cfg0.N) : (dats m 0 c).flushed 9 t = ((cfg0.win 9).blk t).view.read (Elt Ideal) (G m c) := by
  show (cfg0.win 9).cut (grid0.coords t) (tileG m c t) = _
  obtain ⟨e0, e1⟩ := index9 t
  funext y
  have hb0 : (((cfg0.win 9).blk t).view.emb y 0).val = win0_9.index t (0 : Fin 2) * 128 + 1 * (y 0).val := rfl
  have hb1 : (((cfg0.win 9).blk t).view.emb y 1).val = win0_9.index t (1 : Fin 2) * 512 + 1 * (y 1).val := rfl
  show G m c _ = G m c (((cfg0.win 9).blk t).view.emb y)
  congr 1
  funext a; apply Fin.ext
  match a with
  | ⟨0, _⟩ => show 128 * t.val + (y 0).val = (((cfg0.win 9).blk t).view.emb y 0).val; rw [hb0, e0]; omega
  | ⟨1, _⟩ => show (y 1).val = (((cfg0.win 9).blk t).view.emb y 1).val; rw [hb1, e1]; omega

theorem flush9 : ∀ t : Fin cfg0.N, win0_9.flush t = true := by decide +kernel

/-- Every row lies in its tile's block. -/
theorem cover9 (i : S16384x512.Idx) : ∃ t : Fin cfg0.N, (cfg0.win 9).flush t = true ∧ i ∈ ((cfg0.win 9).blk t).view.set := by
  have h0 : (i 0).val < 16384 := (i 0).isLt
  have h1 : (i 1).val < 512 := (i 1).isLt
  have hN : cfg0.N = 128 := N_0
  let t : Fin cfg0.N := ⟨(i 0).val / 128, by omega⟩
  obtain ⟨e0, e1⟩ := index9 t
  refine ⟨t, flush9 t, ?_⟩
  show i ∈ ((View.whole main_v69).slice (win0_9.rect t)).set
  rw [View.set_slice_whole, Rect.mem_set_unit]
  intro a
  match a with
  | ⟨0, _⟩ =>
    show win0_9.index t (0 : Fin 2) * 128 ≤ (i 0).val ∧ (i 0).val < win0_9.index t (0 : Fin 2) * 128 + 128
    rw [e0]; show (i 0).val / 128 * 128 ≤ _ ∧ _ < (i 0).val / 128 * 128 + 128; omega
  | ⟨1, _⟩ =>
    show win0_9.index t (1 : Fin 2) * 512 ≤ (i 1).val ∧ (i 1).val < win0_9.index t (1 : Fin 2) * 512 + 512
    rw [e1]; omega

theorem final9 (c : Dev nD) : (dats m 0 c).arrAt 9 cfg0.N = G m c :=
  (dats m 0 c).arrAt_eq_of_cover 9 _ (fun t _ => flushed9 m c t) (fun i => cover9 i)

/-- The run, read: the result at the two branches' mathematics, every argument unchanged, every counter at zero. -/
theorem run : θ_run defs (onTc (τ := τ) (main (F := Ideal))) ⟨m, fun _ => 0, ρ⟩ (fun r => (∀ c : Dev nD,
      r.2.mem ((c.tc : Thread nD τ).loc main_v69) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => ⟨((h.1 c).1 9).trans (final9 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)
    (run_main m ρ)

end Cert.KernelIdeal.Hand

end
-- ==== Proof.AttRef.lean ====
/-
  The reference of the attention call, entry by entry.
-/
module

public import proofs.«01_k».proof.Proof.Gen.ReferenceIdeal.Run
public import Idealize.ShloMosaic.Lib.Pointwise
public import proofs.«01_k».proof.Proof.AttSpec
public import proofs.«01_k».proof.Proof.TileAtt

@[expose] public section

set_option maxRecDepth 16384
noncomputable section

namespace Cert.ReferenceIdeal.Hand

open Cert.ReferenceIdeal Cert.ReferenceIdeal.Gen Idealize.ShloMosaic Idealize.ShloMosaic.TcCoe Idealize.SL.Sem
open Cert.Att
open Cert.KernelIdeal.Hand (seen_apply seen_iff bits_bot and_one sge_int toInt_small ofBool_one)

/-- The queries by key/value head. -/
def qR (x0 : FVec Ideal S16384x8x64 .f32) : FVec Ideal S16384x2x4x64 .f32 := shapeCast _ x0 shapeCasts_S16384x8x64_S16384x2x4x64

/-- The gates by key/value head. -/
def gR (x7 : FVec Ideal S16384x8x3 .f32) : FVec Ideal S16384x2x4x3 .f32 := shapeCast _ x7 shapeCasts_S16384x8x3_S16384x2x4x3

/-- The compressed branch's mask. -/
def maskC : IVec S2x4x16384x1023 1 :=
  broadcastInDim S2x4x16384x1023 ![0, 1, 2, 3] bcast_S1x1x16384x1023_S2x4x16384x1023_0_1_2_3 (broadcastInDim S1x1x16384x1023 ![2, 3] bcast_S16384x1023_S1x1x16384x1023_2_3 (cmpi .sle (broadcastInDim S16384x1023 ![0, 1] bcast_S1x1023_S16384x1023_0_1 (broadcastInDim S1x1023 ![1] bcast_S1023_S1x1023_1 (addi (muli (iotaInDim S1023 32 0) (broadcastInDim S1023 ![] bcast_S_S1023 (constantI S_ 32 16#32))) (broadcastInDim S1023 ![] bcast_S_S1023 (constantI S_ 32 31#32))))) (broadcastInDim S16384x1023 ![0, 1] bcast_S16384x1_S16384x1023_0_1 (broadcastInDim S16384x1 ![0] bcast_S16384_S16384x1_0 (iotaInDim S16384 32 0)))))

/-- The compressed branch's scores. -/
def scC (x1 : FVec Ideal S1023x2x64 .f32) (q : FVec Ideal S16384x2x4x64 .f32) : FVec Ideal S2x4x16384x1023 .f32 :=
  (transpose S2x4x16384x1023 [0, 3, 2, 1] (Host.dotGeneral dot_S1023x2x64_S16384x2x4x64_S2x1023x16384x4_2_3_0_02_1_1 none x1 q) transposes_S2x1023x16384x4_S2x4x16384x1023_0_3_2_1)

/-- The scores, −∞ where the mask is off. -/
def msC (s : FVec Ideal S2x4x16384x1023 .f32) : FVec Ideal S2x4x16384x1023 .f32 :=
  (select maskC s (broadcastInDim S2x4x16384x1023 ![] bcast_S_S2x4x16384x1023 (id (constant S_ .f32 0xFF800000#32))))

/-- The exponentials against the row's largest score, zero where the mask is off. -/
def numC (s : FVec Ideal S2x4x16384x1023 .f32) : FVec Ideal S2x4x16384x1023 .f32 :=
  (select maskC (Host.exp (subf s (broadcastInDim S2x4x16384x1023 ![0, 1, 2, 3] bcast_S2x4x16384x1_S2x4x16384x1023_0_1_2_3 (broadcastInDim S2x4x16384x1 ![0, 1, 2] bcast_S2x4x16384_S2x4x16384x1_0_1_2 (Host.reduce FloatOps.maximumf s (constant S_ .f32 0xFF800000#32) reducesTo_S2x4x16384x1023_S2x4x16384_d3 h_S_))))) (broadcastInDim S2x4x16384x1023 ![] bcast_S_S2x4x16384x1023 (id (constant S_ .f32 0x00000000#32))))

/-- The weights. -/
def pC (e : FVec Ideal S2x4x16384x1023 .f32) : FVec Ideal S2x4x16384x1023 .f32 :=
  (Host.divf e (broadcastInDim S2x4x16384x1023 ![0, 1, 2, 3] bcast_S2x4x16384x1_S2x4x16384x1023_0_1_2_3 (maximumf (broadcastInDim S2x4x16384x1 ![0, 1, 2] bcast_S2x4x16384_S2x4x16384x1_0_1_2 (Host.reduceAdd e (constant S_ .f32 0x00000000#32) reducesTo_S2x4x16384x1023_S2x4x16384_d3 h_S_)) (broadcastInDim S2x4x16384x1 ![] bcast_S_S2x4x16384x1 (constant S_ .f32 0x0DA24260#32)))))

/-- The compressed branch's output. -/
def oC (x2 : FVec Ideal S1023x2x64 .f32) (p : FVec Ideal S2x4x16384x1023 .f32) : FVec Ideal S16384x2x4x64 .f32 :=
  (transpose S16384x2x4x64 [3, 0, 2, 1] (Host.dotGeneral dot_S1023x2x64_S2x4x16384x1023_S2x64x4x16384_0_3_2_12_1_0 none x2 p) transposes_S2x64x4x16384_S16384x2x4x64_3_0_2_1)

/-- The window's branch's mask. -/
def maskW : IVec S2x4x16384x16384 1 :=
  broadcastInDim S2x4x16384x16384 ![0, 1, 2, 3] bcast_S1x1x16384x16384_S2x4x16384x16384_0_1_2_3 (broadcastInDim S1x1x16384x16384 ![2, 3] bcast_S16384x16384_S1x1x16384x16384_2_3 (andi (cmpi .sge (subi (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0)))) (broadcastInDim S16384x16384 ![] bcast_S_S16384x16384 (constantI S_ 32 0#32))) (cmpi .slt (subi (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0)))) (broadcastInDim S16384x16384 ![] bcast_S_S16384x16384 (constantI S_ 32 512#32)))))

/-- The window's branch's scores. -/
def scW (x5 : FVec Ideal S16384x2x64 .f32) (q : FVec Ideal S16384x2x4x64 .f32) : FVec Ideal S2x4x16384x16384 .f32 :=
  (transpose S2x4x16384x16384 [0, 3, 2, 1] (Host.dotGeneral dot_S16384x2x64_S16384x2x4x64_S2x16384x16384x4_2_3_0_02_1_1 none x5 q) transposes_S2x16384x16384x4_S2x4x16384x16384_0_3_2_1)

/-- The scores, −∞ where the mask is off. -/
def msW (s : FVec Ideal S2x4x16384x16384 .f32) : FVec Ideal S2x4x16384x16384 .f32 :=
  (select maskW s (broadcastInDim S2x4x16384x16384 ![] bcast_S_S2x4x16384x16384 (id (constant S_ .f32 0xFF800000#32))))

/-- The exponentials against the row's largest score, zero where the mask is off. -/
def numW (s : FVec Ideal S2x4x16384x16384 .f32) : FVec Ideal S2x4x16384x16384 .f32 :=
  (select maskW (Host.exp (subf s (broadcastInDim S2x4x16384x16384 ![0, 1, 2, 3] bcast_S2x4x16384x1_S2x4x16384x16384_0_1_2_3 (broadcastInDim S2x4x16384x1 ![0, 1, 2] bcast_S2x4x16384_S2x4x16384x1_0_1_2 (Host.reduce FloatOps.maximumf s (constant S_ .f32 0xFF800000#32) reducesTo_S2x4x16384x16384_S2x4x16384_d3 h_S_))))) (broadcastInDim S2x4x16384x16384 ![] bcast_S_S2x4x16384x16384 (id (constant S_ .f32 0x00000000#32))))

/-- The weights. -/
def pW (e : FVec Ideal S2x4x16384x16384 .f32) : FVec Ideal S2x4x16384x16384 .f32 :=
  (Host.divf e (broadcastInDim S2x4x16384x16384 ![0, 1, 2, 3] bcast_S2x4x16384x1_S2x4x16384x16384_0_1_2_3 (maximumf (broadcastInDim S2x4x16384x1 ![0, 1, 2] bcast_S2x4x16384_S2x4x16384x1_0_1_2 (Host.reduceAdd e (constant S_ .f32 0x00000000#32) reducesTo_S2x4x16384x16384_S2x4x16384_d3 h_S_)) (broadcastInDim S2x4x16384x1 ![] bcast_S_S2x4x16384x1 (constant S_ .f32 0x0DA24260#32)))))

/-- The window's branch's output. -/
def oW (x6 : FVec Ideal S16384x2x64 .f32) (p : FVec Ideal S2x4x16384x16384 .f32) : FVec Ideal S16384x2x4x64 .f32 :=
  (transpose S16384x2x4x64 [3, 0, 2, 1] (Host.dotGeneral dot_S16384x2x64_S2x4x16384x16384_S2x64x4x16384_0_3_2_12_1_0 none x6 p) transposes_S2x64x4x16384_S16384x2x4x64_3_0_2_1)

/-- The gated sum, laid out token by token. -/
def outR (g : FVec Ideal S16384x2x4x3 .f32) (oc ow : FVec Ideal S16384x2x4x64 .f32) : FVec Ideal S16384x512 .bf16 :=
  truncf .bf16 (shapeCast _ (addf (mulf (broadcastInDim S16384x2x4x64 ![0, 1, 2, 3] bcast_S16384x2x4x1_S16384x2x4x64_0_1_2_3 (extractStridedSlice S16384x2x4x1 ![0, 0, 0, 0] g slices_S16384x2x4x3_S16384x2x4x1_0_0_0_0)) oc) (mulf (broadcastInDim S16384x2x4x64 ![0, 1, 2, 3] bcast_S16384x2x4x1_S16384x2x4x64_0_1_2_3 (extractStridedSlice S16384x2x4x1 ![0, 0, 0, 2] g slices_S16384x2x4x3_S16384x2x4x1_0_0_0_2)) ow)) shapeCasts_S16384x2x4x64_S16384x512) bitsLt_bf16_f32

variable (m : (ℓ : Loc nD τ sig) → Buf (Elt Ideal) ℓ) (c : Dev nD)

theorem res_eq : (Value.res_main_v67 m c : Vec Ideal S16384x512 .bf16) = outR (gR (m ((c.tc : Thread nD τ).loc main_arg7))) (oC (m ((c.tc : Thread nD τ).loc main_arg2)) (pC (numC (msC (scC (m ((c.tc : Thread nD τ).loc main_arg1)) (qR (m ((c.tc : Thread nD τ).loc main_arg0)))))))) (oW (m ((c.tc : Thread nD τ).loc main_arg6)) (pW (numW (msW (scW (m ((c.tc : Thread nD τ).loc main_arg5)) (qR (m ((c.tc : Thread nD τ).loc main_arg0)))))))) := rfl

theorem bits_zero : Ideal.ofBits FTy.f32 0x00000000#32 = 0 := by simp [Ideal.ofBits, Ideal.ieee]

theorem slt_int (a b : BitVec 32) : IntOp.cmpi CmpIPredicate.slt a b = 1#1 ↔ a.toInt < b.toInt := by
  simp [IntOp.cmpi, ofBool_one, BitVec.slt]

theorem sub_int (a b : ℕ) (ha : a < 16384) (hb : b < 16384) : (IntOp.subi (BitVec.ofNat 32 a) (BitVec.ofNat 32 b)).toInt = (a : Int) - b := by
  show (BitVec.ofNat 32 a - BitVec.ofNat 32 b).toInt = _
  rw [BitVec.toInt_sub, toInt_small _ (by omega), toInt_small _ (by omega), Int.bmod_def]
  omega

theorem late_iff (n t : ℕ) (hn : n < 16384) (ht : t < 16384) :
    IntOp.andi (IntOp.cmpi CmpIPredicate.sge (IntOp.subi (BitVec.ofNat 32 t) (BitVec.ofNat 32 n)) 0#32)
      (IntOp.cmpi CmpIPredicate.slt (IntOp.subi (BitVec.ofNat 32 t) (BitVec.ofNat 32 n)) 512#32) = 1#1 ↔ n ≤ t ∧ t < n + 512 := by
  rw [and_one, sge_int, slt_int, sub_int t n ht hn, show (0#32).toInt = 0 from rfl, show (512#32).toInt = 512 from rfl]
  omega

theorem scC_apply (k : FVec Ideal S1023x2x64 .f32) (x : FVec Ideal S16384x8x64 .f32) (b : Fin 2) (g : Fin 4) (t : Fin 16384) (n : Fin 1023) :
    scC k (qR x) (ix4 b g t n) = ∑ a : Fin 64, k (ix3 n b a) * x (ix3 t ⟨4 * b.val + g.val, by omega⟩ a) := by
  pointwise [scC, qR]
  refine Finset.sum_congr rfl fun a _ => ?_
  congr 3; apply Fin.ext; dsimp only; omega
theorem scW_apply (k : FVec Ideal S16384x2x64 .f32) (x : FVec Ideal S16384x8x64 .f32) (b : Fin 2) (g : Fin 4) (t : Fin 16384) (n : Fin 16384) :
    scW k (qR x) (ix4 b g t n) = ∑ a : Fin 64, k (ix3 n b a) * x (ix3 t ⟨4 * b.val + g.val, by omega⟩ a) := by
  pointwise [scW, qR]
  refine Finset.sum_congr rfl fun a _ => ?_
  congr 3; apply Fin.ext; dsimp only; omega
theorem msC_apply (s : FVec Ideal S2x4x16384x1023 .f32) (b : Fin 2) (g : Fin 4) (t : Fin 16384) (n : Fin 1023) :
    msC s (ix4 b g t n) = if 16 * n.val + 31 ≤ t.val then s (ix4 b g t n) else ⊥ := by
  pointwise [msC, maskC]
  rw [seen_apply, if_congr (seen_iff _ _ (by omega) (by omega)) rfl rfl]
  exact congrArg (fun y : EReal => if 16 * n.val + 31 ≤ t.val then _ else y) bits_bot
theorem msW_apply (s : FVec Ideal S2x4x16384x16384 .f32) (b : Fin 2) (g : Fin 4) (t : Fin 16384) (n : Fin 16384) :
    msW s (ix4 b g t n) = if n.val ≤ t.val ∧ t.val < n.val + 512 then s (ix4 b g t n) else ⊥ := by
  pointwise [msW, maskW]
  rw [seen_apply, if_congr (late_iff _ _ (by omega) (by omega)) rfl rfl]
  exact congrArg (fun y : EReal => if n.val ≤ t.val ∧ t.val < n.val + 512 then _ else y) bits_bot
theorem numC_apply (s : FVec Ideal S2x4x16384x1023 .f32) (b : Fin 2) (g : Fin 4) (t : Fin 16384) (n : Fin 1023) :
    numC s (ix4 b g t n) = if 16 * n.val + 31 ≤ t.val then Ideal.exp (s (ix4 b g t n) - Finset.univ.fold max ⊥ fun j => s (ix4 b g t j)) else 0 := by
  pointwise [numC, maskC]
  rw [seen_apply, if_congr (seen_iff _ _ (by omega) (by omega)) rfl rfl, bits_bot]
  exact congrArg (fun y : EReal => if 16 * n.val + 31 ≤ t.val then _ else y) bits_zero
theorem numW_apply (s : FVec Ideal S2x4x16384x16384 .f32) (b : Fin 2) (g : Fin 4) (t : Fin 16384) (n : Fin 16384) :
    numW s (ix4 b g t n) = if n.val ≤ t.val ∧ t.val < n.val + 512 then Ideal.exp (s (ix4 b g t n) - Finset.univ.fold max ⊥ fun j => s (ix4 b g t j)) else 0 := by
  pointwise [numW, maskW]
  rw [seen_apply, if_congr (late_iff _ _ (by omega) (by omega)) rfl rfl, bits_bot]
  exact congrArg (fun y : EReal => if n.val ≤ t.val ∧ t.val < n.val + 512 then _ else y) bits_zero
theorem pC_apply (e : FVec Ideal S2x4x16384x1023 .f32) (b : Fin 2) (g : Fin 4) (t : Fin 16384) (n : Fin 1023) :
    pC e (ix4 b g t n) = Ideal.div (e (ix4 b g t n)) (max (∑ j, e (ix4 b g t j)) eps) := by
  pointwise [pC]
  rfl
theorem pW_apply (e : FVec Ideal S2x4x16384x16384 .f32) (b : Fin 2) (g : Fin 4) (t : Fin 16384) (n : Fin 16384) :
    pW e (ix4 b g t n) = Ideal.div (e (ix4 b g t n)) (max (∑ j, e (ix4 b g t j)) eps) := by
  pointwise [pW]
  rfl
theorem oC_apply (v : FVec Ideal S1023x2x64 .f32) (p : FVec Ideal S2x4x16384x1023 .f32) (b : Fin 2) (g : Fin 4) (t : Fin 16384) (d : Fin 64) :
    oC v p (ix4 t b g d) = ∑ n, v (ix3 n b d) * p (ix4 b g t n) := by
  pointwise [oC]
theorem oW_apply (v : FVec Ideal S16384x2x64 .f32) (p : FVec Ideal S2x4x16384x16384 .f32) (b : Fin 2) (g : Fin 4) (t : Fin 16384) (d : Fin 64) :
    oW v p (ix4 t b g d) = ∑ n, v (ix3 n b d) * p (ix4 b g t n) := by
  pointwise [oW]
theorem outR_apply (x : FVec Ideal S16384x8x3 .f32) (oc ow : FVec Ideal S16384x2x4x64 .f32) (b : Fin 2) (g : Fin 4) (t : Fin 16384) (d : Fin 64) :
    outR (gR x) oc ow (ix2 t ⟨256 * b.val + 64 * g.val + d.val, by omega⟩)
      = x (ix3 t ⟨4 * b.val + g.val, by omega⟩ 0) * oc (ix4 t b g d) + x (ix3 t ⟨4 * b.val + g.val, by omega⟩ 2) * ow (ix4 t b g d) := by
  have e : (⟨b.val * 4 + g.val, by omega⟩ : Fin 8) = ⟨4 * b.val + g.val, by omega⟩ := by apply Fin.ext; dsimp only; omega
  pointwise [outR, gR]
  rw [e]

/-- The compressed branch of the reference. -/
theorem cmp_ref (k v : FVec Ideal S1023x2x64 .f32) (x : FVec Ideal S16384x8x64 .f32) (b : Fin 2) (g : Fin 4) (t : Fin 16384) (d : Fin 64) :
    oC v (pC (numC (msC (scC k (qR x))))) (ix4 t b g d) = att (Finset.univ.filter fun n : Fin 1023 => 16 * n.val + 31 ≤ t.val)
      (fun n => ∑ a : Fin 64, k (ix3 n b a) * x (ix3 t ⟨4 * b.val + g.val, by omega⟩ a)) (fun n => v (ix3 n b d)) := by
  rw [oC_apply]
  simp only [pC_apply, numC_apply, msC_apply, scC_apply]
  exact att_ref (fun n : Fin 1023 => 16 * n.val + 31 ≤ t.val) _ _ _ rfl

/-- The window's branch of the reference. -/
theorem win_ref (k v : FVec Ideal S16384x2x64 .f32) (x : FVec Ideal S16384x8x64 .f32) (b : Fin 2) (g : Fin 4) (t : Fin 16384) (d : Fin 64) :
    oW v (pW (numW (msW (scW k (qR x))))) (ix4 t b g d) = att (Finset.univ.filter fun n : Fin 16384 => n.val ≤ t.val ∧ t.val < n.val + 512)
      (fun n => ∑ a : Fin 64, k (ix3 n b a) * x (ix3 t ⟨4 * b.val + g.val, by omega⟩ a)) (fun n => v (ix3 n b d)) := by
  rw [oW_apply]
  simp only [pW_apply, numW_apply, msW_apply, scW_apply]
  exact att_ref (fun n : Fin 16384 => n.val ≤ t.val ∧ t.val < n.val + 512) _ _ _ rfl

/-- The reference's result. -/
theorem ref_spec (b : Fin 2) (g : Fin 4) (t : Fin 16384) (d : Fin 64) :
    (Value.res_main_v67 m c : Vec Ideal S16384x512 .bf16) (ix2 t ⟨256 * b.val + 64 * g.val + d.val, by omega⟩)
      = spec (fun t h d => (m ((c.tc : Thread nD τ).loc main_arg0) : Vec Ideal S16384x8x64 .f32) (ix3 t h d))
          (fun n b d => (m ((c.tc : Thread nD τ).loc main_arg1) : Vec Ideal S1023x2x64 .f32) (ix3 n b d))
          (fun n b d => (m ((c.tc : Thread nD τ).loc main_arg2) : Vec Ideal S1023x2x64 .f32) (ix3 n b d))
          (fun n b d => (m ((c.tc : Thread nD τ).loc main_arg5) : Vec Ideal S16384x2x64 .f32) (ix3 n b d))
          (fun n b d => (m ((c.tc : Thread nD τ).loc main_arg6) : Vec Ideal S16384x2x64 .f32) (ix3 n b d))
          (fun t h r => (m ((c.tc : Thread nD τ).loc main_arg7) : Vec Ideal S16384x8x3 .f32) (ix3 t h r))
          t ⟨4 * b.val + g.val, by omega⟩ d := by
  have e : kvOf ⟨4 * b.val + g.val, by omega⟩ = b := by apply Fin.ext; show (4 * b.val + g.val) / 4 = b.val; omega
  rw [res_eq, outR_apply, cmp_ref, win_ref]
  unfold spec
  rw [e]

end Cert.ReferenceIdeal.Hand

end
-- ==== Proof.FfnTile.lean ====
/-
  The channel mixer's tile (256 rows): what one grid point stores, as one expression of the row block, the weights
  and the two rows of up-projection that the point before left.
-/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384
noncomputable section

namespace Cert.Kernel2Ideal.Hand

open Cert.Kernel2Ideal Cert.Kernel2Ideal.Gen Idealize.ShloMosaic Idealize.ShloMosaic.TcCoe Idealize.SL.Sem

variable {F : FTy → Type} [FloatOps F]

/-- A block's rows over their root mean square, times the gain. -/
def rmsT (x : FVec F S256x1024 .f32) (g : Vec F S1x1024 .f32) : FVec F S256x1024 .f32 :=
  mulf (mulf x (broadcastTo S256x1024 (rsqrt (addf
      (divf (shapeCast S256x1 (multiReduction .add [1] S256 (mulf x x) 0x00000000#32 reduces_S256x1024_S256 (.inl rfl) rfl) shapeCasts_S256_S256x1)
        (broadcast S256x1 (Scalar.ofBits .f32 0x44800000#32)))
      (broadcast S256x1 (Scalar.ofBits .f32 0x358637BD#32)))) broadcasts_S256x1_S256x1024))
    (broadcastTo S256x1024 (shapeCast S1x1024 g shapeCasts_S1x1024_S1x1024) broadcasts_S1x1024_S256x1024)

/-- The normalised block, in the width of the products. -/
def normT (x : Vec F S256x1024 .f32) (g : Vec F S1x1024 .f32) : FVec F S256x1024 .bf16 :=
  truncf .bf16 (rmsT (shapeCast S256x1024 x shapeCasts_S256x1024_S256x1024) g) bitsLt_bf16_f32

/-- 256 columns of the up-projection. -/
def upT (h : FVec F S256x1024 .bf16) (w : Vec F S1024x256 .bf16) : FVec F S256x256 .f32 :=
  matmul dot_S256x1024_S1024x256_S256x256_1_0_0_1_n_n none h (shapeCast S1024x256 w shapeCasts_S1024x256_S1024x256)
    (constant S256x256 .f32 0x00000000#32)

/-- A block's rows where the row index is `k`, else the other block's. -/
def rowSel (k : BitVec 32) (a : FVec F S1x256 .f32) (b : FVec F S256x256 .f32) : FVec F S256x256 .f32 :=
  select (broadcastTo S256x256 (shapeCast S256x1 (cmpi .eq (iota .tc S256x1 32 [0] iota_S256x1_d0_w32) (broadcast S256x1 k))
      shapeCasts_S256x1_S256x1) broadcasts_S256x1_S256x256)
    (broadcastTo S256x256 (shapeCast S1x256 a shapeCasts_S1x256_S1x256) broadcasts_S1x256_S256x256) b

/-- The causal convolution of 256 columns: the rows shifted by one and by two, their first rows taken from the halo. -/
def convT (up : FVec F S256x256 .f32) (halo : Vec F S8x256 .f32) (cw : Vec F S3x256 .f32) (cb : Vec F S1x256 .f32) : FVec F S256x256 .f32 :=
  addf (addf (addf (broadcastTo S256x256 (shapeCast S1x256 cb shapeCasts_S1x256_S1x256) broadcasts_S1x256_S256x256)
      (mulf (broadcastTo S256x256 (extractStridedSlice S1x256 ![0, 0] (shapeCast S3x256 cw shapeCasts_S3x256_S3x256) slices_S3x256_o0_0_S1x256) broadcasts_S1x256_S256x256)
        (rowSel 1#32 (extractStridedSlice S1x256 ![7, 0] halo slices_S8x256_o7_0_S1x256)
          (rowSel 0#32 (extractStridedSlice S1x256 ![6, 0] halo slices_S8x256_o6_0_S1x256)
            (dynamicRotate 0 2#32 none up rotates_S256x256_d0)))))
      (mulf (broadcastTo S256x256 (extractStridedSlice S1x256 ![1, 0] (shapeCast S3x256 cw shapeCasts_S3x256_S3x256) slices_S3x256_o1_0_S1x256) broadcasts_S1x256_S256x256)
        (rowSel 0#32 (extractStridedSlice S1x256 ![7, 0] halo slices_S8x256_o7_0_S1x256)
          (dynamicRotate 0 1#32 none up rotates_S256x256_d0))))
    (mulf (broadcastTo S256x256 (extractStridedSlice S1x256 ![2, 0] (shapeCast S3x256 cw shapeCasts_S3x256_S3x256) slices_S3x256_o2_0_S1x256) broadcasts_S1x256_S256x256) up)

/-- `gate · sigmoid(gate) · val`. -/
def actT (gate val : FVec F S256x256 .f32) : FVec F S256x256 .bf16 :=
  truncf .bf16 (mulf (mulf gate (divf (broadcast S256x256 (Scalar.ofBits .f32 0x3F800000#32))
    (addf (broadcast S256x256 (Scalar.ofBits .f32 0x3F800000#32))
      (exp (subf (broadcast S256x256 (Scalar.ofBits .f32 0x00000000#32)) gate))))) val) bitsLt_bf16_f32

/-- 256 hidden columns' part of the down-projection. -/
def downT (a : FVec F S256x256 .bf16) (w : Vec F S256x1024 .bf16) : FVec F S256x1024 .f32 :=
  matmul dot_S256x256_S256x1024_S256x1024_1_0_0_1_n_n none a (shapeCast S256x1024 w shapeCasts_S256x1024_S256x1024)
    (constant S256x1024 .f32 0x00000000#32)

/-- The last eight rows. -/
def lastRows (up : FVec F S256x256 .f32) : FVec F S8x256 .f32 :=
  shapeCast S8x256 (extractStridedSlice S8x256 ![248, 0] up slices_S256x256_o248_0_S8x256) shapeCasts_S8x256_S8x256

/-- The hidden columns' parts, added in the kernel's order. -/
def accT (x0 : Vec F S256x1024 .f32) (x1 : Vec F S1x1024 .f32) (x2 : Vec F S1024x5632 .bf16) (x3 : Vec F S3x5632 .f32) (x4 : Vec F S1x5632 .f32) (x5 : Vec F S2816x1024 .bf16) (xs0 : Vec F S8x5632 .f32) : FVec F S256x1024 .f32 :=
  (addf
    (addf
    (addf
    (addf
    (addf
    (addf
    (addf
    (addf
    (addf
    (addf
    (downT (actT (convT (upT (normT x0 x1) (View.ld x2 (Rect.unit ![0, 0] ![1024, 256] inb_S1024x5632_S1024x256_0_0))) (View.ld xs0 (Rect.unit ![0, 0] ![8, 256] inb_S8x5632_S8x256_0_0)) (View.ld x3 (Rect.unit ![0, 0] ![3, 256] inb_S3x5632_S3x256_0_0)) (View.ld x4 (Rect.unit ![0, 0] ![1, 256] inb_S1x5632_S1x256_0_0))) (convT (upT (normT x0 x1) (View.ld x2 (Rect.unit ![0, 2816] ![1024, 256] inb_S1024x5632_S1024x256_0_2816))) (View.ld xs0 (Rect.unit ![0, 2816] ![8, 256] inb_S8x5632_S8x256_0_2816)) (View.ld x3 (Rect.unit ![0, 2816] ![3, 256] inb_S3x5632_S3x256_0_2816)) (View.ld x4 (Rect.unit ![0, 2816] ![1, 256] inb_S1x5632_S1x256_0_2816)))) (View.ld x5 (Rect.unit ![0, 0] ![256, 1024] inb_S2816x1024_S256x1024_0_0)))
    (downT (actT (convT (upT (normT x0 x1) (View.ld x2 (Rect.unit ![0, 256] ![1024, 256] inb_S1024x5632_S1024x256_0_256))) (View.ld xs0 (Rect.unit ![0, 256] ![8, 256] inb_S8x5632_S8x256_0_256)) (View.ld x3 (Rect.unit ![0, 256] ![3, 256] inb_S3x5632_S3x256_0_256)) (View.ld x4 (Rect.unit ![0, 256] ![1, 256] inb_S1x5632_S1x256_0_256))) (convT (upT (normT x0 x1) (View.ld x2 (Rect.unit ![0, 3072] ![1024, 256] inb_S1024x5632_S1024x256_0_3072))) (View.ld xs0 (Rect.unit ![0, 3072] ![8, 256] inb_S8x5632_S8x256_0_3072)) (View.ld x3 (Rect.unit ![0, 3072] ![3, 256] inb_S3x5632_S3x256_0_3072)) (View.ld x4 (Rect.unit ![0, 3072] ![1, 256] inb_S1x5632_S1x256_0_3072)))) (View.ld x5 (Rect.unit ![256, 0] ![256, 1024] inb_S2816x1024_S256x1024_256_0))))
    (downT (actT (convT (upT (normT x0 x1) (View.ld x2 (Rect.unit ![0, 512] ![1024, 256] inb_S1024x5632_S1024x256_0_512))) (View.ld xs0 (Rect.unit ![0, 512] ![8, 256] inb_S8x5632_S8x256_0_512)) (View.ld x3 (Rect.unit ![0, 512] ![3, 256] inb_S3x5632_S3x256_0_512)) (View.ld x4 (Rect.unit ![0, 512] ![1, 256] inb_S1x5632_S1x256_0_512))) (convT (upT (normT x0 x1) (View.ld x2 (Rect.unit ![0, 3328] ![1024, 256] inb_S1024x5632_S1024x256_0_3328))) (View.ld xs0 (Rect.unit ![0, 3328] ![8, 256] inb_S8x5632_S8x256_0_3328)) (View.ld x3 (Rect.unit ![0, 3328] ![3, 256] inb_S3x5632_S3x256_0_3328)) (View.ld x4 (Rect.unit ![0, 3328] ![1, 256] inb_S1x5632_S1x256_0_3328)))) (View.ld x5 (Rect.unit ![512, 0] ![256, 1024] inb_S2816x1024_S256x1024_512_0))))
    (downT (actT (convT (upT (normT x0 x1) (View.ld x2 (Rect.unit ![0, 768] ![1024, 256] inb_S1024x5632_S1024x256_0_768))) (View.ld xs0 (Rect.unit ![0, 768] ![8, 256] inb_S8x5632_S8x256_0_768)) (View.ld x3 (Rect.unit ![0, 768] ![3, 256] inb_S3x5632_S3x256_0_768)) (View.ld x4 (Rect.unit ![0, 768] ![1, 256] inb_S1x5632_S1x256_0_768))) (convT (upT (normT x0 x1) (View.ld x2 (Rect.unit ![0, 3584] ![1024, 256] inb_S1024x5632_S1024x256_0_3584))) (View.ld xs0 (Rect.unit ![0, 3584] ![8, 256] inb_S8x5632_S8x256_0_3584)) (View.ld x3 (Rect.unit ![0, 3584] ![3, 256] inb_S3x5632_S3x256_0_3584)) (View.ld x4 (Rect.unit ![0, 3584] ![1, 256] inb_S1x5632_S1x256_0_3584)))) (View.ld x5 (Rect.unit ![768, 0] ![256, 1024] inb_S2816x1024_S256x1024_768_0))))
    (downT (actT (convT (upT (normT x0 x1) (View.ld x2 (Rect.unit ![0, 1024] ![1024, 256] inb_S1024x5632_S1024x256_0_1024))) (View.ld xs0 (Rect.unit ![0, 1024] ![8, 256] inb_S8x5632_S8x256_0_1024)) (View.ld x3 (Rect.unit ![0, 1024] ![3, 256] inb_S3x5632_S3x256_0_1024)) (View.ld x4 (Rect.unit ![0, 1024] ![1, 256] inb_S1x5632_S1x256_0_1024))) (convT (upT (normT x0 x1) (View.ld x2 (Rect.unit ![0, 3840] ![1024, 256] inb_S1024x5632_S1024x256_0_3840))) (View.ld xs0 (Rect.unit ![0, 3840] ![8, 256] inb_S8x5632_S8x256_0_3840)) (View.ld x3 (Rect.unit ![0, 3840] ![3, 256] inb_S3x5632_S3x256_0_3840)) (View.ld x4 (Rect.unit ![0, 3840] ![1, 256] inb_S1x5632_S1x256_0_3840)))) (View.ld x5 (Rect.unit ![1024, 0] ![256, 1024] inb_S2816x1024_S256x1024_1024_0))))
    (downT (actT (convT (upT (normT x0 x1) (View.ld x2 (Rect.unit ![0, 1280] ![1024, 256] inb_S1024x5632_S1024x256_0_1280))) (View.ld xs0 (Rect.unit ![0, 1280] ![8, 256] inb_S8x5632_S8x256_0_1280)) (View.ld x3 (Rect.unit ![0, 1280] ![3, 256] inb_S3x5632_S3x256_0_1280)) (View.ld x4 (Rect.unit ![0, 1280] ![1, 256] inb_S1x5632_S1x256_0_1280))) (convT (upT (normT x0 x1) (View.ld x2 (Rect.unit ![0, 4096] ![1024, 256] inb_S1024x5632_S1024x256_0_4096))) (View.ld xs0 (Rect.unit ![0, 4096] ![8, 256] inb_S8x5632_S8x256_0_4096)) (View.ld x3 (Rect.unit ![0, 4096] ![3, 256] inb_S3x5632_S3x256_0_4096)) (View.ld x4 (Rect.unit ![0, 4096] ![1, 256] inb_S1x5632_S1x256_0_4096)))) (View.ld x5 (Rect.unit ![1280, 0] ![256, 1024] inb_S2816x1024_S256x1024_1280_0))))
    (downT (actT (convT (upT (normT x0 x1) (View.ld x2 (Rect.unit ![0, 1536] ![1024, 256] inb_S1024x5632_S1024x256_0_1536))) (View.ld xs0 (Rect.unit ![0, 1536] ![8, 256] inb_S8x5632_S8x256_0_1536)) (View.ld x3 (Rect.unit ![0, 1536] ![3, 256] inb_S3x5632_S3x256_0_1536)) (View.ld x4 (Rect.unit ![0, 1536] ![1, 256] inb_S1x5632_S1x256_0_1536))) (convT (upT (normT x0 x1) (View.ld x2 (Rect.unit ![0, 4352] ![1024, 256] inb_S1024x5632_S1024x256_0_4352))) (View.ld xs0 (Rect.unit ![0, 4352] ![8, 256] inb_S8x5632_S8x256_0_4352)) (View.ld x3 (Rect.unit ![0, 4352] ![3, 256] inb_S3x5632_S3x256_0_4352)) (View.ld x4 (Rect.unit ![0, 4352] ![1, 256] inb_S1x5632_S1x256_0_4352)))) (View.ld x5 (Rect.unit ![1536, 0] ![256, 1024] inb_S2816x1024_S256x1024_1536_0))))
    (downT (actT (convT (upT (normT x0 x1) (View.ld x2 (Rect.unit ![0, 1792] ![1024, 256] inb_S1024x5632_S1024x256_0_1792))) (View.ld xs0 (Rect.unit ![0, 1792] ![8, 256] inb_S8x5632_S8x256_0_1792)) (View.ld x3 (Rect.unit ![0, 1792] ![3, 256] inb_S3x5632_S3x256_0_1792)) (View.ld x4 (Rect.unit ![0, 1792] ![1, 256] inb_S1x5632_S1x256_0_1792))) (convT (upT (normT x0 x1) (View.ld x2 (Rect.unit ![0, 4608] ![1024, 256] inb_S1024x5632_S1024x256_0_4608))) (View.ld xs0 (Rect.unit ![0, 4608] ![8, 256] inb_S8x5632_S8x256_0_4608)) (View.ld x3 (Rect.unit ![0, 4608] ![3, 256] inb_S3x5632_S3x256_0_4608)) (View.ld x4 (Rect.unit ![0, 4608] ![1, 256] inb_S1x5632_S1x256_0_4608)))) (View.ld x5 (Rect.unit ![1792, 0] ![256, 1024] inb_S2816x1024_S256x1024_1792_0))))
    (downT (actT (convT (upT (normT x0 x1) (View.ld x2 (Rect.unit ![0, 2048] ![1024, 256] inb_S1024x5632_S1024x256_0_2048))) (View.ld xs0 (Rect.unit ![0, 2048] ![8, 256] inb_S8x5632_S8x256_0_2048)) (View.ld x3 (Rect.unit ![0, 2048] ![3, 256] inb_S3x5632_S3x256_0_2048)) (View.ld x4 (Rect.unit ![0, 2048] ![1, 256] inb_S1x5632_S1x256_0_2048))) (convT (upT (normT x0 x1) (View.ld x2 (Rect.unit ![0, 4864] ![1024, 256] inb_S1024x5632_S1024x256_0_4864))) (View.ld xs0 (Rect.unit ![0, 4864] ![8, 256] inb_S8x5632_S8x256_0_4864)) (View.ld x3 (Rect.unit ![0, 4864] ![3, 256] inb_S3x5632_S3x256_0_4864)) (View.ld x4 (Rect.unit ![0, 4864] ![1, 256] inb_S1x5632_S1x256_0_4864)))) (View.ld x5 (Rect.unit ![2048, 0] ![256, 1024] inb_S2816x1024_S256x1024_2048_0))))
    (downT (actT (convT (upT (normT x0 x1) (View.ld x2 (Rect.unit ![0, 2304] ![1024, 256] inb_S1024x5632_S1024x256_0_2304))) (View.ld xs0 (Rect.unit ![0, 2304] ![8, 256] inb_S8x5632_S8x256_0_2304)) (View.ld x3 (Rect.unit ![0, 2304] ![3, 256] inb_S3x5632_S3x256_0_2304)) (View.ld x4 (Rect.unit ![0, 2304] ![1, 256] inb_S1x5632_S1x256_0_2304))) (convT (upT (normT x0 x1) (View.ld x2 (Rect.unit ![0, 5120] ![1024, 256] inb_S1024x5632_S1024x256_0_5120))) (View.ld xs0 (Rect.unit ![0, 5120] ![8, 256] inb_S8x5632_S8x256_0_5120)) (View.ld x3 (Rect.unit ![0, 5120] ![3, 256] inb_S3x5632_S3x256_0_5120)) (View.ld x4 (Rect.unit ![0, 5120] ![1, 256] inb_S1x5632_S1x256_0_5120)))) (View.ld x5 (Rect.unit ![2304, 0] ![256, 1024] inb_S2816x1024_S256x1024_2304_0))))
    (downT (actT (convT (upT (normT x0 x1) (View.ld x2 (Rect.unit ![0, 2560] ![1024, 256] inb_S1024x5632_S1024x256_0_2560))) (View.ld xs0 (Rect.unit ![0, 2560] ![8, 256] inb_S8x5632_S8x256_0_2560)) (View.ld x3 (Rect.unit ![0, 2560] ![3, 256] inb_S3x5632_S3x256_0_2560)) (View.ld x4 (Rect.unit ![0, 2560] ![1, 256] inb_S1x5632_S1x256_0_2560))) (convT (upT (normT x0 x1) (View.ld x2 (Rect.unit ![0, 5376] ![1024, 256] inb_S1024x5632_S1024x256_0_5376))) (View.ld xs0 (Rect.unit ![0, 5376] ![8, 256] inb_S8x5632_S8x256_0_5376)) (View.ld x3 (Rect.unit ![0, 5376] ![3, 256] inb_S3x5632_S3x256_0_5376)) (View.ld x4 (Rect.unit ![0, 5376] ![1, 256] inb_S1x5632_S1x256_0_5376)))) (View.ld x5 (Rect.unit ![2560, 0] ![256, 1024] inb_S2816x1024_S256x1024_2560_0))))

/-- What a grid point stores into the output block. -/
def outTile (x0 : Vec F S256x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (xs0 : Vec F S8x5632 .f32) : FVec F S256x1024 .f32 :=
  rmsT (addf (shapeCast S256x1024 x0 shapeCasts_S256x1024_S256x1024) (accT x0 x1 x2 x3 x4 x5 xs0)) x6

/-- What a grid point stores into the carried rows, column block by column block, the last first. -/
def haloPieces (x0 : Vec F S256x1024 .f32) (x1 : Vec F S1x1024 .f32) (x2 : Vec F S1024x5632 .bf16) : List (View.Piece (Elt F) S8x5632 .f32) :=
  [⟨Rect.unit ![0, 5376] ![8, 256] inb_S8x5632_S8x256_0_5376, lastRows (upT (normT x0 x1) (View.ld x2 (Rect.unit ![0, 5376] ![1024, 256] inb_S1024x5632_S1024x256_0_5376)))⟩,
    ⟨Rect.unit ![0, 2560] ![8, 256] inb_S8x5632_S8x256_0_2560, lastRows (upT (normT x0 x1) (View.ld x2 (Rect.unit ![0, 2560] ![1024, 256] inb_S1024x5632_S1024x256_0_2560)))⟩,
    ⟨Rect.unit ![0, 5120] ![8, 256] inb_S8x5632_S8x256_0_5120, lastRows (upT (normT x0 x1) (View.ld x2 (Rect.unit ![0, 5120] ![1024, 256] inb_S1024x5632_S1024x256_0_5120)))⟩,
    ⟨Rect.unit ![0, 2304] ![8, 256] inb_S8x5632_S8x256_0_2304, lastRows (upT (normT x0 x1) (View.ld x2 (Rect.unit ![0, 2304] ![1024, 256] inb_S1024x5632_S1024x256_0_2304)))⟩,
    ⟨Rect.unit ![0, 4864] ![8, 256] inb_S8x5632_S8x256_0_4864, lastRows (upT (normT x0 x1) (View.ld x2 (Rect.unit ![0, 4864] ![1024, 256] inb_S1024x5632_S1024x256_0_4864)))⟩,
    ⟨Rect.unit ![0, 2048] ![8, 256] inb_S8x5632_S8x256_0_2048, lastRows (upT (normT x0 x1) (View.ld x2 (Rect.unit ![0, 2048] ![1024, 256] inb_S1024x5632_S1024x256_0_2048)))⟩,
    ⟨Rect.unit ![0, 4608] ![8, 256] inb_S8x5632_S8x256_0_4608, lastRows (upT (normT x0 x1) (View.ld x2 (Rect.unit ![0, 4608] ![1024, 256] inb_S1024x5632_S1024x256_0_4608)))⟩,
    ⟨Rect.unit ![0, 1792] ![8, 256] inb_S8x5632_S8x256_0_1792, lastRows (upT (normT x0 x1) (View.ld x2 (Rect.unit ![0, 1792] ![1024, 256] inb_S1024x5632_S1024x256_0_1792)))⟩,
    ⟨Rect.unit ![0, 4352] ![8, 256] inb_S8x5632_S8x256_0_4352, lastRows (upT (normT x0 x1) (View.ld x2 (Rect.unit ![0, 4352] ![1024, 256] inb_S1024x5632_S1024x256_0_4352)))⟩,
    ⟨Rect.unit ![0, 1536] ![8, 256] inb_S8x5632_S8x256_0_1536, lastRows (upT (normT x0 x1) (View.ld x2 (Rect.unit ![0, 1536] ![1024, 256] inb_S1024x5632_S1024x256_0_1536)))⟩,
    ⟨Rect.unit ![0, 4096] ![8, 256] inb_S8x5632_S8x256_0_4096, lastRows (upT (normT x0 x1) (View.ld x2 (Rect.unit ![0, 4096] ![1024, 256] inb_S1024x5632_S1024x256_0_4096)))⟩,
    ⟨Rect.unit ![0, 1280] ![8, 256] inb_S8x5632_S8x256_0_1280, lastRows (upT (normT x0 x1) (View.ld x2 (Rect.unit ![0, 1280] ![1024, 256] inb_S1024x5632_S1024x256_0_1280)))⟩,
    ⟨Rect.unit ![0, 3840] ![8, 256] inb_S8x5632_S8x256_0_3840, lastRows (upT (normT x0 x1) (View.ld x2 (Rect.unit ![0, 3840] ![1024, 256] inb_S1024x5632_S1024x256_0_3840)))⟩,
    ⟨Rect.unit ![0, 1024] ![8, 256] inb_S8x5632_S8x256_0_1024, lastRows (upT (normT x0 x1) (View.ld x2 (Rect.unit ![0, 1024] ![1024, 256] inb_S1024x5632_S1024x256_0_1024)))⟩,
    ⟨Rect.unit ![0, 3584] ![8, 256] inb_S8x5632_S8x256_0_3584, lastRows (upT (normT x0 x1) (View.ld x2 (Rect.unit ![0, 3584] ![1024, 256] inb_S1024x5632_S1024x256_0_3584)))⟩,
    ⟨Rect.unit ![0, 768] ![8, 256] inb_S8x5632_S8x256_0_768, lastRows (upT (normT x0 x1) (View.ld x2 (Rect.unit ![0, 768] ![1024, 256] inb_S1024x5632_S1024x256_0_768)))⟩,
    ⟨Rect.unit ![0, 3328] ![8, 256] inb_S8x5632_S8x256_0_3328, lastRows (upT (normT x0 x1) (View.ld x2 (Rect.unit ![0, 3328] ![1024, 256] inb_S1024x5632_S1024x256_0_3328)))⟩,
    ⟨Rect.unit ![0, 512] ![8, 256] inb_S8x5632_S8x256_0_512, lastRows (upT (normT x0 x1) (View.ld x2 (Rect.unit ![0, 512] ![1024, 256] inb_S1024x5632_S1024x256_0_512)))⟩,
    ⟨Rect.unit ![0, 3072] ![8, 256] inb_S8x5632_S8x256_0_3072, lastRows (upT (normT x0 x1) (View.ld x2 (Rect.unit ![0, 3072] ![1024, 256] inb_S1024x5632_S1024x256_0_3072)))⟩,
    ⟨Rect.unit ![0, 256] ![8, 256] inb_S8x5632_S8x256_0_256, lastRows (upT (normT x0 x1) (View.ld x2 (Rect.unit ![0, 256] ![1024, 256] inb_S1024x5632_S1024x256_0_256)))⟩,
    ⟨Rect.unit ![0, 2816] ![8, 256] inb_S8x5632_S8x256_0_2816, lastRows (upT (normT x0 x1) (View.ld x2 (Rect.unit ![0, 2816] ![1024, 256] inb_S1024x5632_S1024x256_0_2816)))⟩,
    ⟨Rect.unit ![0, 0] ![8, 256] inb_S8x5632_S8x256_0_0, lastRows (upT (normT x0 x1) (View.ld x2 (Rect.unit ![0, 0] ![1024, 256] inb_S1024x5632_S1024x256_0_0)))⟩]

set_option maxHeartbeats 2000000 in
theorem out_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S8x5632 .f32) (harg9 : arg9.IsWhole) (hc0 : ¬cond0_0 i)     (x0 : Vec F S256x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (xs0 : Vec F S8x5632 .f32) :
    out0_B_7 c i arg1 harg1 arg2 harg2 arg3 harg3 arg4 harg4 arg5 harg5 arg6 harg6 arg7 harg7 arg8 harg8 arg9 harg9 hc0 x0 x1 x2 x3 x4 x5 x6 xs0 = outTile x0 x1 x2 x3 x4 x5 x6 xs0 := by
  unfold out0_B_7
  frame_open
  simp (disch := decide) only [↓ View.readCov_skip, ↓ View.readCov_cons_toLoadRect, ↓ View.readCov_fill]
  frame_out
  rfl

set_option maxHeartbeats 2000000 in
theorem out_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S8x5632 .f32) (harg9 : arg9.IsWhole) (hc0 : cond0_0 i)     (x0 : Vec F S256x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) :
    out0_A_7 c i arg1 harg1 arg2 harg2 arg3 harg3 arg4 harg4 arg5 harg5 arg6 harg6 arg7 harg7 arg8 harg8 arg9 harg9 hc0 x0 x1 x2 x3 x4 x5 x6 = outTile x0 x1 x2 x3 x4 x5 x6 k0_pay1 := by
  unfold out0_A_7
  frame_open
  simp (disch := decide) only [↓ View.readCov_skip, ↓ View.readCov_cons_toLoadRect, ↓ View.readCov_fill]
  frame_out
  rfl

set_option maxHeartbeats 2000000 in
theorem sout_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S8x5632 .f32) (harg9 : arg9.IsWhole) (hc0 : ¬cond0_0 i)     (x0 : Vec F S256x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) (xs0 : Vec F S8x5632 .f32) :
    sout0_B_0 c i arg1 harg1 arg2 harg2 arg3 harg3 arg4 harg4 arg5 harg5 arg6 harg6 arg7 harg7 arg8 harg8 arg9 harg9 hc0 x0 x1 x2 x3 x4 x5 x6 xs0 = View.canon (haloPieces x0 x1 x2) := by
  unfold sout0_B_0
  frame_open
  simp (disch := decide) only [↓ View.readCov_skip, ↓ View.readCov_cons_toLoadRect, ↓ View.readCov_fill]
  frame_out
  rfl

set_option maxHeartbeats 2000000 in
theorem sout_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S8x5632 .f32) (harg9 : arg9.IsWhole) (hc0 : cond0_0 i)     (x0 : Vec F S256x1024 .f32) (x1 : Vec F S1x1024 .f32) (x2 : Vec F S1024x5632 .bf16) (x3 : Vec F S3x5632 .f32) (x4 : Vec F S1x5632 .f32) (x5 : Vec F S2816x1024 .bf16) (x6 : Vec F S1x1024 .f32) :
    sout0_A_0 c i arg1 harg1 arg2 harg2 arg3 harg3 arg4 harg4 arg5 harg5 arg6 harg6 arg7 harg7 arg8 harg8 arg9 harg9 hc0 x0 x1 x2 x3 x4 x5 x6 = View.canon (haloPieces x0 x1 x2 ++ [⟨Rect.unit ![0, 0] S8x5632.size inb_S8x5632_S8x5632_0_0, k0_pay1⟩]) := by
  unfold sout0_A_0
  frame_open
  simp (disch := decide) only [↓ View.readCov_skip, ↓ View.readCov_cons_toLoadRect, ↓ View.readCov_fill]
  frame_out
  rfl

end Cert.Kernel2Ideal.Hand

end
-- ==== Proof.FfnMath.lean ====
/-
  The channel mixer's mathematics at the ideal instance, as functions of row and column: root-mean-square norm, the
  up-projection, the causal convolution over three rows, the gated activation, the down-projection, the residual and
  the last norm.
-/
module

public import Idealize.ShloMosaic.Lib.Pointwise

@[expose] public section

noncomputable section

namespace Cert.Ffn

open Idealize.ShloMosaic

/-- A row over its root mean square, times the gain. -/
def rms (x g : Fin 1024 → EReal) (k : Fin 1024) : EReal :=
  x k * Ideal.rsqrt (Ideal.div (∑ j, x j * x j) (Ideal.ofBits FTy.f32 1149239296#32) + Ideal.ofBits FTy.f32 897988541#32) * g k

variable (X : Fin 16384 → Fin 1024 → EReal) (gn : Fin 1024 → EReal) (W : Fin 1024 → Fin 5632 → EReal)
  (cw : Fin 3 → Fin 5632 → EReal) (cb : Fin 5632 → EReal) (wd : Fin 2816 → Fin 1024 → EReal) (gf : Fin 1024 → EReal)

/-- The up-projection of the normalised rows. -/
def up (t : Fin 16384) (c : Fin 5632) : EReal := ∑ k, rms (X t) gn k * W k c

/-- A column `s` rows back of row `t`; zero before the first row. -/
def back (U : Fin 16384 → EReal) (s t : ℕ) : EReal :=
  if h : s ≤ t ∧ t - s < 16384 then U ⟨t - s, h.2⟩ else 0

/-- One column's causal convolution. -/
def conv (w : Fin 3 → EReal) (b : EReal) (U : Fin 16384 → EReal) (t : Fin 16384) : EReal :=
  b + w 0 * back U 2 t + w 1 * back U 1 t + w 2 * U t

/-- The convolved up-projection. -/
def hid (t : Fin 16384) (c : Fin 5632) : EReal :=
  conv (fun k => cw k c) (cb c) (fun s => up X gn W s c) t

/-- `a · sigmoid(a) · b`. -/
def glu (a b : EReal) : EReal := a * Ideal.div 1 (1 + Ideal.exp (0 - a)) * b

/-- The gated hidden columns. -/
def act (t : Fin 16384) (j : Fin 2816) : EReal :=
  glu (hid X gn W cw cb t ⟨j.val, by omega⟩) (hid X gn W cw cb t ⟨j.val + 2816, by omega⟩)

/-- The layer's last value: the residual row plus the mixer's, normalised. -/
def out (t : Fin 16384) (d : Fin 1024) : EReal :=
  rms (fun e => X t e + ∑ j, act X gn W cw cb t j * wd j e) gf d

/-- A sum over the 2816 hidden columns, 256 at a time. -/
theorem sum_blocks (f : Fin 2816 → EReal) :
    ∑ j, f j = ∑ b : Fin 11, ∑ k : Fin 256, f ⟨b.val * 256 + k.val, by omega⟩ := by
  rw [← Fintype.sum_prod_type' (f := fun (b : Fin 11) (k : Fin 256) => f ⟨b.val * 256 + k.val, by omega⟩)]
  symm
  apply Fintype.sum_equiv (finProdFinEquiv : Fin 11 × Fin 256 ≃ Fin (11 * 256))
  intro x
  congr 1
  apply Fin.ext
  simp [finProdFinEquiv]
  omega

/-- Eleven terms, added from the first. -/
theorem sum_eleven (g : Fin 11 → EReal) :
    ∑ b, g b = g 0 + g 1 + g 2 + g 3 + g 4 + g 5 + g 6 + g 7 + g 8 + g 9 + g 10 := by
  simp only [Fin.sum_univ_castSucc, Finset.univ_eq_empty, Finset.sum_empty, zero_add]
  rfl

end Cert.Ffn

end
-- ==== Proof.FfnPoint.lean ====
/-
  The tile at the ideal instance, entry by entry: it is the channel mixer on the tile's rows, when the carried rows are the
  up-projection's two rows before the tile.
-/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise
public import proofs.«01_k».proof.Proof.FfnTile
public import proofs.«01_k».proof.Proof.FfnMath

@[expose] public section

set_option maxRecDepth 16384
noncomputable section

namespace Cert.Kernel2Ideal.Hand

open Cert.Kernel2Ideal Cert.Kernel2Ideal.Gen Idealize.ShloMosaic Idealize.ShloMosaic.TcCoe Idealize.SL.Sem

theorem rmsT_apply (x : Vec Ideal S256x1024 .f32) (g : Vec Ideal S1x1024 .f32) (r : Fin 256) (c : Fin 1024) :
    rmsT x g (ix2 r c) = Cert.Ffn.rms (fun k => x (ix2 r k)) (fun k => g (ix2 0 k)) c := by
  pointwise [rmsT]
  rfl

theorem normT_apply (x : Vec Ideal S256x1024 .f32) (g : Vec Ideal S1x1024 .f32) (r : Fin 256) (c : Fin 1024) :
    normT x g (ix2 r c) = Cert.Ffn.rms (fun k => x (ix2 r k)) (fun k => g (ix2 0 k)) c := by
  pointwise [normT, rmsT]
  rfl

theorem upT_apply (h : FVec Ideal S256x1024 .bf16) (w : Vec Ideal S1024x256 .bf16) (r : Fin 256) (c : Fin 256) :
    upT h w (ix2 r c) = ∑ k, h (ix2 r k) * w (ix2 k c) := by
  pointwise [upT]

theorem downT_apply (a : FVec Ideal S256x256 .bf16) (w : Vec Ideal S256x1024 .bf16) (r : Fin 256) (c : Fin 1024) :
    downT a w (ix2 r c) = ∑ k, a (ix2 r k) * w (ix2 k c) := by
  pointwise [downT]

theorem actT_apply (x y : FVec Ideal S256x256 .f32) (r : Fin 256) (c : Fin 256) :
    actT x y (ix2 r c) = Cert.Ffn.glu (x (ix2 r c)) (y (ix2 r c)) := by
  pointwise [actT, Cert.Ffn.glu]

theorem lastRows_apply (x : FVec Ideal S256x256 .f32) (r : Fin 8) (c : Fin 256) :
    lastRows x (ix2 r c) = x (ix2 ⟨248 + r.val, by omega⟩ c) := by
  pointwise [lastRows]

/-- The equality test of a row index with a small literal. -/
theorem sel_row {α : Type} (r : Fin 256) (k : ℕ) (hk : k < 256) (a b : α) :
    Scalar.select (IntOp.cmpi CmpIPredicate.eq (BitVec.ofNat 32 r.val) (BitVec.ofNat 32 k)) a b = if r.val = k then a else b := by
  have h : BitVec.ofNat 32 r.val = BitVec.ofNat 32 k ↔ r.val = k := by
    constructor
    · intro h
      have := congrArg BitVec.toNat h
      simp only [BitVec.toNat_ofNat] at this
      omega
    · intro h; rw [h]
  by_cases e : r.val = k
  · simp [IntOp.cmpi, Scalar.select, e]
  · have b : (BitVec.ofNat 32 r.val == BitVec.ofNat 32 k) = false := beq_eq_false_iff_ne.mpr fun q => e (h.mp q)
    simp [IntOp.cmpi, Scalar.select, e, b]

/-- A tile's convolution is the column's, when the halo's last two rows are the two rows before the tile. -/
theorem convT_apply (U : Fin 16384 → EReal) (n : Fin 64) (up : FVec Ideal S256x256 .f32) (halo : Vec Ideal S8x256 .f32)
    (cw : Vec Ideal S3x256 .f32) (cb : Vec Ideal S1x256 .f32) (r : Fin 256) (c : Fin 256)
    (hup : ∀ r : Fin 256, up (ix2 r c) = U ⟨256 * n.val + r.val, by omega⟩)
    (h7 : halo (ix2 7 c) = Cert.Ffn.back U 1 (256 * n.val)) (h6 : halo (ix2 6 c) = Cert.Ffn.back U 2 (256 * n.val)) :
    convT up halo cw cb (ix2 r c)
      = Cert.Ffn.conv (fun k => cw (ix2 k c)) (cb (ix2 0 c)) U ⟨256 * n.val + r.val, by omega⟩ := by
  pointwise [convT, rowSel]
  rw [hup, hup, hup, h6, h7]
  have e1 := sel_row (α := EReal) r 1 (by omega)
  have e0 := sel_row (α := EReal) r 0 (by omega)
  simp only [e1, e0]
  unfold Cert.Ffn.conv
  have b2 : (if r.val = 1 then Cert.Ffn.back U 1 (256 * n.val) else
      if r.val = 0 then Cert.Ffn.back U 2 (256 * n.val) else
        U ⟨256 * n.val + (r.val + 256 - 2) % 256, by omega⟩) = Cert.Ffn.back U 2 (256 * n.val + r.val) := by
    split_ifs with a b
    · rw [a]; unfold Cert.Ffn.back
      by_cases z : n.val = 0
      · simp [z]
      · rw [dif_pos (by omega), dif_pos (by omega)]; congr 1 <;> (apply Fin.ext; dsimp only; omega)
    · rw [b, Nat.add_zero]
    · unfold Cert.Ffn.back
      rw [dif_pos (by omega)]; congr 1 <;> (apply Fin.ext; dsimp only; omega)
  have b1 : (if r.val = 0 then Cert.Ffn.back U 1 (256 * n.val) else
        U ⟨256 * n.val + (r.val + 256 - 1) % 256, by omega⟩) = Cert.Ffn.back U 1 (256 * n.val + r.val) := by
    split_ifs with b
    · rw [b, Nat.add_zero]
    · unfold Cert.Ffn.back
      rw [dif_pos (by omega)]; congr 1 <;> (apply Fin.ext; dsimp only; omega)
  rw [← b2, ← b1]

section tile

variable (X : Fin 16384 → Fin 1024 → EReal) (n : Fin 64)
  (x0 : Vec Ideal S256x1024 .f32) (x1 : Vec Ideal S1x1024 .f32) (x2 : Vec Ideal S1024x5632 .bf16) (x3 : Vec Ideal S3x5632 .f32)
  (x4 : Vec Ideal S1x5632 .f32) (x5 : Vec Ideal S2816x1024 .bf16) (x6 : Vec Ideal S1x1024 .f32) (xs0 : Vec Ideal S8x5632 .f32)

/-- The up-projection, from the arrays the tile is given. -/
abbrev UP (X : Fin 16384 → Fin 1024 → EReal) (x1 : Vec Ideal S1x1024 .f32) (x2 : Vec Ideal S1024x5632 .bf16)
    (t : Fin 16384) (c : Fin 5632) : EReal :=
  Cert.Ffn.up X (fun k => x1 (ix2 0 k)) (fun k c => x2 (ix2 k c)) t c

/-- The hidden columns, from the arrays the tile is given. -/
abbrev HID (X : Fin 16384 → Fin 1024 → EReal) (x1 : Vec Ideal S1x1024 .f32) (x2 : Vec Ideal S1024x5632 .bf16)
    (x3 : Vec Ideal S3x5632 .f32) (x4 : Vec Ideal S1x5632 .f32) (t : Fin 16384) (c : Fin 5632) : EReal :=
  Cert.Ffn.hid X (fun k => x1 (ix2 0 k)) (fun k c => x2 (ix2 k c)) (fun k c => x3 (ix2 k c)) (fun c => x4 (ix2 0 c)) t c

variable (hx : ∀ (r : Fin 256) (k : Fin 1024), x0 (ix2 r k) = X ⟨256 * n.val + r.val, by omega⟩ k)
include hx

/-- A column block of the up-projection. -/
theorem up_tile (o : ℕ) (ho : o + 256 ≤ 5632) (h2) (r : Fin 256) (c : Fin 256) :
    upT (normT x0 x1) (View.ld x2 (Rect.unit (s := S1024x5632) ![0, o] ![1024, 256] h2)) (ix2 r c)
      = UP X x1 x2 ⟨256 * n.val + r.val, by omega⟩ ⟨o + c.val, by omega⟩ := by
  have e : ∀ k : Fin 1024, View.ld x2 (Rect.unit (s := S1024x5632) ![0, o] ![1024, 256] h2) (ix2 k c) = x2 (ix2 k ⟨o + c.val, by omega⟩) := by
    intro k; pointwise
  rw [upT_apply]
  unfold UP Cert.Ffn.up
  refine Finset.sum_congr rfl fun k _ => ?_
  rw [normT_apply, e k]
  simp only [hx]

variable (h7 : ∀ c : Fin 5632, xs0 (ix2 7 c) = Cert.Ffn.back (fun t => UP X x1 x2 t c) 1 (256 * n.val))
  (h6 : ∀ c : Fin 5632, xs0 (ix2 6 c) = Cert.Ffn.back (fun t => UP X x1 x2 t c) 2 (256 * n.val))
include h7 h6

/-- A column block of the hidden columns. -/
theorem conv_tile (o : ℕ) (ho : o + 256 ≤ 5632) (h2) (hs) (h3) (h4) (r : Fin 256) (c : Fin 256) :
    convT (upT (normT x0 x1) (View.ld x2 (Rect.unit (s := S1024x5632) ![0, o] ![1024, 256] h2)))
        (View.ld xs0 (Rect.unit (s := S8x5632) ![0, o] ![8, 256] hs))
        (View.ld x3 (Rect.unit (s := S3x5632) ![0, o] ![3, 256] h3))
        (View.ld x4 (Rect.unit (s := S1x5632) ![0, o] ![1, 256] h4)) (ix2 r c)
      = HID X x1 x2 x3 x4 ⟨256 * n.val + r.val, by omega⟩ ⟨o + c.val, by omega⟩ := by
  rw [convT_apply (fun t => UP X x1 x2 t ⟨o + c.val, by omega⟩) n _ _ _ _ r c]
  · unfold HID Cert.Ffn.hid
    congr 1
    · funext k; pointwise
    · pointwise
  · intro r; exact up_tile X n x0 x1 x2 hx o ho h2 r c
  · rw [← h7]; pointwise
  · rw [← h6]; pointwise

/-- 256 hidden columns' part of the down-projection. -/
theorem down_tile (b : ℕ) (hb : b < 11) (g2) (gs) (g3) (g4) (v2) (vs) (v3) (v4) (h5) (r : Fin 256) (d : Fin 1024) :
    downT (actT
        (convT (upT (normT x0 x1) (View.ld x2 (Rect.unit (s := S1024x5632) ![0, b * 256] ![1024, 256] g2)))
          (View.ld xs0 (Rect.unit (s := S8x5632) ![0, b * 256] ![8, 256] gs))
          (View.ld x3 (Rect.unit (s := S3x5632) ![0, b * 256] ![3, 256] g3))
          (View.ld x4 (Rect.unit (s := S1x5632) ![0, b * 256] ![1, 256] g4)))
        (convT (upT (normT x0 x1) (View.ld x2 (Rect.unit (s := S1024x5632) ![0, b * 256 + 2816] ![1024, 256] v2)))
          (View.ld xs0 (Rect.unit (s := S8x5632) ![0, b * 256 + 2816] ![8, 256] vs))
          (View.ld x3 (Rect.unit (s := S3x5632) ![0, b * 256 + 2816] ![3, 256] v3))
          (View.ld x4 (Rect.unit (s := S1x5632) ![0, b * 256 + 2816] ![1, 256] v4))))
        (View.ld x5 (Rect.unit (s := S2816x1024) ![b * 256, 0] ![256, 1024] h5)) (ix2 r d)
      = ∑ k : Fin 256, Cert.Ffn.act X (fun k => x1 (ix2 0 k)) (fun k c => x2 (ix2 k c)) (fun k c => x3 (ix2 k c))
          (fun c => x4 (ix2 0 c)) ⟨256 * n.val + r.val, by omega⟩ ⟨b * 256 + k.val, by omega⟩ * x5 (ix2 ⟨b * 256 + k.val, by omega⟩ d) := by
  rw [downT_apply]
  refine Finset.sum_congr rfl fun k _ => ?_
  rw [actT_apply, conv_tile X n x0 x1 x2 x3 x4 xs0 hx h7 h6 _ (by omega), conv_tile X n x0 x1 x2 x3 x4 xs0 hx h7 h6 _ (by omega)]
  congr 1
  · unfold Cert.Ffn.act HID
    congr 3
    dsimp only; omega
  · pointwise

/-- The tile's sum over all hidden columns. -/
theorem acc_tile (r : Fin 256) (d : Fin 1024) :
    accT x0 x1 x2 x3 x4 x5 xs0 (ix2 r d)
      = ∑ j, Cert.Ffn.act X (fun k => x1 (ix2 0 k)) (fun k c => x2 (ix2 k c)) (fun k c => x3 (ix2 k c))
          (fun c => x4 (ix2 0 c)) ⟨256 * n.val + r.val, by omega⟩ j * x5 (ix2 j d) := by
  rw [Cert.Ffn.sum_blocks]
  rw [Cert.Ffn.sum_eleven]
  have D := fun b hb g2 gs g3 g4 v2 vs v3 v4 h5 => down_tile X n x0 x1 x2 x3 x4 x5 xs0 hx h7 h6 b hb g2 gs g3 g4 v2 vs v3 v4 h5 r d
  have A : ∀ {a b : FVec Ideal S256x1024 .f32} {i : S256x1024.Idx} {p q : EReal}, a i = p → b i = q → addf a b i = p + q := by
    intro a b i p q ha hb; subst ha; subst hb; rfl
  unfold accT
  exact A (A (A (A (A (A (A (A (A (A (D 0 (by omega) _ _ _ _ _ _ _ _ _) (D 1 (by omega) _ _ _ _ _ _ _ _ _)) (D 2 (by omega) _ _ _ _ _ _ _ _ _))
    (D 3 (by omega) _ _ _ _ _ _ _ _ _)) (D 4 (by omega) _ _ _ _ _ _ _ _ _)) (D 5 (by omega) _ _ _ _ _ _ _ _ _)) (D 6 (by omega) _ _ _ _ _ _ _ _ _))
    (D 7 (by omega) _ _ _ _ _ _ _ _ _)) (D 8 (by omega) _ _ _ _ _ _ _ _ _)) (D 9 (by omega) _ _ _ _ _ _ _ _ _)) (D 10 (by omega) _ _ _ _ _ _ _ _ _)

/-- The tile is the channel mixer on its rows. -/
theorem out_tile (r : Fin 256) (d : Fin 1024) :
    outTile x0 x1 x2 x3 x4 x5 x6 xs0 (ix2 r d)
      = Cert.Ffn.out X (fun k => x1 (ix2 0 k)) (fun k c => x2 (ix2 k c)) (fun k c => x3 (ix2 k c)) (fun c => x4 (ix2 0 c))
          (fun j d => x5 (ix2 j d)) (fun k => x6 (ix2 0 k)) ⟨256 * n.val + r.val, by omega⟩ d := by
  unfold outTile Cert.Ffn.out
  rw [rmsT_apply]
  congr 1
  funext e
  have A : ∀ {a b : FVec Ideal S256x1024 .f32} {i : S256x1024.Idx} {p q : EReal}, a i = p → b i = q → addf a b i = p + q := by
    intro a b i p q ha hb; subst ha; subst hb; rfl
  refine A ?_ (acc_tile X n x0 x1 x2 x3 x4 x5 xs0 hx h7 h6 r e)
  rw [← hx]
  pointwise

end tile

end Cert.Kernel2Ideal.Hand

end
-- ==== Proof.FfnValue.lean ====
/-
  The channel mixer's call: its windows' blocks as the arguments' entries, the two carried rows by induction over the
  grid, and the array that it leaves, entry by entry.
-/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise
public import Idealize.ShloMosaic.Lib.Pipeline.CanonAppend
public import proofs.«01_k».proof.Proof.FfnPoint

@[expose] public section

set_option maxRecDepth 16384
noncomputable section

namespace Cert.Kernel2Ideal.Hand

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-! ## The arguments as functions of row and column -/

/-- The layer's input rows. -/
abbrev aX (t : Fin 16384) (k : Fin 1024) : EReal := (m ((c : Thread nD τ).loc main_arg0) : Vec Ideal S1x16384x1024 .f32) (ix3 0 t k)
/-- The first norm's gain. -/
abbrev aGn (k : Fin 1024) : EReal := (m ((c : Thread nD τ).loc main_arg1) : Vec Ideal S1x1024 .f32) (ix2 0 k)
/-- The up-projection's weights. -/
abbrev aW (k : Fin 1024) (j : Fin 5632) : EReal := (m ((c : Thread nD τ).loc main_arg2) : Vec Ideal S1x1024x5632 .f32) (ix3 0 k j)
/-- The convolution's weights. -/
abbrev aCw (k : Fin 3) (j : Fin 5632) : EReal := (m ((c : Thread nD τ).loc main_arg3) : Vec Ideal S1x3x5632 .f32) (ix3 0 k j)
/-- The convolution's bias. -/
abbrev aCb (j : Fin 5632) : EReal := (m ((c : Thread nD τ).loc main_arg4) : Vec Ideal S1x5632 .f32) (ix2 0 j)
/-- The down-projection's weights. -/
abbrev aWd (j : Fin 2816) (d : Fin 1024) : EReal := (m ((c : Thread nD τ).loc main_arg5) : Vec Ideal S1x2816x1024 .f32) (ix3 0 j d)
/-- The last norm's gain. -/
abbrev aGf (k : Fin 1024) : EReal := (m ((c : Thread nD τ).loc main_arg6) : Vec Ideal S1024 .f32) (ix1 k)

/-- The layer's result, from the arguments. -/
def spec (t : Fin 16384) (d : Fin 1024) : EReal :=
  Cert.Ffn.out (aX m c) (aGn m c) (aW m c) (aCw m c) (aCb m c) (aWd m c) (aGf m c) t d

/-! ## What the host code leaves in the windows' arrays -/

theorem V0 : (V m c main_v0 : Vec Ideal S16384x1024 .f32) = shapeCast S16384x1024 (m ((c : Thread nD τ).loc main_arg0)) shapeCasts_S1x16384x1024_S16384x1024 := by
  unfold V; after_results; rfl
theorem V2 : (V m c main_v2 : Vec Ideal S1x1024 .f32) = broadcastInDim S1x1024 ![1] bcast_S1024_S1x1024_1 (shapeCast S1024 (m ((c : Thread nD τ).loc main_arg1)) shapeCasts_S1x1024_S1024) := by
  unfold V; after_results; rfl
theorem V4 : (V m c main_v4 : Vec Ideal S1024x5632 .bf16) = truncf (F := Ideal) .bf16 (shapeCast S1024x5632 (m ((c : Thread nD τ).loc main_arg2)) shapeCasts_S1x1024x5632_S1024x5632) bitsLt_bf16_f32 := by
  unfold V; after_results; rfl
theorem V5 : (V m c main_v5 : Vec Ideal S3x5632 .f32) = shapeCast S3x5632 (m ((c : Thread nD τ).loc main_arg3)) shapeCasts_S1x3x5632_S3x5632 := by
  unfold V; after_results; rfl
theorem V7 : (V m c main_v7 : Vec Ideal S1x5632 .f32) = broadcastInDim S1x5632 ![1] bcast_S5632_S1x5632_1 (shapeCast S5632 (m ((c : Thread nD τ).loc main_arg4)) shapeCasts_S1x5632_S5632) := by
  unfold V; after_results; rfl
theorem V9 : (V m c main_v9 : Vec Ideal S2816x1024 .bf16) = truncf (F := Ideal) .bf16 (shapeCast S2816x1024 (m ((c : Thread nD τ).loc main_arg5)) shapeCasts_S1x2816x1024_S2816x1024) bitsLt_bf16_f32 := by
  unfold V; after_results; rfl
theorem V10 : (V m c main_v10 : Vec Ideal S1x1024 .f32) = broadcastInDim S1x1024 ![1] bcast_S1024_S1x1024_1 (m ((c : Thread nD τ).loc main_arg6)) := by
  unfold V; after_results

/-! ## The host code's arrays, entry by entry -/

theorem h0 (x : Vec Ideal S1x16384x1024 .f32) (r : Fin 16384) (k : Fin 1024) :
    shapeCast S16384x1024 x shapeCasts_S1x16384x1024_S16384x1024 (ix2 r k) = x (ix3 0 r k) := by pointwise
theorem h1 (x : Vec Ideal S1x1024 .f32) (r : Fin 1) (k : Fin 1024) :
    broadcastInDim S1x1024 ![1] bcast_S1024_S1x1024_1 (shapeCast S1024 x shapeCasts_S1x1024_S1024) (ix2 r k) = x (ix2 0 k) := by pointwise
theorem h2 (x : Vec Ideal S1x1024x5632 .f32) (r : Fin 1024) (k : Fin 5632) :
    truncf (F := Ideal) .bf16 (shapeCast S1024x5632 x shapeCasts_S1x1024x5632_S1024x5632) bitsLt_bf16_f32 (ix2 r k) = x (ix3 0 r k) := by pointwise
theorem h3 (x : Vec Ideal S1x3x5632 .f32) (r : Fin 3) (k : Fin 5632) :
    shapeCast S3x5632 x shapeCasts_S1x3x5632_S3x5632 (ix2 r k) = x (ix3 0 r k) := by pointwise
theorem h4 (x : Vec Ideal S1x5632 .f32) (r : Fin 1) (k : Fin 5632) :
    broadcastInDim S1x5632 ![1] bcast_S5632_S1x5632_1 (shapeCast S5632 x shapeCasts_S1x5632_S5632) (ix2 r k) = x (ix2 0 k) := by pointwise
theorem h5 (x : Vec Ideal S1x2816x1024 .f32) (r : Fin 2816) (k : Fin 1024) :
    truncf (F := Ideal) .bf16 (shapeCast S2816x1024 x shapeCasts_S1x2816x1024_S2816x1024) bitsLt_bf16_f32 (ix2 r k) = x (ix3 0 r k) := by pointwise
theorem h6 (x : Vec Ideal S1024 .f32) (r : Fin 1) (k : Fin 1024) :
    broadcastInDim S1x1024 ![1] bcast_S1024_S1x1024_1 x (ix2 r k) = x (ix1 k) := by pointwise

/-! ## The windows' blocks -/

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel

theorem lt64 (t : Fin cfg0.N) : t.val < 64 := lt_of_lt_of_eq t.isLt (show cfg0.N = 64 from N_0)

theorem blk0 (t : Fin cfg0.N) (r : Fin 256) (k : Fin 1024) :
    (iblk m c 0 t : Vec Ideal S256x1024 .f32) (ix2 r k) = aX m c ⟨256 * t.val + r.val, by have := lt64 t; omega⟩ k := by
  unfold iblk
  rw [View.read_apply]
  have e : ((cfg0.win 0).blk t).view.emb (ix2 r k) = (ix2 (⟨256 * t.val + r.val, by have := lt64 t; omega⟩ : Fin 16384) k : S16384x1024.Idx) := by
    funext a
    apply Fin.ext
    match a with
    | ⟨0, _⟩ => show win0_0.index t 0 * 256 + 1 * r.val = _; rw [(index0 t).1]; first | (show _ = 256 * t.val + r.val; omega) | (show _ = r.val; omega)
    | ⟨1, _⟩ => show win0_0.index t 1 * 1024 + 1 * k.val = _; rw [(index0 t).2]; show _ = k.val; omega
  refine (congrFun (V0 m c) _).trans ?_
  rw [e]
  exact h0 _ _ _

theorem blk1 (t : Fin cfg0.N) (r : Fin 1) (k : Fin 1024) :
    (iblk m c 1 t : Vec Ideal S1x1024 .f32) (ix2 r k) = aGn m c k := by
  unfold iblk
  rw [View.read_apply]
  have e : ((cfg0.win 1).blk t).view.emb (ix2 r k) = (ix2 (r : Fin 1) k : S1x1024.Idx) := by
    funext a
    apply Fin.ext
    match a with
    | ⟨0, _⟩ => show win0_1.index t 0 * 1 + 1 * r.val = _; rw [(index1 t).1]; first | (show _ = 256 * t.val + r.val; omega) | (show _ = r.val; omega)
    | ⟨1, _⟩ => show win0_1.index t 1 * 1024 + 1 * k.val = _; rw [(index1 t).2]; show _ = k.val; omega
  refine (congrFun (V2 m c) _).trans ?_
  rw [e]
  exact h1 _ _ _

theorem blk2 (t : Fin cfg0.N) (r : Fin 1024) (k : Fin 5632) :
    (iblk m c 2 t : Vec Ideal S1024x5632 .bf16) (ix2 r k) = aW m c r k := by
  unfold iblk
  rw [View.read_apply]
  have e : ((cfg0.win 2).blk t).view.emb (ix2 r k) = (ix2 (r : Fin 1024) k : S1024x5632.Idx) := by
    funext a
    apply Fin.ext
    match a with
    | ⟨0, _⟩ => show win0_2.index t 0 * 1024 + 1 * r.val = _; rw [(index2 t).1]; first | (show _ = 256 * t.val + r.val; omega) | (show _ = r.val; omega)
    | ⟨1, _⟩ => show win0_2.index t 1 * 5632 + 1 * k.val = _; rw [(index2 t).2]; show _ = k.val; omega
  refine (congrFun (V4 m c) _).trans ?_
  rw [e]
  exact h2 _ _ _

theorem blk3 (t : Fin cfg0.N) (r : Fin 3) (k : Fin 5632) :
    (iblk m c 3 t : Vec Ideal S3x5632 .f32) (ix2 r k) = aCw m c r k := by
  unfold iblk
  rw [View.read_apply]
  have e : ((cfg0.win 3).blk t).view.emb (ix2 r k) = (ix2 (r : Fin 3) k : S3x5632.Idx) := by
    funext a
    apply Fin.ext
    match a with
    | ⟨0, _⟩ => show win0_3.index t 0 * 3 + 1 * r.val = _; rw [(index3 t).1]; first | (show _ = 256 * t.val + r.val; omega) | (show _ = r.val; omega)
    | ⟨1, _⟩ => show win0_3.index t 1 * 5632 + 1 * k.val = _; rw [(index3 t).2]; show _ = k.val; omega
  refine (congrFun (V5 m c) _).trans ?_
  rw [e]
  exact h3 _ _ _

theorem blk4 (t : Fin cfg0.N) (r : Fin 1) (k : Fin 5632) :
    (iblk m c 4 t : Vec Ideal S1x5632 .f32) (ix2 r k) = aCb m c k := by
  unfold iblk
  rw [View.read_apply]
  have e : ((cfg0.win 4).blk t).view.emb (ix2 r k) = (ix2 (r : Fin 1) k : S1x5632.Idx) := by
    funext a
    apply Fin.ext
    match a with
    | ⟨0, _⟩ => show win0_4.index t 0 * 1 + 1 * r.val = _; rw [(index4 t).1]; first | (show _ = 256 * t.val + r.val; omega) | (show _ = r.val; omega)
    | ⟨1, _⟩ => show win0_4.index t 1 * 5632 + 1 * k.val = _; rw [(index4 t).2]; show _ = k.val; omega
  refine (congrFun (V7 m c) _).trans ?_
  rw [e]
  exact h4 _ _ _

theorem blk5 (t : Fin cfg0.N) (r : Fin 2816) (k : Fin 1024) :
    (iblk m c 5 t : Vec Ideal S2816x1024 .bf16) (ix2 r k) = aWd m c r k := by
  unfold iblk
  rw [View.read_apply]
  have e : ((cfg0.win 5).blk t).view.emb (ix2 r k) = (ix2 (r : Fin 2816) k : S2816x1024.Idx) := by
    funext a
    apply Fin.ext
    match a with
    | ⟨0, _⟩ => show win0_5.index t 0 * 2816 + 1 * r.val = _; rw [(index5 t).1]; first | (show _ = 256 * t.val + r.val; omega) | (show _ = r.val; omega)
    | ⟨1, _⟩ => show win0_5.index t 1 * 1024 + 1 * k.val = _; rw [(index5 t).2]; show _ = k.val; omega
  refine (congrFun (V9 m c) _).trans ?_
  rw [e]
  exact h5 _ _ _

theorem blk6 (t : Fin cfg0.N) (r : Fin 1) (k : Fin 1024) :
    (iblk m c 6 t : Vec Ideal S1x1024 .f32) (ix2 r k) = aGf m c k := by
  unfold iblk
  rw [View.read_apply]
  have e : ((cfg0.win 6).blk t).view.emb (ix2 r k) = (ix2 (r : Fin 1) k : S1x1024.Idx) := by
    funext a
    apply Fin.ext
    match a with
    | ⟨0, _⟩ => show win0_6.index t 0 * 1 + 1 * r.val = _; rw [(index6 t).1]; first | (show _ = 256 * t.val + r.val; omega) | (show _ = r.val; omega)
    | ⟨1, _⟩ => show win0_6.index t 1 * 1024 + 1 * k.val = _; rw [(index6 t).2]; show _ = k.val; omega
  refine (congrFun (V10 m c) _).trans ?_
  rw [e]
  exact h6 _ _ _

/-! ## The carried rows -/

section halo

variable (X : Fin 16384 → Fin 1024 → EReal) (n : Fin 64)
  (x0 : Vec Ideal S256x1024 .f32) (x1 : Vec Ideal S1x1024 .f32) (x2 : Vec Ideal S1024x5632 .bf16)
variable (hx : ∀ (r : Fin 256) (k : Fin 1024), x0 (ix2 r k) = X ⟨256 * n.val + r.val, by omega⟩ k)

/-- The last eight rows of the tile's up-projection, at an index of the carried rows. -/
def haloG (i : S8x5632.Idx) : EReal :=
  UP X x1 x2 ⟨256 * n.val + (248 + (i 0).val), by have := (i 0).isLt; have h : S8x5632.size 0 = 8 := rfl; omega⟩ (i 1)

include hx

/-- One stored column block is that function's. -/
theorem halo_piece (o : ℕ) (ho : o + 256 ≤ 5632) (h2 hs) (x : S8x256.Idx) :
    lastRows (upT (normT x0 x1) (View.ld x2 (Rect.unit (s := S1024x5632) ![0, o] ![1024, 256] h2))) x
      = haloG X n x1 x2 ((Rect.unit (s := S8x5632) ![0, o] ![8, 256] hs).emb x) := by
  have e : x = (ix2 (x 0 : Fin 8) (x 1 : Fin 256) : S8x256.Idx) := by
    funext a; match a with | ⟨0, _⟩ => rfl | ⟨1, _⟩ => rfl
  have h8 : (x 0).val < 8 := (x 0).isLt
  have e0 : (((Rect.unit (s := S8x5632) ![0, o] ![8, 256] hs).emb x) 0).val = (x 0).val := by
    show 0 + 1 * (x 0).val = _; omega
  have e1 : (((Rect.unit (s := S8x5632) ![0, o] ![8, 256] hs).emb x) 1).val = o + (x 1).val := by
    show o + 1 * (x 1).val = _; omega
  have e2 := lastRows_apply (upT (normT x0 x1) (View.ld x2 (Rect.unit (s := S1024x5632) ![0, o] ![1024, 256] h2))) (x 0 : Fin 8) (x 1 : Fin 256)
  rw [← e] at e2
  refine (e2.trans (up_tile X n x0 x1 x2 hx o ho h2 _ _)).trans ?_
  unfold haloG
  congr 1
  · apply Fin.ext; show 256 * n.val + (248 + (x 0).val) = 256 * n.val + (248 + _); rw [e0]
  · apply Fin.ext; show o + (x 1).val = _; rw [e1]

/-- The stored column blocks are that function's. -/
theorem halo_pieces : ∀ p ∈ haloPieces (F := Ideal) x0 x1 x2, ∀ x : p.1.shape.Idx, p.2 x = haloG X n x1 x2 (p.1.emb x) := by
  unfold haloPieces
  simp only [List.forall_mem_cons]
  refine ⟨?_, ?_, ?_, ?_, ?_, ?_, ?_, ?_, ?_, ?_, ?_, ?_, ?_, ?_, ?_, ?_, ?_, ?_, ?_, ?_, ?_, ?_, ?_⟩
  all_goals first | (intro p hp; exact absurd hp (List.not_mem_nil)) | (intro x; exact halo_piece X n x0 x1 x2 hx _ (by omega) _ _ x)

omit hx in
/-- They cover every column. -/
theorem halo_cover (y : S8x5632.Idx) : ∃ p ∈ haloPieces (F := Ideal) x0 x1 x2, y ∈ p.1.set := by
  have hy0 : (y 0).val < 8 := (y 0).isLt
  have hy1 : (y 1).val < 5632 := (y 1).isLt
  have H : ∀ (o : ℕ) (hs), o ≤ (y 1).val → (y 1).val < o + 256 → y ∈ (Rect.unit (s := S8x5632) ![0, o] ![8, 256] hs).set := by
    intro o hs a b
    rw [Rect.mem_set_unit]
    intro i
    match i with
    | ⟨0, _⟩ => exact ⟨Nat.zero_le _, by show (y 0).val < 0 + 8; omega⟩
    | ⟨1, _⟩ => exact ⟨a, b⟩
  unfold haloPieces
  simp only [List.exists_mem_cons_iff]
  have hq : (y 1).val / 256 < 22 := by omega
  rcases (show (5376 ≤ (y 1).val ∧ (y 1).val < 5376 + 256) ∨ (2560 ≤ (y 1).val ∧ (y 1).val < 2560 + 256) ∨ (5120 ≤ (y 1).val ∧ (y 1).val < 5120 + 256) ∨ (2304 ≤ (y 1).val ∧ (y 1).val < 2304 + 256) ∨ (4864 ≤ (y 1).val ∧ (y 1).val < 4864 + 256) ∨ (2048 ≤ (y 1).val ∧ (y 1).val < 2048 + 256) ∨ (4608 ≤ (y 1).val ∧ (y 1).val < 4608 + 256) ∨ (1792 ≤ (y 1).val ∧ (y 1).val < 1792 + 256) ∨ (4352 ≤ (y 1).val ∧ (y 1).val < 4352 + 256) ∨ (1536 ≤ (y 1).val ∧ (y 1).val < 1536 + 256) ∨ (4096 ≤ (y 1).val ∧ (y 1).val < 4096 + 256) ∨ (1280 ≤ (y 1).val ∧ (y 1).val < 1280 + 256) ∨ (3840 ≤ (y 1).val ∧ (y 1).val < 3840 + 256) ∨ (1024 ≤ (y 1).val ∧ (y 1).val < 1024 + 256) ∨ (3584 ≤ (y 1).val ∧ (y 1).val < 3584 + 256) ∨ (768 ≤ (y 1).val ∧ (y 1).val < 768 + 256) ∨ (3328 ≤ (y 1).val ∧ (y 1).val < 3328 + 256) ∨ (512 ≤ (y 1).val ∧ (y 1).val < 512 + 256) ∨ (3072 ≤ (y 1).val ∧ (y 1).val < 3072 + 256) ∨ (256 ≤ (y 1).val ∧ (y 1).val < 256 + 256) ∨ (2816 ≤ (y 1).val ∧ (y 1).val < 2816 + 256) ∨ (0 ≤ (y 1).val ∧ (y 1).val < 0 + 256) by omega) with ⟨a, b⟩ | ⟨a, b⟩ | ⟨a, b⟩ | ⟨a, b⟩ | ⟨a, b⟩ | ⟨a, b⟩ | ⟨a, b⟩ | ⟨a, b⟩ | ⟨a, b⟩ | ⟨a, b⟩ | ⟨a, b⟩ | ⟨a, b⟩ | ⟨a, b⟩ | ⟨a, b⟩ | ⟨a, b⟩ | ⟨a, b⟩ | ⟨a, b⟩ | ⟨a, b⟩ | ⟨a, b⟩ | ⟨a, b⟩ | ⟨a, b⟩ | ⟨a, b⟩
  · exact Or.inl (H _ _ a b)
  · exact Or.inr (Or.inl (H _ _ a b))
  · exact Or.inr (Or.inr (Or.inl (H _ _ a b)))
  · exact Or.inr (Or.inr (Or.inr (Or.inl (H _ _ a b))))
  · exact Or.inr (Or.inr (Or.inr (Or.inr (Or.inl (H _ _ a b)))))
  · exact Or.inr (Or.inr (Or.inr (Or.inr (Or.inr (Or.inl (H _ _ a b))))))
  · exact Or.inr (Or.inr (Or.inr (Or.inr (Or.inr (Or.inr (Or.inl (H _ _ a b)))))))
  · exact Or.inr (Or.inr (Or.inr (Or.inr (Or.inr (Or.inr (Or.inr (Or.inl (H _ _ a b))))))))
  · exact Or.inr (Or.inr (Or.inr (Or.inr (Or.inr (Or.inr (Or.inr (Or.inr (Or.inl (H _ _ a b)))))))))
  · exact Or.inr (Or.inr (Or.inr (Or.inr (Or.inr (Or.inr (Or.inr (Or.inr (Or.inr (Or.inl (H _ _ a b))))))))))
  · exact Or.inr (Or.inr (Or.inr (Or.inr (Or.inr (Or.inr (Or.inr (Or.inr (Or.inr (Or.inr (Or.inl (H _ _ a b)))))))))))
  · exact Or.inr (Or.inr (Or.inr (Or.inr (Or.inr (Or.inr (Or.inr (Or.inr (Or.inr (Or.inr (Or.inr (Or.inl (H _ _ a b))))))))))))
  · exact Or.inr (Or.inr (Or.inr (Or.inr (Or.inr (Or.inr (Or.inr (Or.inr (Or.inr (Or.inr (Or.inr (Or.inr (Or.inl (H _ _ a b)))))))))))))
  · exact Or.inr (Or.inr (Or.inr (Or.inr (Or.inr (Or.inr (Or.inr (Or.inr (Or.inr (Or.inr (Or.inr (Or.inr (Or.inr (Or.inl (H _ _ a b))))))))))))))
  · exact Or.inr (Or.inr (Or.inr (Or.inr (Or.inr (Or.inr (Or.inr (Or.inr (Or.inr (Or.inr (Or.inr (Or.inr (Or.inr (Or.inr (Or.inl (H _ _ a b)))))))))))))))
  · exact Or.inr (Or.inr (Or.inr (Or.inr (Or.inr (Or.inr (Or.inr (Or.inr (Or.inr (Or.inr (Or.inr (Or.inr (Or.inr (Or.inr (Or.inr (Or.inl (H _ _ a b))))))))))))))))
  · exact Or.inr (Or.inr (Or.inr (Or.inr (Or.inr (Or.inr (Or.inr (Or.inr (Or.inr (Or.inr (Or.inr (Or.inr (Or.inr (Or.inr (Or.inr (Or.inr (Or.inl (H _ _ a b)))))))))))))))))
  · exact Or.inr (Or.inr (Or.inr (Or.inr (Or.inr (Or.inr (Or.inr (Or.inr (Or.inr (Or.inr (Or.inr (Or.inr (Or.inr (Or.inr (Or.inr (Or.inr (Or.inr (Or.inl (H _ _ a b))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inl (H _ _ a b)))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inl (H _ _ a b))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (H _ _ a b)))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (H _ _ a b))))))))))))))))))))))

theorem halo_canon (L : List (View.Piece (Elt Ideal) S8x5632 .f32)) (y : S8x5632.Idx) :
    View.canon (haloPieces (F := Ideal) x0 x1 x2 ++ L) y = haloG X n x1 x2 y :=
  View.canon_append_of_pieces (haloG X n x1 x2) L _ (halo_pieces X n x0 x1 x2 hx) y (halo_cover x0 x1 x2 y)

end halo

/-- The call's up-projection, from the arguments. -/
abbrev UPm (t : Fin 16384) (j : Fin 5632) : EReal := Cert.Ffn.up (aX m c) (aGn m c) (aW m c) t j

theorem UP_eq (t : Fin cfg0.N) (s : Fin 16384) (j : Fin 5632) :
    UP (aX m c) (iblk m c 1 t) (iblk m c 2 t) s j = UPm m c s j := by
  unfold UP UPm Cert.Ffn.up
  refine Finset.sum_congr rfl fun k _ => ?_
  refine congrArg₂ (· * ·) ?_ (blk2 m c t k j)
  exact congrArg (fun g => Cert.Ffn.rms (aX m c s) g k) (funext fun k => blk1 m c t 0 k)

/-- After a point, the carried rows are the tile's last eight. -/
theorem scratch_after (t : Fin cfg0.N) (r : Fin 8) (j : Fin 5632) :
    (outsAt0 m c t.val t.isLt).2 (ix2 r j) = UPm m c ⟨256 * t.val + (248 + r.val), by have := lt64 t; omega⟩ j := by
  have hx := fun r k => blk0 m c t r k
  by_cases h0 : t.val % 64 = 0
  · rw [outsAt0_A m c t h0]
    dsimp only
    rw [sout_A, halo_canon (aX m c) ⟨t.val, lt64 t⟩ _ _ _ hx]
    exact UP_eq m c t _ j
  · rw [outsAt0_B m c t h0]
    dsimp only
    rw [sout_B, ← List.append_nil (haloPieces _ _ _), halo_canon (aX m c) ⟨t.val, lt64 t⟩ _ _ _ hx]
    exact UP_eq m c t _ j

/-! ## The array -/

/-- What a point stores, entry by entry. -/
theorem out_after (t : Fin cfg0.N) (r : Fin 256) (d : Fin 1024) :
    (outsAt0 m c t.val t.isLt).1 (ix2 r d) = spec m c ⟨256 * t.val + r.val, by have := lt64 t; omega⟩ d := by
  have hN := lt64 t
  have hx := fun r k => blk0 m c t r k
  have key : ∀ xs : Vec Ideal S8x5632 .f32,
      (∀ j : Fin 5632, xs (ix2 7 j) = Cert.Ffn.back (fun s => UP (aX m c) (iblk m c 1 t) (iblk m c 2 t) s j) 1 (256 * t.val)) →
      (∀ j : Fin 5632, xs (ix2 6 j) = Cert.Ffn.back (fun s => UP (aX m c) (iblk m c 1 t) (iblk m c 2 t) s j) 2 (256 * t.val)) →
      outTile (iblk m c 0 t) (iblk m c 1 t) (iblk m c 2 t) (iblk m c 3 t) (iblk m c 4 t) (iblk m c 5 t) (iblk m c 6 t) xs (ix2 r d)
        = spec m c ⟨256 * t.val + r.val, by omega⟩ d := by
    intro xs h7 h6
    rw [out_tile (aX m c) ⟨t.val, hN⟩ _ _ _ _ _ _ _ xs hx h7 h6 r d]
    unfold spec
    congr 1
    · funext k; exact blk1 m c t 0 k
    · funext k j; exact blk2 m c t k j
    · funext k j; exact blk3 m c t k j
    · funext j; exact blk4 m c t 0 j
    · funext k j; exact blk5 m c t k j
    · funext k; exact blk6 m c t 0 k
  by_cases h0 : t.val % 64 = 0
  · have z : t.val = 0 := by omega
    rw [outsAt0_A m c t h0]
    dsimp only
    rw [out_A]
    apply key
    · intro j
      rw [z]
      unfold Cert.Ffn.back
      rw [dif_neg (by omega)]
      pointwise [k0_pay1]
    · intro j
      rw [z]
      unfold Cert.Ffn.back
      rw [dif_neg (by omega)]
      pointwise [k0_pay1]
  · rw [outsAt0_B m c t h0]
    dsimp only
    rw [out_B]
    have hp : t.val - 1 < cfg0.N := Nat.lt_of_le_of_lt (Nat.sub_le _ _) t.isLt
    apply key
    · intro j
      refine (scratch_after m c ⟨t.val - 1, hp⟩ 7 j).trans ?_
      unfold Cert.Ffn.back
      rw [dif_pos (by omega)]
      refine Eq.trans ?_ (UP_eq m c t _ j).symm
      congr 1
      apply Fin.ext; show 256 * (t.val - 1) + (248 + 7) = 256 * t.val - 1; omega
    · intro j
      refine (scratch_after m c ⟨t.val - 1, hp⟩ 6 j).trans ?_
      unfold Cert.Ffn.back
      rw [dif_pos (by omega)]
      refine Eq.trans ?_ (UP_eq m c t _ j).symm
      congr 1
      apply Fin.ext; show 256 * (t.val - 1) + (248 + 6) = 256 * t.val - 2; omega

/-- The array that the call leaves is the layer's result. -/
theorem G7_eq (i : S16384x1024.Idx) : Value.G7 m c i = spec m c (i 0) (i 1) := by
  have h0 : (i 0).val < 16384 := (i 0).isLt
  have h1 : (i 1).val < 1024 := (i 1).isLt
  have ep : Value.pt7Of i = (i 0).val / 256 := by show 1 * ((i 0).val / 256 - 0) + 1 * ((i 1).val / 1024 - 0) = _; omega
  have hp : Value.pt7Of i < cfg0.N := by rw [ep, show cfg0.N = 64 from N_0]; omega
  unfold Value.G7
  rw [dif_pos hp]
  have e := Value.outsAt0_sweep m c (Value.pt7Of i) hp
  rw [← e]
  have el : Value.loc7Of i = (ix2 (⟨(i 0).val % 256, by omega⟩ : Fin 256) (⟨(i 1).val % 1024, by omega⟩ : Fin 1024) : S256x1024.Idx) := by
    funext a; match a with | ⟨0, _⟩ => rfl | ⟨1, _⟩ => rfl
  rw [el, out_after m c ⟨Value.pt7Of i, hp⟩]
  congr 1
  · apply Fin.ext; show 256 * Value.pt7Of i + (i 0).val % 256 = (i 0).val; rw [ep]; omega
  · apply Fin.ext; show (i 1).val % 1024 = (i 1).val; omega

end Cert.Kernel2Ideal.Hand

end
-- ==== Proof.FfnRef.lean ====
/-
  The reference of the channel mixer, entry by entry: its run's term is the same mathematics as the call's.
-/
module

public import proofs.«01_k».proof.Proof.Gen.Reference2Ideal.Run
public import proofs.«01_k».proof.Proof.FfnMath
public import Idealize.ShloMosaic.Lib.Pointwise

@[expose] public section

set_option maxRecDepth 16384
noncomputable section

namespace Cert.Reference2Ideal.Hand

open Cert.Reference2Ideal Cert.Reference2Ideal.Gen Idealize.ShloMosaic Idealize.ShloMosaic.TcCoe Idealize.SL.Sem

/-- The norm over the last axis. -/
def rmsR (x : Vec Ideal S1x16384x1024 .f32) (g : Vec Ideal S1024 .f32) : FVec Ideal S1x16384x1024 .f32 :=
  (mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 g)))

/-- The up-projection. -/
def upR (h : FVec Ideal S1x16384x1024 .f32) (x2 : Vec Ideal S1x1024x5632 .f32) : FVec Ideal S1x16384x5632 .f32 :=
  (Host.dotGeneral dot_S1x16384x1024_S1024x5632_S1x16384x5632_2_0_01_1_n_n none h (shapeCast S1024x5632 x2 shapeCasts_S1x1024x5632_S1024x5632 : FVec Ideal S1024x5632 .f32))

/-- Two rows of zeros before the first. -/
def padR (U : FVec Ideal S1x16384x5632 .f32) : FVec Ideal S1x16386x5632 .f32 :=
  (pad S1x16386x5632 ![0, 2, 0] ![0, 0, 0] ![0, 0, 0] U (sitofp .f32 (constantI S_ 32 0#32)) pads_S1x16384x5632_S1x16386x5632_000_200_000 h_S_)

/-- The convolution, from the padded rows. -/
def convR (p : FVec Ideal S1x16386x5632 .f32) (x3 : Vec Ideal S1x3x5632 .f32) (x4 : Vec Ideal S1x5632 .f32) : FVec Ideal S1x16384x5632 .f32 :=
  (addf (addf (addf (broadcastInDim S1x16384x5632 ![0, 1, 2] bcast_S1x1x5632_S1x16384x5632_0_1_2 (broadcastInDim S1x1x5632 ![2] bcast_S5632_S1x1x5632_2 (shapeCast S5632 x4 shapeCasts_S1x5632_S5632))) (mulf (broadcastInDim S1x16384x5632 ![0, 1, 2] bcast_S1x1x5632_S1x16384x5632_0_1_2 (broadcastInDim S1x1x5632 ![2] bcast_S5632_S1x1x5632_2 (shapeCast S5632 (extractStridedSlice S1x5632 ![0, 0] (shapeCast S3x5632 x3 shapeCasts_S1x3x5632_S3x5632) slices_S3x5632_S1x5632_0_0) shapeCasts_S1x5632_S5632))) (extractStridedSlice S1x16384x5632 ![0, 0, 0] p slices_S1x16386x5632_S1x16384x5632_0_0_0))) (mulf (broadcastInDim S1x16384x5632 ![0, 1, 2] bcast_S1x1x5632_S1x16384x5632_0_1_2 (broadcastInDim S1x1x5632 ![2] bcast_S5632_S1x1x5632_2 (shapeCast S5632 (extractStridedSlice S1x5632 ![1, 0] (shapeCast S3x5632 x3 shapeCasts_S1x3x5632_S3x5632) slices_S3x5632_S1x5632_1_0) shapeCasts_S1x5632_S5632))) (extractStridedSlice S1x16384x5632 ![0, 1, 0] p slices_S1x16386x5632_S1x16384x5632_0_1_0))) (mulf (broadcastInDim S1x16384x5632 ![0, 1, 2] bcast_S1x1x5632_S1x16384x5632_0_1_2 (broadcastInDim S1x1x5632 ![2] bcast_S5632_S1x1x5632_2 (shapeCast S5632 (extractStridedSlice S1x5632 ![2, 0] (shapeCast S3x5632 x3 shapeCasts_S1x3x5632_S3x5632) slices_S3x5632_S1x5632_2_0) shapeCasts_S1x5632_S5632))) (extractStridedSlice S1x16384x5632 ![0, 2, 0] p slices_S1x16386x5632_S1x16384x5632_0_2_0)))

/-- The gated activation. -/
def actR (C : FVec Ideal S1x16384x5632 .f32) : FVec Ideal S1x16384x2816 .f32 :=
  (mulf (mulf (extractStridedSlice S1x16384x2816 ![0, 0, 0] C slices_S1x16384x5632_S1x16384x2816_0_0_0) (Host.divf (broadcastInDim S1x16384x2816 ![] bcast_S_S1x16384x2816 (constant S_ .f32 0x3F800000#32)) (addf (broadcastInDim S1x16384x2816 ![] bcast_S_S1x16384x2816 (constant S_ .f32 0x3F800000#32)) (Host.exp (Host.negf (extractStridedSlice S1x16384x2816 ![0, 0, 0] C slices_S1x16384x5632_S1x16384x2816_0_0_0)))))) (extractStridedSlice S1x16384x2816 ![0, 0, 2816] C slices_S1x16384x5632_S1x16384x2816_0_0_2816))

/-- The residual plus the down-projection. -/
def sumR (x0 : Vec Ideal S1x16384x1024 .f32) (a : FVec Ideal S1x16384x2816 .f32) (x5 : Vec Ideal S1x2816x1024 .f32) : FVec Ideal S1x16384x1024 .f32 :=
  (addf x0 (Host.dotGeneral dot_S1x16384x2816_S2816x1024_S1x16384x1024_2_0_01_1_n_n none a (shapeCast S2816x1024 x5 shapeCasts_S1x2816x1024_S2816x1024 : FVec Ideal S2816x1024 .f32)))

theorem rmsR_apply (x : Vec Ideal S1x16384x1024 .f32) (g : Vec Ideal S1024 .f32) (t : Fin 16384) (k : Fin 1024) :
    rmsR x g (ix3 0 t k) = Cert.Ffn.rms (fun k => x (ix3 0 t k)) (fun k => g (ix1 k)) k := by
  pointwise [rmsR]
  rfl

theorem gain_apply (x : Vec Ideal S1x1024 .f32) (k : Fin 1024) :
    shapeCast S1024 x shapeCasts_S1x1024_S1024 (ix1 k) = x (ix2 0 k) := by pointwise

theorem up_weight (x : Vec Ideal S1x1024x5632 .f32) (k : Fin 1024) (j : Fin 5632) :
    shapeCast S1024x5632 x shapeCasts_S1x1024x5632_S1024x5632 (ix2 k j) = x (ix3 0 k j) := by pointwise

theorem down_weight (x : Vec Ideal S1x2816x1024 .f32) (k : Fin 2816) (j : Fin 1024) :
    shapeCast S2816x1024 x shapeCasts_S1x2816x1024_S2816x1024 (ix2 k j) = x (ix3 0 k j) := by pointwise

theorem upR_apply (h : FVec Ideal S1x16384x1024 .f32) (x2 : Vec Ideal S1x1024x5632 .f32) (t : Fin 16384) (j : Fin 5632) :
    upR h x2 (ix3 0 t j) = ∑ k : Fin 1024, h (ix3 0 t k) * x2 (ix3 0 k j) := by
  pointwise [upR]

/-- The padding's value. -/
theorem pad_zero : (FloatOps.sitofp FTy.f32 0#32 : Ideal .f32) = 0 := by
  show ((((0#32 : BitVec 32).toInt : ℝ)) : EReal) = 0
  simp

theorem padR_apply (U : FVec Ideal S1x16384x5632 .f32) (s : Fin 3) (t : Fin 16384) (j : Fin 5632) :
    padR U (ix3 0 ⟨s.val + t.val, by omega⟩ j) = Cert.Ffn.back (fun r => U (ix3 0 r j)) (2 - s.val) t.val := by
  unfold Cert.Ffn.back
  pointwise [padR]
  split_ifs
  · congr 2; apply Fin.ext; dsimp only; omega
  · omega
  · omega
  · exact pad_zero

theorem convR_apply (p : FVec Ideal S1x16386x5632 .f32) (x3 : Vec Ideal S1x3x5632 .f32) (x4 : Vec Ideal S1x5632 .f32) (t : Fin 16384) (j : Fin 5632) :
    convR p x3 x4 (ix3 0 t j) = x4 (ix2 0 j) + x3 (ix3 0 0 j) * p (ix3 0 ⟨0 + t.val, by omega⟩ j)
      + x3 (ix3 0 1 j) * p (ix3 0 ⟨1 + t.val, by omega⟩ j) + x3 (ix3 0 2 j) * p (ix3 0 ⟨2 + t.val, by omega⟩ j) := by
  pointwise [convR]

theorem actR_apply (C : FVec Ideal S1x16384x5632 .f32) (t : Fin 16384) (j : Fin 2816) :
    actR C (ix3 0 t j) = Cert.Ffn.glu (C (ix3 0 t ⟨j.val, by omega⟩)) (C (ix3 0 t ⟨j.val + 2816, by omega⟩)) := by
  unfold Cert.Ffn.glu
  pointwise [actR]
  rw [zero_sub]
  simp only [Nat.add_comm]

theorem sumR_apply (x0 : Vec Ideal S1x16384x1024 .f32) (a : FVec Ideal S1x16384x2816 .f32) (x5 : Vec Ideal S1x2816x1024 .f32)
    (t : Fin 16384) (d : Fin 1024) :
    sumR x0 a x5 (ix3 0 t d) = x0 (ix3 0 t d) + ∑ j : Fin 2816, a (ix3 0 t j) * x5 (ix3 0 j d) := by
  pointwise [sumR]

theorem drop_unit (x : Vec Ideal S1x16384x1024 .f32) (t : Fin 16384) (d : Fin 1024) :
    shapeCast S16384x1024 x shapeCasts_S1x16384x1024_S16384x1024 (ix2 t d) = x (ix3 0 t d) := by pointwise

/-- The reference's result is the mathematics at its arguments. -/
theorem result_apply (x0 : Vec Ideal S1x16384x1024 .f32) (x1 : Vec Ideal S1x1024 .f32) (x2 : Vec Ideal S1x1024x5632 .f32)
    (x3 : Vec Ideal S1x3x5632 .f32) (x4 : Vec Ideal S1x5632 .f32) (x5 : Vec Ideal S1x2816x1024 .f32) (x6 : Vec Ideal S1024 .f32)
    (t : Fin 16384) (d : Fin 1024) :
    shapeCast S16384x1024 (rmsR (sumR x0 (actR (convR (padR (upR (rmsR x0 (shapeCast S1024 x1 shapeCasts_S1x1024_S1024)) x2)) x3 x4)) x5) x6)
        shapeCasts_S1x16384x1024_S16384x1024 (ix2 t d)
      = Cert.Ffn.out (fun t k => x0 (ix3 0 t k)) (fun k => x1 (ix2 0 k)) (fun k j => x2 (ix3 0 k j)) (fun k j => x3 (ix3 0 k j))
          (fun j => x4 (ix2 0 j)) (fun j d => x5 (ix3 0 j d)) (fun k => x6 (ix1 k)) t d := by
  have H : ∀ t j, convR (padR (upR (rmsR x0 (shapeCast S1024 x1 shapeCasts_S1x1024_S1024)) x2)) x3 x4 (ix3 0 t j)
      = Cert.Ffn.hid (fun t k => x0 (ix3 0 t k)) (fun k => x1 (ix2 0 k)) (fun k j => x2 (ix3 0 k j)) (fun k j => x3 (ix3 0 k j))
          (fun j => x4 (ix2 0 j)) t j := by
    intro t j
    have u : ∀ s, upR (rmsR x0 (shapeCast S1024 x1 shapeCasts_S1x1024_S1024)) x2 (ix3 0 s j)
        = Cert.Ffn.up (fun t k => x0 (ix3 0 t k)) (fun k => x1 (ix2 0 k)) (fun k j => x2 (ix3 0 k j)) s j := by
      intro s
      rw [upR_apply]
      unfold Cert.Ffn.up
      refine Finset.sum_congr rfl fun k _ => ?_
      rw [rmsR_apply]
      exact congrArg (fun g => Cert.Ffn.rms _ g k * _) (funext fun k => gain_apply x1 k)
    have p0 := padR_apply (upR (rmsR x0 (shapeCast S1024 x1 shapeCasts_S1x1024_S1024)) x2) 0 t j
    have p1 := padR_apply (upR (rmsR x0 (shapeCast S1024 x1 shapeCasts_S1x1024_S1024)) x2) 1 t j
    have p2 := padR_apply (upR (rmsR x0 (shapeCast S1024 x1 shapeCasts_S1x1024_S1024)) x2) 2 t j
    have z : ∀ U : Fin 16384 → EReal, Cert.Ffn.back U 0 t.val = U t := by
      intro U; unfold Cert.Ffn.back; rw [dif_pos (by omega)]; rfl
    simp only [u] at p0 p1 p2
    rw [convR_apply]
    refine (congrArg₂ (· + ·) (congrArg₂ (· + ·) (congrArg (_ + _ * ·) p0) (congrArg (_ * ·) p1)) (congrArg (_ * ·) (p2.trans (z _)))).trans ?_
    rfl
  rw [drop_unit, rmsR_apply]
  unfold Cert.Ffn.out
  congr 1
  funext e
  rw [sumR_apply]
  refine congrArg (_ + ·) (Finset.sum_congr rfl fun j _ => ?_)
  rw [actR_apply, H, H]
  rfl

/-- The run's term is that one. -/
theorem res_eq (m : (ℓ : Loc nD τ sig) → Buf (Elt Ideal) ℓ) (c : Dev nD) :
    Value.res_main_v62 m c
      = shapeCast S16384x1024 (rmsR (sumR (m ((c.tc : Thread nD τ).loc main_arg0)) (actR (convR (padR (upR (rmsR (m ((c.tc : Thread nD τ).loc main_arg0))
          (shapeCast S1024 (m ((c.tc : Thread nD τ).loc main_arg1)) shapeCasts_S1x1024_S1024)) (m ((c.tc : Thread nD τ).loc main_arg2))))
          (m ((c.tc : Thread nD τ).loc main_arg3)) (m ((c.tc : Thread nD τ).loc main_arg4)))) (m ((c.tc : Thread nD τ).loc main_arg5))) (m ((c.tc : Thread nD τ).loc main_arg6)))
        shapeCasts_S1x16384x1024_S16384x1024 := rfl

end Cert.Reference2Ideal.Hand

end
-- ==== Proof.MergeMath.lean ====
/-
  The end of the two mixers at the ideal instance, one row at a time: the recurrent mixer's skip, its activation and its
  gated linear unit, the two gates projected from the normalised input row, the merge, the output projection and the
  residual.
-/
module

public import proofs.«01_k».proof.Proof.FfnMath

@[expose] public section

noncomputable section

namespace Cert.Merge

open Idealize.ShloMosaic

/-- The logistic function. -/
def sig (a : EReal) : EReal := Ideal.div 1 (1 + Ideal.exp (0 - a))

/-- The activation: `a · ½ (1 + tanh (c (a + c' a³)))`, its three constants as rounded. -/
def gelu (a : EReal) : EReal :=
  a * (Ideal.ofBits FTy.f32 1056964608#32
    * (1 + Ideal.tanh (Ideal.ofBits FTy.f32 1061962282#32 * (a + Ideal.ofBits FTy.f32 1027024659#32 * (a * a * a)))))

variable (x gn : Fin 1024 → EReal) (ya ys u d : Fin 512 → EReal) (Wa Wb : Fin 1024 → Fin 1024 → EReal)
  (wglu : Fin 512 → Fin 512 → EReal) (wpa wpb : Fin 512 → Fin 1024 → EReal) (wout : Fin 1024 → Fin 1024 → EReal)

/-- The recurrence's output with its skip, activated. -/
def hid (j : Fin 512) : EReal := gelu (ys j + d j * u j)

/-- The gated linear unit. -/
def glu (j : Fin 512) : EReal := hid ys u d j * sig (∑ k, hid ys u d k * wglu k j)

/-- A gate: the normalised row projected. -/
def gate (W : Fin 1024 → Fin 1024 → EReal) (j : Fin 1024) : EReal := sig (∑ k, Cert.Ffn.rms x gn k * W k j)

/-- The two mixers under their gates. -/
def merged (j : Fin 1024) : EReal :=
  gate x gn Wa j * (∑ k, ya k * wpa k j) + gate x gn Wb j * (∑ k, glu ys u d wglu k * wpb k j)

/-- The row that the layer hands on. -/
def out (e : Fin 1024) : EReal := x e + ∑ j, merged x gn ya ys u d Wa Wb wglu wpa wpb j * wout j e

end Cert.Merge

end
-- ==== Proof.MergeTile.lean ====
/-
  What a grid point of the merge call stores, entry by entry: each payload of the body is the row's mathematics at the
  blocks' entries.
-/
module

public import proofs.«01_k».proof.Proof.Gen.Kernel3Ideal.Value
public import Idealize.ShloMosaic.Lib.Pipeline.ValueKit
public import Idealize.ShloMosaic.Lib.Pointwise
public import proofs.«01_k».proof.Proof.MergeMath

@[expose] public section

set_option maxRecDepth 16384
noncomputable section

namespace Cert.Kernel3Ideal.Hand

open Cert.Kernel3Ideal Cert.Kernel3Ideal.Gen Idealize.ShloMosaic Idealize.ShloMosaic.TcCoe Idealize.SL.Sem

/-- The gates before the logistic function: the normalised rows projected. -/
theorem gates_apply (x : Vec Ideal S512x1024 .f32) (g : Vec Ideal S1x1024 .f32) (w : Vec Ideal S1024x2048 .bf16) (r : Fin 512) (j : Fin 2048) :
    k0_pay3 x g w (ix2 r j) = ∑ k : Fin 1024, Cert.Ffn.rms (fun k => x (ix2 r k)) (fun k => g (ix2 0 k)) k * w (ix2 k j) := by
  pointwise [k0_pay3, k0_pay2]
  rfl

/-- The recurrence's output with its skip. -/
theorem skip_apply (ys : Vec Ideal S512x512 .f32) (d : Vec Ideal S1x512 .f32) (u : Vec Ideal S512x512 .f32) (r j : Fin 512) :
    k0_pay4 ys d u (ix2 r j) = ys (ix2 r j) + d (ix2 0 j) * u (ix2 r j) := by
  pointwise [k0_pay4]

/-- The activation's second factor, doubled. -/
theorem tanh_part (ys : Vec Ideal S512x512 .f32) (d : Vec Ideal S1x512 .f32) (u : Vec Ideal S512x512 .f32) (r j : Fin 512)
    (a : EReal) (ha : k0_pay4 ys d u (ix2 r j) = a) :
    k0_pay5 ys d u (ix2 r j) = 1 + Ideal.tanh (Ideal.ofBits FTy.f32 1061962282#32 * (a + Ideal.ofBits FTy.f32 1027024659#32 * (a * a * a))) := by
  pointwise [k0_pay5]
  rw [ha, mul_assoc a a a]

/-- The gated linear unit and its projection, from the activation's two factors. -/
theorem unit_apply (a b : FVec Ideal S512x512 .f32) (w : Vec Ideal S512x512 .bf16) (wp : Vec Ideal S512x1024 .bf16) (r : Fin 512) (e : Fin 1024) :
    k0_pay6 a b (Scalar.ofBits .f32 0x3F000000#32) w wp (ix2 r e)
      = ∑ j : Fin 512, (a (ix2 r j) * (Ideal.ofBits FTy.f32 1056964608#32 * b (ix2 r j))
          * Cert.Merge.sig (∑ k : Fin 512, a (ix2 r k) * (Ideal.ofBits FTy.f32 1056964608#32 * b (ix2 r k)) * w (ix2 k j))) * wp (ix2 j e) := by
  unfold Cert.Merge.sig
  pointwise [k0_pay6]

/-- The attention's projection under its gate. -/
theorem att_apply (z : FVec Ideal S512x2048 .f32) (ya : Vec Ideal S512x512 .bf16) (w : Vec Ideal S512x1024 .bf16) (r : Fin 512) (e : Fin 1024) :
    k0_pay7 z ya w (ix2 r e) = Cert.Merge.sig (z (ix2 r ⟨e.val, by omega⟩)) * ∑ k : Fin 512, ya (ix2 r k) * w (ix2 k e) := by
  unfold Cert.Merge.sig
  pointwise [k0_pay7]

/-- The second gate's denominator. -/
theorem den_apply (z : FVec Ideal S512x2048 .f32) (r : Fin 512) (e : Fin 1024) :
    k0_pay8 z (ix2 r e) = 1 + Ideal.exp (0 - z (ix2 r ⟨1024 + e.val, by omega⟩)) := by
  pointwise [k0_pay8]

theorem row_apply (x : Vec Ideal S512x1024 .f32) (r : Fin 512) (e : Fin 1024) : k0_pay2 x (ix2 r e) = x (ix2 r e) := by
  pointwise [k0_pay2]

/-- The output projection and the residual, from the merge's parts. -/
theorem proj_apply (x pb pa den : FVec Ideal S512x1024 .f32) (w : Vec Ideal S1024x1024 .bf16) (r : Fin 512) (e : Fin 1024) :
    k0_pay1 x pb pa den k0_pay9 w (ix2 r e)
      = x (ix2 r e) + ∑ j : Fin 1024, (pa (ix2 r j) + Ideal.div 1 (den (ix2 r j)) * pb (ix2 r j)) * w (ix2 j e) := by
  pointwise [k0_pay1, k0_pay9]

/-- What a grid point stores is the row's mathematics at its blocks. -/
theorem out_tile (x0 : Vec Ideal S512x1024 .f32) (x1 : Vec Ideal S512x512 .bf16) (x2 x3 : Vec Ideal S512x512 .f32)
    (x4 : Vec Ideal S1x1024 .f32) (x5 : Vec Ideal S1024x2048 .bf16) (x6 : Vec Ideal S1x512 .f32) (x7 : Vec Ideal S512x512 .bf16)
    (x8 x9 : Vec Ideal S512x1024 .bf16) (x10 : Vec Ideal S1024x1024 .bf16) (r : Fin 512) (e : Fin 1024) :
    out0_11 x0 x1 x2 x3 x4 x5 x6 x7 x8 x9 x10 (ix2 r e)
      = Cert.Merge.out (fun k => x0 (ix2 r k)) (fun k => x4 (ix2 0 k)) (fun k => x1 (ix2 r k)) (fun k => x2 (ix2 r k))
          (fun k => x3 (ix2 r k)) (fun k => x6 (ix2 0 k)) (fun k j => x5 (ix2 k ⟨j.val, by omega⟩)) (fun k j => x5 (ix2 k ⟨1024 + j.val, by omega⟩))
          (fun k j => x7 (ix2 k j)) (fun k j => x8 (ix2 k j)) (fun k j => x9 (ix2 k j)) (fun k j => x10 (ix2 k j)) e := by
  have hu : ∀ j : Fin 512, k0_pay4 x2 x6 x3 (ix2 r j) * (Ideal.ofBits FTy.f32 1056964608#32 * k0_pay5 x2 x6 x3 (ix2 r j))
      = Cert.Merge.hid (fun k => x2 (ix2 r k)) (fun k => x3 (ix2 r k)) (fun k => x6 (ix2 0 k)) j := by
    intro j
    rw [tanh_part x2 x6 x3 r j _ (skip_apply x2 x6 x3 r j), skip_apply]
    rfl
  unfold out0_11 k0_pay10
  rw [View.canon_cons_unit_lit _ _ _ (by decide)]
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide), View.ld_unit_lit _ x7 (by decide),
    View.ld_unit_lit _ x8 (by decide), View.ld_unit_lit _ x9 (by decide), View.ld_unit_lit _ x10 (by decide)]
  rw [proj_apply, row_apply]
  unfold Cert.Merge.out
  refine congrArg (_ + ·) (Finset.sum_congr rfl fun j _ => congrArg (· * _) ?_)
  rw [att_apply, den_apply, unit_apply, gates_apply, gates_apply]
  simp only [hu]
  rfl

end Cert.Kernel3Ideal.Hand

end
-- ==== Proof.MergeValue.lean ====
/-
  The merge call: its windows' blocks as the arguments' entries, and the array that it leaves, entry by entry.
-/
module

public import proofs.«01_k».proof.Proof.MergeTile
public import Idealize.ShloMosaic.Lib.Pipeline.ValueKit
public import Idealize.ShloMosaic.Lib.Pipeline.ReadBack
public import Idealize.ShloMosaic.Lib.Pointwise

@[expose] public section

set_option maxRecDepth 16384
noncomputable section

namespace Cert.Kernel3Ideal.Hand

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-! ## The arguments as functions of row and column -/

/-- The layer's input rows. -/
abbrev aX (t : Fin 16384) (k : Fin 1024) : EReal := (m ((c : Thread nD τ).loc main_arg0) : Vec Ideal S1x16384x1024 .f32) (ix3 0 t k)
/-- The attention's output rows. -/
abbrev aYa (t : Fin 16384) (k : Fin 512) : EReal := (m ((c : Thread nD τ).loc main_arg1) : Vec Ideal S1x16384x512 .f32) (ix3 0 t k)
/-- The recurrence's output rows. -/
abbrev aYs (t : Fin 16384) (k : Fin 512) : EReal := (m ((c : Thread nD τ).loc main_arg2) : Vec Ideal S1x16384x512 .f32) (ix3 0 t k)
/-- The recurrence's input rows. -/
abbrev aU (t : Fin 16384) (k : Fin 512) : EReal := (m ((c : Thread nD τ).loc main_arg3) : Vec Ideal S1x16384x512 .f32) (ix3 0 t k)
/-- The norm's gain. -/
abbrev aG (k : Fin 1024) : EReal := (m ((c : Thread nD τ).loc main_arg4) : Vec Ideal S1x1024 .f32) (ix2 0 k)
/-- The input projection's weights. -/
abbrev aW (t : Fin 1024) (k : Fin 3864) : EReal := (m ((c : Thread nD τ).loc main_arg5) : Vec Ideal S1x1024x3864 .f32) (ix3 0 t k)
/-- The skip's weights. -/
abbrev aD (k : Fin 512) : EReal := (m ((c : Thread nD τ).loc main_arg6) : Vec Ideal S1x512 .f32) (ix2 0 k)
/-- The gated linear unit's weights. -/
abbrev aWg (t : Fin 512) (k : Fin 512) : EReal := (m ((c : Thread nD τ).loc main_arg7) : Vec Ideal S1x512x512 .f32) (ix3 0 t k)
/-- The attention's projection. -/
abbrev aWa (t : Fin 512) (k : Fin 1024) : EReal := (m ((c : Thread nD τ).loc main_arg8) : Vec Ideal S1x512x1024 .f32) (ix3 0 t k)
/-- The recurrent mixer's projection. -/
abbrev aWb (t : Fin 512) (k : Fin 1024) : EReal := (m ((c : Thread nD τ).loc main_arg9) : Vec Ideal S1x512x1024 .f32) (ix3 0 t k)
/-- The output projection. -/
abbrev aWo (t : Fin 1024) (k : Fin 1024) : EReal := (m ((c : Thread nD τ).loc main_arg10) : Vec Ideal S1x1024x1024 .f32) (ix3 0 t k)

/-- The layer's rows before the channel mixer, from the arguments. -/
def spec (t : Fin 16384) (e : Fin 1024) : EReal :=
  Cert.Merge.out (aX m c t) (aG m c) (aYa m c t) (aYs m c t) (aU m c t) (aD m c) (fun k j => aW m c k ⟨1816 + j.val, by omega⟩)
    (fun k j => aW m c k ⟨2840 + j.val, by omega⟩) (aWg m c) (aWa m c) (aWb m c) (aWo m c) e

/-! ## What the host code leaves in the windows' arrays -/

theorem V3 : (V m c main_v3 : Vec Ideal S16384x1024 .f32) = shapeCast S16384x1024 (m ((c : Thread nD τ).loc main_arg0)) shapeCasts_S1x16384x1024_S16384x1024 := by
  unfold V; after_results; rfl
theorem V5 : (V m c main_v5 : Vec Ideal S16384x512 .bf16) = truncf (F := Ideal) .bf16 (shapeCast S16384x512 (m ((c : Thread nD τ).loc main_arg1)) shapeCasts_S1x16384x512_S16384x512) bitsLt_bf16_f32 := by
  unfold V; after_results; rfl
theorem V6 : (V m c main_v6 : Vec Ideal S16384x512 .f32) = shapeCast S16384x512 (m ((c : Thread nD τ).loc main_arg2)) shapeCasts_S1x16384x512_S16384x512 := by
  unfold V; after_results; rfl
theorem V7 : (V m c main_v7 : Vec Ideal S16384x512 .f32) = shapeCast S16384x512 (m ((c : Thread nD τ).loc main_arg3)) shapeCasts_S1x16384x512_S16384x512 := by
  unfold V; after_results; rfl
theorem V9 : (V m c main_v9 : Vec Ideal S1x1024 .f32) = broadcastInDim S1x1024 ![1] bcast_S1024_S1x1024_1 (shapeCast S1024 (m ((c : Thread nD τ).loc main_arg4)) shapeCasts_S1x1024_S1024) := by
  unfold V; after_results; rfl
theorem V2 : (V m c main_v2 : Vec Ideal S1024x2048 .bf16) = truncf (F := Ideal) .bf16 (extractStridedSlice S1024x2048 ![0, 1816] (shapeCast S1024x3864 (m ((c : Thread nD τ).loc main_arg5)) shapeCasts_S1x1024x3864_S1024x3864) slices_S1024x3864_S1024x2048_0_1816) bitsLt_bf16_f32 := by
  unfold V; after_results; rfl
theorem V11 : (V m c main_v11 : Vec Ideal S1x512 .f32) = broadcastInDim S1x512 ![1] bcast_S512_S1x512_1 (shapeCast S512 (m ((c : Thread nD τ).loc main_arg6)) shapeCasts_S1x512_S512) := by
  unfold V; after_results; rfl
theorem V13 : (V m c main_v13 : Vec Ideal S512x512 .bf16) = truncf (F := Ideal) .bf16 (shapeCast S512x512 (m ((c : Thread nD τ).loc main_arg7)) shapeCasts_S1x512x512_S512x512) bitsLt_bf16_f32 := by
  unfold V; after_results; rfl
theorem V15 : (V m c main_v15 : Vec Ideal S512x1024 .bf16) = truncf (F := Ideal) .bf16 (shapeCast S512x1024 (m ((c : Thread nD τ).loc main_arg8)) shapeCasts_S1x512x1024_S512x1024) bitsLt_bf16_f32 := by
  unfold V; after_results; rfl
theorem V17 : (V m c main_v17 : Vec Ideal S512x1024 .bf16) = truncf (F := Ideal) .bf16 (shapeCast S512x1024 (m ((c : Thread nD τ).loc main_arg9)) shapeCasts_S1x512x1024_S512x1024) bitsLt_bf16_f32 := by
  unfold V; after_results; rfl
theorem V19 : (V m c main_v19 : Vec Ideal S1024x1024 .bf16) = truncf (F := Ideal) .bf16 (shapeCast S1024x1024 (m ((c : Thread nD τ).loc main_arg10)) shapeCasts_S1x1024x1024_S1024x1024) bitsLt_bf16_f32 := by
  unfold V; after_results; rfl

/-! ## The host code's arrays, entry by entry -/

theorem h0 (x : Vec Ideal S1x16384x1024 .f32) (r : Fin 16384) (k : Fin 1024) :
    (shapeCast S16384x1024 x shapeCasts_S1x16384x1024_S16384x1024 : FVec Ideal S16384x1024 .f32) (ix2 r k) = x (ix3 0 r k) := by pointwise
theorem h1 (x : Vec Ideal S1x16384x512 .f32) (r : Fin 16384) (k : Fin 512) :
    (truncf (F := Ideal) .bf16 (shapeCast S16384x512 x shapeCasts_S1x16384x512_S16384x512) bitsLt_bf16_f32 : FVec Ideal S16384x512 .bf16) (ix2 r k) = x (ix3 0 r k) := by pointwise
theorem h2 (x : Vec Ideal S1x16384x512 .f32) (r : Fin 16384) (k : Fin 512) :
    (shapeCast S16384x512 x shapeCasts_S1x16384x512_S16384x512 : FVec Ideal S16384x512 .f32) (ix2 r k) = x (ix3 0 r k) := by pointwise
theorem h3 (x : Vec Ideal S1x16384x512 .f32) (r : Fin 16384) (k : Fin 512) :
    (shapeCast S16384x512 x shapeCasts_S1x16384x512_S16384x512 : FVec Ideal S16384x512 .f32) (ix2 r k) = x (ix3 0 r k) := by pointwise
theorem h4 (x : Vec Ideal S1x1024 .f32) (r : Fin 1) (k : Fin 1024) :
    (broadcastInDim S1x1024 ![1] bcast_S1024_S1x1024_1 (shapeCast S1024 x shapeCasts_S1x1024_S1024) : FVec Ideal S1x1024 .f32) (ix2 r k) = x (ix2 0 k) := by pointwise
theorem h5 (x : Vec Ideal S1x1024x3864 .f32) (r : Fin 1024) (k : Fin 2048) :
    (truncf (F := Ideal) .bf16 (extractStridedSlice S1024x2048 ![0, 1816] (shapeCast S1024x3864 x shapeCasts_S1x1024x3864_S1024x3864) slices_S1024x3864_S1024x2048_0_1816) bitsLt_bf16_f32 : FVec Ideal S1024x2048 .bf16) (ix2 r k) = x (ix3 0 r ⟨1816 + k.val, by omega⟩) := by pointwise
theorem h6 (x : Vec Ideal S1x512 .f32) (r : Fin 1) (k : Fin 512) :
    (broadcastInDim S1x512 ![1] bcast_S512_S1x512_1 (shapeCast S512 x shapeCasts_S1x512_S512) : FVec Ideal S1x512 .f32) (ix2 r k) = x (ix2 0 k) := by pointwise
theorem h7 (x : Vec Ideal S1x512x512 .f32) (r : Fin 512) (k : Fin 512) :
    (truncf (F := Ideal) .bf16 (shapeCast S512x512 x shapeCasts_S1x512x512_S512x512) bitsLt_bf16_f32 : FVec Ideal S512x512 .bf16) (ix2 r k) = x (ix3 0 r k) := by pointwise
theorem h8 (x : Vec Ideal S1x512x1024 .f32) (r : Fin 512) (k : Fin 1024) :
    (truncf (F := Ideal) .bf16 (shapeCast S512x1024 x shapeCasts_S1x512x1024_S512x1024) bitsLt_bf16_f32 : FVec Ideal S512x1024 .bf16) (ix2 r k) = x (ix3 0 r k) := by pointwise
theorem h9 (x : Vec Ideal S1x512x1024 .f32) (r : Fin 512) (k : Fin 1024) :
    (truncf (F := Ideal) .bf16 (shapeCast S512x1024 x shapeCasts_S1x512x1024_S512x1024) bitsLt_bf16_f32 : FVec Ideal S512x1024 .bf16) (ix2 r k) = x (ix3 0 r k) := by pointwise
theorem h10 (x : Vec Ideal S1x1024x1024 .f32) (r : Fin 1024) (k : Fin 1024) :
    (truncf (F := Ideal) .bf16 (shapeCast S1024x1024 x shapeCasts_S1x1024x1024_S1024x1024) bitsLt_bf16_f32 : FVec Ideal S1024x1024 .bf16) (ix2 r k) = x (ix3 0 r k) := by pointwise

/-! ## The windows' blocks -/

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel
theorem index9 : ∀ t : Fin cfg0.N, win0_9.index t 0 = 0 ∧ win0_9.index t 1 = 0 := by decide +kernel
theorem index10 : ∀ t : Fin cfg0.N, win0_10.index t 0 = 0 ∧ win0_10.index t 1 = 0 := by decide +kernel
theorem index11 : ∀ t : Fin cfg0.N, win0_11.index t 0 = t.val ∧ win0_11.index t 1 = 0 := by decide +kernel

theorem lt32 (t : Fin cfg0.N) : t.val < 32 := lt_of_lt_of_eq t.isLt (show cfg0.N = 32 from N_0)

theorem blk0 (t : Fin cfg0.N) (r : Fin 512) (k : Fin 1024) :
    (iblk m c 0 t : Vec Ideal S512x1024 .f32) (ix2 r k) = aX m c ⟨512 * t.val + r.val, by have := lt32 t; omega⟩ k := by
  unfold iblk
  rw [View.read_apply]
  have e : ((cfg0.win 0).blk t).view.emb (ix2 r k) = (ix2 (⟨512 * t.val + r.val, by have := lt32 t; omega⟩ : Fin 16384) k : S16384x1024.Idx) := by
    funext a
    apply Fin.ext
    match a with
    | ⟨0, _⟩ => show win0_0.index t 0 * 512 + 1 * r.val = _; rw [(index0 t).1]; show _ = 512 * t.val + r.val; omega
    | ⟨1, _⟩ => show win0_0.index t 1 * 1024 + 1 * k.val = _; rw [(index0 t).2]; show _ = k.val; omega
  refine (congrFun (V3 m c) _).trans ?_
  rw [e]
  exact h0 _ _ _

theorem blk1 (t : Fin cfg0.N) (r : Fin 512) (k : Fin 512) :
    (iblk m c 1 t : Vec Ideal S512x512 .bf16) (ix2 r k) = aYa m c ⟨512 * t.val + r.val, by have := lt32 t; omega⟩ k := by
  unfold iblk
  rw [View.read_apply]
  have e : ((cfg0.win 1).blk t).view.emb (ix2 r k) = (ix2 (⟨512 * t.val + r.val, by have := lt32 t; omega⟩ : Fin 16384) k : S16384x512.Idx) := by
    funext a
    apply Fin.ext
    match a with
    | ⟨0, _⟩ => show win0_1.index t 0 * 512 + 1 * r.val = _; rw [(index1 t).1]; show _ = 512 * t.val + r.val; omega
    | ⟨1, _⟩ => show win0_1.index t 1 * 512 + 1 * k.val = _; rw [(index1 t).2]; show _ = k.val; omega
  refine (congrFun (V5 m c) _).trans ?_
  rw [e]
  exact h1 _ _ _

theorem blk2 (t : Fin cfg0.N) (r : Fin 512) (k : Fin 512) :
    (iblk m c 2 t : Vec Ideal S512x512 .f32) (ix2 r k) = aYs m c ⟨512 * t.val + r.val, by have := lt32 t; omega⟩ k := by
  unfold iblk
  rw [View.read_apply]
  have e : ((cfg0.win 2).blk t).view.emb (ix2 r k) = (ix2 (⟨512 * t.val + r.val, by have := lt32 t; omega⟩ : Fin 16384) k : S16384x512.Idx) := by
    funext a
    apply Fin.ext
    match a with
    | ⟨0, _⟩ => show win0_2.index t 0 * 512 + 1 * r.val = _; rw [(index2 t).1]; show _ = 512 * t.val + r.val; omega
    | ⟨1, _⟩ => show win0_2.index t 1 * 512 + 1 * k.val = _; rw [(index2 t).2]; show _ = k.val; omega
  refine (congrFun (V6 m c) _).trans ?_
  rw [e]
  exact h2 _ _ _

theorem blk3 (t : Fin cfg0.N) (r : Fin 512) (k : Fin 512) :
    (iblk m c 3 t : Vec Ideal S512x512 .f32) (ix2 r k) = aU m c ⟨512 * t.val + r.val, by have := lt32 t; omega⟩ k := by
  unfold iblk
  rw [View.read_apply]
  have e : ((cfg0.win 3).blk t).view.emb (ix2 r k) = (ix2 (⟨512 * t.val + r.val, by have := lt32 t; omega⟩ : Fin 16384) k : S16384x512.Idx) := by
    funext a
    apply Fin.ext
    match a with
    | ⟨0, _⟩ => show win0_3.index t 0 * 512 + 1 * r.val = _; rw [(index3 t).1]; show _ = 512 * t.val + r.val; omega
    | ⟨1, _⟩ => show win0_3.index t 1 * 512 + 1 * k.val = _; rw [(index3 t).2]; show _ = k.val; omega
  refine (congrFun (V7 m c) _).trans ?_
  rw [e]
  exact h3 _ _ _

theorem blk4 (t : Fin cfg0.N) (r : Fin 1) (k : Fin 1024) :
    (iblk m c 4 t : Vec Ideal S1x1024 .f32) (ix2 r k) = aG m c k := by
  unfold iblk
  rw [View.read_apply]
  have e : ((cfg0.win 4).blk t).view.emb (ix2 r k) = (ix2 (r : Fin 1) k : S1x1024.Idx) := by
    funext a
    apply Fin.ext
    match a with
    | ⟨0, _⟩ => show win0_4.index t 0 * 1 + 1 * r.val = _; rw [(index4 t).1]; show _ = r.val; omega
    | ⟨1, _⟩ => show win0_4.index t 1 * 1024 + 1 * k.val = _; rw [(index4 t).2]; show _ = k.val; omega
  refine (congrFun (V9 m c) _).trans ?_
  rw [e]
  exact h4 _ _ _

theorem blk5 (t : Fin cfg0.N) (r : Fin 1024) (k : Fin 2048) :
    (iblk m c 5 t : Vec Ideal S1024x2048 .bf16) (ix2 r k) = aW m c r ⟨1816 + k.val, by omega⟩ := by
  unfold iblk
  rw [View.read_apply]
  have e : ((cfg0.win 5).blk t).view.emb (ix2 r k) = (ix2 (r : Fin 1024) k : S1024x2048.Idx) := by
    funext a
    apply Fin.ext
    match a with
    | ⟨0, _⟩ => show win0_5.index t 0 * 1024 + 1 * r.val = _; rw [(index5 t).1]; show _ = r.val; omega
    | ⟨1, _⟩ => show win0_5.index t 1 * 2048 + 1 * k.val = _; rw [(index5 t).2]; show _ = k.val; omega
  refine (congrFun (V2 m c) _).trans ?_
  rw [e]
  exact h5 _ _ _

theorem blk6 (t : Fin cfg0.N) (r : Fin 1) (k : Fin 512) :
    (iblk m c 6 t : Vec Ideal S1x512 .f32) (ix2 r k) = aD m c k := by
  unfold iblk
  rw [View.read_apply]
  have e : ((cfg0.win 6).blk t).view.emb (ix2 r k) = (ix2 (r : Fin 1) k : S1x512.Idx) := by
    funext a
    apply Fin.ext
    match a with
    | ⟨0, _⟩ => show win0_6.index t 0 * 1 + 1 * r.val = _; rw [(index6 t).1]; show _ = r.val; omega
    | ⟨1, _⟩ => show win0_6.index t 1 * 512 + 1 * k.val = _; rw [(index6 t).2]; show _ = k.val; omega
  refine (congrFun (V11 m c) _).trans ?_
  rw [e]
  exact h6 _ _ _

theorem blk7 (t : Fin cfg0.N) (r : Fin 512) (k : Fin 512) :
    (iblk m c 7 t : Vec Ideal S512x512 .bf16) (ix2 r k) = aWg m c r k := by
  unfold iblk
  rw [View.read_apply]
  have e : ((cfg0.win 7).blk t).view.emb (ix2 r k) = (ix2 (r : Fin 512) k : S512x512.Idx) := by
    funext a
    apply Fin.ext
    match a with
    | ⟨0, _⟩ => show win0_7.index t 0 * 512 + 1 * r.val = _; rw [(index7 t).1]; show _ = r.val; omega
    | ⟨1, _⟩ => show win0_7.index t 1 * 512 + 1 * k.val = _; rw [(index7 t).2]; show _ = k.val; omega
  refine (congrFun (V13 m c) _).trans ?_
  rw [e]
  exact h7 _ _ _

theorem blk8 (t : Fin cfg0.N) (r : Fin 512) (k : Fin 1024) :
    (iblk m c 8 t : Vec Ideal S512x1024 .bf16) (ix2 r k) = aWa m c r k := by
  unfold iblk
  rw [View.read_apply]
  have e : ((cfg0.win 8).blk t).view.emb (ix2 r k) = (ix2 (r : Fin 512) k : S512x1024.Idx) := by
    funext a
    apply Fin.ext
    match a with
    | ⟨0, _⟩ => show win0_8.index t 0 * 512 + 1 * r.val = _; rw [(index8 t).1]; show _ = r.val; omega
    | ⟨1, _⟩ => show win0_8.index t 1 * 1024 + 1 * k.val = _; rw [(index8 t).2]; show _ = k.val; omega
  refine (congrFun (V15 m c) _).trans ?_
  rw [e]
  exact h8 _ _ _

theorem blk9 (t : Fin cfg0.N) (r : Fin 512) (k : Fin 1024) :
    (iblk m c 9 t : Vec Ideal S512x1024 .bf16) (ix2 r k) = aWb m c r k := by
  unfold iblk
  rw [View.read_apply]
  have e : ((cfg0.win 9).blk t).view.emb (ix2 r k) = (ix2 (r : Fin 512) k : S512x1024.Idx) := by
    funext a
    apply Fin.ext
    match a with
    | ⟨0, _⟩ => show win0_9.index t 0 * 512 + 1 * r.val = _; rw [(index9 t).1]; show _ = r.val; omega
    | ⟨1, _⟩ => show win0_9.index t 1 * 1024 + 1 * k.val = _; rw [(index9 t).2]; show _ = k.val; omega
  refine (congrFun (V17 m c) _).trans ?_
  rw [e]
  exact h9 _ _ _

theorem blk10 (t : Fin cfg0.N) (r : Fin 1024) (k : Fin 1024) :
    (iblk m c 10 t : Vec Ideal S1024x1024 .bf16) (ix2 r k) = aWo m c r k := by
  unfold iblk
  rw [View.read_apply]
  have e : ((cfg0.win 10).blk t).view.emb (ix2 r k) = (ix2 (r : Fin 1024) k : S1024x1024.Idx) := by
    funext a
    apply Fin.ext
    match a with
    | ⟨0, _⟩ => show win0_10.index t 0 * 1024 + 1 * r.val = _; rw [(index10 t).1]; show _ = r.val; omega
    | ⟨1, _⟩ => show win0_10.index t 1 * 1024 + 1 * k.val = _; rw [(index10 t).2]; show _ = k.val; omega
  refine (congrFun (V19 m c) _).trans ?_
  rw [e]
  exact h10 _ _ _

/-! ## The array -/

/-- What a point stores, entry by entry. -/
theorem out_after (t : Fin cfg0.N) (r : Fin 512) (e : Fin 1024) :
    out0_11 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix2 r e)
      = spec m c ⟨512 * t.val + r.val, by have := lt32 t; omega⟩ e := by
  rw [out_tile]
  unfold spec
  congr 1
  · funext k; exact blk0 m c t r k
  · funext k; exact blk4 m c t 0 k
  · funext k; exact blk1 m c t r k
  · funext k; exact blk2 m c t r k
  · funext k; exact blk3 m c t r k
  · funext k; exact blk6 m c t 0 k
  · funext k j; exact blk5 m c t k _
  · funext k j
    refine (blk5 m c t k _).trans (congrArg _ (Fin.ext ?_))
    show 1816 + (1024 + j.val) = 2840 + j.val
    omega
  · funext k j; exact blk7 m c t k j
  · funext k j; exact blk8 m c t k j
  · funext k j; exact blk9 m c t k j
  · funext k j; exact blk10 m c t k j

/-- The layer's rows before the channel mixer, as the result's buffer. -/
def G : Buf (Elt Ideal) ((c : Thread nD τ).loc main_v20) := fun i => spec m c (i 0) (i 1)

/-- What a point writes back is that array's block. -/
theorem flushed_eq (t : Fin cfg0.N) : (dats m 0 c).flushed 11 t = ((cfg0.win 11).blk t).view.read (Elt Ideal) (G m c) := by
  rw [Value.flushed11]
  funext y
  have hy0 : (y 0).val < 512 := (y 0).isLt
  have hy1 : (y 1).val < 1024 := (y 1).isLt
  have ey : (cfg0.win 11).xinj (grid0.coords t) y = (ix2 (⟨(y 0).val, hy0⟩ : Fin 512) (⟨(y 1).val, hy1⟩ : Fin 1024) : S512x1024.Idx) := by
    funext a; match a with | ⟨0, _⟩ => rfl | ⟨1, _⟩ => rfl
  rw [View.read_apply]
  refine (congrArg (out0_11 _ _ _ _ _ _ _ _ _ _ _) ey).trans ((out_after m c t _ _).trans ?_)
  show _ = spec m c (((cfg0.win 11).blk t).view.emb y 0) (((cfg0.win 11).blk t).view.emb y 1)
  congr 1
  · apply Fin.ext; show 512 * t.val + (y 0).val = win0_11.index t 0 * 512 + 1 * (y 0).val; rw [(index11 t).1]; omega
  · apply Fin.ext; show (y 1).val = win0_11.index t 1 * 1024 + 1 * (y 1).val; rw [(index11 t).2]; omega

/-- Every entry of the result is in some point's block. -/
theorem covered (i : S16384x1024.Idx) : ∃ t : Fin cfg0.N, (cfg0.win 11).flush t = true ∧ i ∈ ((cfg0.win 11).blk t).view.set := by
  have h0 : (i 0).val < 16384 := (i 0).isLt
  have h1 : (i 1).val < 1024 := (i 1).isLt
  have hp : (i 0).val / 512 < cfg0.N := by rw [show cfg0.N = 32 from N_0]; omega
  refine ⟨⟨(i 0).val / 512, hp⟩, flush0_11 _, ?_⟩
  show i ∈ ((View.whole main_v20).slice (win0_11.rect ⟨(i 0).val / 512, hp⟩)).set
  rw [View.set_slice_whole, Rect.mem_set_unit]
  intro a
  match a with
  | ⟨0, _⟩ =>
    show win0_11.index ⟨(i 0).val / 512, hp⟩ 0 * 512 ≤ (i 0).val ∧ (i 0).val < win0_11.index ⟨(i 0).val / 512, hp⟩ 0 * 512 + 512
    rw [(index11 _).1]; dsimp only; omega
  | ⟨1, _⟩ =>
    show win0_11.index ⟨(i 0).val / 512, hp⟩ 1 * 1024 ≤ (i 1).val ∧ (i 1).val < win0_11.index ⟨(i 0).val / 512, hp⟩ 1 * 1024 + 1024
    rw [(index11 _).2]; omega

/-- The array that the call leaves. -/
theorem final : (dats m 0 c).arrAt 11 cfg0.N = G m c :=
  (dats m 0 c).arrAt_eq_of_cover 11 _ (fun t _ => flushed_eq m c t) (fun i => covered i)

end Cert.Kernel3Ideal.Hand

end
-- ==== Proof.MergeRef.lean ====
/-
  The reference of the merge, entry by entry: its run's term is the same mathematics as the call's.
-/
module

public import proofs.«01_k».proof.Proof.Gen.Reference3Ideal.Run
public import proofs.«01_k».proof.Proof.MergeMath
public import Idealize.ShloMosaic.Lib.Pointwise

@[expose] public section

set_option maxRecDepth 16384
noncomputable section

namespace Cert.Reference3Ideal.Hand

open Cert.Reference3Ideal Cert.Reference3Ideal.Gen Idealize.ShloMosaic Idealize.ShloMosaic.TcCoe Idealize.SL.Sem

/-- The norm over the last axis. -/
def rmsR (x : Vec Ideal S1x16384x1024 .f32) (x4 : Vec Ideal S1x1024 .f32) : FVec Ideal S1x16384x1024 .f32 :=
  mulf (mulf x (broadcastInDim S1x16384x1024 ![0, 1, 2] bcast_S1x16384x1_S1x16384x1024_0_1_2 (Host.rsqrt (addf
      (Host.divf (broadcastInDim S1x16384x1 ![0, 1] bcast_S1x16384_S1x16384x1_0_1
          (Host.reduceAdd (mulf x x) (constant S_ .f32 0x00000000#32) reducesTo_S1x16384x1024_S1x16384_d2 h_S_))
        (broadcastInDim S1x16384x1 ![] bcast_S_S1x16384x1 (constant S_ .f32 0x44800000#32)))
      (broadcastInDim S1x16384x1 ![] bcast_S_S1x16384x1 (constant S_ .f32 0x358637BD#32))))))
    (broadcastInDim S1x16384x1024 ![0, 1, 2] bcast_S1x1x1024_S1x16384x1024_0_1_2
      (broadcastInDim S1x1x1024 ![2] bcast_S1024_S1x1x1024_2 (shapeCast S1024 x4 shapeCasts_S1x1024_S1024)))

/-- The input projection, whole. -/
def projR (h : FVec Ideal S1x16384x1024 .f32) (x5 : Vec Ideal S1x1024x3864 .f32) : FVec Ideal S1x16384x3864 .f32 :=
  Host.dotGeneral dot_S1x16384x1024_S1024x3864_S1x16384x3864_2_0_01_1_n_n none h
    (shapeCast S1024x3864 x5 shapeCasts_S1x1024x3864_S1024x3864 : FVec Ideal S1024x3864 .f32)

/-- The logistic function of a row of the model's width. -/
def sigR (z : FVec Ideal S1x16384x1024 .f32) : FVec Ideal S1x16384x1024 .f32 :=
  Host.divf (broadcastInDim S1x16384x1024 ![] bcast_S_S1x16384x1024 (constant S_ .f32 0x3F800000#32))
    (addf (broadcastInDim S1x16384x1024 ![] bcast_S_S1x16384x1024 (constant S_ .f32 0x3F800000#32)) (Host.exp (Host.negf z)))

/-- The logistic function of a row of the mixer's width. -/
def sigS (z : FVec Ideal S1x16384x512 .f32) : FVec Ideal S1x16384x512 .f32 :=
  Host.divf (broadcastInDim S1x16384x512 ![] bcast_S_S1x16384x512 (constant S_ .f32 0x3F800000#32))
    (addf (broadcastInDim S1x16384x512 ![] bcast_S_S1x16384x512 (constant S_ .f32 0x3F800000#32)) (Host.exp (Host.negf z)))

/-- The recurrence's output with its skip. -/
def skipR (ys u : Vec Ideal S1x16384x512 .f32) (d : Vec Ideal S1x512 .f32) : FVec Ideal S1x16384x512 .f32 :=
  addf ys (mulf (broadcastInDim S1x16384x512 ![0, 1, 2] bcast_S1x1x512_S1x16384x512_0_1_2
    (broadcastInDim S1x1x512 ![2] bcast_S512_S1x1x512_2 (shapeCast S512 d shapeCasts_S1x512_S512))) u)

/-- The activation. -/
def geluR (y : FVec Ideal S1x16384x512 .f32) : FVec Ideal S1x16384x512 .f32 :=
  mulf y (mulf (broadcastInDim S1x16384x512 ![] bcast_S_S1x16384x512 (constant S_ .f32 0x3F000000#32))
    (addf (broadcastInDim S1x16384x512 ![] bcast_S_S1x16384x512 (constant S_ .f32 0x3F800000#32))
      (Host.tanh (mulf (broadcastInDim S1x16384x512 ![] bcast_S_S1x16384x512 (constant S_ .f32 0x3F4C422A#32))
        (addf y (mulf (broadcastInDim S1x16384x512 ![] bcast_S_S1x16384x512 (constant S_ .f32 0x3D372713#32)) (mulf (mulf y y) y)))))))

/-- The gated linear unit. -/
def gluR (y : FVec Ideal S1x16384x512 .f32) (w : Vec Ideal S1x512x512 .f32) : FVec Ideal S1x16384x512 .f32 :=
  mulf y (sigS (Host.dotGeneral dot_S1x16384x512_S512x512_S1x16384x512_2_0_01_1_n_n none y
    (shapeCast S512x512 w shapeCasts_S1x512x512_S512x512 : FVec Ideal S512x512 .f32)))

/-- A mixer's projection to the model's width. -/
def widenR (y : FVec Ideal S1x16384x512 .f32) (w : Vec Ideal S1x512x1024 .f32) : FVec Ideal S1x16384x1024 .f32 :=
  Host.dotGeneral dot_S1x16384x512_S512x1024_S1x16384x1024_2_0_01_1_n_n none y
    (shapeCast S512x1024 w shapeCasts_S1x512x1024_S512x1024 : FVec Ideal S512x1024 .f32)

/-- The merge under the two gates. -/
def mergeR (p : FVec Ideal S1x16384x3864 .f32) (pa pb : FVec Ideal S1x16384x1024 .f32) : FVec Ideal S1x16384x1024 .f32 :=
  addf (mulf (sigR (extractStridedSlice S1x16384x1024 ![0, 0, 1816] p slices_S1x16384x3864_S1x16384x1024_0_0_1816)) pa)
    (mulf (sigR (extractStridedSlice S1x16384x1024 ![0, 0, 2840] p slices_S1x16384x3864_S1x16384x1024_0_0_2840)) pb)

/-- The residual plus the output projection. -/
def outR (x a : FVec Ideal S1x16384x1024 .f32) (w : Vec Ideal S1x1024x1024 .f32) : FVec Ideal S1x16384x1024 .f32 :=
  addf x (Host.dotGeneral dot_S1x16384x1024_S1024x1024_S1x16384x1024_2_0_01_1_n_n none a
    (shapeCast S1024x1024 w shapeCasts_S1x1024x1024_S1024x1024 : FVec Ideal S1024x1024 .f32))

theorem rmsR_apply (x : Vec Ideal S1x16384x1024 .f32) (g : Vec Ideal S1x1024 .f32) (t : Fin 16384) (k : Fin 1024) :
    rmsR x g (ix3 0 t k) = Cert.Ffn.rms (fun k => x (ix3 0 t k)) (fun k => g (ix2 0 k)) k := by
  pointwise [rmsR]
  rfl

theorem projR_apply (h : FVec Ideal S1x16384x1024 .f32) (w : Vec Ideal S1x1024x3864 .f32) (t : Fin 16384) (j : Fin 3864) :
    projR h w (ix3 0 t j) = ∑ k : Fin 1024, h (ix3 0 t k) * w (ix3 0 k j) := by
  pointwise [projR]

theorem skipR_apply (ys u : Vec Ideal S1x16384x512 .f32) (d : Vec Ideal S1x512 .f32) (t : Fin 16384) (j : Fin 512) :
    skipR ys u d (ix3 0 t j) = ys (ix3 0 t j) + d (ix2 0 j) * u (ix3 0 t j) := by
  pointwise [skipR]

theorem geluR_apply (y : FVec Ideal S1x16384x512 .f32) (t : Fin 16384) (j : Fin 512) :
    geluR y (ix3 0 t j) = Cert.Merge.gelu (y (ix3 0 t j)) := by
  unfold Cert.Merge.gelu
  pointwise [geluR]

theorem gluR_apply (y : FVec Ideal S1x16384x512 .f32) (w : Vec Ideal S1x512x512 .f32) (t : Fin 16384) (j : Fin 512) :
    gluR y w (ix3 0 t j) = y (ix3 0 t j) * Cert.Merge.sig (∑ k : Fin 512, y (ix3 0 t k) * w (ix3 0 k j)) := by
  unfold Cert.Merge.sig
  pointwise [gluR, sigS]
  rw [zero_sub]

theorem widenR_apply (y : FVec Ideal S1x16384x512 .f32) (w : Vec Ideal S1x512x1024 .f32) (t : Fin 16384) (j : Fin 1024) :
    widenR y w (ix3 0 t j) = ∑ k : Fin 512, y (ix3 0 t k) * w (ix3 0 k j) := by
  pointwise [widenR]

theorem mergeR_apply (p : FVec Ideal S1x16384x3864 .f32) (pa pb : FVec Ideal S1x16384x1024 .f32) (t : Fin 16384) (j : Fin 1024) :
    mergeR p pa pb (ix3 0 t j)
      = Cert.Merge.sig (p (ix3 0 t ⟨1816 + j.val, by omega⟩)) * pa (ix3 0 t j) + Cert.Merge.sig (p (ix3 0 t ⟨2840 + j.val, by omega⟩)) * pb (ix3 0 t j) := by
  unfold Cert.Merge.sig
  pointwise [mergeR, sigR]
  rw [zero_sub, zero_sub]

theorem outR_apply (x a : FVec Ideal S1x16384x1024 .f32) (w : Vec Ideal S1x1024x1024 .f32) (t : Fin 16384) (e : Fin 1024) :
    outR x a w (ix3 0 t e) = x (ix3 0 t e) + ∑ j : Fin 1024, a (ix3 0 t j) * w (ix3 0 j e) := by
  pointwise [outR]

theorem drop_unit (x : Vec Ideal S1x16384x1024 .f32) (t : Fin 16384) (d : Fin 1024) :
    shapeCast S16384x1024 x shapeCasts_S1x16384x1024_S16384x1024 (ix2 t d) = x (ix3 0 t d) := by pointwise

/-- The reference's result, from its arguments. -/
def resR (x : Vec Ideal S1x16384x1024 .f32) (ya ys u : Vec Ideal S1x16384x512 .f32) (g : Vec Ideal S1x1024 .f32) (w : Vec Ideal S1x1024x3864 .f32)
    (d : Vec Ideal S1x512 .f32) (wg : Vec Ideal S1x512x512 .f32) (wa wb : Vec Ideal S1x512x1024 .f32) (wo : Vec Ideal S1x1024x1024 .f32) :
    FVec Ideal S16384x1024 .f32 :=
  shapeCast S16384x1024 (outR x (mergeR (projR (rmsR x g) w) (widenR ya wa) (widenR (gluR (geluR (skipR ys u d)) wg) wb)) wo)
    shapeCasts_S1x16384x1024_S16384x1024

/-- It is the mathematics at its arguments. -/
theorem resR_apply (x : Vec Ideal S1x16384x1024 .f32) (ya ys u : Vec Ideal S1x16384x512 .f32) (g : Vec Ideal S1x1024 .f32) (w : Vec Ideal S1x1024x3864 .f32)
    (d : Vec Ideal S1x512 .f32) (wg : Vec Ideal S1x512x512 .f32) (wa wb : Vec Ideal S1x512x1024 .f32) (wo : Vec Ideal S1x1024x1024 .f32)
    (t : Fin 16384) (e : Fin 1024) :
    resR x ya ys u g w d wg wa wb wo (ix2 t e)
      = Cert.Merge.out (fun k => x (ix3 0 t k)) (fun k => g (ix2 0 k)) (fun k => ya (ix3 0 t k)) (fun k => ys (ix3 0 t k))
          (fun k => u (ix3 0 t k)) (fun k => d (ix2 0 k)) (fun k j => w (ix3 0 k ⟨1816 + j.val, by omega⟩)) (fun k j => w (ix3 0 k ⟨2840 + j.val, by omega⟩))
          (fun k j => wg (ix3 0 k j)) (fun k j => wa (ix3 0 k j)) (fun k j => wb (ix3 0 k j)) (fun k j => wo (ix3 0 k j)) e := by
  unfold resR Cert.Merge.out
  rw [drop_unit, outR_apply]
  refine congrArg (_ + ·) (Finset.sum_congr rfl fun j _ => congrArg (· * _) ?_)
  rw [mergeR_apply, projR_apply, projR_apply, widenR_apply, widenR_apply]
  simp only [rmsR_apply, gluR_apply, geluR_apply, skipR_apply]
  rfl

/-- The run's term is that one. -/
theorem res_eq (m : (ℓ : Loc nD τ sig) → Buf (Elt Ideal) ℓ) (c : Dev nD) :
    Value.res_main_v76 m c
      = resR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := rfl

end Cert.Reference3Ideal.Hand

end
-- ==== Proof.ProjMath.lean ====
/-
  The input projection's mathematics at the ideal instance, one row at a time: a column of the projected normalised row,
  and the rotary embedding of a row of two heads, as the model writes it and as the kernel computes it (one product per
  lane with the cosine, one with the sine, the sine's partner taken from the lanes eight to the left or to the right).
-/
module

public import proofs.«01_k».proof.Proof.FfnMath

@[expose] public section

noncomputable section

namespace Cert.Proj

open Idealize.ShloMosaic

/-- A column of the projected row. -/
def col (x gn w : Fin 1024 → EReal) : EReal := ∑ k, Cert.Ffn.rms x gn k * w k

/-- A frequency of the rotary embedding: the base to the power `-(2 i) / 16`. -/
def freq (i : Fin 8) : EReal :=
  Ideal.pow (Ideal.ofBits FTy.f32 1223959552#32)
    (Ideal.div (-(0 + Ideal.ofBits FTy.f32 1073741824#32 * ((i.val : ℝ) : EReal))) (Ideal.ofBits FTy.f32 1098907648#32))

/-- The rotary embedding of one head's row at an angle per frequency: the first eight lanes are turned against the
    next eight, the others are left. -/
def turn (v : Fin 64 → EReal) (ang : Fin 8 → EReal) (l : Fin 64) : EReal :=
  if h : l.val < 8 then
    v l * Ideal.cos (ang ⟨l.val, h⟩) - v ⟨l.val + 8, by omega⟩ * Ideal.sin (ang ⟨l.val, h⟩)
  else if h' : l.val < 16 then
    v l * Ideal.cos (ang ⟨l.val - 8, by omega⟩) + v ⟨l.val - 8, by omega⟩ * Ideal.sin (ang ⟨l.val - 8, by omega⟩)
  else v l

/-- A lane's frequency: the eight twice, then zeros. -/
def lane (l : Fin 64) : EReal :=
  if h : l.val < 8 then freq ⟨l.val, h⟩ else if h' : l.val < 16 then freq ⟨l.val - 8, by omega⟩ else 0

theorem cos_zero : Ideal.cos 0 = 1 := by
  show ((Real.cos 0 : ℝ) : EReal) = 1
  rw [Real.cos_zero]; rfl

theorem sin_zero : Ideal.sin 0 = 0 := by
  show ((Real.sin 0 : ℝ) : EReal) = 0
  rw [Real.sin_zero]; rfl

/-- The kernel's form of the embedding, lane by lane, is the model's. -/
theorem turn_eq (v : Fin 64 → EReal) (p up down : EReal) (l : Fin 64)
    (hu : ∀ h : l.val < 8, up = v ⟨l.val + 8, by omega⟩)
    (hd : ∀ h : 8 ≤ l.val ∧ l.val < 16, down = v ⟨l.val - 8, by omega⟩) :
    v l * Ideal.cos (p * lane l) + Ideal.sin (p * lane l) * (if l.val < 8 then 0 - up else down)
      = turn v (fun i => p * freq i) l := by
  unfold turn lane
  by_cases h : l.val < 8
  · rw [dif_pos h, dif_pos h, if_pos h, hu h, zero_sub, mul_neg, mul_comm (Ideal.sin _), ← sub_eq_add_neg]
  · by_cases h' : l.val < 16
    · rw [dif_neg h, dif_pos h', dif_neg h, dif_pos h', if_neg h, hd ⟨by omega, h'⟩, mul_comm (Ideal.sin _)]
    · rw [dif_neg h, dif_neg h', dif_neg h, dif_neg h', mul_zero, cos_zero, sin_zero, mul_one, zero_mul, add_zero]

end Cert.Proj

end
-- ==== Proof.ProjTile.lean ====
/-
  What a grid point of the input-projection call stores in four of its outputs, entry by entry: the raw compressed keys
  and values, the rotated window keys and the recurrent mixer's input.
-/
module

public import proofs.«01_k».proof.Proof.Gen.Kernel4
public import proofs.«01_k».proof.Proof.Gen.Kernel4Ideal.Value
public import Idealize.ShloMosaic.Lib.Pipeline.ValueKit
public import Idealize.ShloMosaic.Lib.Pointwise
public import proofs.«01_k».proof.Proof.ProjMath

@[expose] public section

set_option maxRecDepth 16384
noncomputable section

namespace Cert.Kernel4Ideal.Hand

open Cert.Kernel4Ideal Cert.Kernel4Ideal.Gen Idealize.ShloMosaic Idealize.ShloMosaic.TcCoe Idealize.SL.Sem

/-- The projected rows, whole. -/
theorem proj_apply (x : Vec Ideal S512x1024 .f32) (g : Vec Ideal S1x1024 .f32) (w : Vec Ideal S1024x1920 .bf16) (r : Fin 512) (j : Fin 1920) :
    k0_pay5 x g w (ix2 r j) = Cert.Proj.col (fun k => x (ix2 r k)) (fun k => g (ix2 0 k)) (fun k => w (ix2 k j)) := by
  pointwise [k0_pay5]
  rfl

theorem kc_tile (x0 : Vec Ideal S512x1024 .f32) (x1 : Vec Ideal S512x1 .i32) (x2 : Vec Ideal S1x1024 .f32) (x3 : Vec Ideal S1024x1920 .bf16)
    (x4 : Vec Ideal S1x128 .f32) (r : Fin 512) (j : Fin 128) :
    out0_6 x0 x1 x2 x3 x4 (ix2 r j)
      = Cert.Proj.col (fun k => x0 (ix2 r k)) (fun k => x2 (ix2 0 k)) (fun k => x3 (ix2 k ⟨512 + j.val, by omega⟩)) := by
  unfold out0_6
  rw [View.canon_cons_unit_lit _ _ _ (by decide), View.ld_unit_lit _ x0 (by decide), View.ld_unit_lit _ x2 (by decide),
    View.ld_unit_lit _ x3 (by decide)]
  refine Eq.trans ?_ (proj_apply x0 x2 x3 r ⟨512 + j.val, by omega⟩)
  pointwise [k0_pay10]

theorem vc_tile (x0 : Vec Ideal S512x1024 .f32) (x1 : Vec Ideal S512x1 .i32) (x2 : Vec Ideal S1x1024 .f32) (x3 : Vec Ideal S1024x1920 .bf16)
    (x4 : Vec Ideal S1x128 .f32) (r : Fin 512) (j : Fin 128) :
    out0_7 x0 x1 x2 x3 x4 (ix2 r j)
      = Cert.Proj.col (fun k => x0 (ix2 r k)) (fun k => x2 (ix2 0 k)) (fun k => x3 (ix2 k ⟨640 + j.val, by omega⟩)) := by
  unfold out0_7
  rw [View.canon_cons_unit_lit _ _ _ (by decide), View.ld_unit_lit _ x0 (by decide), View.ld_unit_lit _ x2 (by decide),
    View.ld_unit_lit _ x3 (by decide)]
  refine Eq.trans ?_ (proj_apply x0 x2 x3 r ⟨640 + j.val, by omega⟩)
  pointwise [k0_pay11]

theorem u_tile (x0 : Vec Ideal S512x1024 .f32) (x1 : Vec Ideal S512x1 .i32) (x2 : Vec Ideal S1x1024 .f32) (x3 : Vec Ideal S1024x1920 .bf16)
    (x4 : Vec Ideal S1x128 .f32) (r : Fin 512) (j : Fin 512) :
    out0_13 x0 x1 x2 x3 x4 (ix2 r j)
      = Cert.Proj.col (fun k => x0 (ix2 r k)) (fun k => x2 (ix2 0 k)) (fun k => x3 (ix2 k ⟨1408 + j.val, by omega⟩)) := by
  unfold out0_13 k0_pay88
  rw [View.canon_cons_unit_lit _ _ _ (by decide), View.ld_unit_lit _ x0 (by decide), View.ld_unit_lit _ x2 (by decide),
    View.ld_unit_lit _ x3 (by decide)]
  refine Eq.trans ?_ (proj_apply x0 x2 x3 r ⟨1408 + j.val, by omega⟩)
  pointwise [k0_pay13]

/-- The body's test for the first eight lanes of a head. -/
theorem low_lane : ∀ j : Fin 128, IntOp.cmpi CmpIPredicate.slt (IntOp.andi (BitVec.ofNat 32 j.val) 63#32) 8#32
    = if j.val % 64 < 8 then 1#1 else 0#1 := by decide +kernel

/-- The rotation, lane by lane: the partners stand eight lanes on and eight lanes back, around the row's end. -/
theorem rope_apply (z : FVec Ideal S512x1920 .f32) (p : Vec Ideal S512x1 .i32) (f : Vec Ideal S1x128 .f32) (r : Fin 512) (j : Fin 128) :
    k0_pay12 z (k0_pay7 p f) (k0_pay8 p f) k0_pay9 (ix2 r j)
      = z (ix2 r ⟨1024 + j.val, by omega⟩) * Ideal.cos (((p (ix2 r 0)).toInt : ℝ) * f (ix2 0 j))
        + Ideal.sin (((p (ix2 r 0)).toInt : ℝ) * f (ix2 0 j))
          * (if j.val % 64 < 8 then 0 - z (ix2 r ⟨1024 + (j.val + 128 - 120) % 128, by omega⟩)
              else z (ix2 r ⟨1024 + (j.val + 128 - 8) % 128, by omega⟩)) := by
  pointwise [k0_pay12, k0_pay7, k0_pay8, k0_pay6, k0_pay9]
  rw [low_lane j]
  by_cases h : j.val % 64 < 8
  · rw [if_pos h, if_pos h]; rfl
  · rw [if_neg h, if_neg h]; rfl

/-- The rotated window keys, by head and lane. -/
theorem kwn_tile (x0 : Vec Ideal S512x1024 .f32) (x1 : Vec Ideal S512x1 .i32) (x2 : Vec Ideal S1x1024 .f32) (x3 : Vec Ideal S1024x1920 .bf16)
    (x4 : Vec Ideal S1x128 .f32) (r : Fin 512) (h : Fin 2) (l : Fin 64)
    (hf : x4 (ix2 0 ⟨64 * h.val + l.val, by omega⟩) = Cert.Proj.lane l) :
    out0_10 x0 x1 x2 x3 x4 (ix2 r ⟨64 * h.val + l.val, by omega⟩)
      = Cert.Proj.turn (fun l => Cert.Proj.col (fun k => x0 (ix2 r k)) (fun k => x2 (ix2 0 k)) (fun k => x3 (ix2 k ⟨1024 + (64 * h.val + l.val), by omega⟩)))
          (fun i => ((x1 (ix2 r 0)).toInt : ℝ) * Cert.Proj.freq i) l := by
  unfold out0_10 k0_pay88 k0_pay89 k0_pay90 k0_pay91
  rw [View.canon_cons_unit_lit _ _ _ (by decide), View.ld_unit_lit _ x0 (by decide), View.ld_unit_lit _ x1 (by decide),
    View.ld_unit_lit _ x2 (by decide), View.ld_unit_lit _ x3 (by decide), View.ld_unit_lit _ x4 (by decide)]
  rw [rope_apply, hf, proj_apply, proj_apply, proj_apply]
  have hm : (64 * h.val + l.val) % 64 = l.val := by omega
  simp only [hm]
  refine Cert.Proj.turn_eq (fun l => Cert.Proj.col (fun k => x0 (ix2 r k)) (fun k => x2 (ix2 0 k))
    (fun k => x3 (ix2 k ⟨1024 + (64 * h.val + l.val), by omega⟩))) _ _ _ l ?_ ?_
  · intro hl
    have e : (⟨1024 + (64 * h.val + l.val + 128 - 120) % 128, by omega⟩ : Fin 1920) = ⟨1024 + (64 * h.val + (l.val + 8)), by omega⟩ := by
      apply Fin.ext; show 1024 + (64 * h.val + l.val + 128 - 120) % 128 = 1024 + (64 * h.val + (l.val + 8)); omega
    rw [e]
  · intro hl
    have e : (⟨1024 + (64 * h.val + l.val + 128 - 8) % 128, by omega⟩ : Fin 1920) = ⟨1024 + (64 * h.val + (l.val - 8)), by omega⟩ := by
      apply Fin.ext; show 1024 + (64 * h.val + l.val + 128 - 8) % 128 = 1024 + (64 * h.val + (l.val - 8)); omega
    rw [e]

end Cert.Kernel4Ideal.Hand

end
-- ==== Proof.ProjValue.lean ====
/-
  The input-projection call: its windows' blocks as the arguments' entries, and four of the arrays that it leaves, entry
  by entry.
-/
module

public import proofs.«01_k».proof.Proof.ProjTile
public import Idealize.ShloMosaic.Lib.Pipeline.ValueKit
public import Idealize.ShloMosaic.Lib.Pipeline.ReadBack
public import Idealize.ShloMosaic.Lib.Pointwise

@[expose] public section

set_option maxRecDepth 16384
noncomputable section

namespace Cert.Kernel4Ideal.Hand

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-! ## The arguments as functions of row and column -/

/-- The layer's input rows. -/
abbrev aX (t : Fin 16384) (k : Fin 1024) : EReal := (m ((c : Thread nD τ).loc main_arg0) : Vec Ideal S1x16384x1024 .f32) (ix3 0 t k)
/-- The rows' positions. -/
abbrev aP (t : Fin 16384) : BitVec 32 := (m ((c : Thread nD τ).loc main_arg1) : Vec Ideal S1x16384 .i32) (ix2 0 t)
/-- The norm's gain. -/
abbrev aG (k : Fin 1024) : EReal := (m ((c : Thread nD τ).loc main_arg2) : Vec Ideal S1x1024 .f32) (ix2 0 k)
/-- The input projection's weights. -/
abbrev aW (t : Fin 1024) (k : Fin 3864) : EReal := (m ((c : Thread nD τ).loc main_arg3) : Vec Ideal S1x1024x3864 .f32) (ix3 0 t k)

/-- A column of the projected rows, from the arguments. -/
def spec (t : Fin 16384) (j : Fin 3864) : EReal := Cert.Proj.col (aX m c t) (aG m c) (fun k => aW m c k j)

/-- The rotated window keys, from the arguments. -/
def specK (t : Fin 16384) (h : Fin 2) (l : Fin 64) : EReal :=
  Cert.Proj.turn (fun l => spec m c t ⟨1024 + (64 * h.val + l.val), by omega⟩) (fun i => ((aP m c t).toInt : ℝ) * Cert.Proj.freq i) l

/-! ## What the host code leaves in the windows' arrays -/

/-- The call's weights: the projection's columns up to the gates, the gates' padded to a lane tile, the mixer's input. -/
def wCols (y : FVec Ideal S1024x3864 .f32) : FVec Ideal S1024x1920 .bf16 :=
  truncf (F := Ideal) .bf16 (concatenate S1024x1920 1
    [⟨S1024x512, extractStridedSlice S1024x512 ![0, 0] y slices_S1024x3864_S1024x512_0_0⟩,
     ⟨S1024x128, extractStridedSlice S1024x128 ![0, 512] y slices_S1024x3864_S1024x128_0_512⟩,
     ⟨S1024x128, extractStridedSlice S1024x128 ![0, 640] y slices_S1024x3864_S1024x128_0_640⟩,
     ⟨S1024x128, extractStridedSlice S1024x128 ![0, 768] y slices_S1024x3864_S1024x128_0_768⟩,
     ⟨S1024x128, extractStridedSlice S1024x128 ![0, 896] y slices_S1024x3864_S1024x128_0_896⟩,
     ⟨S1024x128, extractStridedSlice S1024x128 ![0, 1024] y slices_S1024x3864_S1024x128_0_1024⟩,
     ⟨S1024x128, extractStridedSlice S1024x128 ![0, 1152] y slices_S1024x3864_S1024x128_0_1152⟩,
     ⟨S1024x128, pad S1024x128 ![0, 0] ![0, 104] ![0, 0] (extractStridedSlice S1024x24 ![0, 1280] y slices_S1024x3864_S1024x24_0_1280)
        (sitofp .f32 (constantI S_ 32 0#32)) pads_S1024x24_S1024x128_000_01040 h_S_⟩,
     ⟨S1024x512, extractStridedSlice S1024x512 ![0, 1304] y slices_S1024x3864_S1024x512_0_1304⟩]
    concatenates_S1024x512_S1024x128_S1024x128_S1024x128_S1024x128_S1024x128_S1024x128_S1024x128_S1024x512_S1024x1920_d1) bitsLt_bf16_f32

@[inherit_doc wCols]
def wHost (w : Vec Ideal S1x1024x3864 .f32) : FVec Ideal S1024x1920 .bf16 := wCols (shapeCast S1024x3864 w shapeCasts_S1x1024x3864_S1024x3864)

/-- The frequencies. -/
def fHost : FVec Ideal S8 .f32 :=
  Host.powf (broadcastInDim S8 ![] bcast_S_S8 (constant S_ .f32 0x48F42400#32))
    (Host.divf (Host.negf (addf (broadcastInDim S8 ![] bcast_S_S8 (constant S_ .f32 0x00000000#32))
        (mulf (broadcastInDim S8 ![] bcast_S_S8 (constant S_ .f32 0x40000000#32)) (sitofp .f32 (iotaInDim S8 32 0)))))
      (broadcastInDim S8 ![] bcast_S_S8 (constant S_ .f32 0x41800000#32)))

/-- The frequencies as the call takes them: per head the eight twice, then zeros; the head's row twice. -/
def laneHost : FVec Ideal S1x128 .f32 :=
  broadcastInDim S1x128 ![1] bcast_S128_S1x128_1 (shapeCast S128 (broadcastInDim S2x64 ![0, 1] bcast_S1x64_S2x64_0_1 (shapeCast S1x64
    (concatenate S64 0 [⟨S8, fHost⟩, ⟨S8, fHost⟩, ⟨S48, broadcastInDim S48 ![] bcast_S_S48 (constant S_ .f32 0x00000000#32 : FVec Ideal S_ .f32)⟩]
      concatenates_S8_S8_S48_S64_d0) shapeCasts_S64_S1x64)) shapeCasts_S2x64_S128)

theorem V0 : (V m c main_v0 : Vec Ideal S16384x1024 .f32) = shapeCast S16384x1024 (m ((c : Thread nD τ).loc main_arg0)) shapeCasts_S1x16384x1024_S16384x1024 := by
  unfold V; simp only [hostOps0, hostOps0_1, hostOps0_2, List.flatten_cons, List.flatten_nil, List.append_nil, List.cons_append, List.nil_append]; after_results; rfl
theorem V2 : (V m c main_v2 : Vec Ideal S16384x1 .i32) = broadcastInDim S16384x1 ![0] bcast_S16384_S16384x1_0 (shapeCast S16384 (m ((c : Thread nD τ).loc main_arg1)) shapeCasts_S1x16384_S16384) := by
  unfold V; simp only [hostOps0, hostOps0_1, hostOps0_2, List.flatten_cons, List.flatten_nil, List.append_nil, List.cons_append, List.nil_append]; after_results; rfl
theorem V4 : (V m c main_v4 : Vec Ideal S1x1024 .f32) = broadcastInDim S1x1024 ![1] bcast_S1024_S1x1024_1 (shapeCast S1024 (m ((c : Thread nD τ).loc main_arg2)) shapeCasts_S1x1024_S1024) := by
  unfold V; simp only [hostOps0, hostOps0_1, hostOps0_2, List.flatten_cons, List.flatten_nil, List.append_nil, List.cons_append, List.nil_append]; after_results; rfl
theorem V17 : (V m c main_v17 : Vec Ideal S1024x1920 .bf16) = wHost (m ((c : Thread nD τ).loc main_arg3)) := by
  unfold V; simp only [hostOps0, hostOps0_1, hostOps0_2, List.flatten_cons, List.flatten_nil, List.append_nil, List.cons_append, List.nil_append]; after_results; rfl
theorem V33 : (V m c main_v33 : Vec Ideal S1x128 .f32) = laneHost := by
  unfold V; simp only [hostOps0, hostOps0_1, hostOps0_2, List.flatten_cons, List.flatten_nil, List.append_nil, List.cons_append, List.nil_append]; after_results; rfl

/-! ## The host code's arrays, entry by entry -/

theorem h0 (x : Vec Ideal S1x16384x1024 .f32) (r : Fin 16384) (k : Fin 1024) :
    (shapeCast S16384x1024 x shapeCasts_S1x16384x1024_S16384x1024 : FVec Ideal S16384x1024 .f32) (ix2 r k) = x (ix3 0 r k) := by pointwise
theorem h1 (x : Vec Ideal S1x16384 .i32) (r : Fin 16384) (k : Fin 1) :
    (broadcastInDim S16384x1 ![0] bcast_S16384_S16384x1_0 (shapeCast S16384 x shapeCasts_S1x16384_S16384) : IVec S16384x1 32) (ix2 r k) = x (ix2 0 r) := by pointwise
theorem h2 (x : Vec Ideal S1x1024 .f32) (r : Fin 1) (k : Fin 1024) :
    (broadcastInDim S1x1024 ![1] bcast_S1024_S1x1024_1 (shapeCast S1024 x shapeCasts_S1x1024_S1024) : FVec Ideal S1x1024 .f32) (ix2 r k) = x (ix2 0 k) := by pointwise

/-- The raw compressed keys' and values' columns and the window keys' stand where they stood. -/
theorem h3 (w : Vec Ideal S1x1024x3864 .f32) (k : Fin 1024) (j : Fin 1920) (hj : j.val < 1152) :
    wHost w (ix2 k j) = w (ix3 0 k ⟨j.val, by omega⟩) := by
  pointwise [wHost, wCols]
  have e : ∀ (a : Nat) (ha : a < 3864), a = j.val → w (ix3 0 k ⟨a, ha⟩) = w (ix3 0 k ⟨j.val, by omega⟩) := fun a ha h => by subst h; rfl
  by_cases h0 : j.val < 512
  · rw [dif_pos (by omega)]
  by_cases h1 : j.val < 640
  · rw [dif_neg (by omega)]; rw [dif_pos (by omega)]; exact e _ _ (by omega)
  by_cases h2 : j.val < 768
  · rw [dif_neg (by omega)]; rw [dif_neg (by omega)]; rw [dif_pos (by omega)]; exact e _ _ (by omega)
  by_cases h3 : j.val < 896
  · rw [dif_neg (by omega)]; rw [dif_neg (by omega)]; rw [dif_neg (by omega)]; rw [dif_pos (by omega)]; exact e _ _ (by omega)
  by_cases h4 : j.val < 1024
  · rw [dif_neg (by omega)]; rw [dif_neg (by omega)]; rw [dif_neg (by omega)]; rw [dif_neg (by omega)]; rw [dif_pos (by omega)]; exact e _ _ (by omega)
  rw [dif_neg (by omega)]; rw [dif_neg (by omega)]; rw [dif_neg (by omega)]; rw [dif_neg (by omega)]; rw [dif_neg (by omega)]; rw [dif_pos (by omega)]; exact e _ _ (by omega)

/-- The mixer's input's columns stand 104 on. -/
theorem h3u (w : Vec Ideal S1x1024x3864 .f32) (k : Fin 1024) (j : Fin 512) :
    wHost w (ix2 k ⟨1408 + j.val, by omega⟩) = w (ix3 0 k ⟨1304 + j.val, by omega⟩) := by
  pointwise [wHost, wCols]
  have e : ∀ (a : Nat) (ha : a < 3864), a = 1304 + j.val → w (ix3 0 k ⟨a, ha⟩) = w (ix3 0 k ⟨1304 + j.val, by omega⟩) := fun a ha h => by subst h; rfl
  rw [dif_neg (by omega)]; rw [dif_neg (by omega)]; rw [dif_neg (by omega)]; rw [dif_neg (by omega)]; rw [dif_neg (by omega)]; rw [dif_neg (by omega)]; rw [dif_neg (by omega)]; rw [dif_neg (by omega)]; exact e _ _ (by omega)

theorem fHost_apply (i : Fin 8) : fHost (ix1 i) = Cert.Proj.freq i := by
  have e : ∀ i : Fin 8, (BitVec.ofNat 32 i.val).toInt = (i.val : ℤ) := by decide
  unfold Cert.Proj.freq
  pointwise [fHost]
  show Ideal.pow _ (Ideal.div (-(_ * (((BitVec.ofNat 32 i.val).toInt : ℝ) : EReal))) _) = _
  rw [e i, Int.cast_natCast]

theorem h4 (h : Fin 2) (l : Fin 64) : laneHost (ix2 0 ⟨64 * h.val + l.val, by omega⟩) = Cert.Proj.lane l := by
  unfold Cert.Proj.lane
  simp only [← fHost_apply]
  pointwise [laneHost]
  by_cases h8 : l.val < 8
  · rw [dif_pos h8, dif_pos h8]
  · by_cases h16 : l.val < 16
    · rw [dif_neg h8, dif_pos (by omega), dif_neg h8, dif_pos h16]
    · rw [dif_neg h8, dif_neg (by omega), dif_neg h8, dif_neg h16]

/-! ## The windows' blocks -/

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem index10 : ∀ t : Fin cfg0.N, win0_10.index t 0 = t.val ∧ win0_10.index t 1 = 0 := by decide +kernel
theorem index13 : ∀ t : Fin cfg0.N, win0_13.index t 0 = t.val ∧ win0_13.index t 1 = 0 := by decide +kernel

theorem lt32 (t : Fin cfg0.N) : t.val < 32 := lt_of_lt_of_eq t.isLt (show cfg0.N = 32 from N_0)

theorem blk0 (t : Fin cfg0.N) (r : Fin 512) (k : Fin 1024) :
    (iblk m c 0 t : Vec Ideal S512x1024 .f32) (ix2 r k) = aX m c ⟨512 * t.val + r.val, by have := lt32 t; omega⟩ k := by
  unfold iblk
  rw [View.read_apply]
  have e : ((cfg0.win 0).blk t).view.emb (ix2 r k) = (ix2 (⟨512 * t.val + r.val, by have := lt32 t; omega⟩ : Fin 16384) k : S16384x1024.Idx) := by
    funext a
    apply Fin.ext
    match a with
    | ⟨0, _⟩ => show win0_0.index t 0 * 512 + 1 * r.val = _; rw [(index0 t).1]; show _ = 512 * t.val + r.val; omega
    | ⟨1, _⟩ => show win0_0.index t 1 * 1024 + 1 * k.val = _; rw [(index0 t).2]; show _ = k.val; omega
  refine (congrFun (V0 m c) _).trans ?_
  rw [e]
  exact h0 _ _ _

theorem blk1 (t : Fin cfg0.N) (r : Fin 512) (k : Fin 1) :
    (iblk m c 1 t : Vec Ideal S512x1 .i32) (ix2 r k) = aP m c ⟨512 * t.val + r.val, by have := lt32 t; omega⟩ := by
  unfold iblk
  rw [View.read_apply]
  have e : ((cfg0.win 1).blk t).view.emb (ix2 r k) = (ix2 (⟨512 * t.val + r.val, by have := lt32 t; omega⟩ : Fin 16384) k : S16384x1.Idx) := by
    funext a
    apply Fin.ext
    match a with
    | ⟨0, _⟩ => show win0_1.index t 0 * 512 + 1 * r.val = _; rw [(index1 t).1]; show _ = 512 * t.val + r.val; omega
    | ⟨1, _⟩ => show win0_1.index t 1 * 1 + 1 * k.val = _; rw [(index1 t).2]; show _ = k.val; omega
  refine (congrFun (V2 m c) _).trans ?_
  rw [e]
  exact h1 _ _ _

theorem blk2 (t : Fin cfg0.N) (r : Fin 1) (k : Fin 1024) :
    (iblk m c 2 t : Vec Ideal S1x1024 .f32) (ix2 r k) = aG m c k := by
  unfold iblk
  rw [View.read_apply]
  have e : ((cfg0.win 2).blk t).view.emb (ix2 r k) = (ix2 (r : Fin 1) k : S1x1024.Idx) := by
    funext a
    apply Fin.ext
    match a with
    | ⟨0, _⟩ => show win0_2.index t 0 * 1 + 1 * r.val = _; rw [(index2 t).1]; show _ = r.val; omega
    | ⟨1, _⟩ => show win0_2.index t 1 * 1024 + 1 * k.val = _; rw [(index2 t).2]; show _ = k.val; omega
  refine (congrFun (V4 m c) _).trans ?_
  rw [e]
  exact h2 _ _ _

theorem blk3 (t : Fin cfg0.N) (r : Fin 1024) (k : Fin 1920) (hk : k.val < 1152) :
    (iblk m c 3 t : Vec Ideal S1024x1920 .bf16) (ix2 r k) = aW m c r ⟨k.val, by omega⟩ := by
  unfold iblk
  rw [View.read_apply]
  have e : ((cfg0.win 3).blk t).view.emb (ix2 r k) = (ix2 (r : Fin 1024) k : S1024x1920.Idx) := by
    funext a
    apply Fin.ext
    match a with
    | ⟨0, _⟩ => show win0_3.index t 0 * 1024 + 1 * r.val = _; rw [(index3 t).1]; show _ = r.val; omega
    | ⟨1, _⟩ => show win0_3.index t 1 * 1920 + 1 * k.val = _; rw [(index3 t).2]; show _ = k.val; omega
  refine (congrFun (V17 m c) _).trans ?_
  rw [e]
  exact h3 _ _ _ hk

theorem blk3u (t : Fin cfg0.N) (r : Fin 1024) (k : Fin 512) :
    (iblk m c 3 t : Vec Ideal S1024x1920 .bf16) (ix2 r (⟨1408 + k.val, by omega⟩ : Fin 1920)) = aW m c r ⟨1304 + k.val, by omega⟩ := by
  unfold iblk
  rw [View.read_apply]
  have e : ((cfg0.win 3).blk t).view.emb (ix2 r (⟨1408 + k.val, by omega⟩ : Fin 1920)) = (ix2 (r : Fin 1024) (⟨1408 + k.val, by omega⟩ : Fin 1920) : S1024x1920.Idx) := by
    funext a
    apply Fin.ext
    match a with
    | ⟨0, _⟩ => show win0_3.index t 0 * 1024 + 1 * r.val = _; rw [(index3 t).1]; show _ = r.val; omega
    | ⟨1, _⟩ => show win0_3.index t 1 * 1920 + 1 * (1408 + k.val) = _; rw [(index3 t).2]; show _ = (1408 + k.val); omega
  refine (congrFun (V17 m c) _).trans ?_
  rw [e]
  exact h3u _ _ _

theorem blk4 (t : Fin cfg0.N) (h : Fin 2) (l : Fin 64) :
    (iblk m c 4 t : Vec Ideal S1x128 .f32) (ix2 (0 : Fin 1) (⟨64 * h.val + l.val, by omega⟩ : Fin 128)) = Cert.Proj.lane l := by
  unfold iblk
  rw [View.read_apply]
  have e : ((cfg0.win 4).blk t).view.emb (ix2 (0 : Fin 1) (⟨64 * h.val + l.val, by omega⟩ : Fin 128)) = (ix2 (0 : Fin 1) (⟨64 * h.val + l.val, by omega⟩ : Fin 128) : S1x128.Idx) := by
    funext a
    apply Fin.ext
    match a with
    | ⟨0, _⟩ => show win0_4.index t 0 * 1 + 1 * 0 = _; rw [(index4 t).1]; show _ = 0; omega
    | ⟨1, _⟩ => show win0_4.index t 1 * 128 + 1 * (64 * h.val + l.val) = _; rw [(index4 t).2]; show _ = (64 * h.val + l.val); omega
  refine (congrFun (V33 m c) _).trans ?_
  rw [e]
  exact h4 h l

/-! ## The arrays -/

/-- What a point stores of the raw compressed keys, entry by entry. -/
theorem afterKc (t : Fin cfg0.N) (r : Fin 512) (j : Fin 128) :
    out0_6 (iblk m c 0 t) (iblk m c 1 t) (iblk m c 2 t) (iblk m c 3 t) (iblk m c 4 t) (ix2 r j) = spec m c ⟨512 * t.val + r.val, by have := lt32 t; omega⟩ ⟨512 + j.val, by omega⟩ := by
  rw [kc_tile]
  unfold spec
  congr 1
  · funext k; exact blk0 m c t r k
  · funext k; exact blk2 m c t 0 k
  · funext k; exact blk3 m c t k _ (by show 512 + j.val < 1152; omega)

/-- The raw compressed keys, as the result's buffer. -/
def GKc : Buf (Elt Ideal) ((c : Thread nD τ).loc main_v34_1) := fun i => spec m c (i 0) ⟨512 + (i 1).val, by have : (i 1).val < 128 := (i 1).isLt; omega⟩

/-- What a point writes back is that array's block. -/
theorem flushedKc (t : Fin cfg0.N) : (dats m 0 c).flushed 6 t = ((cfg0.win 6).blk t).view.read (Elt Ideal) (GKc m c) := by
  rw [Value.flushed6]
  funext y
  have hy0 : (y 0).val < 512 := (y 0).isLt
  have hy1 : (y 1).val < 128 := (y 1).isLt
  have ey : (cfg0.win 6).xinj (grid0.coords t) y = (ix2 (⟨(y 0).val, hy0⟩ : Fin 512) (⟨(y 1).val, hy1⟩ : Fin 128) : S512x128.Idx) := by
    funext a; match a with | ⟨0, _⟩ => rfl | ⟨1, _⟩ => rfl
  rw [View.read_apply]
  refine (congrArg (out0_6 _ _ _ _ _) ey).trans ((afterKc m c t _ _).trans ?_)
  show _ = spec m c (((cfg0.win 6).blk t).view.emb y 0) ⟨512 + (((cfg0.win 6).blk t).view.emb y 1).val, _⟩
  congr 1
  · apply Fin.ext; show 512 * t.val + (y 0).val = win0_6.index t 0 * 512 + 1 * (y 0).val; rw [(index6 t).1]; omega
  · apply Fin.ext; show 512 + (y 1).val = 512 + (win0_6.index t 1 * 128 + 1 * (y 1).val); rw [(index6 t).2]; omega

/-- Every entry is in some point's block. -/
theorem coveredKc (i : S16384x128.Idx) : ∃ t : Fin cfg0.N, (cfg0.win 6).flush t = true ∧ i ∈ ((cfg0.win 6).blk t).view.set := by
  have h0 : (i 0).val < 16384 := (i 0).isLt
  have h1 : (i 1).val < 128 := (i 1).isLt
  have hp : (i 0).val / 512 < cfg0.N := by rw [show cfg0.N = 32 from N_0]; omega
  refine ⟨⟨(i 0).val / 512, hp⟩, flush0_6 _, ?_⟩
  show i ∈ ((View.whole main_v34_1).slice (win0_6.rect ⟨(i 0).val / 512, hp⟩)).set
  rw [View.set_slice_whole, Rect.mem_set_unit]
  intro a
  match a with
  | ⟨0, _⟩ =>
    show win0_6.index ⟨(i 0).val / 512, hp⟩ 0 * 512 ≤ (i 0).val ∧ (i 0).val < win0_6.index ⟨(i 0).val / 512, hp⟩ 0 * 512 + 512
    rw [(index6 _).1]; dsimp only; omega
  | ⟨1, _⟩ =>
    show win0_6.index ⟨(i 0).val / 512, hp⟩ 1 * 128 ≤ (i 1).val ∧ (i 1).val < win0_6.index ⟨(i 0).val / 512, hp⟩ 1 * 128 + 128
    rw [(index6 _).2]; omega

/-- The array that the call leaves. -/
theorem finalKc : (dats m 0 c).arrAt 6 cfg0.N = GKc m c :=
  (dats m 0 c).arrAt_eq_of_cover 6 _ (fun t _ => flushedKc m c t) (fun i => coveredKc i)

/-- What a point stores of the raw compressed values, entry by entry. -/
theorem afterVc (t : Fin cfg0.N) (r : Fin 512) (j : Fin 128) :
    out0_7 (iblk m c 0 t) (iblk m c 1 t) (iblk m c 2 t) (iblk m c 3 t) (iblk m c 4 t) (ix2 r j) = spec m c ⟨512 * t.val + r.val, by have := lt32 t; omega⟩ ⟨640 + j.val, by omega⟩ := by
  rw [vc_tile]
  unfold spec
  congr 1
  · funext k; exact blk0 m c t r k
  · funext k; exact blk2 m c t 0 k
  · funext k; exact blk3 m c t k _ (by show 640 + j.val < 1152; omega)

/-- The raw compressed values, as the result's buffer. -/
def GVc : Buf (Elt Ideal) ((c : Thread nD τ).loc main_v34_2) := fun i => spec m c (i 0) ⟨640 + (i 1).val, by have : (i 1).val < 128 := (i 1).isLt; omega⟩

/-- What a point writes back is that array's block. -/
theorem flushedVc (t : Fin cfg0.N) : (dats m 0 c).flushed 7 t = ((cfg0.win 7).blk t).view.read (Elt Ideal) (GVc m c) := by
  rw [Value.flushed7]
  funext y
  have hy0 : (y 0).val < 512 := (y 0).isLt
  have hy1 : (y 1).val < 128 := (y 1).isLt
  have ey : (cfg0.win 7).xinj (grid0.coords t) y = (ix2 (⟨(y 0).val, hy0⟩ : Fin 512) (⟨(y 1).val, hy1⟩ : Fin 128) : S512x128.Idx) := by
    funext a; match a with | ⟨0, _⟩ => rfl | ⟨1, _⟩ => rfl
  rw [View.read_apply]
  refine (congrArg (out0_7 _ _ _ _ _) ey).trans ((afterVc m c t _ _).trans ?_)
  show _ = spec m c (((cfg0.win 7).blk t).view.emb y 0) ⟨640 + (((cfg0.win 7).blk t).view.emb y 1).val, _⟩
  congr 1
  · apply Fin.ext; show 512 * t.val + (y 0).val = win0_7.index t 0 * 512 + 1 * (y 0).val; rw [(index7 t).1]; omega
  · apply Fin.ext; show 640 + (y 1).val = 640 + (win0_7.index t 1 * 128 + 1 * (y 1).val); rw [(index7 t).2]; omega

/-- Every entry is in some point's block. -/
theorem coveredVc (i : S16384x128.Idx) : ∃ t : Fin cfg0.N, (cfg0.win 7).flush t = true ∧ i ∈ ((cfg0.win 7).blk t).view.set := by
  have h0 : (i 0).val < 16384 := (i 0).isLt
  have h1 : (i 1).val < 128 := (i 1).isLt
  have hp : (i 0).val / 512 < cfg0.N := by rw [show cfg0.N = 32 from N_0]; omega
  refine ⟨⟨(i 0).val / 512, hp⟩, flush0_7 _, ?_⟩
  show i ∈ ((View.whole main_v34_2).slice (win0_7.rect ⟨(i 0).val / 512, hp⟩)).set
  rw [View.set_slice_whole, Rect.mem_set_unit]
  intro a
  match a with
  | ⟨0, _⟩ =>
    show win0_7.index ⟨(i 0).val / 512, hp⟩ 0 * 512 ≤ (i 0).val ∧ (i 0).val < win0_7.index ⟨(i 0).val / 512, hp⟩ 0 * 512 + 512
    rw [(index7 _).1]; dsimp only; omega
  | ⟨1, _⟩ =>
    show win0_7.index ⟨(i 0).val / 512, hp⟩ 1 * 128 ≤ (i 1).val ∧ (i 1).val < win0_7.index ⟨(i 0).val / 512, hp⟩ 1 * 128 + 128
    rw [(index7 _).2]; omega

/-- The array that the call leaves. -/
theorem finalVc : (dats m 0 c).arrAt 7 cfg0.N = GVc m c :=
  (dats m 0 c).arrAt_eq_of_cover 7 _ (fun t _ => flushedVc m c t) (fun i => coveredVc i)

/-- What a point stores of the recurrent mixer's input, entry by entry. -/
theorem afterU (t : Fin cfg0.N) (r : Fin 512) (j : Fin 512) :
    out0_13 (iblk m c 0 t) (iblk m c 1 t) (iblk m c 2 t) (iblk m c 3 t) (iblk m c 4 t) (ix2 r j) = spec m c ⟨512 * t.val + r.val, by have := lt32 t; omega⟩ ⟨1304 + j.val, by omega⟩ := by
  rw [u_tile]
  unfold spec
  congr 1
  · funext k; exact blk0 m c t r k
  · funext k; exact blk2 m c t 0 k
  · funext k; exact blk3u m c t k j

/-- The recurrent mixer's input, as the result's buffer. -/
def GU : Buf (Elt Ideal) ((c : Thread nD τ).loc main_v34_8) := fun i => spec m c (i 0) ⟨1304 + (i 1).val, by have : (i 1).val < 512 := (i 1).isLt; omega⟩

/-- What a point writes back is that array's block. -/
theorem flushedU (t : Fin cfg0.N) : (dats m 0 c).flushed 13 t = ((cfg0.win 13).blk t).view.read (Elt Ideal) (GU m c) := by
  rw [Value.flushed13]
  funext y
  have hy0 : (y 0).val < 512 := (y 0).isLt
  have hy1 : (y 1).val < 512 := (y 1).isLt
  have ey : (cfg0.win 13).xinj (grid0.coords t) y = (ix2 (⟨(y 0).val, hy0⟩ : Fin 512) (⟨(y 1).val, hy1⟩ : Fin 512) : S512x512.Idx) := by
    funext a; match a with | ⟨0, _⟩ => rfl | ⟨1, _⟩ => rfl
  rw [View.read_apply]
  refine (congrArg (out0_13 _ _ _ _ _) ey).trans ((afterU m c t _ _).trans ?_)
  show _ = spec m c (((cfg0.win 13).blk t).view.emb y 0) ⟨1304 + (((cfg0.win 13).blk t).view.emb y 1).val, _⟩
  congr 1
  · apply Fin.ext; show 512 * t.val + (y 0).val = win0_13.index t 0 * 512 + 1 * (y 0).val; rw [(index13 t).1]; omega
  · apply Fin.ext; show 1304 + (y 1).val = 1304 + (win0_13.index t 1 * 512 + 1 * (y 1).val); rw [(index13 t).2]; omega

/-- Every entry is in some point's block. -/
theorem coveredU (i : S16384x512.Idx) : ∃ t : Fin cfg0.N, (cfg0.win 13).flush t = true ∧ i ∈ ((cfg0.win 13).blk t).view.set := by
  have h0 : (i 0).val < 16384 := (i 0).isLt
  have h1 : (i 1).val < 512 := (i 1).isLt
  have hp : (i 0).val / 512 < cfg0.N := by rw [show cfg0.N = 32 from N_0]; omega
  refine ⟨⟨(i 0).val / 512, hp⟩, flush0_13 _, ?_⟩
  show i ∈ ((View.whole main_v34_8).slice (win0_13.rect ⟨(i 0).val / 512, hp⟩)).set
  rw [View.set_slice_whole, Rect.mem_set_unit]
  intro a
  match a with
  | ⟨0, _⟩ =>
    show win0_13.index ⟨(i 0).val / 512, hp⟩ 0 * 512 ≤ (i 0).val ∧ (i 0).val < win0_13.index ⟨(i 0).val / 512, hp⟩ 0 * 512 + 512
    rw [(index13 _).1]; dsimp only; omega
  | ⟨1, _⟩ =>
    show win0_13.index ⟨(i 0).val / 512, hp⟩ 1 * 512 ≤ (i 1).val ∧ (i 1).val < win0_13.index ⟨(i 0).val / 512, hp⟩ 1 * 512 + 512
    rw [(index13 _).2]; omega

/-- The array that the call leaves. -/
theorem finalU : (dats m 0 c).arrAt 13 cfg0.N = GU m c :=
  (dats m 0 c).arrAt_eq_of_cover 13 _ (fun t _ => flushedU m c t) (fun i => coveredU i)

/-- What a point stores of the rotated window keys, by head and lane. -/
theorem afterK (t : Fin cfg0.N) (r : Fin 512) (h : Fin 2) (l : Fin 64) :
    out0_10 (iblk m c 0 t) (iblk m c 1 t) (iblk m c 2 t) (iblk m c 3 t) (iblk m c 4 t) (ix2 r ⟨64 * h.val + l.val, by omega⟩) = specK m c ⟨512 * t.val + r.val, by have := lt32 t; omega⟩ h l := by
  rw [kwn_tile _ _ _ _ _ r h l (blk4 m c t h l)]
  refine congrArg₂ (fun v a => Cert.Proj.turn v a l) (funext fun l => ?_) (funext fun i => ?_)
  · unfold spec
    congr 1
    · funext k; exact blk0 m c t r k
    · funext k; exact blk2 m c t 0 k
    · funext k; exact blk3 m c t k _ (by show 1024 + (64 * h.val + l.val) < 1152; omega)
  · exact congrArg (fun p : BitVec 32 => ((p.toInt : ℝ) : EReal) * Cert.Proj.freq i) (blk1 m c t r 0)

/-- The rotated window keys, as the result's buffer. -/
def GK : Buf (Elt Ideal) ((c : Thread nD τ).loc main_v34_5) := fun i =>
  specK m c (i 0) ⟨(i 1).val / 64, by have : (i 1).val < 128 := (i 1).isLt; omega⟩ ⟨(i 1).val % 64, by omega⟩

/-- What a point writes back is that array's block. -/
theorem flushedK (t : Fin cfg0.N) : (dats m 0 c).flushed 10 t = ((cfg0.win 10).blk t).view.read (Elt Ideal) (GK m c) := by
  rw [Value.flushed10]
  funext y
  have hy0 : (y 0).val < 512 := (y 0).isLt
  have hy1 : (y 1).val < 128 := (y 1).isLt
  have ey : (cfg0.win 10).xinj (grid0.coords t) y = (ix2 (⟨(y 0).val, hy0⟩ : Fin 512) (⟨(y 1).val, hy1⟩ : Fin 128) : S512x128.Idx) := by
    funext a; match a with | ⟨0, _⟩ => rfl | ⟨1, _⟩ => rfl
  rw [View.read_apply]
  have el : (⟨(y 1).val, hy1⟩ : Fin 128) = ⟨64 * ((⟨(y 1).val / 64, by omega⟩ : Fin 2)).val + ((⟨(y 1).val % 64, by omega⟩ : Fin 64)).val, by show 64 * ((y 1).val / 64) + (y 1).val % 64 < 128; omega⟩ :=
    Fin.ext (by show (y 1).val = 64 * ((y 1).val / 64) + (y 1).val % 64; omega)
  refine (congrArg (out0_10 _ _ _ _ _) (ey.trans (congrArg (fun j => (ix2 (⟨(y 0).val, hy0⟩ : Fin 512) j : S512x128.Idx)) el))).trans ((afterK m c t _ _ _).trans ?_)
  have e0 : ((cfg0.win 10).blk t).view.emb y 0 = (⟨512 * t.val + (y 0).val, by have := lt32 t; omega⟩ : Fin 16384) := by
    apply Fin.ext; show win0_10.index t 0 * 512 + 1 * (y 0).val = 512 * t.val + (y 0).val; rw [(index10 t).1]; omega
  have e1 : (((cfg0.win 10).blk t).view.emb y 1).val = (y 1).val := by
    show win0_10.index t 1 * 128 + 1 * (y 1).val = (y 1).val; rw [(index10 t).2]; omega
  show _ = specK m c (((cfg0.win 10).blk t).view.emb y 0) ⟨(((cfg0.win 10).blk t).view.emb y 1).val / 64, _⟩ ⟨(((cfg0.win 10).blk t).view.emb y 1).val % 64, _⟩
  congr 1
  · exact e0.symm
  · apply Fin.ext; show (y 1).val / 64 = (((cfg0.win 10).blk t).view.emb y 1).val / 64; rw [e1]
  · apply Fin.ext; show (y 1).val % 64 = (((cfg0.win 10).blk t).view.emb y 1).val % 64; rw [e1]

/-- Every entry is in some point's block. -/
theorem coveredK (i : S16384x128.Idx) : ∃ t : Fin cfg0.N, (cfg0.win 10).flush t = true ∧ i ∈ ((cfg0.win 10).blk t).view.set := by
  have h0 : (i 0).val < 16384 := (i 0).isLt
  have h1 : (i 1).val < 128 := (i 1).isLt
  have hp : (i 0).val / 512 < cfg0.N := by rw [show cfg0.N = 32 from N_0]; omega
  refine ⟨⟨(i 0).val / 512, hp⟩, flush0_10 _, ?_⟩
  show i ∈ ((View.whole main_v34_5).slice (win0_10.rect ⟨(i 0).val / 512, hp⟩)).set
  rw [View.set_slice_whole, Rect.mem_set_unit]
  intro a
  match a with
  | ⟨0, _⟩ =>
    show win0_10.index ⟨(i 0).val / 512, hp⟩ 0 * 512 ≤ (i 0).val ∧ (i 0).val < win0_10.index ⟨(i 0).val / 512, hp⟩ 0 * 512 + 512
    rw [(index10 _).1]; dsimp only; omega
  | ⟨1, _⟩ =>
    show win0_10.index ⟨(i 0).val / 512, hp⟩ 1 * 128 ≤ (i 1).val ∧ (i 1).val < win0_10.index ⟨(i 0).val / 512, hp⟩ 1 * 128 + 128
    rw [(index10 _).2]; omega

/-- The array that the call leaves. -/
theorem finalK : (dats m 0 c).arrAt 10 cfg0.N = GK m c :=
  (dats m 0 c).arrAt_eq_of_cover 10 _ (fun t _ => flushedK m c t) (fun i => coveredK i)

end Cert.Kernel4Ideal.Hand

end
-- ==== Proof.ProjRef.lean ====
/-
  The reference of the input projection, entry by entry: its run's terms are the same mathematics as the call's.
-/
module

public import proofs.«01_k».proof.Proof.Gen.Reference4Ideal.Run
public import proofs.«01_k».proof.Proof.ProjMath
public import Idealize.ShloMosaic.Lib.Pointwise

@[expose] public section

set_option maxRecDepth 16384
noncomputable section

namespace Cert.Reference4Ideal.Hand

open Cert.Reference4Ideal Cert.Reference4Ideal.Gen Idealize.ShloMosaic Idealize.ShloMosaic.TcCoe Idealize.SL.Sem

/-- The norm over the last axis. -/
def rmsR (x : Vec Ideal S1x16384x1024 .f32) (x4 : Vec Ideal S1x1024 .f32) : FVec Ideal S1x16384x1024 .f32 :=
  mulf (mulf x (broadcastInDim S1x16384x1024 ![0, 1, 2] bcast_S1x16384x1_S1x16384x1024_0_1_2 (Host.rsqrt (addf
      (Host.divf (broadcastInDim S1x16384x1 ![0, 1] bcast_S1x16384_S1x16384x1_0_1
          (Host.reduceAdd (mulf x x) (constant S_ .f32 0x00000000#32) reducesTo_S1x16384x1024_S1x16384_d2 h_S_))
        (broadcastInDim S1x16384x1 ![] bcast_S_S1x16384x1 (constant S_ .f32 0x44800000#32)))
      (broadcastInDim S1x16384x1 ![] bcast_S_S1x16384x1 (constant S_ .f32 0x358637BD#32))))))
    (broadcastInDim S1x16384x1024 ![0, 1, 2] bcast_S1x1x1024_S1x16384x1024_0_1_2
      (broadcastInDim S1x1x1024 ![2] bcast_S1024_S1x1x1024_2 (shapeCast S1024 x4 shapeCasts_S1x1024_S1024)))

/-- The input projection, whole. -/
def projR (h : FVec Ideal S1x16384x1024 .f32) (x5 : Vec Ideal S1x1024x3864 .f32) : FVec Ideal S1x16384x3864 .f32 :=
  Host.dotGeneral dot_S1x16384x1024_S1024x3864_S1x16384x3864_2_0_01_1_n_n none h
    (shapeCast S1024x3864 x5 shapeCasts_S1x1024x3864_S1024x3864 : FVec Ideal S1024x3864 .f32)

/-- The frequencies of the rotary embedding. -/
def freqR : FVec Ideal S8 .f32 :=
  Host.powf (broadcastInDim S8 ![] bcast_S_S8 (constant S_ .f32 0x48F42400#32))
    (Host.divf (Host.negf (addf (broadcastInDim S8 ![] bcast_S_S8 (constant S_ .f32 0x00000000#32))
        (mulf (broadcastInDim S8 ![] bcast_S_S8 (constant S_ .f32 0x40000000#32)) (sitofp .f32 (iotaInDim S8 32 0)))))
      (broadcastInDim S8 ![] bcast_S_S8 (constant S_ .f32 0x41800000#32)))

/-- The angles: a position times a frequency. -/
def angR (p : Vec Ideal S1x16384 .i32) : FVec Ideal S1x16384x8 .f32 :=
  mulf (broadcastInDim S1x16384x8 ![0, 1, 2] bcast_S1x16384x1_S1x16384x8_0_1_2
      (broadcastInDim S1x16384x1 ![0, 1] bcast_S1x16384_S1x16384x1_0_1 (sitofp .f32 p)))
    (broadcastInDim S1x16384x8 ![0, 1, 2] bcast_S1x1x8_S1x16384x8_0_1_2 (broadcastInDim S1x1x8 ![2] bcast_S8_S1x1x8_2 freqR))

/-- One function of the angles, spread over the heads. -/
def spreadR (a : FVec Ideal S1x16384x8 .f32) : FVec Ideal S1x16384x2x8 .f32 :=
  broadcastInDim S1x16384x2x8 ![0, 1, 2, 3] bcast_S1x16384x1x8_S1x16384x2x8_0_1_2_3
    (broadcastInDim S1x16384x1x8 ![0, 1, 3] bcast_S1x16384x8_S1x16384x1x8_0_1_3 a)

/-- The rotary embedding of two heads' keys. -/
def ropeR (v : FVec Ideal S1x16384x2x64 .f32) (a : FVec Ideal S1x16384x8 .f32) : FVec Ideal S1x16384x2x64 .f32 :=
  Value.fn_main_v61 (F := Ideal)
    (subf (mulf (extractStridedSlice S1x16384x2x8 ![0, 0, 0, 0] v slices_S1x16384x2x64_S1x16384x2x8_0_0_0_0) (spreadR (Host.cos a)))
      (mulf (extractStridedSlice S1x16384x2x8 ![0, 0, 0, 8] v slices_S1x16384x2x64_S1x16384x2x8_0_0_0_8) (spreadR (Host.sin a))))
    (addf (mulf (extractStridedSlice S1x16384x2x8 ![0, 0, 0, 8] v slices_S1x16384x2x64_S1x16384x2x8_0_0_0_8) (spreadR (Host.cos a)))
      (mulf (extractStridedSlice S1x16384x2x8 ![0, 0, 0, 0] v slices_S1x16384x2x64_S1x16384x2x8_0_0_0_0) (spreadR (Host.sin a))))
    (extractStridedSlice S1x16384x2x48 ![0, 0, 0, 16] v slices_S1x16384x2x64_S1x16384x2x48_0_0_0_16)

/-- The four results. -/
def kcR (x : Vec Ideal S1x16384x1024 .f32) (g : Vec Ideal S1x1024 .f32) (w : Vec Ideal S1x1024x3864 .f32) : FVec Ideal S16384x128 .f32 :=
  shapeCast S16384x128 (extractStridedSlice S1x16384x128 ![0, 0, 512] (projR (rmsR x g) w) slices_S1x16384x3864_S1x16384x128_0_0_512)
    shapeCasts_S1x16384x128_S16384x128

@[inherit_doc kcR]
def vcR (x : Vec Ideal S1x16384x1024 .f32) (g : Vec Ideal S1x1024 .f32) (w : Vec Ideal S1x1024x3864 .f32) : FVec Ideal S16384x128 .f32 :=
  shapeCast S16384x128 (extractStridedSlice S1x16384x128 ![0, 0, 640] (projR (rmsR x g) w) slices_S1x16384x3864_S1x16384x128_0_0_640)
    shapeCasts_S1x16384x128_S16384x128

@[inherit_doc kcR]
def uR (x : Vec Ideal S1x16384x1024 .f32) (g : Vec Ideal S1x1024 .f32) (w : Vec Ideal S1x1024x3864 .f32) : FVec Ideal S16384x512 .f32 :=
  shapeCast S16384x512 (extractStridedSlice S1x16384x512 ![0, 0, 1304] (projR (rmsR x g) w) slices_S1x16384x3864_S1x16384x512_0_0_1304)
    shapeCasts_S1x16384x512_S16384x512

@[inherit_doc kcR]
def kwnR (x : Vec Ideal S1x16384x1024 .f32) (p : Vec Ideal S1x16384 .i32) (g : Vec Ideal S1x1024 .f32) (w : Vec Ideal S1x1024x3864 .f32) :
    FVec Ideal S16384x128 .bf16 :=
  truncf (F := Ideal) .bf16 (shapeCast S16384x128 (ropeR (shapeCast S1x16384x2x64
      (extractStridedSlice S1x16384x128 ![0, 0, 1024] (projR (rmsR x g) w) slices_S1x16384x3864_S1x16384x128_0_0_1024)
      shapeCasts_S1x16384x128_S1x16384x2x64) (angR p)) shapeCasts_S1x16384x2x64_S16384x128) bitsLt_bf16_f32

theorem rmsR_apply (x : Vec Ideal S1x16384x1024 .f32) (g : Vec Ideal S1x1024 .f32) (t : Fin 16384) (k : Fin 1024) :
    rmsR x g (ix3 0 t k) = Cert.Ffn.rms (fun k => x (ix3 0 t k)) (fun k => g (ix2 0 k)) k := by
  pointwise [rmsR]
  rfl

theorem projR_apply (x : Vec Ideal S1x16384x1024 .f32) (g : Vec Ideal S1x1024 .f32) (w : Vec Ideal S1x1024x3864 .f32) (t : Fin 16384) (j : Fin 3864) :
    projR (rmsR x g) w (ix3 0 t j) = Cert.Proj.col (fun k => x (ix3 0 t k)) (fun k => g (ix2 0 k)) (fun k => w (ix3 0 k j)) := by
  unfold Cert.Proj.col
  pointwise [projR]
  simp only [rmsR_apply]

theorem freqR_apply (i : Fin 8) : freqR (ix1 i) = Cert.Proj.freq i := by
  have e : ∀ i : Fin 8, (BitVec.ofNat 32 i.val).toInt = (i.val : ℤ) := by decide
  unfold Cert.Proj.freq
  pointwise [freqR]
  show Ideal.pow _ (Ideal.div (-(_ * (((BitVec.ofNat 32 i.val).toInt : ℝ) : EReal))) _) = _
  rw [e i, Int.cast_natCast]

theorem angR_apply (p : Vec Ideal S1x16384 .i32) (t : Fin 16384) (i : Fin 8) :
    angR p (ix3 0 t i) = ((p (ix2 0 t)).toInt : ℝ) * Cert.Proj.freq i := by
  rw [← freqR_apply]
  pointwise [angR]
  rfl

/-- The embedding, lane by lane. -/
theorem ropeR_apply (v : FVec Ideal S1x16384x2x64 .f32) (a : FVec Ideal S1x16384x8 .f32) (t : Fin 16384) (h : Fin 2) (l : Fin 64) :
    ropeR v a (ix4 0 t h l) = Cert.Proj.turn (fun l => v (ix4 0 t h l)) (fun i => a (ix3 0 t i)) l := by
  unfold Cert.Proj.turn
  pointwise [ropeR, Value.fn_main_v61, spreadR]
  by_cases h8 : l.val < 8
  · rw [dif_pos h8, dif_pos h8]
    simp only [Nat.add_comm 8]
  · by_cases h16 : l.val < 16
    · rw [dif_neg h8, dif_pos (by omega), dif_neg h8, dif_pos h16]
      have e : (⟨8 + (l.val - 8), by omega⟩ : Fin 64) = l := Fin.ext (by show 8 + (l.val - 8) = l.val; omega)
      rw [e]
    · rw [dif_neg h8, dif_neg (by omega), dif_neg h8, dif_neg h16]
      have e : (⟨16 + (l.val - 8 - 8), by omega⟩ : Fin 64) = l := Fin.ext (by show 16 + (l.val - 8 - 8) = l.val; omega)
      rw [e]

theorem kcR_apply (x : Vec Ideal S1x16384x1024 .f32) (g : Vec Ideal S1x1024 .f32) (w : Vec Ideal S1x1024x3864 .f32) (t : Fin 16384) (j : Fin 128) :
    kcR x g w (ix2 t j) = Cert.Proj.col (fun k => x (ix3 0 t k)) (fun k => g (ix2 0 k)) (fun k => w (ix3 0 k ⟨512 + j.val, by omega⟩)) := by
  rw [← projR_apply]
  pointwise [kcR]

theorem vcR_apply (x : Vec Ideal S1x16384x1024 .f32) (g : Vec Ideal S1x1024 .f32) (w : Vec Ideal S1x1024x3864 .f32) (t : Fin 16384) (j : Fin 128) :
    vcR x g w (ix2 t j) = Cert.Proj.col (fun k => x (ix3 0 t k)) (fun k => g (ix2 0 k)) (fun k => w (ix3 0 k ⟨640 + j.val, by omega⟩)) := by
  rw [← projR_apply]
  pointwise [vcR]

theorem uR_apply (x : Vec Ideal S1x16384x1024 .f32) (g : Vec Ideal S1x1024 .f32) (w : Vec Ideal S1x1024x3864 .f32) (t : Fin 16384) (j : Fin 512) :
    uR x g w (ix2 t j) = Cert.Proj.col (fun k => x (ix3 0 t k)) (fun k => g (ix2 0 k)) (fun k => w (ix3 0 k ⟨1304 + j.val, by omega⟩)) := by
  rw [← projR_apply]
  pointwise [uR]

/-- Two heads of 64 lanes side by side. -/
theorem flat_apply (y : FVec Ideal S1x16384x2x64 .f32) (t : Fin 16384) (h : Fin 2) (l : Fin 64) :
    (truncf (F := Ideal) .bf16 (shapeCast S16384x128 y shapeCasts_S1x16384x2x64_S16384x128) bitsLt_bf16_f32 : FVec Ideal S16384x128 .bf16)
      (ix2 t ⟨64 * h.val + l.val, by omega⟩) = y (ix4 0 t h l) := by
  pointwise

theorem heads_apply (z : FVec Ideal S1x16384x3864 .f32) (t : Fin 16384) (h : Fin 2) (l : Fin 64) :
    (shapeCast S1x16384x2x64 (extractStridedSlice S1x16384x128 ![0, 0, 1024] z slices_S1x16384x3864_S1x16384x128_0_0_1024)
      shapeCasts_S1x16384x128_S1x16384x2x64 : FVec Ideal S1x16384x2x64 .f32) (ix4 0 t h l) = z (ix3 0 t ⟨1024 + (64 * h.val + l.val), by omega⟩) := by
  pointwise
  simp only [Nat.mul_comm]

theorem kwnR_apply (x : Vec Ideal S1x16384x1024 .f32) (p : Vec Ideal S1x16384 .i32) (g : Vec Ideal S1x1024 .f32) (w : Vec Ideal S1x1024x3864 .f32)
    (t : Fin 16384) (h : Fin 2) (l : Fin 64) :
    kwnR x p g w (ix2 t ⟨64 * h.val + l.val, by omega⟩)
      = Cert.Proj.turn (fun l => Cert.Proj.col (fun k => x (ix3 0 t k)) (fun k => g (ix2 0 k)) (fun k => w (ix3 0 k ⟨1024 + (64 * h.val + l.val), by omega⟩)))
          (fun i => ((p (ix2 0 t)).toInt : ℝ) * Cert.Proj.freq i) l := by
  unfold kwnR
  rw [flat_apply, ropeR_apply]
  simp only [heads_apply, projR_apply, angR_apply]

variable (m : (ℓ : Loc nD τ sig) → Buf (Elt Ideal) ℓ) (c : Dev nD)

/-- The run's term of the rotated keys is that one. -/
theorem res_eq : Value.res_main_v65 m c
      = kwnR (m ((c.tc : Thread nD τ).loc main_arg0)) (m ((c.tc : Thread nD τ).loc main_arg1)) (m ((c.tc : Thread nD τ).loc main_arg2))
          (m ((c.tc : Thread nD τ).loc main_arg3)) := rfl

/-- The reference's run: its four results by those terms, its arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v62) = kcR (m ((c.tc : Thread nD τ).loc main_arg0)) (m ((c.tc : Thread nD τ).loc main_arg2)) (m ((c.tc : Thread nD τ).loc main_arg3))
      ∧ r.2.mem ((c.tc : Thread nD τ).loc main_v63) = vcR (m ((c.tc : Thread nD τ).loc main_arg0)) (m ((c.tc : Thread nD τ).loc main_arg2)) (m ((c.tc : Thread nD τ).loc main_arg3))
      ∧ r.2.mem ((c.tc : Thread nD τ).loc main_v65) = kwnR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v66) = uR (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans rfl, (h c).2.1.trans rfl, (h c).2.2.1.trans (res_eq m c), (h c).2.2.2.1.trans rfl, (h c).2.2.2.2⟩)
    (Value.run (F := Ideal) m ρ)

end Cert.Reference4Ideal.Hand

end
-- ==== Proof.ProjClaims.lean ====
/-
  The input-projection call's claims: the frames of its two programs and of its reference, and the equality of the four
  arrays that it is claimed for.
-/
module

public import proofs.«01_k».proof.Defs
public import proofs.«01_k».proof.Proof.Gen.Kernel4
public import proofs.«01_k».proof.Proof.Gen.Kernel4Ideal.Value
public import proofs.«01_k».proof.Proof.Gen.Reference4Ideal.Run
public import proofs.«01_k».proof.Proof.ProjValue
public import proofs.«01_k».proof.Proof.ProjRef
public import Idealize.ShloMosaic.Adequacy
public import Idealize.ShloMosaic.Init

@[expose] public section

set_option maxRecDepth 16384
noncomputable section

namespace Cert.Proof

open Idealize.ShloMosaic Idealize.ShloMosaic.TcCoe Idealize.SL.Sem

set_option maxHeartbeats 4000000 in
theorem defs₀_eq4 (h : Cert.Kernel4.Facts) (h' : Cert.Kernel4Ideal.Facts) :
    @Cert.Kernel4.defs₀ Bits _ h = @Cert.Kernel4Ideal.defs₀ Bits _ h' := by
  unfold Cert.Kernel4.defs₀ Cert.Kernel4Ideal.defs₀
  apply congrArg Defs.onTc
  funext x y
  match x with
  | ⟨0, _⟩ => rfl
  | ⟨_ + 1, h⟩ => exact absurd h (Nat.not_lt.2 (Nat.le_add_left _ _))

theorem defs_eq4 (h : Cert.Kernel4.Facts) (h' : Cert.Kernel4Ideal.Facts) :
    @Cert.Kernel4.defs Bits _ h = @Cert.Kernel4Ideal.defs Bits _ h' := by
  unfold Cert.Kernel4.defs Cert.Kernel4Ideal.defs
  exact congrArg (Pipeline.defs _) (defs₀_eq4 h h')

set_option maxHeartbeats 4000000 in
theorem main_eq4 (h : Cert.Kernel4.Facts) (h' : Cert.Kernel4Ideal.Facts) :
    @Cert.Kernel4.main Bits _ h = @Cert.Kernel4Ideal.main Bits _ h' := rfl

theorem frame_kernel4 : Cert.quiescent_Kernel4 (hKernel4 := Cert.Kernel4.Gen.facts) := fun m ρ _ => by
  rw [defs_eq4 Cert.Kernel4.Gen.facts Cert.Kernel4Ideal.Gen.facts, main_eq4 Cert.Kernel4.Gen.facts Cert.Kernel4Ideal.Gen.facts]
  exact Cert.Kernel4Ideal.Gen.frame (F := Bits) m ρ

theorem frame_kernel4Ideal : Cert.quiescent_Kernel4Ideal (hKernel4Ideal := Cert.Kernel4Ideal.Gen.facts) :=
  fun m ρ _ => Cert.Kernel4Ideal.Gen.frame (F := Ideal) m ρ

/-- The reference declares no semaphore, so its counters are as they were. -/
theorem frame_reference4Ideal : Cert.quiescent_Reference4Ideal (hReference4Ideal := Cert.Reference4Ideal.Gen.facts) := fun m ρ _ =>
  (θ_run Cert.Reference4Ideal.defs _ _).mono
    (fun r h => ⟨fun c => (h c).2.2.2.2, Idealize.ShloMosaic.sem_eq_zero_of_no_sems (by decide) r.2⟩)
    (Cert.Reference4Ideal.Value.run (F := Ideal) m ρ)

/-- An array of 16384 rows is known by its entries. -/
theorem rows_ext {n : Nat} {e : EltTy} {x y : (⟨2, ![16384, n]⟩ : Shape).Idx → Elt Ideal e} (h : ∀ (t : Fin 16384) (j : Fin n), x (ix2 t j) = y (ix2 t j)) :
    x = y := by
  funext i
  have ei : i = ix2 (i 0 : Fin 16384) (i 1 : Fin n) := by
    funext a; match a with | ⟨0, _⟩ => rfl | ⟨1, _⟩ => rfl
  exact (congrArg x ei).trans ((h _ _).trans (congrArg y ei).symm)

section
variable (m : (ℓ : Loc Cert.Kernel4Ideal.nD Cert.Kernel4Ideal.τ Cert.Kernel4Ideal.sig) → Buf (Elt Ideal) ℓ) (c : Dev Cert.Kernel4Ideal.nD)

theorem kc_same : Cert.Reference4Ideal.Hand.kcR (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)) = Cert.Kernel4Ideal.Hand.GKc m c :=
  rows_ext (n := 128) (e := .f32) fun t j => Cert.Reference4Ideal.Hand.kcR_apply _ _ _ t j

theorem vc_same : Cert.Reference4Ideal.Hand.vcR (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)) = Cert.Kernel4Ideal.Hand.GVc m c :=
  rows_ext (n := 128) (e := .f32) fun t j => Cert.Reference4Ideal.Hand.vcR_apply _ _ _ t j

theorem u_same : Cert.Reference4Ideal.Hand.uR (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)) = Cert.Kernel4Ideal.Hand.GU m c :=
  rows_ext (n := 512) (e := .f32) fun t j => Cert.Reference4Ideal.Hand.uR_apply _ _ _ t j

theorem kwn_same : Cert.Reference4Ideal.Hand.kwnR (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)) = Cert.Kernel4Ideal.Hand.GK m c :=
  rows_ext (n := 128) (e := .bf16) fun t j => by
    have ej : j = (⟨64 * ((⟨j.val / 64, by omega⟩ : Fin 2)).val + ((⟨j.val % 64, by omega⟩ : Fin 64)).val, by show 64 * (j.val / 64) + j.val % 64 < 128; omega⟩ : Fin 128) :=
      Fin.ext (by show j.val = 64 * (j.val / 64) + j.val % 64; omega)
    refine (congrArg (fun j => Cert.Reference4Ideal.Hand.kwnR _ _ _ _ (ix2 t j)) ej).trans ?_
    exact Cert.Reference4Ideal.Hand.kwnR_apply _ _ _ _ t ⟨j.val / 64, by omega⟩ ⟨j.val % 64, by omega⟩

end

/-- The call and the reference leave the same four arrays. -/
theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.Hand.GKc m c, fun c => Cert.Kernel4Ideal.Hand.GVc m c, fun c => Cert.Kernel4Ideal.Hand.GK m c,
    fun c => Cert.Kernel4Ideal.Hand.GU m c, (θ_run Cert.Kernel4Ideal.defs _ _).mono (fun r h c => ?_)
      (Cert.Kernel4Ideal.Value.run_blocks (F := Ideal) m g),
    (θ_run Cert.Reference4Ideal.defs _ _).mono (fun r h c => ?_) (Cert.Reference4Ideal.Hand.run m' g')⟩
  · obtain ⟨-, kc, vc, -, -, k, -, -, u, rest⟩ := h c
    exact ⟨kc.trans (Cert.Kernel4Ideal.Hand.finalKc m c), vc.trans (Cert.Kernel4Ideal.Hand.finalVc m c),
      k.trans (Cert.Kernel4Ideal.Hand.finalK m c), u.trans (Cert.Kernel4Ideal.Hand.finalU m c), rest⟩
  · obtain ⟨kc, vc, k, u, rest⟩ := h c
    obtain ⟨a0, a1, a2, a3⟩ := hagree c
    refine ⟨kc.trans ?_, vc.trans ?_, k.trans ?_, u.trans ?_, rest⟩
    · rw [a0, a2, a3]; exact kc_same m c
    · rw [a0, a2, a3]; exact vc_same m c
    · rw [a0, a1, a2, a3]; exact kwn_same m c
    · rw [a0, a2, a3]; exact u_same m c

end Cert.Proof

end
-- ==== Proof.lean ====
module

public import proofs.«01_k».proof.Defs
public import proofs.«01_k».proof.Proof.KRun
public import proofs.«01_k».proof.Proof.Run
public import proofs.«01_k».proof.Proof.AttRef
public import proofs.«01_k».proof.Proof.Gen.Kernel
public import proofs.«01_k».proof.Proof.Gen.Kernel.Frame
public import proofs.«01_k».proof.Proof.Gen.Kernel.Loops
public import proofs.«01_k».proof.Proof.Gen.Kernel.Skeleton
public import proofs.«01_k».proof.Proof.Gen.ReferenceIdeal.Run
public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Proof.FfnValue
public import proofs.«01_k».proof.Proof.FfnRef
public import proofs.«01_k».proof.Proof.MergeValue
public import proofs.«01_k».proof.Proof.MergeRef
public import proofs.«01_k».proof.Proof.Gen.Kernel4
public import proofs.«01_k».proof.Proof.Gen.Kernel4Ideal.Value
public import proofs.«01_k».proof.Proof.Gen.Reference4Ideal.Run
public import proofs.«01_k».proof.Proof.ProjClaims
public import Idealize.ShloMosaic.Adequacy
public import Idealize.ShloMosaic.Init

@[expose] public section

noncomputable section

namespace Cert.Proof

open Idealize.ShloMosaic Idealize.ShloMosaic.TcCoe Idealize.SL.Sem

/-! ## The attention -/

/-- The frame of the program as printed. -/
theorem frame_kernel : Cert.quiescent_Kernel (hKernel := Cert.Kernel.Gen.facts) := fun m ρ _ => Cert.Kernel.Hand.frame (F := Bits) m ρ

/-- The frame of the program with its constants named: the value run says it too. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Hand.run m ρ)

/-- The reference declares no semaphore, so its counters are as they were. -/
theorem frame_referenceIdeal : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named constants: the factor that takes the exponentials to base two, and the mask. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

/-- The call and the reference leave one array: each is the two branches' mathematics at the arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Hand.G m c,
    (θ_run Cert.KernelIdeal.defs _ _).mono (fun _ h c => h.1 c) (Cert.KernelIdeal.Hand.run m g), ?_⟩
  refine (θ_run Cert.ReferenceIdeal.defs _ _).mono (fun r h c => ⟨(h c).1.trans ?_, (h c).2⟩) (Cert.ReferenceIdeal.Value.run (F := Ideal) m' g')
  obtain ⟨a0, a1, a2, a3, a4, a5, a6, a7⟩ := hagree c
  funext i
  have h0 : (i 0).val < 16384 := (i 0).isLt
  have h1 : (i 1).val < 512 := (i 1).isLt
  have ei : i = (ix2 (⟨(i 0).val, h0⟩ : Fin 16384)
      (⟨256 * (⟨(i 1).val / 256, by omega⟩ : Fin 2).val + 64 * (⟨(i 1).val / 64 % 4, by omega⟩ : Fin 4).val + (⟨(i 1).val % 64, by omega⟩ : Fin 64).val, by dsimp only; omega⟩ : Fin 512)
      : Cert.ReferenceIdeal.S16384x512.Idx) := by
    funext a; apply Fin.ext
    match a with
    | ⟨0, _⟩ => rfl
    | ⟨1, _⟩ => show (i 1).val = 256 * ((i 1).val / 256) + 64 * ((i 1).val / 64 % 4) + (i 1).val % 64; omega
  refine (congrArg _ ei).trans ((Cert.ReferenceIdeal.Hand.ref_spec m' c _ _ _ _).trans ?_)
  rw [a0, a1, a2, a5, a6, a7]
  unfold Cert.KernelIdeal.Hand.G
  congr 1
  apply Fin.ext; show 4 * ((i 1).val / 256) + (i 1).val / 64 % 4 = (i 1).val / 64; omega

/-! ## The channel mixer -/

theorem defs₀_eq2 (h : Cert.Kernel2.Facts) (h' : Cert.Kernel2Ideal.Facts) :
    @Cert.Kernel2.defs₀ Bits _ h = @Cert.Kernel2Ideal.defs₀ Bits _ h' := by
  unfold Cert.Kernel2.defs₀ Cert.Kernel2Ideal.defs₀
  apply congrArg Defs.onTc
  funext x y
  match x with
  | ⟨0, _⟩ => rfl
  | ⟨_ + 1, h⟩ => exact absurd h (Nat.not_lt.2 (Nat.le_add_left _ _))

theorem defs_eq2 (h : Cert.Kernel2.Facts) (h' : Cert.Kernel2Ideal.Facts) :
    @Cert.Kernel2.defs Bits _ h = @Cert.Kernel2Ideal.defs Bits _ h' := by
  unfold Cert.Kernel2.defs Cert.Kernel2Ideal.defs
  exact congrArg (Pipeline.defs _) (defs₀_eq2 h h')

theorem main_eq2 (h : Cert.Kernel2.Facts) (h' : Cert.Kernel2Ideal.Facts) :
    @Cert.Kernel2.main Bits _ h = @Cert.Kernel2Ideal.main Bits _ h' := rfl

theorem frame_kernel2 : Cert.quiescent_Kernel2 (hKernel2 := Cert.Kernel2.Gen.facts) := fun m ρ _ => by
  rw [defs_eq2 Cert.Kernel2.Gen.facts Cert.Kernel2Ideal.Gen.facts, main_eq2 Cert.Kernel2.Gen.facts Cert.Kernel2Ideal.Gen.facts]
  exact Cert.Kernel2Ideal.Gen.frame (F := Bits) m ρ

theorem frame_kernel2Ideal : Cert.quiescent_Kernel2Ideal (hKernel2Ideal := Cert.Kernel2Ideal.Gen.facts) :=
  fun m ρ _ => Cert.Kernel2Ideal.Gen.frame (F := Ideal) m ρ

/-- The reference declares no semaphore, so its counters are as they were. -/
theorem frame_reference2Ideal : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The call and the reference leave one array: each is the channel mixer's mathematics at the arguments. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Value.G7 m c, Cert.Kernel2Ideal.Value.run (F := Ideal) m g, ?_⟩
  refine (θ_run Cert.Reference2Ideal.defs _ _).mono (fun r h c => ⟨(h c).1.trans ?_, (h c).2⟩) (Cert.Reference2Ideal.Value.run (F := Ideal) m' g')
  obtain ⟨a0, a1, a2, a3, a4, a5, a6⟩ := hagree c
  rw [Cert.Reference2Ideal.Hand.res_eq, a0, a1, a2, a3, a4, a5, a6]
  funext i
  have ei : i = (ix2 (i 0 : Fin 16384) (i 1 : Fin 1024) : Cert.Reference2Ideal.S16384x1024.Idx) := by
    funext a; match a with | ⟨0, _⟩ => rfl | ⟨1, _⟩ => rfl
  refine Eq.trans ?_ (Cert.Kernel2Ideal.Hand.G7_eq m c i).symm
  refine Eq.trans (congrArg _ ei) ?_
  exact Cert.Reference2Ideal.Hand.result_apply _ _ _ _ _ _ _ _ _

/-! ## The merge -/

theorem defs₀_eq3 (h : Cert.Kernel3.Facts) (h' : Cert.Kernel3Ideal.Facts) :
    @Cert.Kernel3.defs₀ Bits _ h = @Cert.Kernel3Ideal.defs₀ Bits _ h' := by
  unfold Cert.Kernel3.defs₀ Cert.Kernel3Ideal.defs₀
  apply congrArg Defs.onTc
  funext x y
  match x with
  | ⟨0, _⟩ => rfl
  | ⟨_ + 1, h⟩ => exact absurd h (Nat.not_lt.2 (Nat.le_add_left _ _))

theorem defs_eq3 (h : Cert.Kernel3.Facts) (h' : Cert.Kernel3Ideal.Facts) :
    @Cert.Kernel3.defs Bits _ h = @Cert.Kernel3Ideal.defs Bits _ h' := by
  unfold Cert.Kernel3.defs Cert.Kernel3Ideal.defs
  exact congrArg (Pipeline.defs _) (defs₀_eq3 h h')

theorem main_eq3 (h : Cert.Kernel3.Facts) (h' : Cert.Kernel3Ideal.Facts) :
    @Cert.Kernel3.main Bits _ h = @Cert.Kernel3Ideal.main Bits _ h' := rfl

theorem frame_kernel3 : Cert.quiescent_Kernel3 (hKernel3 := Cert.Kernel3.Gen.facts) := fun m ρ _ => by
  rw [defs_eq3 Cert.Kernel3.Gen.facts Cert.Kernel3Ideal.Gen.facts, main_eq3 Cert.Kernel3.Gen.facts Cert.Kernel3Ideal.Gen.facts]
  exact Cert.Kernel3Ideal.Gen.frame (F := Bits) m ρ

theorem frame_kernel3Ideal : Cert.quiescent_Kernel3Ideal (hKernel3Ideal := Cert.Kernel3Ideal.Gen.facts) :=
  fun m ρ _ => Cert.Kernel3Ideal.Gen.frame (F := Ideal) m ρ

/-- The reference declares no semaphore, so its counters are as they were. -/
theorem frame_reference3Ideal : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The call and the reference leave one array: each is the merge's mathematics at the arguments. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Hand.G m c, (θ_run Cert.Kernel3Ideal.defs _ _).mono
    (fun r h c => ⟨(h c).1.trans (Cert.Kernel3Ideal.Hand.final m c), (h c).2⟩) (Cert.Kernel3Ideal.Value.run_blocks (F := Ideal) m g), ?_⟩
  refine (θ_run Cert.Reference3Ideal.defs _ _).mono (fun r h c => ⟨(h c).1.trans ?_, (h c).2⟩) (Cert.Reference3Ideal.Value.run (F := Ideal) m' g')
  obtain ⟨a0, a1, a2, a3, a4, a5, a6, a7, a8, a9, a10⟩ := hagree c
  rw [Cert.Reference3Ideal.Hand.res_eq, a0, a1, a2, a3, a4, a5, a6, a7, a8, a9, a10]
  funext i
  have ei : i = (ix2 (i 0 : Fin 16384) (i 1 : Fin 1024) : Cert.Reference3Ideal.S16384x1024.Idx) := by
    funext a; match a with | ⟨0, _⟩ => rfl | ⟨1, _⟩ => rfl
  refine Eq.trans (congrArg _ ei) ?_
  exact Cert.Reference3Ideal.Hand.resR_apply _ _ _ _ _ _ _ _ _ _ _ _ _

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    frame_kernel, frame_kernelIdeal, frame_referenceIdeal, frame_kernel2, frame_kernel2Ideal, frame_reference2Ideal, frame_kernel3,
    frame_kernel3Ideal, frame_reference3Ideal, frame_kernel4, frame_kernel4Ideal, frame_reference4Ideal, preserves, algebraic, trivial,
    algebraic2, trivial, algebraic3, trivial, algebraic4⟩

end Cert.Proof

end
